-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpReferenceIdeal (m : (ℓ : Loc Cert.MlpReferenceIdeal.nD Cert.MlpReferenceIdeal.τ Cert.MlpReferenceIdeal.sig) → Buf (Elt Ideal) ℓ) : Prop :=
  True

def Pre_Xa (m : (ℓ : Loc Cert.Xa.nD Cert.Xa.τ Cert.Xa.sig) → Buf (Elt Bits) ℓ) : Prop :=
  True

def Pre_XaIdeal (m : (ℓ : Loc Cert.XaIdeal.nD Cert.XaIdeal.τ Cert.XaIdeal.sig) → Buf (Elt Ideal) ℓ) : Prop :=
  True

def Pre_XaReferenceIdeal (m : (ℓ : Loc Cert.XaReferenceIdeal.nD Cert.XaReferenceIdeal.τ Cert.XaReferenceIdeal.sig) → Buf (Elt Ideal) ℓ) : Prop :=
  True

def Pre_Mem (m : (ℓ : Loc Cert.Mem.nD Cert.Mem.τ Cert.Mem.sig) → Buf (Elt Bits) ℓ) : Prop :=
  True

def Pre_MemIdeal (m : (ℓ : Loc Cert.MemIdeal.nD Cert.MemIdeal.τ Cert.MemIdeal.sig) → Buf (Elt Ideal) ℓ) : Prop :=
  True

def Pre_MemReferenceIdeal (m : (ℓ : Loc Cert.MemReferenceIdeal.nD Cert.MemReferenceIdeal.τ Cert.MemReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_MobaOut (m : (ℓ : Loc Cert.MobaOut.nD Cert.MobaOut.τ Cert.MobaOut.sig) → Buf (Elt Bits) ℓ) : Prop :=
  True

def Pre_MobaOutIdeal (m : (ℓ : Loc Cert.MobaOutIdeal.nD Cert.MobaOutIdeal.τ Cert.MobaOutIdeal.sig) → Buf (Elt Ideal) ℓ) : Prop :=
  True

def Pre_MobaOutReferenceIdeal (m : (ℓ : Loc Cert.MobaOutReferenceIdeal.nD Cert.MobaOutReferenceIdeal.τ Cert.MobaOutReferenceIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InReferenceIdeal (m : (ℓ : Loc Cert.InReferenceIdeal.nD Cert.InReferenceIdeal.τ Cert.InReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ r.2.sem = fun _ => 0)

def quiescent_MlpReferenceIdeal [hMlpReferenceIdeal : Cert.MlpReferenceIdeal.Facts] : Prop :=
  ∀ (m : (ℓ : Loc Cert.MlpReferenceIdeal.nD Cert.MlpReferenceIdeal.τ Cert.MlpReferenceIdeal.sig) → Buf (Elt Ideal) ℓ) (g : Dev Cert.MlpReferenceIdeal.nD → PrngReg), Pre_MlpReferenceIdeal m →
    θ_run (Cert.MlpReferenceIdeal.defs (F := Ideal)) (onTc (τ := Cert.MlpReferenceIdeal.τ) (Cert.MlpReferenceIdeal.main (F := Ideal))) ⟨m, fun _ => 0, g⟩ (fun r => (∀ c : Dev Cert.MlpReferenceIdeal.nD,
      r.2.mem ((c.tc : Thread Cert.MlpReferenceIdeal.nD Cert.MlpReferenceIdeal.τ).loc Cert.MlpReferenceIdeal.main_arg0) = m ((c.tc : Thread Cert.MlpReferenceIdeal.nD Cert.MlpReferenceIdeal.τ).loc Cert.MlpReferenceIdeal.main_arg0)
      ∧ r.2.mem ((c.tc : Thread Cert.MlpReferenceIdeal.nD Cert.MlpReferenceIdeal.τ).loc Cert.MlpReferenceIdeal.main_arg1) = m ((c.tc : Thread Cert.MlpReferenceIdeal.nD Cert.MlpReferenceIdeal.τ).loc Cert.MlpReferenceIdeal.main_arg1)
      ∧ r.2.mem ((c.tc : Thread Cert.MlpReferenceIdeal.nD Cert.MlpReferenceIdeal.τ).loc Cert.MlpReferenceIdeal.main_arg2) = m ((c.tc : Thread Cert.MlpReferenceIdeal.nD Cert.MlpReferenceIdeal.τ).loc Cert.MlpReferenceIdeal.main_arg2)
      ∧ r.2.mem ((c.tc : Thread Cert.MlpReferenceIdeal.nD Cert.MlpReferenceIdeal.τ).loc Cert.MlpReferenceIdeal.main_arg3) = m ((c.tc : Thread Cert.MlpReferenceIdeal.nD Cert.MlpReferenceIdeal.τ).loc Cert.MlpReferenceIdeal.main_arg3))
      ∧ r.2.sem = fun _ => 0)

def quiescent_Xa [hXa : Cert.Xa.Facts] : Prop :=
  ∀ (m : (ℓ : Loc Cert.Xa.nD Cert.Xa.τ Cert.Xa.sig) → Buf (Elt Bits) ℓ) (g : Dev Cert.Xa.nD → PrngReg), Pre_Xa m →
    θ_run (Cert.Xa.defs (F := Bits)) (onTc (τ := Cert.Xa.τ) (Cert.Xa.main (F := Bits))) ⟨m, fun _ => 0, g⟩ (fun r => (∀ c : Dev Cert.Xa.nD,
      r.2.mem ((c.tc : Thread Cert.Xa.nD Cert.Xa.τ).loc Cert.Xa.main_arg0) = m ((c.tc : Thread Cert.Xa.nD Cert.Xa.τ).loc Cert.Xa.main_arg0)
      ∧ r.2.mem ((c.tc : Thread Cert.Xa.nD Cert.Xa.τ).loc Cert.Xa.main_arg1) = m ((c.tc : Thread Cert.Xa.nD Cert.Xa.τ).loc Cert.Xa.main_arg1)
      ∧ r.2.mem ((c.tc : Thread Cert.Xa.nD Cert.Xa.τ).loc Cert.Xa.main_arg2) = m ((c.tc : Thread Cert.Xa.nD Cert.Xa.τ).loc Cert.Xa.main_arg2)
      ∧ r.2.mem ((c.tc : Thread Cert.Xa.nD Cert.Xa.τ).loc Cert.Xa.main_arg3) = m ((c.tc : Thread Cert.Xa.nD Cert.Xa.τ).loc Cert.Xa.main_arg3)
      ∧ r.2.mem ((c.tc : Thread Cert.Xa.nD Cert.Xa.τ).loc Cert.Xa.main_arg4) = m ((c.tc : Thread Cert.Xa.nD Cert.Xa.τ).loc Cert.Xa.main_arg4)
      ∧ r.2.mem ((c.tc : Thread Cert.Xa.nD Cert.Xa.τ).loc Cert.Xa.main_arg5) = m ((c.tc : Thread Cert.Xa.nD Cert.Xa.τ).loc Cert.Xa.main_arg5)
      ∧ r.2.mem ((c.tc : Thread Cert.Xa.nD Cert.Xa.τ).loc Cert.Xa.main_arg6) = m ((c.tc : Thread Cert.Xa.nD Cert.Xa.τ).loc Cert.Xa.main_arg6))
      ∧ r.2.sem = fun _ => 0)

def quiescent_XaIdeal [hXaIdeal : Cert.XaIdeal.Facts] : Prop :=
  ∀ (m : (ℓ : Loc Cert.XaIdeal.nD Cert.XaIdeal.τ Cert.XaIdeal.sig) → Buf (Elt Ideal) ℓ) (g : Dev Cert.XaIdeal.nD → PrngReg), Pre_XaIdeal m →
    θ_run (Cert.XaIdeal.defs (F := Ideal)) (onTc (τ := Cert.XaIdeal.τ) (Cert.XaIdeal.main (F := Ideal))) ⟨m, fun _ => 0, g⟩ (fun r => (∀ c : Dev Cert.XaIdeal.nD,
      r.2.mem ((c.tc : Thread Cert.XaIdeal.nD Cert.XaIdeal.τ).loc Cert.XaIdeal.main_arg0) = m ((c.tc : Thread Cert.XaIdeal.nD Cert.XaIdeal.τ).loc Cert.XaIdeal.main_arg0)
      ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
      ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
      ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
      ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
      ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
      ∧ r.2.mem ((c.tc : Thread Cert.XaIdeal.nD Cert.XaIdeal.τ).loc Cert.XaIdeal.main_arg6) = m ((c.tc : Thread Cert.XaIdeal.nD Cert.XaIdeal.τ).loc Cert.XaIdeal.main_arg6))
      ∧ r.2.sem = fun _ => 0)

def quiescent_XaReferenceIdeal [hXaReferenceIdeal : Cert.XaReferenceIdeal.Facts] : Prop :=
  ∀ (m : (ℓ : Loc Cert.XaReferenceIdeal.nD Cert.XaReferenceIdeal.τ Cert.XaReferenceIdeal.sig) → Buf (Elt Ideal) ℓ) (g : Dev Cert.XaReferenceIdeal.nD → PrngReg), Pre_XaReferenceIdeal m →
    θ_run (Cert.XaReferenceIdeal.defs (F := Ideal)) (onTc (τ := Cert.XaReferenceIdeal.τ) (Cert.XaReferenceIdeal.main (F := Ideal))) ⟨m, fun _ => 0, g⟩ (fun r => (∀ c : Dev Cert.XaReferenceIdeal.nD,
      r.2.mem ((c.tc : Thread Cert.XaReferenceIdeal.nD Cert.XaReferenceIdeal.τ).loc Cert.XaReferenceIdeal.main_arg0) = m ((c.tc : Thread Cert.XaReferenceIdeal.nD Cert.XaReferenceIdeal.τ).loc Cert.XaReferenceIdeal.main_arg0)
      ∧ r.2.mem ((c.tc : Thread Cert.XaReferenceIdeal.nD Cert.XaReferenceIdeal.τ).loc Cert.XaReferenceIdeal.main_arg1) = m ((c.tc : Thread Cert.XaReferenceIdeal.nD Cert.XaReferenceIdeal.τ).loc Cert.XaReferenceIdeal.main_arg1)
      ∧ r.2.mem ((c.tc : Thread Cert.XaReferenceIdeal.nD Cert.XaReferenceIdeal.τ).loc Cert.XaReferenceIdeal.main_arg2) = m ((c.tc : Thread Cert.XaReferenceIdeal.nD Cert.XaReferenceIdeal.τ).loc Cert.XaReferenceIdeal.main_arg2)
      ∧ r.2.mem ((c.tc : Thread Cert.XaReferenceIdeal.nD Cert.XaReferenceIdeal.τ).loc Cert.XaReferenceIdeal.main_arg3) = m ((c.tc : Thread Cert.XaReferenceIdeal.nD Cert.XaReferenceIdeal.τ).loc Cert.XaReferenceIdeal.main_arg3)
      ∧ r.2.mem ((c.tc : Thread Cert.XaReferenceIdeal.nD Cert.XaReferenceIdeal.τ).loc Cert.XaReferenceIdeal.main_arg4) = m ((c.tc : Thread Cert.XaReferenceIdeal.nD Cert.XaReferenceIdeal.τ).loc Cert.XaReferenceIdeal.main_arg4)
      ∧ r.2.mem ((c.tc : Thread Cert.XaReferenceIdeal.nD Cert.XaReferenceIdeal.τ).loc Cert.XaReferenceIdeal.main_arg5) = m ((c.tc : Thread Cert.XaReferenceIdeal.nD Cert.XaReferenceIdeal.τ).loc Cert.XaReferenceIdeal.main_arg5)
      ∧ r.2.mem ((c.tc : Thread Cert.XaReferenceIdeal.nD Cert.XaReferenceIdeal.τ).loc Cert.XaReferenceIdeal.main_arg6) = m ((c.tc : Thread Cert.XaReferenceIdeal.nD Cert.XaReferenceIdeal.τ).loc Cert.XaReferenceIdeal.main_arg6))
      ∧ r.2.sem = fun _ => 0)

def quiescent_Mem [hMem : Cert.Mem.Facts] : Prop :=
  ∀ (m : (ℓ : Loc Cert.Mem.nD Cert.Mem.τ Cert.Mem.sig) → Buf (Elt Bits) ℓ) (g : Dev Cert.Mem.nD → PrngReg), Pre_Mem m →
    θ_run (Cert.Mem.defs (F := Bits)) (onTc (τ := Cert.Mem.τ) (Cert.Mem.main (F := Bits))) ⟨m, fun _ => 0, g⟩ (fun r => (∀ c : Dev Cert.Mem.nD,
      r.2.mem ((c.tc : Thread Cert.Mem.nD Cert.Mem.τ).loc Cert.Mem.main_arg0) = m ((c.tc : Thread Cert.Mem.nD Cert.Mem.τ).loc Cert.Mem.main_arg0)
      ∧ r.2.mem ((c.tc : Thread Cert.Mem.nD Cert.Mem.τ).loc Cert.Mem.main_arg1) = m ((c.tc : Thread Cert.Mem.nD Cert.Mem.τ).loc Cert.Mem.main_arg1)
      ∧ r.2.mem ((c.tc : Thread Cert.Mem.nD Cert.Mem.τ).loc Cert.Mem.main_arg2) = m ((c.tc : Thread Cert.Mem.nD Cert.Mem.τ).loc Cert.Mem.main_arg2)
      ∧ r.2.mem ((c.tc : Thread Cert.Mem.nD Cert.Mem.τ).loc Cert.Mem.main_arg3) = m ((c.tc : Thread Cert.Mem.nD Cert.Mem.τ).loc Cert.Mem.main_arg3))
      ∧ r.2.sem = fun _ => 0)

def quiescent_MemIdeal [hMemIdeal : Cert.MemIdeal.Facts] : Prop :=
  ∀ (m : (ℓ : Loc Cert.MemIdeal.nD Cert.MemIdeal.τ Cert.MemIdeal.sig) → Buf (Elt Ideal) ℓ) (g : Dev Cert.MemIdeal.nD → PrngReg), Pre_MemIdeal m →
    θ_run (Cert.MemIdeal.defs (F := Ideal)) (onTc (τ := Cert.MemIdeal.τ) (Cert.MemIdeal.main (F := Ideal))) ⟨m, fun _ => 0, g⟩ (fun r => (∀ c : Dev Cert.MemIdeal.nD,
      r.2.mem ((c.tc : Thread Cert.MemIdeal.nD Cert.MemIdeal.τ).loc Cert.MemIdeal.main_arg0) = m ((c.tc : Thread Cert.MemIdeal.nD Cert.MemIdeal.τ).loc Cert.MemIdeal.main_arg0)
      ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
      ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
      ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ r.2.sem = fun _ => 0)

def quiescent_MemReferenceIdeal [hMemReferenceIdeal : Cert.MemReferenceIdeal.Facts] : Prop :=
  ∀ (m : (ℓ : Loc Cert.MemReferenceIdeal.nD Cert.MemReferenceIdeal.τ Cert.MemReferenceIdeal.sig) → Buf (Elt Ideal) ℓ) (g : Dev Cert.MemReferenceIdeal.nD → PrngReg), Pre_MemReferenceIdeal m →
    θ_run (Cert.MemReferenceIdeal.defs (F := Ideal)) (onTc (τ := Cert.MemReferenceIdeal.τ) (Cert.MemReferenceIdeal.main (F := Ideal))) ⟨m, fun _ => 0, g⟩ (fun r => (∀ c : Dev Cert.MemReferenceIdeal.nD,
      r.2.mem ((c.tc : Thread Cert.MemReferenceIdeal.nD Cert.MemReferenceIdeal.τ).loc Cert.MemReferenceIdeal.main_arg0) = m ((c.tc : Thread Cert.MemReferenceIdeal.nD Cert.MemReferenceIdeal.τ).loc Cert.MemReferenceIdeal.main_arg0)
      ∧ r.2.mem ((c.tc : Thread Cert.MemReferenceIdeal.nD Cert.MemReferenceIdeal.τ).loc Cert.MemReferenceIdeal.main_arg1) = m ((c.tc : Thread Cert.MemReferenceIdeal.nD Cert.MemReferenceIdeal.τ).loc Cert.MemReferenceIdeal.main_arg1)
      ∧ r.2.mem ((c.tc : Thread Cert.MemReferenceIdeal.nD Cert.MemReferenceIdeal.τ).loc Cert.MemReferenceIdeal.main_arg2) = m ((c.tc : Thread Cert.MemReferenceIdeal.nD Cert.MemReferenceIdeal.τ).loc Cert.MemReferenceIdeal.main_arg2)
      ∧ r.2.mem ((c.tc : Thread Cert.MemReferenceIdeal.nD Cert.MemReferenceIdeal.τ).loc Cert.MemReferenceIdeal.main_arg3) = m ((c.tc : Thread Cert.MemReferenceIdeal.nD Cert.MemReferenceIdeal.τ).loc Cert.MemReferenceIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3))
      ∧ r.2.sem = fun _ => 0)

def quiescent_MobaOut [hMobaOut : Cert.MobaOut.Facts] : Prop :=
  ∀ (m : (ℓ : Loc Cert.MobaOut.nD Cert.MobaOut.τ Cert.MobaOut.sig) → Buf (Elt Bits) ℓ) (g : Dev Cert.MobaOut.nD → PrngReg), Pre_MobaOut m →
    θ_run (Cert.MobaOut.defs (F := Bits)) (onTc (τ := Cert.MobaOut.τ) (Cert.MobaOut.main (F := Bits))) ⟨m, fun _ => 0, g⟩ (fun r => (∀ c : Dev Cert.MobaOut.nD,
      r.2.mem ((c.tc : Thread Cert.MobaOut.nD Cert.MobaOut.τ).loc Cert.MobaOut.main_arg0) = m ((c.tc : Thread Cert.MobaOut.nD Cert.MobaOut.τ).loc Cert.MobaOut.main_arg0)
      ∧ r.2.mem ((c.tc : Thread Cert.MobaOut.nD Cert.MobaOut.τ).loc Cert.MobaOut.main_arg1) = m ((c.tc : Thread Cert.MobaOut.nD Cert.MobaOut.τ).loc Cert.MobaOut.main_arg1)
      ∧ r.2.mem ((c.tc : Thread Cert.MobaOut.nD Cert.MobaOut.τ).loc Cert.MobaOut.main_arg2) = m ((c.tc : Thread Cert.MobaOut.nD Cert.MobaOut.τ).loc Cert.MobaOut.main_arg2))
      ∧ r.2.sem = fun _ => 0)

def quiescent_MobaOutIdeal [hMobaOutIdeal : Cert.MobaOutIdeal.Facts] : Prop :=
  ∀ (m : (ℓ : Loc Cert.MobaOutIdeal.nD Cert.MobaOutIdeal.τ Cert.MobaOutIdeal.sig) → Buf (Elt Ideal) ℓ) (g : Dev Cert.MobaOutIdeal.nD → PrngReg), Pre_MobaOutIdeal m →
    θ_run (Cert.MobaOutIdeal.defs (F := Ideal)) (onTc (τ := Cert.MobaOutIdeal.τ) (Cert.MobaOutIdeal.main (F := Ideal))) ⟨m, fun _ => 0, g⟩ (fun r => (∀ c : Dev Cert.MobaOutIdeal.nD,
      r.2.mem ((c.tc : Thread Cert.MobaOutIdeal.nD Cert.MobaOutIdeal.τ).loc Cert.MobaOutIdeal.main_arg0) = m ((c.tc : Thread Cert.MobaOutIdeal.nD Cert.MobaOutIdeal.τ).loc Cert.MobaOutIdeal.main_arg0)
      ∧ r.2.mem ((c.tc : Thread Cert.MobaOutIdeal.nD Cert.MobaOutIdeal.τ).loc Cert.MobaOutIdeal.main_arg1) = m ((c.tc : Thread Cert.MobaOutIdeal.nD Cert.MobaOutIdeal.τ).loc Cert.MobaOutIdeal.main_arg1)
      ∧ r.2.mem ((c.tc : Thread Cert.MobaOutIdeal.nD Cert.MobaOutIdeal.τ).loc Cert.MobaOutIdeal.main_arg2) = m ((c.tc : Thread Cert.MobaOutIdeal.nD Cert.MobaOutIdeal.τ).loc Cert.MobaOutIdeal.main_arg2))
      ∧ r.2.sem = fun _ => 0)

def quiescent_MobaOutReferenceIdeal [hMobaOutReferenceIdeal : Cert.MobaOutReferenceIdeal.Facts] : Prop :=
  ∀ (m : (ℓ : Loc Cert.MobaOutReferenceIdeal.nD Cert.MobaOutReferenceIdeal.τ Cert.MobaOutReferenceIdeal.sig) → Buf (Elt Ideal) ℓ) (g : Dev Cert.MobaOutReferenceIdeal.nD → PrngReg), Pre_MobaOutReferenceIdeal m →
    θ_run (Cert.MobaOutReferenceIdeal.defs (F := Ideal)) (onTc (τ := Cert.MobaOutReferenceIdeal.τ) (Cert.MobaOutReferenceIdeal.main (F := Ideal))) ⟨m, fun _ => 0, g⟩ (fun r => (∀ c : Dev Cert.MobaOutReferenceIdeal.nD,
      r.2.mem ((c.tc : Thread Cert.MobaOutReferenceIdeal.nD Cert.MobaOutReferenceIdeal.τ).loc Cert.MobaOutReferenceIdeal.main_arg0) = m ((c.tc : Thread Cert.MobaOutReferenceIdeal.nD Cert.MobaOutReferenceIdeal.τ).loc Cert.MobaOutReferenceIdeal.main_arg0)
      ∧ r.2.mem ((c.tc : Thread Cert.MobaOutReferenceIdeal.nD Cert.MobaOutReferenceIdeal.τ).loc Cert.MobaOutReferenceIdeal.main_arg1) = m ((c.tc : Thread Cert.MobaOutReferenceIdeal.nD Cert.MobaOutReferenceIdeal.τ).loc Cert.MobaOutReferenceIdeal.main_arg1)
      ∧ r.2.mem ((c.tc : Thread Cert.MobaOutReferenceIdeal.nD Cert.MobaOutReferenceIdeal.τ).loc Cert.MobaOutReferenceIdeal.main_arg2) = m ((c.tc : Thread Cert.MobaOutReferenceIdeal.nD Cert.MobaOutReferenceIdeal.τ).loc Cert.MobaOutReferenceIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1)
      ∧ r.2.mem ((c.tc : Thread Cert.In.nD Cert.In.τ).loc Cert.In.main_arg2) = m ((c.tc : Thread Cert.In.nD Cert.In.τ).loc Cert.In.main_arg2))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1)
      ∧ r.2.mem ((c.tc : Thread Cert.InIdeal.nD Cert.InIdeal.τ).loc Cert.InIdeal.main_arg2) = m ((c.tc : Thread Cert.InIdeal.nD Cert.InIdeal.τ).loc Cert.InIdeal.main_arg2))
      ∧ r.2.sem = fun _ => 0)

def quiescent_InReferenceIdeal [hInReferenceIdeal : Cert.InReferenceIdeal.Facts] : Prop :=
  ∀ (m : (ℓ : Loc Cert.InReferenceIdeal.nD Cert.InReferenceIdeal.τ Cert.InReferenceIdeal.sig) → Buf (Elt Ideal) ℓ) (g : Dev Cert.InReferenceIdeal.nD → PrngReg), Pre_InReferenceIdeal m →
    θ_run (Cert.InReferenceIdeal.defs (F := Ideal)) (onTc (τ := Cert.InReferenceIdeal.τ) (Cert.InReferenceIdeal.main (F := Ideal))) ⟨m, fun _ => 0, g⟩ (fun r => (∀ c : Dev Cert.InReferenceIdeal.nD,
      r.2.mem ((c.tc : Thread Cert.InReferenceIdeal.nD Cert.InReferenceIdeal.τ).loc Cert.InReferenceIdeal.main_arg0) = m ((c.tc : Thread Cert.InReferenceIdeal.nD Cert.InReferenceIdeal.τ).loc Cert.InReferenceIdeal.main_arg0)
      ∧ r.2.mem ((c.tc : Thread Cert.InReferenceIdeal.nD Cert.InReferenceIdeal.τ).loc Cert.InReferenceIdeal.main_arg1) = m ((c.tc : Thread Cert.InReferenceIdeal.nD Cert.InReferenceIdeal.τ).loc Cert.InReferenceIdeal.main_arg1)
      ∧ r.2.mem ((c.tc : Thread Cert.InReferenceIdeal.nD Cert.InReferenceIdeal.τ).loc Cert.InReferenceIdeal.main_arg2) = m ((c.tc : Thread Cert.InReferenceIdeal.nD Cert.InReferenceIdeal.τ).loc Cert.InReferenceIdeal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Mlp_MlpIdeal : Prop :=
  True

def algebraic_MlpIdeal_MlpReferenceIdeal [hMlpIdeal : Cert.MlpIdeal.Facts] [hMlpReferenceIdeal : Cert.MlpReferenceIdeal.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpReferenceIdeal.nD Cert.MlpReferenceIdeal.τ Cert.MlpReferenceIdeal.sig) → Buf (Elt Ideal) ℓ) (g' : Dev Cert.MlpReferenceIdeal.nD → PrngReg), Pre_MlpIdeal m →
    (∀ c : Dev Cert.MlpIdeal.nD,
      m' ((c.tc : Thread Cert.MlpReferenceIdeal.nD Cert.MlpReferenceIdeal.τ).loc Cert.MlpReferenceIdeal.main_arg0) = m ((c.tc : Thread Cert.MlpIdeal.nD Cert.MlpIdeal.τ).loc Cert.MlpIdeal.main_arg0)
      ∧ m' ((c.tc : Thread Cert.MlpReferenceIdeal.nD Cert.MlpReferenceIdeal.τ).loc Cert.MlpReferenceIdeal.main_arg1) = m ((c.tc : Thread Cert.MlpIdeal.nD Cert.MlpIdeal.τ).loc Cert.MlpIdeal.main_arg1)
      ∧ m' ((c.tc : Thread Cert.MlpReferenceIdeal.nD Cert.MlpReferenceIdeal.τ).loc Cert.MlpReferenceIdeal.main_arg2) = m ((c.tc : Thread Cert.MlpIdeal.nD Cert.MlpIdeal.τ).loc Cert.MlpIdeal.main_arg2)
      ∧ m' ((c.tc : Thread Cert.MlpReferenceIdeal.nD Cert.MlpReferenceIdeal.τ).loc Cert.MlpReferenceIdeal.main_arg3) = m ((c.tc : Thread Cert.MlpIdeal.nD Cert.MlpIdeal.τ).loc Cert.MlpIdeal.main_arg3)) →
    ∃ (v0 : (c : Dev Cert.MlpIdeal.nD) → Buf (Elt Ideal) ((c.tc : Thread Cert.MlpIdeal.nD Cert.MlpIdeal.τ).loc Cert.MlpIdeal.main_v3)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v3) = v0 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3))
      ∧ θ_run (Cert.MlpReferenceIdeal.defs (F := Ideal)) (onTc (τ := Cert.MlpReferenceIdeal.τ) (Cert.MlpReferenceIdeal.main (F := Ideal))) ⟨m', fun _ => 0, g'⟩ (fun r => ∀ c : Dev Cert.MlpReferenceIdeal.nD,
          r.2.mem ((c.tc : Thread Cert.MlpReferenceIdeal.nD Cert.MlpReferenceIdeal.τ).loc Cert.MlpReferenceIdeal.main_v17) = v0 c
          ∧ r.2.mem ((c.tc : Thread Cert.MlpReferenceIdeal.nD Cert.MlpReferenceIdeal.τ).loc Cert.MlpReferenceIdeal.main_arg0) = m' ((c.tc : Thread Cert.MlpReferenceIdeal.nD Cert.MlpReferenceIdeal.τ).loc Cert.MlpReferenceIdeal.main_arg0)
          ∧ r.2.mem ((c.tc : Thread Cert.MlpReferenceIdeal.nD Cert.MlpReferenceIdeal.τ).loc Cert.MlpReferenceIdeal.main_arg1) = m' ((c.tc : Thread Cert.MlpReferenceIdeal.nD Cert.MlpReferenceIdeal.τ).loc Cert.MlpReferenceIdeal.main_arg1)
          ∧ r.2.mem ((c.tc : Thread Cert.MlpReferenceIdeal.nD Cert.MlpReferenceIdeal.τ).loc Cert.MlpReferenceIdeal.main_arg2) = m' ((c.tc : Thread Cert.MlpReferenceIdeal.nD Cert.MlpReferenceIdeal.τ).loc Cert.MlpReferenceIdeal.main_arg2)
          ∧ r.2.mem ((c.tc : Thread Cert.MlpReferenceIdeal.nD Cert.MlpReferenceIdeal.τ).loc Cert.MlpReferenceIdeal.main_arg3) = m' ((c.tc : Thread Cert.MlpReferenceIdeal.nD Cert.MlpReferenceIdeal.τ).loc Cert.MlpReferenceIdeal.main_arg3))

def preserves_Xa_XaIdeal : Prop :=
  True

def algebraic_XaIdeal_XaReferenceIdeal [hXaIdeal : Cert.XaIdeal.Facts] [hXaReferenceIdeal : Cert.XaReferenceIdeal.Facts] : Prop :=
  ∀ (m : (ℓ : Loc Cert.XaIdeal.nD Cert.XaIdeal.τ Cert.XaIdeal.sig) → Buf (Elt Ideal) ℓ) (g : Dev Cert.XaIdeal.nD → PrngReg)
    (m' : (ℓ : Loc Cert.XaReferenceIdeal.nD Cert.XaReferenceIdeal.τ Cert.XaReferenceIdeal.sig) → Buf (Elt Ideal) ℓ) (g' : Dev Cert.XaReferenceIdeal.nD → PrngReg), Pre_XaIdeal m →
    (∀ c : Dev Cert.XaIdeal.nD,
      m' ((c.tc : Thread Cert.XaReferenceIdeal.nD Cert.XaReferenceIdeal.τ).loc Cert.XaReferenceIdeal.main_arg0) = m ((c.tc : Thread Cert.XaIdeal.nD Cert.XaIdeal.τ).loc Cert.XaIdeal.main_arg0)
      ∧ m' ((c.tc : Thread Cert.XaReferenceIdeal.nD Cert.XaReferenceIdeal.τ).loc Cert.XaReferenceIdeal.main_arg1) = m ((c.tc : Thread Cert.XaIdeal.nD Cert.XaIdeal.τ).loc Cert.XaIdeal.main_arg1)
      ∧ m' ((c.tc : Thread Cert.XaReferenceIdeal.nD Cert.XaReferenceIdeal.τ).loc Cert.XaReferenceIdeal.main_arg2) = m ((c.tc : Thread Cert.XaIdeal.nD Cert.XaIdeal.τ).loc Cert.XaIdeal.main_arg2)
      ∧ m' ((c.tc : Thread Cert.XaReferenceIdeal.nD Cert.XaReferenceIdeal.τ).loc Cert.XaReferenceIdeal.main_arg3) = m ((c.tc : Thread Cert.XaIdeal.nD Cert.XaIdeal.τ).loc Cert.XaIdeal.main_arg3)
      ∧ m' ((c.tc : Thread Cert.XaReferenceIdeal.nD Cert.XaReferenceIdeal.τ).loc Cert.XaReferenceIdeal.main_arg4) = m ((c.tc : Thread Cert.XaIdeal.nD Cert.XaIdeal.τ).loc Cert.XaIdeal.main_arg4)
      ∧ m' ((c.tc : Thread Cert.XaReferenceIdeal.nD Cert.XaReferenceIdeal.τ).loc Cert.XaReferenceIdeal.main_arg5) = m ((c.tc : Thread Cert.XaIdeal.nD Cert.XaIdeal.τ).loc Cert.XaIdeal.main_arg5)
      ∧ m' ((c.tc : Thread Cert.XaReferenceIdeal.nD Cert.XaReferenceIdeal.τ).loc Cert.XaReferenceIdeal.main_arg6) = m ((c.tc : Thread Cert.XaIdeal.nD Cert.XaIdeal.τ).loc Cert.XaIdeal.main_arg6)) →
    ∃ (v0 : (c : Dev Cert.XaIdeal.nD) → Buf (Elt Ideal) ((c.tc : Thread Cert.XaIdeal.nD Cert.XaIdeal.τ).loc Cert.XaIdeal.main_v6)),
      θ_run (Cert.XaIdeal.defs (F := Ideal)) (onTc (τ := Cert.XaIdeal.τ) (Cert.XaIdeal.main (F := Ideal))) ⟨m, fun _ => 0, g⟩ (fun r => ∀ c : Dev Cert.XaIdeal.nD,
          r.2.mem ((c.tc : Thread Cert.XaIdeal.nD Cert.XaIdeal.τ).loc Cert.XaIdeal.main_v6) = v0 c
          ∧ r.2.mem ((c.tc : Thread Cert.XaIdeal.nD Cert.XaIdeal.τ).loc Cert.XaIdeal.main_arg0) = m ((c.tc : Thread Cert.XaIdeal.nD Cert.XaIdeal.τ).loc Cert.XaIdeal.main_arg0)
          ∧ r.2.mem ((c.tc : Thread Cert.XaIdeal.nD Cert.XaIdeal.τ).loc Cert.XaIdeal.main_arg1) = m ((c.tc : Thread Cert.XaIdeal.nD Cert.XaIdeal.τ).loc Cert.XaIdeal.main_arg1)
          ∧ r.2.mem ((c.tc : Thread Cert.XaIdeal.nD Cert.XaIdeal.τ).loc Cert.XaIdeal.main_arg2) = m ((c.tc : Thread Cert.XaIdeal.nD Cert.XaIdeal.τ).loc Cert.XaIdeal.main_arg2)
          ∧ r.2.mem ((c.tc : Thread Cert.XaIdeal.nD Cert.XaIdeal.τ).loc Cert.XaIdeal.main_arg3) = m ((c.tc : Thread Cert.XaIdeal.nD Cert.XaIdeal.τ).loc Cert.XaIdeal.main_arg3)
          ∧ r.2.mem ((c.tc : Thread Cert.XaIdeal.nD Cert.XaIdeal.τ).loc Cert.XaIdeal.main_arg4) = m ((c.tc : Thread Cert.XaIdeal.nD Cert.XaIdeal.τ).loc Cert.XaIdeal.main_arg4)
          ∧ r.2.mem ((c.tc : Thread Cert.XaIdeal.nD Cert.XaIdeal.τ).loc Cert.XaIdeal.main_arg5) = m ((c.tc : Thread Cert.XaIdeal.nD Cert.XaIdeal.τ).loc Cert.XaIdeal.main_arg5)
          ∧ r.2.mem ((c.tc : Thread Cert.XaIdeal.nD Cert.XaIdeal.τ).loc Cert.XaIdeal.main_arg6) = m ((c.tc : Thread Cert.XaIdeal.nD Cert.XaIdeal.τ).loc Cert.XaIdeal.main_arg6))
      ∧ θ_run (Cert.XaReferenceIdeal.defs (F := Ideal)) (onTc (τ := Cert.XaReferenceIdeal.τ) (Cert.XaReferenceIdeal.main (F := Ideal))) ⟨m', fun _ => 0, g'⟩ (fun r => ∀ c : Dev Cert.XaReferenceIdeal.nD,
          r.2.mem ((c.tc : Thread Cert.XaReferenceIdeal.nD Cert.XaReferenceIdeal.τ).loc Cert.XaReferenceIdeal.main_v46) = v0 c
          ∧ r.2.mem ((c.tc : Thread Cert.XaReferenceIdeal.nD Cert.XaReferenceIdeal.τ).loc Cert.XaReferenceIdeal.main_arg0) = m' ((c.tc : Thread Cert.XaReferenceIdeal.nD Cert.XaReferenceIdeal.τ).loc Cert.XaReferenceIdeal.main_arg0)
          ∧ r.2.mem ((c.tc : Thread Cert.XaReferenceIdeal.nD Cert.XaReferenceIdeal.τ).loc Cert.XaReferenceIdeal.main_arg1) = m' ((c.tc : Thread Cert.XaReferenceIdeal.nD Cert.XaReferenceIdeal.τ).loc Cert.XaReferenceIdeal.main_arg1)
          ∧ r.2.mem ((c.tc : Thread Cert.XaReferenceIdeal.nD Cert.XaReferenceIdeal.τ).loc Cert.XaReferenceIdeal.main_arg2) = m' ((c.tc : Thread Cert.XaReferenceIdeal.nD Cert.XaReferenceIdeal.τ).loc Cert.XaReferenceIdeal.main_arg2)
          ∧ r.2.mem ((c.tc : Thread Cert.XaReferenceIdeal.nD Cert.XaReferenceIdeal.τ).loc Cert.XaReferenceIdeal.main_arg3) = m' ((c.tc : Thread Cert.XaReferenceIdeal.nD Cert.XaReferenceIdeal.τ).loc Cert.XaReferenceIdeal.main_arg3)
          ∧ r.2.mem ((c.tc : Thread Cert.XaReferenceIdeal.nD Cert.XaReferenceIdeal.τ).loc Cert.XaReferenceIdeal.main_arg4) = m' ((c.tc : Thread Cert.XaReferenceIdeal.nD Cert.XaReferenceIdeal.τ).loc Cert.XaReferenceIdeal.main_arg4)
          ∧ r.2.mem ((c.tc : Thread Cert.XaReferenceIdeal.nD Cert.XaReferenceIdeal.τ).loc Cert.XaReferenceIdeal.main_arg5) = m' ((c.tc : Thread Cert.XaReferenceIdeal.nD Cert.XaReferenceIdeal.τ).loc Cert.XaReferenceIdeal.main_arg5)
          ∧ r.2.mem ((c.tc : Thread Cert.XaReferenceIdeal.nD Cert.XaReferenceIdeal.τ).loc Cert.XaReferenceIdeal.main_arg6) = m' ((c.tc : Thread Cert.XaReferenceIdeal.nD Cert.XaReferenceIdeal.τ).loc Cert.XaReferenceIdeal.main_arg6))

def preserves_Mem_MemIdeal : Prop :=
  True

def algebraic_MemIdeal_MemReferenceIdeal [hMemIdeal : Cert.MemIdeal.Facts] [hMemReferenceIdeal : Cert.MemReferenceIdeal.Facts] : Prop :=
  ∀ (m : (ℓ : Loc Cert.MemIdeal.nD Cert.MemIdeal.τ Cert.MemIdeal.sig) → Buf (Elt Ideal) ℓ) (g : Dev Cert.MemIdeal.nD → PrngReg)
    (m' : (ℓ : Loc Cert.MemReferenceIdeal.nD Cert.MemReferenceIdeal.τ Cert.MemReferenceIdeal.sig) → Buf (Elt Ideal) ℓ) (g' : Dev Cert.MemReferenceIdeal.nD → PrngReg), Pre_MemIdeal m →
    (∀ c : Dev Cert.MemIdeal.nD,
      m' ((c.tc : Thread Cert.MemReferenceIdeal.nD Cert.MemReferenceIdeal.τ).loc Cert.MemReferenceIdeal.main_arg0) = m ((c.tc : Thread Cert.MemIdeal.nD Cert.MemIdeal.τ).loc Cert.MemIdeal.main_arg0)
      ∧ m' ((c.tc : Thread Cert.MemReferenceIdeal.nD Cert.MemReferenceIdeal.τ).loc Cert.MemReferenceIdeal.main_arg1) = m ((c.tc : Thread Cert.MemIdeal.nD Cert.MemIdeal.τ).loc Cert.MemIdeal.main_arg1)
      ∧ m' ((c.tc : Thread Cert.MemReferenceIdeal.nD Cert.MemReferenceIdeal.τ).loc Cert.MemReferenceIdeal.main_arg2) = m ((c.tc : Thread Cert.MemIdeal.nD Cert.MemIdeal.τ).loc Cert.MemIdeal.main_arg2)
      ∧ m' ((c.tc : Thread Cert.MemReferenceIdeal.nD Cert.MemReferenceIdeal.τ).loc Cert.MemReferenceIdeal.main_arg3) = m ((c.tc : Thread Cert.MemIdeal.nD Cert.MemIdeal.τ).loc Cert.MemIdeal.main_arg3)) →
    ∃ (v0 : (c : Dev Cert.MemIdeal.nD) → Buf (Elt Ideal) ((c.tc : Thread Cert.MemIdeal.nD Cert.MemIdeal.τ).loc Cert.MemIdeal.main_v3_0)) (v1 : (c : Dev Cert.MemIdeal.nD) → Buf (Elt Ideal) ((c.tc : Thread Cert.MemIdeal.nD Cert.MemIdeal.τ).loc Cert.MemIdeal.main_v3_1)),
      θ_run (Cert.MemIdeal.defs (F := Ideal)) (onTc (τ := Cert.MemIdeal.τ) (Cert.MemIdeal.main (F := Ideal))) ⟨m, fun _ => 0, g⟩ (fun r => ∀ c : Dev Cert.MemIdeal.nD,
          r.2.mem ((c.tc : Thread Cert.MemIdeal.nD Cert.MemIdeal.τ).loc Cert.MemIdeal.main_v3_0) = v0 c
          ∧ r.2.mem ((c.tc : Thread Cert.MemIdeal.nD Cert.MemIdeal.τ).loc Cert.MemIdeal.main_v3_1) = v1 c
          ∧ r.2.mem ((c.tc : Thread Cert.MemIdeal.nD Cert.MemIdeal.τ).loc Cert.MemIdeal.main_arg0) = m ((c.tc : Thread Cert.MemIdeal.nD Cert.MemIdeal.τ).loc Cert.MemIdeal.main_arg0)
          ∧ r.2.mem ((c.tc : Thread Cert.MemIdeal.nD Cert.MemIdeal.τ).loc Cert.MemIdeal.main_arg1) = m ((c.tc : Thread Cert.MemIdeal.nD Cert.MemIdeal.τ).loc Cert.MemIdeal.main_arg1)
          ∧ r.2.mem ((c.tc : Thread Cert.MemIdeal.nD Cert.MemIdeal.τ).loc Cert.MemIdeal.main_arg2) = m ((c.tc : Thread Cert.MemIdeal.nD Cert.MemIdeal.τ).loc Cert.MemIdeal.main_arg2)
          ∧ r.2.mem ((c.tc : Thread Cert.MemIdeal.nD Cert.MemIdeal.τ).loc Cert.MemIdeal.main_arg3) = m ((c.tc : Thread Cert.MemIdeal.nD Cert.MemIdeal.τ).loc Cert.MemIdeal.main_arg3))
      ∧ θ_run (Cert.MemReferenceIdeal.defs (F := Ideal)) (onTc (τ := Cert.MemReferenceIdeal.τ) (Cert.MemReferenceIdeal.main (F := Ideal))) ⟨m', fun _ => 0, g'⟩ (fun r => ∀ c : Dev Cert.MemReferenceIdeal.nD,
          r.2.mem ((c.tc : Thread Cert.MemReferenceIdeal.nD Cert.MemReferenceIdeal.τ).loc Cert.MemReferenceIdeal.main_v31) = v0 c
          ∧ r.2.mem ((c.tc : Thread Cert.MemReferenceIdeal.nD Cert.MemReferenceIdeal.τ).loc Cert.MemReferenceIdeal.main_v35) = v1 c
          ∧ r.2.mem ((c.tc : Thread Cert.MemReferenceIdeal.nD Cert.MemReferenceIdeal.τ).loc Cert.MemReferenceIdeal.main_arg0) = m' ((c.tc : Thread Cert.MemReferenceIdeal.nD Cert.MemReferenceIdeal.τ).loc Cert.MemReferenceIdeal.main_arg0)
          ∧ r.2.mem ((c.tc : Thread Cert.MemReferenceIdeal.nD Cert.MemReferenceIdeal.τ).loc Cert.MemReferenceIdeal.main_arg1) = m' ((c.tc : Thread Cert.MemReferenceIdeal.nD Cert.MemReferenceIdeal.τ).loc Cert.MemReferenceIdeal.main_arg1)
          ∧ r.2.mem ((c.tc : Thread Cert.MemReferenceIdeal.nD Cert.MemReferenceIdeal.τ).loc Cert.MemReferenceIdeal.main_arg2) = m' ((c.tc : Thread Cert.MemReferenceIdeal.nD Cert.MemReferenceIdeal.τ).loc Cert.MemReferenceIdeal.main_arg2)
          ∧ r.2.mem ((c.tc : Thread Cert.MemReferenceIdeal.nD Cert.MemReferenceIdeal.τ).loc Cert.MemReferenceIdeal.main_arg3) = m' ((c.tc : Thread Cert.MemReferenceIdeal.nD Cert.MemReferenceIdeal.τ).loc Cert.MemReferenceIdeal.main_arg3))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)) →
    ∃ (v0 : (c : Dev Cert.OutIdeal.nD) → Buf (Elt Ideal) ((c.tc : Thread Cert.OutIdeal.nD Cert.OutIdeal.τ).loc Cert.OutIdeal.main_v3)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v3) = v0 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3))

def preserves_MobaOut_MobaOutIdeal : Prop :=
  True

def algebraic_MobaOutIdeal_MobaOutReferenceIdeal [hMobaOutIdeal : Cert.MobaOutIdeal.Facts] [hMobaOutReferenceIdeal : Cert.MobaOutReferenceIdeal.Facts] : Prop :=
  ∀ (m : (ℓ : Loc Cert.MobaOutIdeal.nD Cert.MobaOutIdeal.τ Cert.MobaOutIdeal.sig) → Buf (Elt Ideal) ℓ) (g : Dev Cert.MobaOutIdeal.nD → PrngReg)
    (m' : (ℓ : Loc Cert.MobaOutReferenceIdeal.nD Cert.MobaOutReferenceIdeal.τ Cert.MobaOutReferenceIdeal.sig) → Buf (Elt Ideal) ℓ) (g' : Dev Cert.MobaOutReferenceIdeal.nD → PrngReg), Pre_MobaOutIdeal m →
    (∀ c : Dev Cert.MobaOutIdeal.nD,
      m' ((c.tc : Thread Cert.MobaOutReferenceIdeal.nD Cert.MobaOutReferenceIdeal.τ).loc Cert.MobaOutReferenceIdeal.main_arg0) = m ((c.tc : Thread Cert.MobaOutIdeal.nD Cert.MobaOutIdeal.τ).loc Cert.MobaOutIdeal.main_arg0)
      ∧ m' ((c.tc : Thread Cert.MobaOutReferenceIdeal.nD Cert.MobaOutReferenceIdeal.τ).loc Cert.MobaOutReferenceIdeal.main_arg1) = m ((c.tc : Thread Cert.MobaOutIdeal.nD Cert.MobaOutIdeal.τ).loc Cert.MobaOutIdeal.main_arg1)
      ∧ m' ((c.tc : Thread Cert.MobaOutReferenceIdeal.nD Cert.MobaOutReferenceIdeal.τ).loc Cert.MobaOutReferenceIdeal.main_arg2) = m ((c.tc : Thread Cert.MobaOutIdeal.nD Cert.MobaOutIdeal.τ).loc Cert.MobaOutIdeal.main_arg2)) →
    ∃ (v0 : (c : Dev Cert.MobaOutIdeal.nD) → Buf (Elt Ideal) ((c.tc : Thread Cert.MobaOutIdeal.nD Cert.MobaOutIdeal.τ).loc Cert.MobaOutIdeal.main_v1)),
      θ_run (Cert.MobaOutIdeal.defs (F := Ideal)) (onTc (τ := Cert.MobaOutIdeal.τ) (Cert.MobaOutIdeal.main (F := Ideal))) ⟨m, fun _ => 0, g⟩ (fun r => ∀ c : Dev Cert.MobaOutIdeal.nD,
          r.2.mem ((c.tc : Thread Cert.MobaOutIdeal.nD Cert.MobaOutIdeal.τ).loc Cert.MobaOutIdeal.main_v1) = v0 c
          ∧ r.2.mem ((c.tc : Thread Cert.MobaOutIdeal.nD Cert.MobaOutIdeal.τ).loc Cert.MobaOutIdeal.main_arg0) = m ((c.tc : Thread Cert.MobaOutIdeal.nD Cert.MobaOutIdeal.τ).loc Cert.MobaOutIdeal.main_arg0)
          ∧ r.2.mem ((c.tc : Thread Cert.MobaOutIdeal.nD Cert.MobaOutIdeal.τ).loc Cert.MobaOutIdeal.main_arg1) = m ((c.tc : Thread Cert.MobaOutIdeal.nD Cert.MobaOutIdeal.τ).loc Cert.MobaOutIdeal.main_arg1)
          ∧ r.2.mem ((c.tc : Thread Cert.MobaOutIdeal.nD Cert.MobaOutIdeal.τ).loc Cert.MobaOutIdeal.main_arg2) = m ((c.tc : Thread Cert.MobaOutIdeal.nD Cert.MobaOutIdeal.τ).loc Cert.MobaOutIdeal.main_arg2))
      ∧ θ_run (Cert.MobaOutReferenceIdeal.defs (F := Ideal)) (onTc (τ := Cert.MobaOutReferenceIdeal.τ) (Cert.MobaOutReferenceIdeal.main (F := Ideal))) ⟨m', fun _ => 0, g'⟩ (fun r => ∀ c : Dev Cert.MobaOutReferenceIdeal.nD,
          r.2.mem ((c.tc : Thread Cert.MobaOutReferenceIdeal.nD Cert.MobaOutReferenceIdeal.τ).loc Cert.MobaOutReferenceIdeal.main_v2) = v0 c
          ∧ r.2.mem ((c.tc : Thread Cert.MobaOutReferenceIdeal.nD Cert.MobaOutReferenceIdeal.τ).loc Cert.MobaOutReferenceIdeal.main_arg0) = m' ((c.tc : Thread Cert.MobaOutReferenceIdeal.nD Cert.MobaOutReferenceIdeal.τ).loc Cert.MobaOutReferenceIdeal.main_arg0)
          ∧ r.2.mem ((c.tc : Thread Cert.MobaOutReferenceIdeal.nD Cert.MobaOutReferenceIdeal.τ).loc Cert.MobaOutReferenceIdeal.main_arg1) = m' ((c.tc : Thread Cert.MobaOutReferenceIdeal.nD Cert.MobaOutReferenceIdeal.τ).loc Cert.MobaOutReferenceIdeal.main_arg1)
          ∧ r.2.mem ((c.tc : Thread Cert.MobaOutReferenceIdeal.nD Cert.MobaOutReferenceIdeal.τ).loc Cert.MobaOutReferenceIdeal.main_arg2) = m' ((c.tc : Thread Cert.MobaOutReferenceIdeal.nD Cert.MobaOutReferenceIdeal.τ).loc Cert.MobaOutReferenceIdeal.main_arg2))

def preserves_In_InIdeal : Prop :=
  True

def algebraic_InIdeal_InReferenceIdeal [hInIdeal : Cert.InIdeal.Facts] [hInReferenceIdeal : Cert.InReferenceIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InReferenceIdeal.nD Cert.InReferenceIdeal.τ Cert.InReferenceIdeal.sig) → Buf (Elt Ideal) ℓ) (g' : Dev Cert.InReferenceIdeal.nD → PrngReg), Pre_InIdeal m →
    (∀ c : Dev Cert.InIdeal.nD,
      m' ((c.tc : Thread Cert.InReferenceIdeal.nD Cert.InReferenceIdeal.τ).loc Cert.InReferenceIdeal.main_arg0) = m ((c.tc : Thread Cert.InIdeal.nD Cert.InIdeal.τ).loc Cert.InIdeal.main_arg0)
      ∧ m' ((c.tc : Thread Cert.InReferenceIdeal.nD Cert.InReferenceIdeal.τ).loc Cert.InReferenceIdeal.main_arg1) = m ((c.tc : Thread Cert.InIdeal.nD Cert.InIdeal.τ).loc Cert.InIdeal.main_arg1)
      ∧ m' ((c.tc : Thread Cert.InReferenceIdeal.nD Cert.InReferenceIdeal.τ).loc Cert.InReferenceIdeal.main_arg2) = m ((c.tc : Thread Cert.InIdeal.nD Cert.InIdeal.τ).loc Cert.InIdeal.main_arg2)) →
    ∃ (v0 : (c : Dev Cert.InIdeal.nD) → Buf (Elt Ideal) ((c.tc : Thread Cert.InIdeal.nD Cert.InIdeal.τ).loc Cert.InIdeal.main_v12_0)) (v1 : (c : Dev Cert.InIdeal.nD) → Buf (Elt Ideal) ((c.tc : Thread Cert.InIdeal.nD Cert.InIdeal.τ).loc Cert.InIdeal.main_v12_1)) (v2 : (c : Dev Cert.InIdeal.nD) → Buf (Elt Ideal) ((c.tc : Thread Cert.InIdeal.nD Cert.InIdeal.τ).loc Cert.InIdeal.main_v12_2)) (v3 : (c : Dev Cert.InIdeal.nD) → Buf (Elt Ideal) ((c.tc : Thread Cert.InIdeal.nD Cert.InIdeal.τ).loc Cert.InIdeal.main_v12_3)) (v4 : (c : Dev Cert.InIdeal.nD) → Buf (Elt Ideal) ((c.tc : Thread Cert.InIdeal.nD Cert.InIdeal.τ).loc Cert.InIdeal.main_v12_4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v12_0) = v0 c
          ∧ r.2.mem ((c.tc : Thread Cert.InIdeal.nD Cert.InIdeal.τ).loc Cert.InIdeal.main_v12_1) = v1 c
          ∧ r.2.mem ((c.tc : Thread Cert.InIdeal.nD Cert.InIdeal.τ).loc Cert.InIdeal.main_v12_2) = v2 c
          ∧ r.2.mem ((c.tc : Thread Cert.InIdeal.nD Cert.InIdeal.τ).loc Cert.InIdeal.main_v12_3) = v3 c
          ∧ r.2.mem ((c.tc : Thread Cert.InIdeal.nD Cert.InIdeal.τ).loc Cert.InIdeal.main_v12_4) = v4 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1)
          ∧ r.2.mem ((c.tc : Thread Cert.InIdeal.nD Cert.InIdeal.τ).loc Cert.InIdeal.main_arg2) = m ((c.tc : Thread Cert.InIdeal.nD Cert.InIdeal.τ).loc Cert.InIdeal.main_arg2))
      ∧ θ_run (Cert.InReferenceIdeal.defs (F := Ideal)) (onTc (τ := Cert.InReferenceIdeal.τ) (Cert.InReferenceIdeal.main (F := Ideal))) ⟨m', fun _ => 0, g'⟩ (fun r => ∀ c : Dev Cert.InReferenceIdeal.nD,
          r.2.mem ((c.tc : Thread Cert.InReferenceIdeal.nD Cert.InReferenceIdeal.τ).loc Cert.InReferenceIdeal.main_v14) = v0 c
          ∧ r.2.mem ((c.tc : Thread Cert.InReferenceIdeal.nD Cert.InReferenceIdeal.τ).loc Cert.InReferenceIdeal.main_v15) = v1 c
          ∧ r.2.mem ((c.tc : Thread Cert.InReferenceIdeal.nD Cert.InReferenceIdeal.τ).loc Cert.InReferenceIdeal.main_v21) = v2 c
          ∧ r.2.mem ((c.tc : Thread Cert.InReferenceIdeal.nD Cert.InReferenceIdeal.τ).loc Cert.InReferenceIdeal.main_v22) = v3 c
          ∧ r.2.mem ((c.tc : Thread Cert.InReferenceIdeal.nD Cert.InReferenceIdeal.τ).loc Cert.InReferenceIdeal.main_v17) = v4 c
          ∧ r.2.mem ((c.tc : Thread Cert.InReferenceIdeal.nD Cert.InReferenceIdeal.τ).loc Cert.InReferenceIdeal.main_arg0) = m' ((c.tc : Thread Cert.InReferenceIdeal.nD Cert.InReferenceIdeal.τ).loc Cert.InReferenceIdeal.main_arg0)
          ∧ r.2.mem ((c.tc : Thread Cert.InReferenceIdeal.nD Cert.InReferenceIdeal.τ).loc Cert.InReferenceIdeal.main_arg1) = m' ((c.tc : Thread Cert.InReferenceIdeal.nD Cert.InReferenceIdeal.τ).loc Cert.InReferenceIdeal.main_arg1)
          ∧ r.2.mem ((c.tc : Thread Cert.InReferenceIdeal.nD Cert.InReferenceIdeal.τ).loc Cert.InReferenceIdeal.main_arg2) = m' ((c.tc : Thread Cert.InReferenceIdeal.nD Cert.InReferenceIdeal.τ).loc Cert.InReferenceIdeal.main_arg2))

def Claim : Prop :=
  ∃ (hKernel : Cert.Kernel.Facts) (hKernelIdeal : Cert.KernelIdeal.Facts) (hReferenceIdeal : Cert.ReferenceIdeal.Facts) (hMlp : Cert.Mlp.Facts) (hMlpIdeal : Cert.MlpIdeal.Facts) (hMlpReferenceIdeal : Cert.MlpReferenceIdeal.Facts) (hXa : Cert.Xa.Facts) (hXaIdeal : Cert.XaIdeal.Facts) (hXaReferenceIdeal : Cert.XaReferenceIdeal.Facts) (hMem : Cert.Mem.Facts) (hMemIdeal : Cert.MemIdeal.Facts) (hMemReferenceIdeal : Cert.MemReferenceIdeal.Facts) (hOut : Cert.Out.Facts) (hOutIdeal : Cert.OutIdeal.Facts) (hOutReferenceIdeal : Cert.OutReferenceIdeal.Facts) (hMobaOut : Cert.MobaOut.Facts) (hMobaOutIdeal : Cert.MobaOutIdeal.Facts) (hMobaOutReferenceIdeal : Cert.MobaOutReferenceIdeal.Facts) (hIn : Cert.In.Facts) (hInIdeal : Cert.InIdeal.Facts) (hInReferenceIdeal : Cert.InReferenceIdeal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Mlp (hMlp := hMlp)
    ∧ quiescent_MlpIdeal (hMlpIdeal := hMlpIdeal)
    ∧ quiescent_MlpReferenceIdeal (hMlpReferenceIdeal := hMlpReferenceIdeal)
    ∧ quiescent_Xa (hXa := hXa)
    ∧ quiescent_XaIdeal (hXaIdeal := hXaIdeal)
    ∧ quiescent_XaReferenceIdeal (hXaReferenceIdeal := hXaReferenceIdeal)
    ∧ quiescent_Mem (hMem := hMem)
    ∧ quiescent_MemIdeal (hMemIdeal := hMemIdeal)
    ∧ quiescent_MemReferenceIdeal (hMemReferenceIdeal := hMemReferenceIdeal)
    ∧ quiescent_Out (hOut := hOut)
    ∧ quiescent_OutIdeal (hOutIdeal := hOutIdeal)
    ∧ quiescent_OutReferenceIdeal (hOutReferenceIdeal := hOutReferenceIdeal)
    ∧ quiescent_MobaOut (hMobaOut := hMobaOut)
    ∧ quiescent_MobaOutIdeal (hMobaOutIdeal := hMobaOutIdeal)
    ∧ quiescent_MobaOutReferenceIdeal (hMobaOutReferenceIdeal := hMobaOutReferenceIdeal)
    ∧ quiescent_In (hIn := hIn)
    ∧ quiescent_InIdeal (hInIdeal := hInIdeal)
    ∧ quiescent_InReferenceIdeal (hInReferenceIdeal := hInReferenceIdeal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Mlp_MlpIdeal
    ∧ algebraic_MlpIdeal_MlpReferenceIdeal (hMlpIdeal := hMlpIdeal) (hMlpReferenceIdeal := hMlpReferenceIdeal)
    ∧ preserves_Xa_XaIdeal
    ∧ algebraic_XaIdeal_XaReferenceIdeal (hXaIdeal := hXaIdeal) (hXaReferenceIdeal := hXaReferenceIdeal)
    ∧ preserves_Mem_MemIdeal
    ∧ algebraic_MemIdeal_MemReferenceIdeal (hMemIdeal := hMemIdeal) (hMemReferenceIdeal := hMemReferenceIdeal)
    ∧ preserves_Out_OutIdeal
    ∧ algebraic_OutIdeal_OutReferenceIdeal (hOutIdeal := hOutIdeal) (hOutReferenceIdeal := hOutReferenceIdeal)
    ∧ preserves_MobaOut_MobaOutIdeal
    ∧ algebraic_MobaOutIdeal_MobaOutReferenceIdeal (hMobaOutIdeal := hMobaOutIdeal) (hMobaOutReferenceIdeal := hMobaOutReferenceIdeal)
    ∧ preserves_In_InIdeal
    ∧ algebraic_InIdeal_InReferenceIdeal (hInIdeal := hInIdeal) (hInReferenceIdeal := hInReferenceIdeal)
-- ==== Pre_finite_qk.lean ====
abbrev S8x16384x192 : Shape := ⟨3, ![8, 16384, 192]⟩
abbrev S8x16384x128 : Shape := ⟨3, ![8, 16384, 128]⟩
abbrev S_ : Shape := ⟨0, ![]⟩

class Facts : Prop where
  bcast_S_S8x16384x192 : S_.BroadcastsInDim S8x16384x192 (![] : Fin 0 → Fin S8x16384x192.rank)

variable [Facts]

def fn {F : FTy → Type} [FloatOps F] (main_arg0 : FVec F S8x16384x192 .f32) (main_arg1 : FVec F S8x16384x192 .f32) (main_arg2 : FVec F S8x16384x128 .f32) : IVec S8x16384x192 1 :=
  let main_v0 : FVec F S8x16384x192 .f32 := Host.absf main_arg0
  let main_cst : FVec F S_ .f32 := constant S_ .f32 0x7F800000#32
  let main_v1 : FVec F S8x16384x192 .f32 := broadcastInDim S8x16384x192 ![] bcast_S_S8x16384x192 main_cst
  let main_v2 : IVec S8x16384x192 1 := cmpf .olt main_v0 main_v1
  let main_v3 : FVec F S8x16384x192 .f32 := Host.absf main_arg1
  let main_cst_0 : FVec F S_ .f32 := constant S_ .f32 0x7F800000#32
  let main_v4 : FVec F S8x16384x192 .f32 := broadcastInDim S8x16384x192 ![] bcast_S_S8x16384x192 main_cst_0
  let main_v5 : IVec S8x16384x192 1 := cmpf .olt main_v3 main_v4
  let main_v6 : IVec S8x16384x192 1 := andi main_v2 main_v5
  main_v6
-- ==== Kernel.lean ====
abbrev S8x16384x192 : Shape := ⟨3, ![8, 16384, 192]⟩
abbrev S8x16384x128 : Shape := ⟨3, ![8, 16384, 128]⟩
abbrev S_ : Shape := ⟨0, ![]⟩
abbrev S8x16384x256 : Shape := ⟨3, ![8, 16384, 256]⟩
abbrev S8x16x1024x256 : Shape := ⟨4, ![8, 16, 1024, 256]⟩
abbrev S8x16x1024x128 : Shape := ⟨4, ![8, 16, 1024, 128]⟩
abbrev S8x16x128x1024 : Shape := ⟨4, ![8, 16, 128, 1024]⟩
abbrev S8x16x1x1024 : Shape := ⟨4, ![8, 16, 1, 1024]⟩
abbrev S8x16x7x1024 : Shape := ⟨4, ![8, 16, 7, 1024]⟩
abbrev S8x16x136x1024 : Shape := ⟨4, ![8, 16, 136, 1024]⟩
abbrev S8 : Shape := ⟨1, ![8]⟩
abbrev S16384x1024 : Shape := ⟨2, ![16384, 1024]⟩
abbrev S1x2048x256 : Shape := ⟨3, ![1, 2048, 256]⟩
abbrev S1x16x1024x256 : Shape := ⟨4, ![1, 16, 1024, 256]⟩
abbrev S1x16x136x1024 : Shape := ⟨4, ![1, 16, 136, 1024]⟩
abbrev S2048x128 : Shape := ⟨2, ![2048, 128]⟩
abbrev S2x1x1024 : Shape := ⟨3, ![2, 1, 1024]⟩
abbrev S2x136x1024 : Shape := ⟨3, ![2, 136, 1024]⟩
abbrev S2x1024x1024 : Shape := ⟨3, ![2, 1024, 1024]⟩
abbrev S1 : Shape := ⟨1, ![1]⟩
abbrev S1x256x256 : Shape := ⟨3, ![1, 256, 256]⟩
abbrev S256x256 : Shape := ⟨2, ![256, 256]⟩
abbrev S1x1x1024x256 : Shape := ⟨4, ![1, 1, 1024, 256]⟩
abbrev S1024x256 : Shape := ⟨2, ![1024, 256]⟩
abbrev S256 : Shape := ⟨1, ![256]⟩
abbrev S1x256 : Shape := ⟨2, ![1, 256]⟩
abbrev S1x1x256 : Shape := ⟨3, ![1, 1, 256]⟩
abbrev S1x136x256 : Shape := ⟨3, ![1, 136, 256]⟩
abbrev S136x256 : Shape := ⟨2, ![136, 256]⟩
abbrev S1x1x136x1024 : Shape := ⟨4, ![1, 1, 136, 1024]⟩
abbrev S136x1024 : Shape := ⟨2, ![136, 1024]⟩
abbrev S1x1024x256 : Shape := ⟨3, ![1, 1024, 256]⟩
abbrev S1x136x1024 : Shape := ⟨3, ![1, 136, 1024]⟩
abbrev S128x1024 : Shape := ⟨2, ![128, 1024]⟩
abbrev S1x1024 : Shape := ⟨2, ![1, 1024]⟩
abbrev S1024x128 : Shape := ⟨2, ![1024, 128]⟩

abbrev nBuf : Space → Nat
  | .hbm => 30
  | .vmem => 12
  | .smem => 1
  | _ => 0

abbrev bufTy : (tb : Table) → Fin (tcTables nBuf tb) → BufTy
  | .hbm, ⟨0, _⟩ => ⟨S8x16384x192, .f32⟩
  | .hbm, ⟨1, _⟩ => ⟨S8x16384x192, .f32⟩
  | .hbm, ⟨2, _⟩ => ⟨S8x16384x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8x16384x192, .f32⟩
  | .hbm, ⟨9, _⟩ => ⟨S8x16384x192, .f32⟩
  | .hbm, ⟨10, _⟩ => ⟨S_, .i32⟩
  | .hbm, ⟨11, _⟩ => ⟨S_, .f32⟩
  | .hbm, ⟨12, _⟩ => ⟨S8x16384x256, .f32⟩
  | .hbm, ⟨13, _⟩ => ⟨S8x16384x256, .bf16⟩
  | .hbm, ⟨14, _⟩ => ⟨S_, .i32⟩
  | .hbm, ⟨15, _⟩ => ⟨S_, .f32⟩
  | .hbm, ⟨16, _⟩ => ⟨S8x16384x256, .f32⟩
  | .hbm, ⟨17, _⟩ => ⟨S8x16384x256, .bf16⟩
  | .hbm, ⟨18, _⟩ => ⟨S8x16x1024x256, .bf16⟩
  | .hbm, ⟨19, _⟩ => ⟨S8x16x1024x128, .f32⟩
  | .hbm, ⟨20, _⟩ => ⟨S8x16x128x1024, .f32⟩
  | .hbm, ⟨21, _⟩ => ⟨S_, .f32⟩
  | .hbm, ⟨22, _⟩ => ⟨S8x16x1x1024, .f32⟩
  | .hbm, ⟨23, _⟩ => ⟨S_, .f32⟩
  | .hbm, ⟨24, _⟩ => ⟨S8x16x7x1024, .f32⟩
  | .hbm, ⟨25, _⟩ => ⟨S8x16x136x1024, .f32⟩
  | .hbm, ⟨26, _⟩ => ⟨S8x16x136x1024, .bf16⟩
  | .hbm, ⟨27, _⟩ => ⟨S_, .f32⟩
  | .hbm, ⟨28, _⟩ => ⟨S8, .f32⟩
  | .hbm, ⟨29, _⟩ => ⟨S16384x1024, .bf16⟩
  | .local _ .vmem, ⟨0, _⟩ => ⟨S1x2048x256, .bf16⟩
  | .local _ .vmem, ⟨1, _⟩ => ⟨S1x2048x256, .bf16⟩
  | .local _ .vmem, ⟨2, _⟩ => ⟨S1x16x1024x256, .bf16⟩
  | .local _ .vmem, ⟨3, _⟩ => ⟨S1x16x1024x256, .bf16⟩
  | .local _ .vmem, ⟨4, _⟩ => ⟨S1x16x136x1024, .bf16⟩
  | .local _ .vmem, ⟨5, _⟩ => ⟨S1x16x136x1024, .bf16⟩
  | .local _ .vmem, ⟨6, _⟩ => ⟨S2048x128, .bf16⟩
  | .local _ .vmem, ⟨7, _⟩ => ⟨S2048x128, .bf16⟩
  | .local _ .vmem, ⟨8, _⟩ => ⟨S2x1x1024, .f32⟩
  | .local _ .vmem, ⟨9, _⟩ => ⟨S2x136x1024, .f32⟩
  | .local _ .vmem, ⟨10, _⟩ => ⟨S2x1024x1024, .f32⟩
  | .local _ .vmem, ⟨11, _⟩ => ⟨S2x1x1024, .f32⟩
  | .local _ .smem, ⟨0, _⟩ => ⟨S8, .f32⟩
  | _, _ => ⟨S8x16384x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_call0_v0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call1_v0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_off1 (i : grid0.Coords) : Fin 1 → Nat :=
  let arg0 : BitVec 32 := BitVec.ofNat 32 (i 0).val
  let v1 : Index := Scalar.indexCast arg0
  ![v1.toNat]
def k0_off2 (i : grid0.Coords) : Fin 4 → Nat :=
  let c0_9 : Index := 0#32
  let c2_i32 : BitVec 32 := 2#32
  let arg1 : BitVec 32 := BitVec.ofNat 32 (i 1).val
  let v0 : BitVec 32 := Scalar.muli c2_i32 arg1
  let v14 : Index := Scalar.indexCast v0
  let c0_10 : Index := 0#32
  let c0_11 : Index := 0#32
  ![0, v14.toNat, 0, 0]
def k0_off3 (i : grid0.Coords) : Fin 4 → Nat :=
  let c0_26 : Index := 0#32
  let c2_i32 : BitVec 32 := 2#32
  let arg1 : BitVec 32 := BitVec.ofNat 32 (i 1).val
  let v0 : BitVec 32 := Scalar.muli c2_i32 arg1
  let v49 : Index := Scalar.indexCast v0
  let c0_27 : Index := 0#32
  let c0_28 : Index := 0#32
  ![0, v49.toNat, 0, 0]
def k0_off4 (i : grid0.Coords) (c0_i32 : BitVec 32) : Fin 4 → Nat :=
  let c0_85 : Index := 0#32
  let c2_i32 : BitVec 32 := 2#32
  let arg1 : BitVec 32 := BitVec.ofNat 32 (i 1).val
  let v0 : BitVec 32 := Scalar.muli c2_i32 arg1
  let v140 : BitVec 32 := Scalar.addi v0 c0_i32
  let v143 : Index := Scalar.indexCast v140
  let c0_86 : Index := 0#32
  let c0_87 : Index := 0#32
  ![0, v143.toNat, 0, 0]
@[reducible] def k0_t1_loop (i : grid0.Coords) : Scf.Loop 32 :=
  let c0_i32_231 : BitVec 32 := 0#32
  let c2_i32 : BitVec 32 := 2#32
  let arg1 : BitVec 32 := BitVec.ofNat 32 (i 1).val
  let v0 : BitVec 32 := Scalar.muli c2_i32 arg1
  let v348 : BitVec 32 := Scalar.subi v0 c0_i32_231
  let c1_i32_232 : BitVec 32 := 1#32
  let v350 : BitVec 32 := Scalar.divsi v348 c1_i32_232
  let v351 : BitVec 32 := Scalar.muli v350 c1_i32_232
  let v352 : BitVec 32 := Scalar.addi c0_i32_231 v351
  let c1_i32_233 : BitVec 32 := 1#32
  ⟨c0_i32_231, v352, c1_i32_233⟩
def k0_off5 (i : grid0.Coords) (k0_t1 : Fin (k0_t1_loop i).trips) : Fin 4 → Nat :=
  let c0_456 : Index := 0#32
  let c0_i32_231 : BitVec 32 := 0#32
  let c1_i32_233 : BitVec 32 := 1#32
  let arg11 : BitVec 32 := Scf.iv c0_i32_231 c1_i32_233 k0_t1
  let v693 : Index := Scalar.indexCast arg11
  let c0_457 : Index := 0#32
  let c0_458 : Index := 0#32
  ![0, v693.toNat, 0, 0]
def k0_off6 (i : grid0.Coords) (k0_t1 : Fin (k0_t1_loop i).trips) (c0_i32_462 : BitVec 32) : Fin 4 → Nat :=
  let c0_477 : Index := 0#32
  let c0_i32_231 : BitVec 32 := 0#32
  let c1_i32_233 : BitVec 32 := 1#32
  let arg11 : BitVec 32 := Scf.iv c0_i32_231 c1_i32_233 k0_t1
  let c0_i32_461 : BitVec 32 := 0#32
  let v699 : BitVec 1 := Scalar.cmpi .eq arg11 c0_i32_461
  let c2_i32 : BitVec 32 := 2#32
  let arg1 : BitVec 32 := BitVec.ofNat 32 (i 1).val
  let v0 : BitVec 32 := Scalar.muli c2_i32 arg1
  let v700 : BitVec 32 := Scalar.addi v0 c0_i32_462
  let c1_i32_463 : BitVec 32 := 1#32
  let v701 : BitVec 32 := Scalar.subi arg11 c1_i32_463
  let v702 : BitVec 32 := Scalar.select v699 v700 v701
  let v728 : Index := Scalar.indexCast v702
  let c0_478 : Index := 0#32
  let c0_479 : Index := 0#32
  ![0, v728.toNat, 0, 0]
@[reducible] def k0_t2_loop (i : grid0.Coords) : Scf.Loop 32 :=
  let c0_i32_231 : BitVec 32 := 0#32
  let c2_i32 : BitVec 32 := 2#32
  let arg1 : BitVec 32 := BitVec.ofNat 32 (i 1).val
  let v0 : BitVec 32 := Scalar.muli c2_i32 arg1
  let v348 : BitVec 32 := Scalar.subi v0 c0_i32_231
  let c1_i32_232 : BitVec 32 := 1#32
  let v350 : BitVec 32 := Scalar.divsi v348 c1_i32_232
  let v351 : BitVec 32 := Scalar.muli v350 c1_i32_232
  let v352 : BitVec 32 := Scalar.addi c0_i32_231 v351
  let v349 : BitVec 32 := Scalar.addi c0_i32_231 v348
  let c1_i32_234 : BitVec 32 := 1#32
  ⟨v352, v349, c1_i32_234⟩
def k0_off7 (i : grid0.Coords) (k0_t2 : Fin (k0_t2_loop i).trips) : Fin 4 → Nat :=
  let c0_456 : Index := 0#32
  let c0_i32_231 : BitVec 32 := 0#32
  let c2_i32 : BitVec 32 := 2#32
  let arg1 : BitVec 32 := BitVec.ofNat 32 (i 1).val
  let v0 : BitVec 32 := Scalar.muli c2_i32 arg1
  let v348 : BitVec 32 := Scalar.subi v0 c0_i32_231
  let c1_i32_232 : BitVec 32 := 1#32
  let v350 : BitVec 32 := Scalar.divsi v348 c1_i32_232
  let v351 : BitVec 32 := Scalar.muli v350 c1_i32_232
  let v352 : BitVec 32 := Scalar.addi c0_i32_231 v351
  let c1_i32_234 : BitVec 32 := 1#32
  let arg11 : BitVec 32 := Scf.iv v352 c1_i32_234 k0_t2
  let v693 : Index := Scalar.indexCast arg11
  let c0_457 : Index := 0#32
  let c0_458 : Index := 0#32
  ![0, v693.toNat, 0, 0]
def k0_off8 (i : grid0.Coords) (k0_t2 : Fin (k0_t2_loop i).trips) (c0_i32_462 : BitVec 32) : Fin 4 → Nat :=
  let c0_477 : Index := 0#32
  let c0_i32_231 : BitVec 32 := 0#32
  let c2_i32 : BitVec 32 := 2#32
  let arg1 : BitVec 32 := BitVec.ofNat 32 (i 1).val
  let v0 : BitVec 32 := Scalar.muli c2_i32 arg1
  let v348 : BitVec 32 := Scalar.subi v0 c0_i32_231
  let c1_i32_232 : BitVec 32 := 1#32
  let v350 : BitVec 32 := Scalar.divsi v348 c1_i32_232
  let v351 : BitVec 32 := Scalar.muli v350 c1_i32_232
  let v352 : BitVec 32 := Scalar.addi c0_i32_231 v351
  let c1_i32_234 : BitVec 32 := 1#32
  let arg11 : BitVec 32 := Scf.iv v352 c1_i32_234 k0_t2
  let c0_i32_461 : BitVec 32 := 0#32
  let v699 : BitVec 1 := Scalar.cmpi .eq arg11 c0_i32_461
  let v700 : BitVec 32 := Scalar.addi v0 c0_i32_462
  let c1_i32_463 : BitVec 32 := 1#32
  let v701 : BitVec 32 := Scalar.subi arg11 c1_i32_463
  let v702 : BitVec 32 := Scalar.select v699 v700 v701
  let v728 : Index := Scalar.indexCast v702
  let c0_478 : Index := 0#32
  let c0_479 : Index := 0#32
  ![0, v728.toNat, 0, 0]
def k0_off9 (i : grid0.Coords) (c0_i32_236 : BitVec 32) : Fin 4 → Nat :=
  let c0_251 : Index := 0#32
  let c2_i32 : BitVec 32 := 2#32
  let arg1 : BitVec 32 := BitVec.ofNat 32 (i 1).val
  let v0 : BitVec 32 := Scalar.muli c2_i32 arg1
  let c0_i32_235 : BitVec 32 := 0#32
  let v353 : BitVec 1 := Scalar.cmpi .eq v0 c0_i32_235
  let v354 : BitVec 32 := Scalar.addi v0 c0_i32_236
  let c1_i32_237 : BitVec 32 := 1#32
  let v355 : BitVec 32 := Scalar.subi v0 c1_i32_237
  let v356 : BitVec 32 := Scalar.select v353 v354 v355
  let v382 : Index := Scalar.indexCast v356
  let c0_252 : Index := 0#32
  let c0_253 : Index := 0#32
  ![0, v382.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x136x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x16384x192 : Shape := ⟨3, ![8, 16384, 192]⟩
abbrev S8x16384x128 : Shape := ⟨3, ![8, 16384, 128]⟩
abbrev S16384 : Shape := ⟨1, ![16384]⟩
abbrev S8x16384x16384 : Shape := ⟨3, ![8, 16384, 16384]⟩
abbrev S_ : Shape := ⟨0, ![]⟩
abbrev S1x16384 : Shape := ⟨2, ![1, 16384]⟩
abbrev S16384x1 : Shape := ⟨2, ![16384, 1]⟩
abbrev S16384x16384 : Shape := ⟨2, ![16384, 16384]⟩
abbrev S8x16384 : Shape := ⟨2, ![8, 16384]⟩
abbrev S8x16384x1 : Shape := ⟨3, ![8, 16384, 1]⟩
abbrev S16384x8x128 : Shape := ⟨3, ![16384, 8, 128]⟩
abbrev S16384x1024 : Shape := ⟨2, ![16384, 1024]⟩

abbrev nBuf : Space → Nat
  | .hbm => 37
  | .vmem => 0
  | .smem => 0
  | _ => 0

abbrev bufTy : (tb : Table) → Fin (tcTables nBuf tb) → BufTy
  | .hbm, ⟨0, _⟩ => ⟨S8x16384x192, .f32⟩
  | .hbm, ⟨1, _⟩ => ⟨S8x16384x192, .f32⟩
  | .hbm, ⟨2, _⟩ => ⟨S8x16384x128, .f32⟩
  | .hbm, ⟨3, _⟩ => ⟨S16384, .i32⟩
  | .hbm, ⟨4, _⟩ => ⟨S8x16384x16384, .f32⟩
  | .hbm, ⟨5, _⟩ => ⟨S_, .f32⟩
  | .hbm, ⟨6, _⟩ => ⟨S_, .f32⟩
  | .hbm, ⟨7, _⟩ => ⟨S8x16384x16384, .f32⟩
  | .hbm, ⟨8, _⟩ => ⟨S8x16384x16384, .f32⟩
  | .hbm, ⟨9, _⟩ => ⟨S1x16384, .i32⟩
  | .hbm, ⟨10, _⟩ => ⟨S16384x1, .i32⟩
  | .hbm, ⟨11, _⟩ => ⟨S16384x16384, .i32⟩
  | .hbm, ⟨12, _⟩ => ⟨S16384x16384, .i32⟩
  | .hbm, ⟨13, _⟩ => ⟨S16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S_, .f32⟩
  | .hbm, ⟨22, _⟩ => ⟨S8x16384, .f32⟩
  | .hbm, ⟨23, _⟩ => ⟨S8x16384, .f32⟩
  | .hbm, ⟨24, _⟩ => ⟨S8x16384x1, .f32⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .f32⟩
  | .hbm, ⟨33, _⟩ => ⟨S8x16384x128, .f32⟩
  | .hbm, ⟨34, _⟩ => ⟨S16384x8x128, .f32⟩
  | .hbm, ⟨35, _⟩ => ⟨S16384x1024, .f32⟩
  | .hbm, ⟨36, _⟩ => ⟨S16384x1024, .bf16⟩
  | _, _ => ⟨S8x16384x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== Mlp.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S512x2048 : Shape := ⟨2, ![512, 2048]⟩
abbrev S2048x2048 : Shape := ⟨2, ![2048, 2048]⟩
abbrev S512 : Shape := ⟨1, ![512]⟩
abbrev S512x1 : Shape := ⟨2, ![512, 1]⟩
abbrev S2048x512 : Shape := ⟨2, ![2048, 512]⟩
abbrev S512x512 : Shape := ⟨2, ![512, 512]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S1x2048, .f32⟩
  | .hbm, ⟨5, _⟩ => ⟨S2048x8192, .bf16⟩
  | .hbm, ⟨6, _⟩ => ⟨S8192x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2048, .bf16⟩
  | .local _ .vmem, ⟨4, _⟩ => ⟨S2048x2048, .bf16⟩
  | .local _ .vmem, ⟨5, _⟩ => ⟨S2048x2048, .bf16⟩
  | .local _ .vmem, ⟨6, _⟩ => ⟨S2048x2048, .bf16⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![32, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== MlpReferenceIdeal.lean ====
abbrev S16384x2048 : Shape := ⟨2, ![16384, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x8192 : Shape := ⟨2, ![16384, 8192]⟩

abbrev nBuf : Space → Nat
  | .hbm => 27
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S16384x2048, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S16384x8192, .f32⟩
  | .hbm, ⟨21, _⟩ => ⟨S_, .f32⟩
  | .hbm, ⟨22, _⟩ => ⟨S16384x8192, .f32⟩
  | .hbm, ⟨23, _⟩ => ⟨S16384x8192, .f32⟩
  | .hbm, ⟨24, _⟩ => ⟨S16384x8192, .f32⟩
  | .hbm, ⟨25, _⟩ => ⟨S16384x2048, .f32⟩
  | .hbm, ⟨26, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Xa.lean ====
abbrev S16384x2048 : Shape := ⟨2, ![16384, 2048]⟩
abbrev S4x256x128 : Shape := ⟨3, ![4, 256, 128]⟩
abbrev S2048 : Shape := ⟨1, ![2048]⟩
abbrev S2048x512 : Shape := ⟨2, ![2048, 512]⟩
abbrev S128 : Shape := ⟨1, ![128]⟩
abbrev S512x2048 : Shape := ⟨2, ![512, 2048]⟩
abbrev S1x2048 : Shape := ⟨2, ![1, 2048]⟩
abbrev S1x128 : Shape := ⟨2, ![1, 128]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩

abbrev nBuf : Space → Nat
  | .hbm => 14
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S4x256x128, .f32⟩
  | .hbm, ⟨2, _⟩ => ⟨S4x256x128, .f32⟩
  | .hbm, ⟨3, _⟩ => ⟨S2048, .f32⟩
  | .hbm, ⟨4, _⟩ => ⟨S2048x512, .f32⟩
  | .hbm, ⟨5, _⟩ => ⟨S128, .f32⟩
  | .hbm, ⟨6, _⟩ => ⟨S512x2048, .f32⟩
  | .hbm, ⟨7, _⟩ => ⟨S1x2048, .f32⟩
  | .hbm, ⟨8, _⟩ => ⟨S2048x512, .bf16⟩
  | .hbm, ⟨9, _⟩ => ⟨S1x128, .f32⟩
  | .hbm, ⟨10, _⟩ => ⟨S4x256x128, .bf16⟩
  | .hbm, ⟨11, _⟩ => ⟨S4x256x128, .bf16⟩
  | .hbm, ⟨12, _⟩ => ⟨S512x2048, .bf16⟩
  | .hbm, ⟨13, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x512, .bf16⟩
  | .local _ .vmem, ⟨4, _⟩ => ⟨S1x128, .f32⟩
  | .local _ .vmem, ⟨5, _⟩ => ⟨S4x256x128, .bf16⟩
  | .local _ .vmem, ⟨6, _⟩ => ⟨S4x256x128, .bf16⟩
  | .local _ .vmem, ⟨7, _⟩ => ⟨S512x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== XaReferenceIdeal.lean ====
abbrev S16384x2048 : Shape := ⟨2, ![16384, 2048]⟩
abbrev S4x256x128 : Shape := ⟨3, ![4, 256, 128]⟩
abbrev S2048 : Shape := ⟨1, ![2048]⟩
abbrev S2048x512 : Shape := ⟨2, ![2048, 512]⟩
abbrev S128 : Shape := ⟨1, ![128]⟩
abbrev S512x2048 : Shape := ⟨2, ![512, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x512 : Shape := ⟨2, ![16384, 512]⟩
abbrev S16384x4x128 : Shape := ⟨3, ![16384, 4, 128]⟩
abbrev S16384x4 : Shape := ⟨2, ![16384, 4]⟩
abbrev S16384x4x1 : Shape := ⟨3, ![16384, 4, 1]⟩
abbrev S1x1x128 : Shape := ⟨3, ![1, 1, 128]⟩
abbrev S4x16384x256 : Shape := ⟨3, ![4, 16384, 256]⟩
abbrev S4x16384 : Shape := ⟨2, ![4, 16384]⟩
abbrev S4x16384x1 : Shape := ⟨3, ![4, 16384, 1]⟩
abbrev S4x128x16384 : Shape := ⟨3, ![4, 128, 16384]⟩

abbrev nBuf : Space → Nat
  | .hbm => 64
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S4x256x128, .f32⟩
  | .hbm, ⟨2, _⟩ => ⟨S4x256x128, .f32⟩
  | .hbm, ⟨3, _⟩ => ⟨S2048, .f32⟩
  | .hbm, ⟨4, _⟩ => ⟨S2048x512, .f32⟩
  | .hbm, ⟨5, _⟩ => ⟨S128, .f32⟩
  | .hbm, ⟨6, _⟩ => ⟨S512x2048, .f32⟩
  | .hbm, ⟨7, _⟩ => ⟨S16384x2048, .f32⟩
  | .hbm, ⟨8, _⟩ => ⟨S_, .f32⟩
  | .hbm, ⟨9, _⟩ => ⟨S16384, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S16384x1, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x512, .f32⟩
  | .hbm, ⟨24, _⟩ => ⟨S16384x4x128, .f32⟩
  | .hbm, ⟨25, _⟩ => ⟨S16384x4x128, .f32⟩
  | .hbm, ⟨26, _⟩ => ⟨S_, .f32⟩
  | .hbm, ⟨27, _⟩ => ⟨S16384x4, .f32⟩
  | .hbm, ⟨28, _⟩ => ⟨S16384x4x1, .f32⟩
  | .hbm, ⟨29, _⟩ => ⟨S_, .f32⟩
  | .hbm, ⟨30, _⟩ => ⟨S16384x4x1, .f32⟩
  | .hbm, ⟨31, _⟩ => ⟨S16384x4x1, .f32⟩
  | .hbm, ⟨32, _⟩ => ⟨S_, .f32⟩
  | .hbm, ⟨33, _⟩ => ⟨S16384x4x1, .f32⟩
  | .hbm, ⟨34, _⟩ => ⟨S16384x4x1, .f32⟩
  | .hbm, ⟨35, _⟩ => ⟨S16384x4x1, .f32⟩
  | .hbm, ⟨36, _⟩ => ⟨S16384x4x128, .f32⟩
  | .hbm, ⟨37, _⟩ => ⟨S16384x4x128, .f32⟩
  | .hbm, ⟨38, _⟩ => ⟨S1x1x128, .f32⟩
  | .hbm, ⟨39, _⟩ => ⟨S16384x4x128, .f32⟩
  | .hbm, ⟨40, _⟩ => ⟨S16384x4x128, .f32⟩
  | .hbm, ⟨41, _⟩ => ⟨S4x16384x256, .f32⟩
  | .hbm, ⟨42, _⟩ => ⟨S_, .f32⟩
  | .hbm, ⟨43, _⟩ => ⟨S4x16384x256, .f32⟩
  | .hbm, ⟨44, _⟩ => ⟨S4x16384x256, .f32⟩
  | .hbm, ⟨45, _⟩ => ⟨S_, .f32⟩
  | .hbm, ⟨46, _⟩ => ⟨S4x16384, .f32⟩
  | .hbm, ⟨47, _⟩ => ⟨S_, .f32⟩
  | .hbm, ⟨48, _⟩ => ⟨S4x16384, .f32⟩
  | .hbm, ⟨49, _⟩ => ⟨S4x16384, .f32⟩
  | .hbm, ⟨50, _⟩ => ⟨S4x16384x1, .f32⟩
  | .hbm, ⟨51, _⟩ => ⟨S4x16384x256, .f32⟩
  | .hbm, ⟨52, _⟩ => ⟨S4x16384x256, .f32⟩
  | .hbm, ⟨53, _⟩ => ⟨S4x16384x256, .f32⟩
  | .hbm, ⟨54, _⟩ => ⟨S_, .f32⟩
  | .hbm, ⟨55, _⟩ => ⟨S4x16384, .f32⟩
  | .hbm, ⟨56, _⟩ => ⟨S4x16384x1, .f32⟩
  | .hbm, ⟨57, _⟩ => ⟨S4x16384x256, .f32⟩
  | .hbm, ⟨58, _⟩ => ⟨S4x16384x256, .f32⟩
  | .hbm, ⟨59, _⟩ => ⟨S4x128x16384, .f32⟩
  | .hbm, ⟨60, _⟩ => ⟨S16384x4x128, .f32⟩
  | .hbm, ⟨61, _⟩ => ⟨S16384x512, .f32⟩
  | .hbm, ⟨62, _⟩ => ⟨S16384x2048, .f32⟩
  | .hbm, ⟨63, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_8 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩

abbrev nD : Nat := 1
abbrev τ : Topo := Topo.v7x

variable {F : FTy → Type} [FloatOps F]
-- ==== Mem.lean ====
abbrev S256x2048 : Shape := ⟨2, ![256, 2048]⟩
abbrev S2048 : Shape := ⟨1, ![2048]⟩
abbrev S2048x1024 : Shape := ⟨2, ![2048, 1024]⟩
abbrev S128 : Shape := ⟨1, ![128]⟩
abbrev S1x2048 : Shape := ⟨2, ![1, 2048]⟩
abbrev S1x128 : Shape := ⟨2, ![1, 128]⟩
abbrev S4x256x128 : Shape := ⟨3, ![4, 256, 128]⟩
abbrev S256 : Shape := ⟨1, ![256]⟩
abbrev S256x1 : Shape := ⟨2, ![256, 1]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 9
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S1x2048, .f32⟩
  | .hbm, ⟨5, _⟩ => ⟨S2048x1024, .bf16⟩
  | .hbm, ⟨6, _⟩ => ⟨S1x128, .f32⟩
  | .hbm, ⟨7, _⟩ => ⟨S4x256x128, .bf16⟩
  | .hbm, ⟨8, _⟩ => ⟨S4x256x128, .bf16⟩
  | .local _ .vmem, ⟨0, _⟩ => ⟨S256x2048, .f32⟩
  | .local _ .vmem, ⟨1, _⟩ => ⟨S1x2048, .f32⟩
  | .local _ .vmem, ⟨2, _⟩ => ⟨S2048x1024, .bf16⟩
  | .local _ .vmem, ⟨3, _⟩ => ⟨S1x128, .f32⟩
  | .local _ .vmem, ⟨4, _⟩ => ⟨S4x256x128, .bf16⟩
  | .local _ .vmem, ⟨5, _⟩ => ⟨S4x256x128, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x256x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x256x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== MemReferenceIdeal.lean ====
abbrev S256x2048 : Shape := ⟨2, ![256, 2048]⟩
abbrev S2048 : Shape := ⟨1, ![2048]⟩
abbrev S2048x1024 : Shape := ⟨2, ![2048, 1024]⟩
abbrev S128 : Shape := ⟨1, ![128]⟩
abbrev S_ : Shape := ⟨0, ![]⟩
abbrev S256 : Shape := ⟨1, ![256]⟩
abbrev S256x1 : Shape := ⟨2, ![256, 1]⟩
abbrev S1x2048 : Shape := ⟨2, ![1, 2048]⟩
abbrev S256x1024 : Shape := ⟨2, ![256, 1024]⟩
abbrev S256x2x4x128 : Shape := ⟨4, ![256, 2, 4, 128]⟩
abbrev S256x1x4x128 : Shape := ⟨4, ![256, 1, 4, 128]⟩
abbrev S256x4x128 : Shape := ⟨3, ![256, 4, 128]⟩
abbrev S256x4 : Shape := ⟨2, ![256, 4]⟩
abbrev S256x4x1 : Shape := ⟨3, ![256, 4, 1]⟩
abbrev S1x1x128 : Shape := ⟨3, ![1, 1, 128]⟩
abbrev S4x256x128 : Shape := ⟨3, ![4, 256, 128]⟩

abbrev nBuf : Space → Nat
  | .hbm => 46
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048, .f32⟩
  | .hbm, ⟨2, _⟩ => ⟨S2048x1024, .f32⟩
  | .hbm, ⟨3, _⟩ => ⟨S128, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x1024, .f32⟩
  | .hbm, ⟨21, _⟩ => ⟨S256x2x4x128, .f32⟩
  | .hbm, ⟨22, _⟩ => ⟨S256x1x4x128, .f32⟩
  | .hbm, ⟨23, _⟩ => ⟨S256x4x128, .f32⟩
  | .hbm, ⟨24, _⟩ => ⟨S256x4x128, .f32⟩
  | .hbm, ⟨25, _⟩ => ⟨S_, .f32⟩
  | .hbm, ⟨26, _⟩ => ⟨S256x4, .f32⟩
  | .hbm, ⟨27, _⟩ => ⟨S256x4x1, .f32⟩
  | .hbm, ⟨28, _⟩ => ⟨S_, .f32⟩
  | .hbm, ⟨29, _⟩ => ⟨S256x4x1, .f32⟩
  | .hbm, ⟨30, _⟩ => ⟨S256x4x1, .f32⟩
  | .hbm, ⟨31, _⟩ => ⟨S_, .f32⟩
  | .hbm, ⟨32, _⟩ => ⟨S256x4x1, .f32⟩
  | .hbm, ⟨33, _⟩ => ⟨S256x4x1, .f32⟩
  | .hbm, ⟨34, _⟩ => ⟨S256x4x1, .f32⟩
  | .hbm, ⟨35, _⟩ => ⟨S256x4x128, .f32⟩
  | .hbm, ⟨36, _⟩ => ⟨S256x4x128, .f32⟩
  | .hbm, ⟨37, _⟩ => ⟨S1x1x128, .f32⟩
  | .hbm, ⟨38, _⟩ => ⟨S256x4x128, .f32⟩
  | .hbm, ⟨39, _⟩ => ⟨S256x4x128, .f32⟩
  | .hbm, ⟨40, _⟩ => ⟨S4x256x128, .f32⟩
  | .hbm, ⟨41, _⟩ => ⟨S4x256x128, .bf16⟩
  | .hbm, ⟨42, _⟩ => ⟨S256x1x4x128, .f32⟩
  | .hbm, ⟨43, _⟩ => ⟨S256x4x128, .f32⟩
  | .hbm, ⟨44, _⟩ => ⟨S4x256x128, .f32⟩
  | .hbm, ⟨45, _⟩ => ⟨S4x256x128, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Out.lean ====
abbrev S16384x2048 : Shape := ⟨2, ![16384, 2048]⟩
abbrev S16384x1024 : Shape := ⟨2, ![16384, 1024]⟩
abbrev S2048x2048 : Shape := ⟨2, ![2048, 2048]⟩
abbrev S1024x2048 : Shape := ⟨2, ![1024, 2048]⟩
abbrev S512x2048 : Shape := ⟨2, ![512, 2048]⟩
abbrev S512x1024 : Shape := ⟨2, ![512, 1024]⟩

abbrev nBuf : Space → Nat
  | .hbm => 8
  | .vmem => 10
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .f32⟩
  | .hbm, ⟨3, _⟩ => ⟨S2048x2048, .f32⟩
  | .hbm, ⟨4, _⟩ => ⟨S2048x2048, .bf16⟩
  | .hbm, ⟨5, _⟩ => ⟨S1024x2048, .bf16⟩
  | .hbm, ⟨6, _⟩ => ⟨S1024x2048, .bf16⟩
  | .hbm, ⟨7, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1024x2048, .bf16⟩
  | .local _ .vmem, ⟨7, _⟩ => ⟨S1024x2048, .bf16⟩
  | .local _ .vmem, ⟨8, _⟩ => ⟨S512x2048, .f32⟩
  | .local _ .vmem, ⟨9, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutReferenceIdeal.lean ====
abbrev S16384x2048 : Shape := ⟨2, ![16384, 2048]⟩
abbrev S16384x1024 : Shape := ⟨2, ![16384, 1024]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x1024, .bf16⟩
  | .hbm, ⟨2, _⟩ => ⟨S16384x1024, .f32⟩
  | .hbm, ⟨3, _⟩ => ⟨S2048x2048, .f32⟩
  | .hbm, ⟨4, _⟩ => ⟨S16384x1024, .f32⟩
  | .hbm, ⟨5, _⟩ => ⟨S16384x2048, .f32⟩
  | .hbm, ⟨6, _⟩ => ⟨S16384x2048, .f32⟩
  | .hbm, ⟨7, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MobaOut.lean ====
abbrev S16384x2048 : Shape := ⟨2, ![16384, 2048]⟩
abbrev S2048x2048 : Shape := ⟨2, ![2048, 2048]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S2048x2048, .bf16⟩
  | .hbm, ⟨4, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MobaOutReferenceIdeal.lean ====
abbrev S16384x2048 : Shape := ⟨2, ![16384, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16384x2048, .bf16⟩
  | .hbm, ⟨2, _⟩ => ⟨S2048x2048, .f32⟩
  | .hbm, ⟨3, _⟩ => ⟨S16384x2048, .f32⟩
  | .hbm, ⟨4, _⟩ => ⟨S16384x2048, .f32⟩
  | .hbm, ⟨5, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== In.lean ====
abbrev S16384x2048 : Shape := ⟨2, ![16384, 2048]⟩
abbrev S2048 : Shape := ⟨1, ![2048]⟩
abbrev S2048x2112 : Shape := ⟨2, ![2048, 2112]⟩
abbrev S2048x512 : Shape := ⟨2, ![2048, 512]⟩
abbrev S2048x64 : Shape := ⟨2, ![2048, 64]⟩
abbrev S2048x32 : Shape := ⟨2, ![2048, 32]⟩
abbrev S_ : Shape := ⟨0, ![]⟩
abbrev S2048x128 : Shape := ⟨2, ![2048, 128]⟩
abbrev S2048x1024 : Shape := ⟨2, ![2048, 1024]⟩
abbrev S2048x2304 : Shape := ⟨2, ![2048, 2304]⟩
abbrev S1x2048 : Shape := ⟨2, ![1, 2048]⟩
abbrev S16384x512 : Shape := ⟨2, ![16384, 512]⟩
abbrev S16384x128 : Shape := ⟨2, ![16384, 128]⟩
abbrev S16384x1024 : Shape := ⟨2, ![16384, 1024]⟩
abbrev S512x2048 : Shape := ⟨2, ![512, 2048]⟩
abbrev S512x512 : Shape := ⟨2, ![512, 512]⟩
abbrev S512x128 : Shape := ⟨2, ![512, 128]⟩
abbrev S512x1024 : Shape := ⟨2, ![512, 1024]⟩
abbrev S512 : Shape := ⟨1, ![512]⟩
abbrev S512x1 : Shape := ⟨2, ![512, 1]⟩
abbrev S512x2304 : Shape := ⟨2, ![512, 2304]⟩

abbrev nBuf : Space → Nat
  | .hbm => 21
  | .vmem => 14
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2112, .f32⟩
  | .hbm, ⟨3, _⟩ => ⟨S2048x512, .f32⟩
  | .hbm, ⟨4, _⟩ => ⟨S2048x512, .f32⟩
  | .hbm, ⟨5, _⟩ => ⟨S2048x64, .f32⟩
  | .hbm, ⟨6, _⟩ => ⟨S2048x32, .f32⟩
  | .hbm, ⟨7, _⟩ => ⟨S2048x32, .f32⟩
  | .hbm, ⟨8, _⟩ => ⟨S_, .f32⟩
  | .hbm, ⟨9, _⟩ => ⟨S2048x64, .f32⟩
  | .hbm, ⟨10, _⟩ => ⟨S2048x128, .f32⟩
  | .hbm, ⟨11, _⟩ => ⟨S2048x128, .f32⟩
  | .hbm, ⟨12, _⟩ => ⟨S2048x1024, .f32⟩
  | .hbm, ⟨13, _⟩ => ⟨S2048x2304, .f32⟩
  | .hbm, ⟨14, _⟩ => ⟨S2048x2304, .bf16⟩
  | .hbm, ⟨15, _⟩ => ⟨S1x2048, .f32⟩
  | .hbm, ⟨16, _⟩ => ⟨S16384x512, .f32⟩
  | .hbm, ⟨17, _⟩ => ⟨S16384x512, .f32⟩
  | .hbm, ⟨18, _⟩ => ⟨S16384x128, .f32⟩
  | .hbm, ⟨19, _⟩ => ⟨S16384x128, .f32⟩
  | .hbm, ⟨20, _⟩ => ⟨S16384x1024, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2304, .bf16⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .f32⟩
  | .local _ .vmem, ⟨13, _⟩ => ⟨S512x1024, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12_0 : Ref sig .tc := ⟨.hbm, 16, rfl⟩
abbrev main_v12_1 : Ref sig .tc := ⟨.hbm, 17, rfl⟩
abbrev main_v12_2 : Ref sig .tc := ⟨.hbm, 18, rfl⟩
abbrev main_v12_3 : Ref sig .tc := ⟨.hbm, 19, rfl⟩
abbrev main_v12_4 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x2304 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== InReferenceIdeal.lean ====
abbrev S16384x2048 : Shape := ⟨2, ![16384, 2048]⟩
abbrev S2048 : Shape := ⟨1, ![2048]⟩
abbrev S2048x2112 : Shape := ⟨2, ![2048, 2112]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S16384x2112 : Shape := ⟨2, ![16384, 2112]⟩
abbrev S16384x512 : Shape := ⟨2, ![16384, 512]⟩
abbrev S16384x64 : Shape := ⟨2, ![16384, 64]⟩
abbrev S16384x1024 : Shape := ⟨2, ![16384, 1024]⟩
abbrev S16384x32 : Shape := ⟨2, ![16384, 32]⟩
abbrev S16384x128 : Shape := ⟨2, ![16384, 128]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048, .f32⟩
  | .hbm, ⟨2, _⟩ => ⟨S2048x2112, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x2112, .f32⟩
  | .hbm, ⟨20, _⟩ => ⟨S16384x512, .f32⟩
  | .hbm, ⟨21, _⟩ => ⟨S16384x512, .f32⟩
  | .hbm, ⟨22, _⟩ => ⟨S16384x64, .f32⟩
  | .hbm, ⟨23, _⟩ => ⟨S16384x1024, .f32⟩
  | .hbm, ⟨24, _⟩ => ⟨S16384x32, .f32⟩
  | .hbm, ⟨25, _⟩ => ⟨S16384x32, .f32⟩
  | .hbm, ⟨26, _⟩ => ⟨S16384x64, .f32⟩
  | .hbm, ⟨27, _⟩ => ⟨S_, .i32⟩
  | .hbm, ⟨28, _⟩ => ⟨S_, .f32⟩
  | .hbm, ⟨29, _⟩ => ⟨S16384x128, .f32⟩
  | .hbm, ⟨30, _⟩ => ⟨S_, .i32⟩
  | .hbm, ⟨31, _⟩ => ⟨S_, .f32⟩
  | .hbm, ⟨32, _⟩ => ⟨S16384x128, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_c : Ref sig .tc := ⟨.hbm, 27, rfl⟩
abbrev main_call0_v0 : Ref sig .tc := ⟨.hbm, 28, rfl⟩
abbrev main_v21 : Ref sig .tc := ⟨.hbm, 29, rfl⟩
abbrev main_c_2 : Ref sig .tc := ⟨.hbm, 30, rfl⟩
abbrev main_call1_v0 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Steps.lean ====
/- ONE STRIP'S ARITHMETIC, read at an index over the extended reals: the scores of a tile of keys, their column maximum,
   the masked scores, and the two updates of the online softmax. A strip is 256 queries; the kernel keeps scores
   transposed, keys down and queries across. -/
module

public import proofs.«01_k».proof.Proof.Gen.KernelIdeal.Value
public import Idealize.ShloMosaic.Lib.MatmulPlain
public import Idealize.ShloMosaic.Lib.ValueLayout
public import Idealize.ShloMosaic.Lib.ValueIdx
public import Idealize.ShloMosaic.Lib.ValueIdxCoords

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

/-- The f32 word of −∞ is the least extended real. -/
theorem ofBits_bot : (FloatOps.ofBits .f32 0xFF800000#32 : Ideal .f32) = ⊥ := by
  show Ideal.ofBits .f32 0xFF800000#32 = ⊥
  simp [Ideal.ofBits, Ideal.ieee]

/-- A column's maximum over the 1024 keys of a tile. -/
def top (s : Fin 1024 → EReal) : EReal := (Finset.univ : Finset (Fin 1024)).fold max ⊥ s

/-- The running maximum after a tile whose scores' maximum is `cm`, its scores shifted by `w`. -/
def stepM (w m cm : EReal) : EReal := max m (cm + w)

/-- The accumulator's entry after that tile: the old entry rescaled, plus the tile's scores' exponentials against one
    row `v` of the values. -/
def stepA (w m cm a : EReal) (s v : Fin 1024 → EReal) : EReal :=
  Ideal.exp2 (m - stepM w m cm) * a + ∑ k : Fin 1024, v k * Ideal.exp2 (s k - (stepM w m cm - w))

theorem matmul_scores (kt : FVec Ideal S1024x256 .bf16) (qs : FVec Ideal S256x256 .bf16) (acc : FVec Ideal S1024x256 .f32)
    (k : Fin 1024) (j : Fin 256) :
    matmul dot_S1024x256_S256x256_S1024x256_1_1_0_0_n_n none kt qs acc (ix2 k j)
      = acc (ix2 k j) + ∑ d : Fin 256, kt (ix2 k d) * qs (ix2 j d) :=
  Ideal.matmul_transposedRhs_apply (M := 1024) (K := 256) (N := 256) none kt qs acc k j

theorem matmul_pv (vt : FVec Ideal S136x1024 .bf16) (p : FVec Ideal S1024x256 .bf16) (acc : FVec Ideal S136x256 .f32)
    (r : Fin 136) (j : Fin 256) :
    matmul dot_S136x1024_S1024x256_S136x256_1_0_0_1_n_n none vt p acc (ix2 r j)
      = acc (ix2 r j) + ∑ k : Fin 1024, vt (ix2 r k) * p (ix2 k j) :=
  Ideal.matmul_plain_apply (M := 136) (K := 1024) (N := 256) none vt p acc r j

/-- A tile's scores, one key against one query. -/
theorem scores_at (kt : FVec Ideal S1024x256 .bf16) (qs : FVec Ideal S256x256 .bf16) (k : Fin 1024) (j : Fin 256) :
    matmul dot_S1024x256_S256x256_S1024x256_1_1_0_0_n_n none kt qs (constant S1024x256 .f32 0x00000000#32) (ix2 k j)
      = ∑ d : Fin 256, kt (ix2 k d) * qs (ix2 j d) := by
  rw [matmul_scores, constant_apply, Ideal.ofBits_zero_f32, zero_add]

/-- The column maximum of a strip of scores. -/
theorem top_at (s : FVec Ideal S1024x256 .f32) (h : S1024x256.Reduces [0] S256) (hf : FKind.Formats .f32)
    (ha : 0xFF800000#32 = FKind.maximumf.neutral .f32 hf) (h' : S256.ShapeCasts S1x256) (u : Fin 1) (j : Fin 256) :
    shapeCast S1x256 (multiReduction .maximumf [0] S256 s 0xFF800000#32 h hf ha) h' (ix2 u j)
      = top fun k => s (ix2 k j) := by
  refine (shapeCast_a_1a_apply (a := 256) _ h' u j).trans ?_
  refine (Ideal.multiReduction_maximumf_single (φ := .f32) s _ h hf ha (ix1 j)).trans ?_
  rw [ofBits_bot]
  unfold top
  refine congrArg (fun f => Finset.fold max ⊥ f Finset.univ) (funext fun k => congrArg s ?_)
  funext a
  match a with
  | ⟨0, _⟩ => rfl
  | ⟨1, _⟩ => rfl

/-- The new running maximum of one query. -/
theorem newM_at (w : Ideal .f32) (m cm : FVec Ideal S1x256 .f32) (j : Fin 256) :
    maximumf m (addf cm (broadcast S1x256 w)) (ix2 0 j) = stepM w (m (ix2 0 j)) (cm (ix2 0 j)) := rfl

/-- … as it is stored. -/
theorem storeM_at (w : Ideal .f32) (m cm : FVec Ideal S1x256 .f32) (h : S1x256.ShapeCasts S1x1x256) (u v : Fin 1) (j : Fin 256) :
    shapeCast S1x1x256 (maximumf m (addf cm (broadcast S1x256 w))) h (ix3 u v j) = stepM w (m (ix2 0 j)) (cm (ix2 0 j)) := by
  rw [Subsingleton.elim v 0]
  exact (shapeCast_ab_1ab_apply (a := 1) (b := 256) _ h u 0 j).trans rfl

/-- The new accumulator entry of one query, as it is stored. -/
theorem storeA_at (w : Ideal .f32) (m cm : FVec Ideal S1x256 .f32) (acc : FVec Ideal S136x256 .f32) (st : FVec Ideal S1024x256 .f32)
    (vt : FVec Ideal S136x1024 .bf16) (h₁ : S1x256.Broadcasts S136x256) (h₂ : S1x256.Broadcasts S1024x256)
    (h₃ : FTy.bf16.bits < FTy.f32.bits) (h₄ : S136x256.ShapeCasts S1x136x256) (u : Fin 1) (r : Fin 136) (j : Fin 256) :
    shapeCast S1x136x256
        (addf (mulf (broadcastTo S136x256 (exp2 (subf m (maximumf m (addf cm (broadcast S1x256 w))))) h₁) acc)
          (matmul dot_S136x1024_S1024x256_S136x256_1_0_0_1_n_n none vt
            (truncf .bf16 (exp2 (subf st (broadcastTo S1024x256 (subf (maximumf m (addf cm (broadcast S1x256 w))) (broadcast S1x256 w)) h₂))) h₃)
            (constant S136x256 .f32 0x00000000#32))) h₄ (ix3 u r j)
      = stepA w (m (ix2 0 j)) (cm (ix2 0 j)) (acc (ix2 r j)) (fun k => st (ix2 k j)) (fun k => vt (ix2 r k)) := by
  refine (shapeCast_ab_1ab_apply (a := 136) (b := 256) _ h₄ u r j).trans ?_
  rw [addf_apply, mulf_apply, matmul_pv, constant_apply, Ideal.ofBits_zero_f32, zero_add]
  unfold stepA
  refine congrArg₂ (· + ·) (congrArg (· * _) ?_) (Finset.sum_congr rfl fun k _ => congrArg (_ * ·) ?_)
  · exact (broadcastTo_1b_ab_apply (a := 136) (b := 256) _ h₁ r j).trans rfl
  · show Ideal.exp2 (st (ix2 k j) - broadcastTo S1024x256 _ h₂ (ix2 k j)) = _
    rw [show broadcastTo S1024x256 _ h₂ (ix2 k j) = _ from broadcastTo_1b_ab_apply (a := 1024) (b := 256) _ h₂ k j]
    rfl

/-- The stored scores are the scores. -/
theorem storeS_at (s : FVec Ideal S1024x256 .f32) (h : S1024x256.ShapeCasts S1x1024x256) (u : Fin 1) (k : Fin 1024) (j : Fin 256) :
    shapeCast S1x1024x256 s h (ix3 u k j) = s (ix2 k j) :=
  shapeCast_ab_1ab_apply (a := 1024) (b := 256) _ h u k j

/-- The stored column maxima. -/
theorem storeC_at (s : FVec Ideal S1x256 .f32) (h : S1x256.ShapeCasts S1x1x256) (u v : Fin 1) (j : Fin 256) :
    shapeCast S1x1x256 s h (ix3 u v j) = s (ix2 0 j) := by
  rw [Subsingleton.elim v 0]
  exact shapeCast_ab_1ab_apply (a := 1) (b := 256) _ h u 0 j

/-- A strip's column maxima, as they are stored. -/
theorem storeTop_at (s : FVec Ideal S1024x256 .f32) (h : S1024x256.Reduces [0] S256) (hf : FKind.Formats .f32)
    (ha : 0xFF800000#32 = FKind.maximumf.neutral .f32 hf) (h' : S256.ShapeCasts S1x256) (h'' : S1x256.ShapeCasts S1x1x256)
    (u v : Fin 1) (j : Fin 256) :
    shapeCast S1x1x256 (shapeCast S1x256 (multiReduction .maximumf [0] S256 s 0xFF800000#32 h hf ha) h') h'' (ix3 u v j)
      = top fun k => s (ix2 k j) :=
  (storeC_at _ h'' u v j).trans (top_at s h hf ha h' 0 j)

/-- A loaded row of 256. -/
theorem loadM_at (x : FVec Ideal S1x1x256 .f32) (h : S1x1x256.ShapeCasts S1x256) (j : Fin 256) :
    shapeCast S1x256 x h (ix2 0 j) = x (ix3 0 0 j) :=
  shapeCast_1ab_ab_apply (a := 1) (b := 256) _ h 0 j

/-- A loaded strip of the accumulator. -/
theorem loadA_at (x : FVec Ideal S1x136x256 .f32) (h : S1x136x256.ShapeCasts S136x256) (r : Fin 136) (j : Fin 256) :
    shapeCast S136x256 x h (ix2 r j) = x (ix3 0 r j) :=
  shapeCast_1ab_ab_apply (a := 136) (b := 256) _ h r j

/-- A loaded strip of scores. -/
theorem loadS_at (x : FVec Ideal S1x1024x256 .f32) (h : S1x1024x256.ShapeCasts S1024x256) (k : Fin 1024) (j : Fin 256) :
    shapeCast S1024x256 x h (ix2 k j) = x (ix3 0 k j) :=
  shapeCast_1ab_ab_apply (a := 1024) (b := 256) _ h k j

/-- A loaded strip of queries. -/
theorem loadQ_at (x : FVec Ideal S1x256x256 .bf16) (h : S1x256x256.ShapeCasts S256x256) (j d : Fin 256) :
    shapeCast S256x256 x h (ix2 j d) = x (ix3 0 j d) :=
  shapeCast_1ab_ab_apply (a := 256) (b := 256) _ h j d

/-- A loaded tile of keys. -/
theorem loadK_at (x : FVec Ideal S1x1x1024x256 .bf16) (h : S1x1x1024x256.ShapeCasts S1024x256) (k : Fin 1024) (d : Fin 256) :
    shapeCast S1024x256 x h (ix2 k d) = x (ix4 0 0 k d) :=
  shapeCast_apply x h _ _ (by
    rw [Shape.rowMajor_val_four, Shape.rowMajor_val_two]
    show ((0 * 1 + 0) * 1024 + k.val) * 256 + d.val = k.val * 256 + d.val
    omega)

/-- A loaded tile of values, transposed. -/
theorem loadV_at (x : FVec Ideal S1x1x136x1024 .bf16) (h : S1x1x136x1024.ShapeCasts S136x1024) (r : Fin 136) (k : Fin 1024) :
    shapeCast S136x1024 x h (ix2 r k) = x (ix4 0 0 r k) :=
  shapeCast_apply x h _ _ (by
    rw [Shape.rowMajor_val_four, Shape.rowMajor_val_two]
    show ((0 * 1 + 0) * 136 + r.val) * 1024 + k.val = r.val * 1024 + k.val
    omega)

end Cert.KernelIdeal.Attn

end
-- ==== Proof.Softmax.lean ====
/- THE ONLINE SOFTMAX over the extended reals: folding tiles of scores one after another, each time rescaling what is there
   by the change of the running maximum, leaves the plain sum against the last maximum; and a quotient of two such sums
   does not see the maximum. -/
module

public import proofs.«01_k».proof.Proof.Steps

@[expose] public section

noncomputable section

namespace Cert.KernelIdeal.Attn

open Idealize.ShloMosaic
open scoped BigOperators

theorem top_ne_top (s : Fin 1024 → EReal) (h : ∀ k, s k ≠ ⊤) : top s ≠ ⊤ := by
  unfold top
  exact ((Finset.fold_max_lt (c := (⊤ : EReal))).mpr ⟨bot_lt_top, fun k _ => lt_top_iff_ne_top.mpr (h k)⟩).ne

theorem top_ne_bot (s : Fin 1024 → EReal) (k : Fin 1024) (h : s k ≠ ⊥) : top s ≠ ⊥ := by
  unfold top
  exact ((Finset.lt_fold_max (c := (⊥ : EReal))).mpr (Or.inr ⟨k, Finset.mem_univ k, bot_lt_iff_ne_bot.mpr h⟩)).ne'

/-- The maximum before tile `n`. -/
def runM (T : ℕ → Fin 1024 → EReal) : ℕ → EReal
  | 0 => ⊥
  | n + 1 => stepM 0 (runM T n) (top (T n))

/-- The accumulator before tile `n`. -/
def runA (T V : ℕ → Fin 1024 → EReal) : ℕ → EReal
  | 0 => 0
  | n + 1 => stepA 0 (runM T n) (top (T n)) (runA T V n) (T n) (V n)

theorem runM_real (T : ℕ → Fin 1024 → EReal) (hT : ∀ n k, T n k ≠ ⊤) (hB : ∀ n, ∃ k, T n k ≠ ⊥) (n : ℕ) :
    ∃ r : ℝ, runM T (n + 1) = (r : EReal) := by
  have hm : ∀ n, runM T n ≠ ⊤ := by
    intro n
    induction n with
    | zero => exact bot_ne_top
    | succ n ih =>
      show max (runM T n) (top (T n) + 0) ≠ ⊤
      rw [add_zero]
      rcases max_choice (runM T n) (top (T n)) with h | h <;> rw [h]
      · exact ih
      · exact top_ne_top _ (hT n)
  have hb : runM T (n + 1) ≠ ⊥ := by
    obtain ⟨k, hk⟩ := hB n
    show max (runM T n) (top (T n) + 0) ≠ ⊥
    rw [add_zero]
    exact fun h => top_ne_bot _ k hk (max_eq_bot.mp h).2
  exact ⟨(runM T (n + 1)).toReal, (EReal.coe_toReal (hm _) hb).symm⟩

theorem pos_mul_sum {ι : Type*} (s : Finset ι) (e : ℝ) (he : 0 ≤ e) (f : ι → EReal) :
    (e : EReal) * ∑ i ∈ s, f i = ∑ i ∈ s, (e : EReal) * f i := by
  classical
  induction s using Finset.induction_on with
  | empty => simp
  | insert a s ha ih =>
    rw [Finset.sum_insert ha, Finset.sum_insert ha, EReal.left_distrib_of_nonneg_of_ne_top (EReal.coe_nonneg.mpr he) (EReal.coe_ne_top e), ih]

theorem sum_mul_pos {ι : Type*} (s : Finset ι) (e : ℝ) (he : 0 ≤ e) (f : ι → EReal) :
    (∑ i ∈ s, f i) * (e : EReal) = ∑ i ∈ s, f i * (e : EReal) := by
  rw [mul_comm, pos_mul_sum s e he]
  exact Finset.sum_congr rfl fun i _ => mul_comm _ _

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Rescaling one score's exponential from one maximum to another. -/
theorem rescale (m m' : ℝ) (t : EReal) (ht : t ≠ ⊤) (v : EReal) :
    Ideal.exp2 ((m : EReal) - (m' : EReal)) * (v * Ideal.exp2 (t - (m : EReal))) = v * Ideal.exp2 (t - (m' : EReal)) := by
  rw [mul_left_comm]
  refine congrArg (v * ·) ?_
  induction t using EReal.rec with
  | bot => simp
  | top => exact absurd rfl ht
  | coe t =>
    rw [← EReal.coe_sub, ← EReal.coe_sub, ← EReal.coe_sub, Ideal.exp2_coe, Ideal.exp2_coe, Ideal.exp2_coe, ← EReal.coe_mul]
    refine congrArg _ ?_
    show (2 : ℝ) ^ (m - m') * (2 : ℝ) ^ (t - m) = (2 : ℝ) ^ (t - m')
    rw [← Real.rpow_add (by norm_num)]
    congr 1
    ring

/-- The accumulator is the sum over the tiles so far, against the maximum so far. -/
theorem runA_eq (T V : ℕ → Fin 1024 → EReal) (hT : ∀ n k, T n k ≠ ⊤) (hB : ∀ n, ∃ k, T n k ≠ ⊥) (n : ℕ) :
    runA T V n = ∑ b ∈ Finset.range n, ∑ k : Fin 1024, V b k * Ideal.exp2 (T b k - runM T n) := by
  induction n with
  | zero => simp [runA]
  | succ n ih =>
    obtain ⟨m', hm'⟩ := runM_real T hT hB n
    have hs : stepM 0 (runM T n) (top (T n)) = (m' : EReal) := hm'
    show Ideal.exp2 (runM T n - stepM 0 (runM T n) (top (T n))) * runA T V n
        + ∑ k : Fin 1024, V n k * Ideal.exp2 (T n k - (stepM 0 (runM T n) (top (T n)) - 0)) = _
    rw [Finset.sum_range_succ, hs, hm', sub_zero]
    refine congrArg (· + _) ?_
    cases n with
    | zero => simp [runA]
    | succ n =>
      obtain ⟨m, hm⟩ := runM_real T hT hB n
      rw [ih, hm, ← EReal.coe_sub, Ideal.exp2_coe]
      have hp : (0 : ℝ) ≤ Real.rpow 2 (m - m') := Real.rpow_nonneg (by norm_num) _
      rw [pos_mul_sum _ _ hp]
      refine Finset.sum_congr rfl fun b _ => ?_
      rw [pos_mul_sum _ _ hp]
      refine Finset.sum_congr rfl fun k _ => ?_
      have := rescale m m' (T b k) (hT b k) (V b k)
      rwa [← EReal.coe_sub, Ideal.exp2_coe] at this

/-- A quotient of weighted sums does not see a common positive factor of the weights. -/
theorem quot_sum {ι : Type*} [Fintype ι] (κ : ℝ) (hκ : 0 < κ) (W : ι → ℝ) (hW : 0 < ∑ j, W j) (e v : ι → EReal)
    (he : ∀ j, e j = ((κ * W j : ℝ) : EReal)) :
    Ideal.div (∑ j, v j * e j) (∑ j, (1 : EReal) * e j) = ∑ j, v j * ((W j / ∑ j', W j' : ℝ) : EReal) := by
  have hs : ∑ j, (1 : EReal) * e j = ((κ * ∑ j, W j : ℝ) : EReal) := by
    rw [Finset.mul_sum, coe_sum]
    exact Finset.sum_congr rfl fun j _ => (one_mul _).trans (he j)
  have hp : 0 < κ * ∑ j, W j := mul_pos hκ hW
  rw [hs, Ideal.div_coe hp.ne', sum_mul_pos _ _ (by positivity)]
  refine Finset.sum_congr rfl fun j _ => ?_
  rw [he, mul_assoc, ← EReal.coe_mul]
  refine congrArg (fun x : ℝ => v j * (x : EReal)) ?_
  field_simp

/-- Likewise where each weight is divided before it multiplies. -/
theorem sum_quot {ι : Type*} [Fintype ι] (κ : ℝ) (hκ : 0 < κ) (W : ι → ℝ) (hW : 0 < ∑ j, W j) (e v : ι → EReal)
    (he : ∀ j, e j = ((κ * W j : ℝ) : EReal)) :
    ∑ j, Ideal.div (e j) (∑ j', e j') * v j = ∑ j, v j * ((W j / ∑ j', W j' : ℝ) : EReal) := by
  have hs : ∑ j, e j = ((κ * ∑ j, W j : ℝ) : EReal) := by
    rw [Finset.mul_sum, coe_sum]
    exact Finset.sum_congr rfl fun j _ => he j
  have hp : 0 < κ * ∑ j, W j := mul_pos hκ hW
  refine Finset.sum_congr rfl fun j _ => ?_
  rw [hs, Ideal.div_coe hp.ne', he, ← EReal.coe_mul, mul_comm]
  refine congrArg (fun x : ℝ => v j * (x : EReal)) ?_
  field_simp

end Cert.KernelIdeal.Attn

end
-- ==== Proof.Trip.lean ====
/- ONE TRIP of the loop over key tiles, read at an index: what it leaves in the four scratch arrays, from what it finds
   there. -/
module

public import proofs.«01_k».proof.Proof.Steps
public import Idealize.ShloMosaic.Lib.Pipeline.ReadBack
import all proofs.«01_k».proof.Proof.Gen.KernelIdeal.Loops

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

/-- The number of a query chunk as a word. -/
abbrev cw (c : Fin 2) : BitVec 32 := BitVec.ofNat 32 c.val

/-- One entry of tile `n` of the values, transposed (`0` past the last tile). -/
def valAt (arg5 : Memref sig .tc .vmem S1x16x136x1024 .bf16) (X : BufTy.Contents (Elt Ideal) arg5.view.ty) (n : ℕ) (r : Fin 136)
    (k : Fin 1024) : EReal :=
  if h : n < 16 then arg5.view.read (Elt Ideal) X (ix4 0 ⟨n, h⟩ r k) else 0

theorem valAt_of (arg5 : Memref sig .tc .vmem S1x16x136x1024 .bf16) (X : BufTy.Contents (Elt Ideal) arg5.view.ty)
    (off : Fin 4 → ℕ) (inb : ∀ a, off a + S1x1x136x1024.size a ≤ S1x16x136x1024.size a) (h : S1x1x136x1024.ShapeCasts S136x1024)
    (r : Fin 136) (k : Fin 1024) :
    shapeCast S136x1024 (View.readAt (Elt Ideal) arg5.view (Rect.unit (s := S1x16x136x1024) off S1x1x136x1024.size inb).toLoadRect X) h (ix2 r k)
      = valAt arg5 X (off 1) r k := by
  refine (loadV_at _ h r k).trans ?_
  have h0 : off 0 + 1 ≤ 1 := inb 0
  have h1 : off 1 + 1 ≤ 16 := inb 1
  have h2 : off 2 + 136 ≤ 136 := inb 2
  have h3 : off 3 + 1024 ≤ 1024 := inb 3
  unfold valAt
  rw [dif_pos (show off 1 < 16 by omega), View.readAt_apply]
  refine congrArg _ (funext fun a => Fin.ext ?_)
  match a with
  | ⟨0, _⟩ => show off 0 + 1 * 0 = 0; omega
  | ⟨1, _⟩ => show off 1 + 1 * 0 = off 1; omega
  | ⟨2, _⟩ => show off 2 + 1 * r.val = r.val; omega
  | ⟨3, _⟩ => show off 3 + 1 * k.val = k.val; omega

/-- One entry of tile `n` of the keys (`0` past the last tile). -/
def keyAt (arg4 : Memref sig .tc .vmem S1x16x1024x256 .bf16) (X : BufTy.Contents (Elt Ideal) arg4.view.ty) (n : ℕ) (k : Fin 1024)
    (d : Fin 256) : EReal :=
  if h : n < 16 then arg4.view.read (Elt Ideal) X (ix4 0 ⟨n, h⟩ k d) else 0

theorem keyAt_of (arg4 : Memref sig .tc .vmem S1x16x1024x256 .bf16) (X : BufTy.Contents (Elt Ideal) arg4.view.ty)
    (off : Fin 4 → ℕ) (inb : ∀ a, off a + S1x1x1024x256.size a ≤ S1x16x1024x256.size a) (h : S1x1x1024x256.ShapeCasts S1024x256)
    (k : Fin 1024) (d : Fin 256) :
    shapeCast S1024x256 (View.readAt (Elt Ideal) arg4.view (Rect.unit (s := S1x16x1024x256) off S1x1x1024x256.size inb).toLoadRect X) h (ix2 k d)
      = keyAt arg4 X (off 1) k d := by
  refine (loadK_at _ h k d).trans ?_
  have h0 : off 0 + 1 ≤ 1 := inb 0
  have h1 : off 1 + 1 ≤ 16 := inb 1
  have h2 : off 2 + 1024 ≤ 1024 := inb 2
  have h3 : off 3 + 256 ≤ 256 := inb 3
  unfold keyAt
  rw [dif_pos (show off 1 < 16 by omega), View.readAt_apply]
  refine congrArg _ (funext fun a => Fin.ext ?_)
  match a with
  | ⟨0, _⟩ => show off 0 + 1 * 0 = 0; omega
  | ⟨1, _⟩ => show off 1 + 1 * 0 = off 1; omega
  | ⟨2, _⟩ => show off 2 + 1 * k.val = k.val; omega
  | ⟨3, _⟩ => show off 3 + 1 * d.val = d.val; omega

/-- One entry of the block's queries: query `q` of chunk `c`. -/
def qryAt (arg3 : Memref sig .tc .vmem S1x2048x256 .bf16) (X : BufTy.Contents (Elt Ideal) arg3.view.ty) (c : Fin 2) (q : Fin 1024)
    (d : Fin 256) : EReal :=
  arg3.view.read (Elt Ideal) X (ix3 0 ⟨1024 * c.val + q.val, by omega⟩ d)

/-- A key's score against a query. -/
def scoreAt (arg3 : Memref sig .tc .vmem S1x2048x256 .bf16) (X3 : BufTy.Contents (Elt Ideal) arg3.view.ty)
    (arg4 : Memref sig .tc .vmem S1x16x1024x256 .bf16) (X4 : BufTy.Contents (Elt Ideal) arg4.view.ty)
    (n : ℕ) (c : Fin 2) (q : Fin 1024) (k : Fin 1024) : EReal :=
  ∑ d : Fin 256, keyAt arg4 X4 n k d * qryAt arg3 X3 c q d

/-- A strip's product of loaded keys and loaded queries, at one key and one query. -/
theorem scoreAt_of (arg3 : Memref sig .tc .vmem S1x2048x256 .bf16) (X3 : BufTy.Contents (Elt Ideal) arg3.view.ty)
    (arg4 : Memref sig .tc .vmem S1x16x1024x256 .bf16) (X4 : BufTy.Contents (Elt Ideal) arg4.view.ty)
    (off : Fin 4 → ℕ) (inb : ∀ a, off a + S1x1x1024x256.size a ≤ S1x16x1024x256.size a) (h : S1x1x1024x256.ShapeCasts S1024x256)
    (qo : ℕ) (inq : ∀ a, (![0, qo, 0] : Fin 3 → ℕ) a + S1x256x256.size a ≤ S1x2048x256.size a) (h' : S1x256x256.ShapeCasts S256x256)
    (c : Fin 2) (q : Fin 1024) (k : Fin 1024) (j : Fin 256) (hq : qo + j.val = 1024 * c.val + q.val) :
    matmul (F := Ideal) (φ₁ := .bf16) (φ₂ := .bf16) dot_S1024x256_S256x256_S1024x256_1_1_0_0_n_n none
        (shapeCast S1024x256 (View.readAt (Elt Ideal) arg4.view (Rect.unit (s := S1x16x1024x256) off S1x1x1024x256.size inb).toLoadRect X4) h)
        (shapeCast S256x256 (View.readAt (Elt Ideal) arg3.view (Rect.unit (s := S1x2048x256) ![0, qo, 0] S1x256x256.size inq).toLoadRect X3) h')
        (constant S1024x256 .f32 0x00000000#32) (ix2 k j)
      = scoreAt arg3 X3 arg4 X4 (off 1) c q k := by
  refine (scores_at _ _ k j).trans (Finset.sum_congr rfl fun d _ => ?_)
  refine congrArg₂ (· * ·) (keyAt_of arg4 X4 off inb h k d) ((loadQ_at _ h' j d).trans ?_)
  unfold qryAt
  refine congrArg (arg3.view.read (Elt Ideal) X3) (funext fun a => Fin.ext ?_)
  match a with
  | ⟨0, _⟩ => rfl
  | ⟨1, _⟩ => show qo + 1 * j.val = 1024 * c.val + q.val; omega
  | ⟨2, _⟩ => show 0 + 1 * d.val = d.val; omega

/-- The tile of keys whose scores a trip finds held, for chunk `c`: the diagonal one at the first trip, the one before
    after that. -/
def heldWord (v0 iv : BitVec 32) (c : Fin 2) : BitVec 32 :=
  Scalar.select (Scalar.cmpi .eq iv 0#32) (Scalar.addi v0 (cw c)) (Scalar.subi iv 1#32)

/-- How far a tile's scores are shifted: the slope times the distance of the tile from the chunk's own. -/
def shiftOf (v0 : BitVec 32) (v3 : Ideal .f32) (n : BitVec 32) (c : Fin 2) : Ideal .f32 :=
  Scalar.mulf v3 (Scalar.sitofp .f32 (Scalar.subi n (Scalar.addi v0 (cw c))))

/-- The running maxima after one tile for every chunk, from the arrays of maxima and of the tile's column maxima. -/
def maxAfter (w : Fin 2 → EReal) (m cm : S2x1x1024.Idx → EReal) : S2x1x1024.Idx → EReal :=
  fun y => stepM (w (y 0)) (m y) (cm y)

/-- The accumulators after one tile for every chunk. -/
def accAfter (w : Fin 2 → EReal) (m cm : S2x1x1024.Idx → EReal) (acc : S2x136x1024.Idx → EReal) (s : S2x1024x1024.Idx → EReal)
    (v : Fin 2 → Fin 136 → Fin 1024 → EReal) : S2x136x1024.Idx → EReal :=
  fun y => stepA (w (y 0)) (m (ix3 (y 0) 0 (y 2))) (cm (ix3 (y 0) 0 (y 2))) (acc y) (fun k => s (ix3 (y 0) k (y 2))) (v (y 0) (y 1))

theorem stepA_congr {w w' m m' cm cm' a a' : EReal} {s s' v v' : Fin 1024 → EReal} (hw : w = w') (hm : m = m') (hc : cm = cm')
    (ha : a = a') (hs : s = s') (hv : v = v') : stepA w m cm a s v = stepA w' m' cm' a' s' v' := by
  subst hw hm hc ha hs hv; rfl

theorem stepM_congr {w w' m m' cm cm' : EReal} (hw : w = w') (hm : m = m') (hc : cm = cm') : stepM w m cm = stepM w' m' cm' := by
  subst hw hm hc; rfl

/-- An array of held scores given by a function of chunk, query and key. -/
def heldS (s : Fin 2 → Fin 1024 → Fin 1024 → EReal) : S2x1024x1024.Idx → EReal := fun y => s (y 0) (y 2) (y 1)

/-- Its column maxima. -/
def heldC (s : Fin 2 → Fin 1024 → Fin 1024 → EReal) : S2x1x1024.Idx → EReal := fun y => top (s (y 0) (y 2))

section
variable (𝒱 : Variants) (c : Dev nD) (bd : Option 𝒱.V) (i : grid0.Coords) (arg2 : Memref sig .tc .smem S8 .f32) (harg2 : arg2.IsWhole) (arg3 : Memref sig .tc .vmem S1x2048x256 .bf16) (harg3 : arg3.IsWhole) (arg4 : Memref sig .tc .vmem S1x16x1024x256 .bf16) (harg4 : arg4.IsWhole) (arg5 : Memref sig .tc .vmem S1x16x136x1024 .bf16) (harg5 : arg5.IsWhole) (arg6 : Memref sig .tc .vmem S2048x128 .bf16) (harg6 : arg6.IsWhole) (arg7 : Memref sig .tc .vmem S2x1x1024 .f32) (harg7 : arg7.IsWhole) (arg8 : Memref sig .tc .vmem S2x136x1024 .f32) (harg8 : arg8.IsWhole) (arg9 : Memref sig .tc .vmem S2x1024x1024 .f32) (harg9 : arg9.IsWhole) (arg10 : Memref sig .tc .vmem S2x1x1024 .f32) (harg10 : arg10.IsWhole)
  (v0 : BitVec 32) (v3 : Ideal .f32) (v332 : FVec Ideal S1024x256 .f32) (v333 : IVec S1024x256 32) (v334 : IVec S1024x256 32) (v335 : IVec S1024x256 32) (X_arg3 : BufTy.Contents (Elt Ideal) arg3.view.ty) (X_arg4 : BufTy.Contents (Elt Ideal) arg4.view.ty) (X_arg5 : BufTy.Contents (Elt Ideal) arg5.view.ty) (k : Fin (k0_t1_loop i).trips)
  (f7 : BufTy.Contents (Elt Ideal) arg7.view.ty) (f8 : BufTy.Contents (Elt Ideal) arg8.view.ty) (f9 : BufTy.Contents (Elt Ideal) arg9.view.ty) (f10 : BufTy.Contents (Elt Ideal) arg10.view.ty)

/-- The accumulator after a trip. -/
theorem trip8 :
    arg8.view.read (Elt Ideal) (arg8.view.writes (Elt Ideal) f8 ((trip_k0_t1 (F := Ideal) 𝒱 c bd i arg2 harg2 arg3 harg3 arg4 harg4 arg5 harg5 arg6 harg6 arg7 harg7 arg8 harg8 arg9 harg9 arg10 harg10 v0 v3 v332 v333 v334 v335 X_arg3 X_arg4 X_arg5 k).2.1 f7 f8 f9 f10))
      = accAfter (fun c => shiftOf v0 v3 (heldWord v0 (Scf.iv 0#32 1#32 k.val) c) c) (arg7.view.read (Elt Ideal) f7)
          (arg10.view.read (Elt Ideal) f10) (arg8.view.read (Elt Ideal) f8) (arg9.view.read (Elt Ideal) f9)
          (fun c => valAt arg5 X_arg5 (k0_off6 i k (cw c) 1)) := by
  unfold trip_k0_t1
  dsimp only
  refine funext fun y => View.read_writes_apply_of_pieces arg8.view f8 (accAfter _ _ _ _ _ _) _ (View.PiecesOf.mem ?hp) y ?hc
  case hp =>
   refine ⟨?_, ?_, ?_, ?_, ?_, ?_, ?_, ?_, trivial⟩
   all_goals
    intro x
    obtain ⟨u, r, j, rfl⟩ : ∃ (u : Fin 1) (r : Fin 136) (j : Fin 256), x = ix3 u r j := ⟨x 0, x 1, x 2, eq_ix3 x⟩
    obtain rfl : u = 0 := Subsingleton.elim _ _
    dsimp only
    refine (storeA_at _ _ _ _ _ _ _ _ _ _ 0 r j).trans ?_
    refine stepA_congr rfl ?_ ?_ ?_ (funext fun kk => ?_) (funext fun kk => (valAt_of arg5 X_arg5 _ _ _ _ _).trans ?_)
    · exact (loadM_at _ _ j).trans (congrArg (arg7.view.read (Elt Ideal) f7) (funext fun a => Fin.ext (match a with | ⟨0, _⟩ => rfl | ⟨1, _⟩ => rfl | ⟨2, _⟩ => rfl)))
    · exact (loadM_at _ _ j).trans (congrArg (arg10.view.read (Elt Ideal) f10) (funext fun a => Fin.ext (match a with | ⟨0, _⟩ => rfl | ⟨1, _⟩ => rfl | ⟨2, _⟩ => rfl)))
    · exact (loadA_at _ _ r j).trans (congrArg (arg8.view.read (Elt Ideal) f8) (funext fun a => Fin.ext (match a with | ⟨0, _⟩ => rfl | ⟨1, _⟩ => rfl | ⟨2, _⟩ => rfl)))
    · exact (loadS_at _ _ kk j).trans (congrArg (arg9.view.read (Elt Ideal) f9) (funext fun a => Fin.ext (match a with | ⟨0, _⟩ => rfl | ⟨1, _⟩ => (by show 0 + 1 * kk.val = kk.val; omega) | ⟨2, _⟩ => rfl)))
    · exact congrArg (fun r' => valAt arg5 X_arg5 _ r' kk) (Fin.ext (by show r.val = 0 + 1 * r.val; omega))
  exact View.cover_of_tiled _ ![1, 136, 256] (by sl_kernel_rfl) y

/-- The running maxima after a trip. -/
theorem trip7 :
    arg7.view.read (Elt Ideal) (arg7.view.writes (Elt Ideal) f7 ((trip_k0_t1 (F := Ideal) 𝒱 c bd i arg2 harg2 arg3 harg3 arg4 harg4 arg5 harg5 arg6 harg6 arg7 harg7 arg8 harg8 arg9 harg9 arg10 harg10 v0 v3 v332 v333 v334 v335 X_arg3 X_arg4 X_arg5 k).1 f7 f8 f9 f10))
      = maxAfter (fun c => shiftOf v0 v3 (heldWord v0 (Scf.iv 0#32 1#32 k.val) c) c) (arg7.view.read (Elt Ideal) f7)
          (arg10.view.read (Elt Ideal) f10) := by
  unfold trip_k0_t1
  dsimp only
  refine funext fun y => View.read_writes_apply_of_pieces arg7.view f7 (maxAfter _ _ _) _ (View.PiecesOf.mem ?hp) y ?hc
  case hp =>
   refine ⟨?_, ?_, ?_, ?_, ?_, ?_, ?_, ?_, trivial⟩
   all_goals
    intro x
    obtain ⟨u, u', j, rfl⟩ : ∃ (u u' : Fin 1) (j : Fin 256), x = ix3 u u' j := ⟨x 0, x 1, x 2, eq_ix3 x⟩
    obtain rfl : u = 0 := Subsingleton.elim _ _
    obtain rfl : u' = 0 := Subsingleton.elim _ _
    dsimp only
    refine (storeM_at _ _ _ _ 0 0 j).trans ?_
    refine stepM_congr rfl ?_ ?_
    · exact (loadM_at _ _ j).trans (congrArg (arg7.view.read (Elt Ideal) f7) (funext fun a => Fin.ext (match a with | ⟨0, _⟩ => rfl | ⟨1, _⟩ => rfl | ⟨2, _⟩ => rfl)))
    · exact (loadM_at _ _ j).trans (congrArg (arg10.view.read (Elt Ideal) f10) (funext fun a => Fin.ext (match a with | ⟨0, _⟩ => rfl | ⟨1, _⟩ => rfl | ⟨2, _⟩ => rfl)))
  exact View.cover_of_tiled _ ![1, 1, 256] (by sl_kernel_rfl) y

/-- The scores held after a trip: the trip's own tile's. -/
theorem trip9 :
    arg9.view.read (Elt Ideal) (arg9.view.writes (Elt Ideal) f9 ((trip_k0_t1 (F := Ideal) 𝒱 c bd i arg2 harg2 arg3 harg3 arg4 harg4 arg5 harg5 arg6 harg6 arg7 harg7 arg8 harg8 arg9 harg9 arg10 harg10 v0 v3 v332 v333 v334 v335 X_arg3 X_arg4 X_arg5 k).2.2.1 f7 f8 f9 f10))
      = heldS (scoreAt arg3 X_arg3 arg4 X_arg4 (k0_off5 i k 1)) := by
  unfold trip_k0_t1
  dsimp only
  refine funext fun y => View.read_writes_apply_of_pieces arg9.view f9 (heldS _) _ (View.PiecesOf.mem ?hp) y ?hc
  case hp =>
   refine ⟨?_, ?_, ?_, ?_, ?_, ?_, ?_, ?_, trivial⟩
   all_goals
    intro x
    obtain ⟨u, kk, j, rfl⟩ : ∃ (u : Fin 1) (kk : Fin 1024) (j : Fin 256), x = ix3 u kk j := ⟨x 0, x 1, x 2, eq_ix3 x⟩
    obtain rfl : u = 0 := Subsingleton.elim _ _
    dsimp only
    refine (storeS_at _ _ 0 kk j).trans ?_
    refine (scoreAt_of arg3 X_arg3 arg4 X_arg4 _ _ _ _ _ _ _ _ kk j ?_).trans (congrArg (scoreAt arg3 X_arg3 arg4 X_arg4 _ _ _) (Fin.ext ?_))
    rotate_left
    · show kk.val = 0 + 1 * kk.val; omega
    · first
        | (show 0 + j.val = 1024 * (0 + 1 * 0) + (0 + 1 * j.val); omega)
        | (show 256 + j.val = 1024 * (0 + 1 * 0) + (256 + 1 * j.val); omega)
        | (show 512 + j.val = 1024 * (0 + 1 * 0) + (512 + 1 * j.val); omega)
        | (show 768 + j.val = 1024 * (0 + 1 * 0) + (768 + 1 * j.val); omega)
        | (show 1024 + j.val = 1024 * (1 + 1 * 0) + (0 + 1 * j.val); omega)
        | (show 1280 + j.val = 1024 * (1 + 1 * 0) + (256 + 1 * j.val); omega)
        | (show 1536 + j.val = 1024 * (1 + 1 * 0) + (512 + 1 * j.val); omega)
        | (show 1792 + j.val = 1024 * (1 + 1 * 0) + (768 + 1 * j.val); omega)
  exact View.cover_of_tiled _ ![1, 1024, 256] (by sl_kernel_rfl) y

/-- The column maxima held after a trip. -/
theorem trip10 :
    arg10.view.read (Elt Ideal) (arg10.view.writes (Elt Ideal) f10 ((trip_k0_t1 (F := Ideal) 𝒱 c bd i arg2 harg2 arg3 harg3 arg4 harg4 arg5 harg5 arg6 harg6 arg7 harg7 arg8 harg8 arg9 harg9 arg10 harg10 v0 v3 v332 v333 v334 v335 X_arg3 X_arg4 X_arg5 k).2.2.2.1 f7 f8 f9 f10))
      = heldC (scoreAt arg3 X_arg3 arg4 X_arg4 (k0_off5 i k 1)) := by
  unfold trip_k0_t1
  dsimp only
  refine funext fun y => View.read_writes_apply_of_pieces arg10.view f10 (heldC _) _ (View.PiecesOf.mem ?hp) y ?hc
  case hp =>
   refine ⟨?_, ?_, ?_, ?_, ?_, ?_, ?_, ?_, trivial⟩
   all_goals
    intro x
    obtain ⟨u, u', j, rfl⟩ : ∃ (u u' : Fin 1) (j : Fin 256), x = ix3 u u' j := ⟨x 0, x 1, x 2, eq_ix3 x⟩
    obtain rfl : u = 0 := Subsingleton.elim _ _
    obtain rfl : u' = 0 := Subsingleton.elim _ _
    dsimp only
    try unfold k0_pay240
    refine (storeTop_at _ _ _ _ _ _ 0 0 j).trans (congrArg top (funext fun kk => ?_))
    refine scoreAt_of arg3 X_arg3 arg4 X_arg4 _ _ _ _ _ _ _ _ kk j ?_
    first
        | (show 0 + j.val = 1024 * (0 + 1 * 0) + (0 + 1 * j.val); omega)
        | (show 256 + j.val = 1024 * (0 + 1 * 0) + (256 + 1 * j.val); omega)
        | (show 512 + j.val = 1024 * (0 + 1 * 0) + (512 + 1 * j.val); omega)
        | (show 768 + j.val = 1024 * (0 + 1 * 0) + (768 + 1 * j.val); omega)
        | (show 1024 + j.val = 1024 * (1 + 1 * 0) + (0 + 1 * j.val); omega)
        | (show 1280 + j.val = 1024 * (1 + 1 * 0) + (256 + 1 * j.val); omega)
        | (show 1536 + j.val = 1024 * (1 + 1 * 0) + (512 + 1 * j.val); omega)
        | (show 1792 + j.val = 1024 * (1 + 1 * 0) + (768 + 1 * j.val); omega)
  exact View.cover_of_tiled _ ![1, 1, 256] (by sl_kernel_rfl) y

end

end Cert.KernelIdeal.Attn

end
-- ==== Proof.Loop.lean ====
/- THE LOOP over key tiles: what the four scratch arrays hold after its first trips. -/
module

public import proofs.«01_k».proof.Proof.Trip
public import Idealize.ShloMosaic.Lib.Pipeline.ReadBack
import all proofs.«01_k».proof.Proof.Gen.KernelIdeal.Loops

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

/-- The number of the grid's second coordinate: which block of 2048 queries. -/
abbrev blk (i : grid0.Coords) : ℕ := (i 1).val

theorem blk_lt (i : grid0.Coords) : blk i < 8 := (i 1).isLt

/-- The tile whose scores are held before trip `n` of block `g`, for chunk `c`. -/
def heldTile (g n : ℕ) (c : Fin 2) : ℕ := if n = 0 then 2 * g + c.val else n - 1

theorem trips1 (i : grid0.Coords) : (k0_t1_loop i).trips = 2 * blk i := by
  have h : ∀ g : Fin 8, Scf.trips 0#32 (Scalar.addi 0#32 (Scalar.muli (Scalar.divsi (Scalar.subi (Scalar.muli 2#32 (BitVec.ofNat 32 g.val)) 0#32) 1#32) 1#32)) 1#32 = 2 * g.val := by
    decide +kernel
  exact h (i 1)

theorem trips2 (i : grid0.Coords) : (k0_t2_loop i).trips = 0 := by
  have h : ∀ g : Fin 8, Scf.trips (Scalar.addi 0#32 (Scalar.muli (Scalar.divsi (Scalar.subi (Scalar.muli 2#32 (BitVec.ofNat 32 g.val)) 0#32) 1#32) 1#32)) (Scalar.addi 0#32 (Scalar.subi (Scalar.muli 2#32 (BitVec.ofNat 32 g.val)) 0#32)) 1#32 = 0 := by
    decide +kernel
  exact h (i 1)

theorem trip_lt (i : grid0.Coords) (k : Fin (k0_t1_loop i).trips) : k.val < 16 := by
  have := lt_of_lt_of_eq k.isLt (trips1 i); have := blk_lt i; omega

theorem off2_at (i : grid0.Coords) : k0_off2 i 1 = 2 * blk i := by
  have h : ∀ g : Fin 8, (Scalar.indexCast (Scalar.muli 2#32 (BitVec.ofNat 32 g.val))).toNat = 2 * g.val := by decide +kernel
  exact h (i 1)

theorem off3_at (i : grid0.Coords) : k0_off3 i 1 = 2 * blk i := off2_at i

theorem off4_at (i : grid0.Coords) (c : Fin 2) : k0_off4 i (cw c) 1 = 2 * blk i + c.val := by
  have h : ∀ (g : Fin 8) (c : Fin 2), (Scalar.indexCast (Scalar.addi (Scalar.muli 2#32 (BitVec.ofNat 32 g.val)) (BitVec.ofNat 32 c.val))).toNat = 2 * g.val + c.val := by decide +kernel
  exact h (i 1) c

theorem off5_at (i : grid0.Coords) (k : Fin (k0_t1_loop i).trips) : k0_off5 i k 1 = k.val := by
  have h : ∀ k : Fin 16, (Scalar.indexCast (Scf.iv 0#32 1#32 k.val)).toNat = k.val := by decide +kernel
  exact h ⟨k.val, trip_lt i k⟩

/-- The word of the held tile, as the kernel computes it. -/
theorem held_at (g : Fin 8) (k : Fin 16) (c : Fin 2) :
    (Scalar.indexCast (Scalar.select (Scalar.cmpi .eq (Scf.iv 0#32 1#32 k.val) 0#32)
      (Scalar.addi (Scalar.muli 2#32 (BitVec.ofNat 32 g.val)) (BitVec.ofNat 32 c.val)) (Scalar.subi (Scf.iv 0#32 1#32 k.val) 1#32))).toNat
      = heldTile g.val k.val c := by
  revert g k c
  decide +kernel

theorem off6_at (i : grid0.Coords) (k : Fin (k0_t1_loop i).trips) (c : Fin 2) : k0_off6 i k (cw c) 1 = heldTile (blk i) k.val c :=
  held_at (i 1) ⟨k.val, trip_lt i k⟩ c

theorem off9_at (i : grid0.Coords) (c : Fin 2) : k0_off9 i (cw c) 1 = heldTile (blk i) (2 * blk i) c := by
  have h : ∀ (g : Fin 8) (c : Fin 2), (Scalar.indexCast (Scalar.select (Scalar.cmpi .eq (Scalar.muli 2#32 (BitVec.ofNat 32 g.val)) 0#32)
      (Scalar.addi (Scalar.muli 2#32 (BitVec.ofNat 32 g.val)) (BitVec.ofNat 32 c.val)) (Scalar.subi (Scalar.muli 2#32 (BitVec.ofNat 32 g.val)) 1#32))).toNat
      = heldTile g.val (2 * g.val) c := by decide +kernel
  exact h (i 1) c

/-- With no slope nothing is shifted. -/
theorem shiftOf_zero (v0 : BitVec 32) (v3 : Ideal .f32) (h : v3 = (0 : EReal)) (n : BitVec 32) (c : Fin 2) : shiftOf v0 v3 n c = (0 : EReal) := by
  subst h
  show (0 : EReal) * _ = 0
  exact zero_mul _

/-- The scores held before trip `n`: the diagonal tiles' first, then tile `n - 1`'s. -/
def tileS (D : Fin 2 → Fin 1024 → Fin 1024 → EReal) (S : ℕ → Fin 2 → Fin 1024 → Fin 1024 → EReal) : ℕ → Fin 2 → Fin 1024 → Fin 1024 → EReal
  | 0 => D
  | n + 1 => S n

/-- The running maxima before trip `n`. -/
def maxS (m0 : S2x1x1024.Idx → EReal) (T : ℕ → Fin 2 → Fin 1024 → Fin 1024 → EReal) : ℕ → S2x1x1024.Idx → EReal
  | 0 => m0
  | n + 1 => maxAfter (fun _ => 0) (maxS m0 T n) (heldC (T n))

/-- The accumulators before trip `n`. -/
def accS (m0 : S2x1x1024.Idx → EReal) (a0 : S2x136x1024.Idx → EReal) (T : ℕ → Fin 2 → Fin 1024 → Fin 1024 → EReal)
    (V : ℕ → Fin 2 → Fin 136 → Fin 1024 → EReal) : ℕ → S2x136x1024.Idx → EReal
  | 0 => a0
  | n + 1 => accAfter (fun _ => 0) (maxS m0 T n) (heldC (T n)) (accS m0 a0 T V n) (heldS (T n)) (V n)

section
variable (𝒱 : Variants) (c : Dev nD) (bd : Option 𝒱.V) (i : grid0.Coords) (arg2 : Memref sig .tc .smem S8 .f32) (harg2 : arg2.IsWhole) (arg3 : Memref sig .tc .vmem S1x2048x256 .bf16) (harg3 : arg3.IsWhole) (arg4 : Memref sig .tc .vmem S1x16x1024x256 .bf16) (harg4 : arg4.IsWhole) (arg5 : Memref sig .tc .vmem S1x16x136x1024 .bf16) (harg5 : arg5.IsWhole) (arg6 : Memref sig .tc .vmem S2048x128 .bf16) (harg6 : arg6.IsWhole) (arg7 : Memref sig .tc .vmem S2x1x1024 .f32) (harg7 : arg7.IsWhole) (arg8 : Memref sig .tc .vmem S2x136x1024 .f32) (harg8 : arg8.IsWhole) (arg9 : Memref sig .tc .vmem S2x1024x1024 .f32) (harg9 : arg9.IsWhole) (arg10 : Memref sig .tc .vmem S2x1x1024 .f32) (harg10 : arg10.IsWhole)
  (v0 : BitVec 32) (v3 : Ideal .f32) (v332 : FVec Ideal S1024x256 .f32) (v333 : IVec S1024x256 32) (v334 : IVec S1024x256 32) (v335 : IVec S1024x256 32) (X_arg3 : BufTy.Contents (Elt Ideal) arg3.view.ty) (X_arg4 : BufTy.Contents (Elt Ideal) arg4.view.ty) (X_arg5 : BufTy.Contents (Elt Ideal) arg5.view.ty)
  (G7 : BufTy.Contents (Elt Ideal) arg7.view.ty) (G8 : BufTy.Contents (Elt Ideal) arg8.view.ty) (G9 : BufTy.Contents (Elt Ideal) arg9.view.ty) (G10 : BufTy.Contents (Elt Ideal) arg10.view.ty)

/-- What the scratch arrays hold after the first `n` trips, from what they held before the loop. -/
theorem loop_at (hv3 : v3 = (0 : EReal)) (D : Fin 2 → Fin 1024 → Fin 1024 → EReal)
    (h9 : arg9.view.read (Elt Ideal) G9 = heldS D) (h10 : arg10.view.read (Elt Ideal) G10 = heldC D) (n : ℕ) (hn : n ≤ (k0_t1_loop i).trips) :
    arg7.view.read (Elt Ideal) (arg7.view.writes (Elt Ideal) G7 (pb_k0_t1 (F := Ideal) 𝒱 c bd i arg2 harg2 arg3 harg3 arg4 harg4 arg5 harg5 arg6 harg6 arg7 harg7 arg8 harg8 arg9 harg9 arg10 harg10 v0 v3 v332 v333 v334 v335 X_arg3 X_arg4 X_arg5 G7 G8 G9 G10 n).1)
        = maxS (arg7.view.read (Elt Ideal) G7) (tileS D (scoreAt arg3 X_arg3 arg4 X_arg4)) n
      ∧ arg8.view.read (Elt Ideal) (arg8.view.writes (Elt Ideal) G8 (pb_k0_t1 (F := Ideal) 𝒱 c bd i arg2 harg2 arg3 harg3 arg4 harg4 arg5 harg5 arg6 harg6 arg7 harg7 arg8 harg8 arg9 harg9 arg10 harg10 v0 v3 v332 v333 v334 v335 X_arg3 X_arg4 X_arg5 G7 G8 G9 G10 n).2.1)
        = accS (arg7.view.read (Elt Ideal) G7) (arg8.view.read (Elt Ideal) G8) (tileS D (scoreAt arg3 X_arg3 arg4 X_arg4))
            (fun n c => valAt arg5 X_arg5 (heldTile (blk i) n c)) n
      ∧ arg9.view.read (Elt Ideal) (arg9.view.writes (Elt Ideal) G9 (pb_k0_t1 (F := Ideal) 𝒱 c bd i arg2 harg2 arg3 harg3 arg4 harg4 arg5 harg5 arg6 harg6 arg7 harg7 arg8 harg8 arg9 harg9 arg10 harg10 v0 v3 v332 v333 v334 v335 X_arg3 X_arg4 X_arg5 G7 G8 G9 G10 n).2.2.1) = heldS (tileS D (scoreAt arg3 X_arg3 arg4 X_arg4) n)
      ∧ arg10.view.read (Elt Ideal) (arg10.view.writes (Elt Ideal) G10 (pb_k0_t1 (F := Ideal) 𝒱 c bd i arg2 harg2 arg3 harg3 arg4 harg4 arg5 harg5 arg6 harg6 arg7 harg7 arg8 harg8 arg9 harg9 arg10 harg10 v0 v3 v332 v333 v334 v335 X_arg3 X_arg4 X_arg5 G7 G8 G9 G10 n).2.2.2) = heldC (tileS D (scoreAt arg3 X_arg3 arg4 X_arg4) n) := by
  induction n with
  | zero => exact ⟨rfl, rfl, h9, h10⟩
  | succ n ih =>
    obtain ⟨i7, i8, i9, i10⟩ := ih (by omega)
    have hk := pb_k0_t1_succ (F := Ideal) 𝒱 c bd i arg2 harg2 arg3 harg3 arg4 harg4 arg5 harg5 arg6 harg6 arg7 harg7 arg8 harg8 arg9 harg9 arg10 harg10 v0 v3 v332 v333 v334 v335 X_arg3 X_arg4 X_arg5 G7 G8 G9 G10 ⟨n, hn⟩
    have hw : (fun c => shiftOf v0 v3 (heldWord v0 (Scf.iv 0#32 1#32 n) c) c) = fun _ => (0 : EReal) := funext fun c => shiftOf_zero v0 v3 hv3 _ c
    have hv : (fun c => valAt arg5 X_arg5 (k0_off6 i ⟨n, hn⟩ (cw c) 1)) = fun c => valAt arg5 X_arg5 (heldTile (blk i) n c) :=
      funext fun c => congrArg (valAt arg5 X_arg5) (off6_at i ⟨n, hn⟩ c)
    have hs : scoreAt arg3 X_arg3 arg4 X_arg4 (k0_off5 i ⟨n, hn⟩ 1) = scoreAt arg3 X_arg3 arg4 X_arg4 n :=
      congrArg (scoreAt arg3 X_arg3 arg4 X_arg4) (off5_at i ⟨n, hn⟩)
    refine ⟨?_, ?_, ?_, ?_⟩
    · rw [congrArg (·.1) hk]
      dsimp only
      rw [View.writes_append]
      refine (trip7 𝒱 c bd i arg2 harg2 arg3 harg3 arg4 harg4 arg5 harg5 arg6 harg6 arg7 harg7 arg8 harg8 arg9 harg9 arg10 harg10 v0 v3 v332 v333 v334 v335 X_arg3 X_arg4 X_arg5 ⟨n, hn⟩ _ _ _ _).trans ?_
      rw [i7, i10]
      exact congrArg (fun w => maxAfter w _ _) hw
    · rw [congrArg (·.2.1) hk]
      dsimp only
      rw [View.writes_append]
      refine (trip8 𝒱 c bd i arg2 harg2 arg3 harg3 arg4 harg4 arg5 harg5 arg6 harg6 arg7 harg7 arg8 harg8 arg9 harg9 arg10 harg10 v0 v3 v332 v333 v334 v335 X_arg3 X_arg4 X_arg5 ⟨n, hn⟩ _ _ _ _).trans ?_
      rw [i7, i8, i9, i10]
      exact congrArg₂ (fun w v => accAfter w _ _ _ _ v) hw hv
    · rw [congrArg (·.2.2.1) hk]
      dsimp only
      rw [View.writes_append]
      exact (trip9 𝒱 c bd i arg2 harg2 arg3 harg3 arg4 harg4 arg5 harg5 arg6 harg6 arg7 harg7 arg8 harg8 arg9 harg9 arg10 harg10 v0 v3 v332 v333 v334 v335 X_arg3 X_arg4 X_arg5 ⟨n, hn⟩ _ _ _ _).trans (congrArg heldS hs)
    · rw [congrArg (·.2.2.2) hk]
      dsimp only
      rw [View.writes_append]
      exact (trip10 𝒱 c bd i arg2 harg2 arg3 harg3 arg4 harg4 arg5 harg5 arg6 harg6 arg7 harg7 arg8 harg8 arg9 harg9 arg10 harg10 v0 v3 v332 v333 v334 v335 X_arg3 X_arg4 X_arg5 ⟨n, hn⟩ _ _ _ _).trans (congrArg heldC hs)

end

end Cert.KernelIdeal.Attn

end
-- ==== Proof.Prologue.lean ====
/- BEFORE THE LOOP: the second chunk's strips against the block's first tile, and the two diagonal tiles' scores, masked. -/
module

public import proofs.«01_k».proof.Proof.Loop
public import Idealize.ShloMosaic.Lib.Pipeline.ReadBack
import all proofs.«01_k».proof.Proof.Gen.KernelIdeal.Frame.RunA

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

/-- The named mask is −∞. -/
theorem mask_bot : (Named.named κ "mask" 0xF149F2CA#32 : Ideal .f32) = (⊥ : EReal) := by
  rfl

/-- A newest piece one strip of 256 columns wide: where it lies the array is `G`, and elsewhere what it was. -/
theorem read_strip {sp : Space} {n : ℕ} (v : View sig .tc sp (⟨3, ![2, n, 1024]⟩ : Shape) .f32) (f : v.ty.Contents (Elt Ideal))
    (G : (⟨3, ![2, n, 1024]⟩ : Shape).Idx → EReal) (o0 o2 : ℕ)
    (inb : ∀ a, (![o0, 0, o2] : Fin 3 → ℕ) a + (![1, n, 256] : Fin 3 → ℕ) a ≤ (⟨3, ![2, n, 1024]⟩ : Shape).size a)
    (w : (Rect.unit (s := ⟨3, ![2, n, 1024]⟩) ![o0, 0, o2] ![1, n, 256] inb).shape.Idx → EReal)
    (L : List (View.Piece (Elt Ideal) (⟨3, ![2, n, 1024]⟩ : Shape) .f32)) (y : (⟨3, ![2, n, 1024]⟩ : Shape).Idx)
    (hp : ∀ x, w x = G ((Rect.unit (s := ⟨3, ![2, n, 1024]⟩) ![o0, 0, o2] ![1, n, 256] inb).emb x))
    (hr : ¬ ((y 0).val = o0 ∧ o2 ≤ (y 2).val ∧ (y 2).val < o2 + 256) → v.read (Elt Ideal) (v.writes (Elt Ideal) f L) y = G y) :
    v.read (Elt Ideal) (v.writes (Elt Ideal) f (⟨Rect.unit ![o0, 0, o2] ![1, n, 256] inb, w⟩ :: L)) y = G y := by
  by_cases h : (y 0).val = o0 ∧ o2 ≤ (y 2).val ∧ (y 2).val < o2 + 256
  · obtain ⟨h0, h1, h2⟩ := h
    have hn : (y 1).val < n := (y 1).isLt
    have he : (Rect.unit (s := ⟨3, ![2, n, 1024]⟩) ![o0, 0, o2] ![1, n, 256] inb).emb
        (ix3 (0 : Fin 1) (⟨(y 1).val, hn⟩ : Fin n) (⟨(y 2).val - o2, by omega⟩ : Fin 256)) = y := by
      refine funext fun a => Fin.ext ?_
      match a with
      | ⟨0, _⟩ => show o0 + 1 * 0 = (y 0).val; omega
      | ⟨1, _⟩ => show 0 + 1 * (y 1).val = (y 1).val; omega
      | ⟨2, _⟩ => show o2 + 1 * ((y 2).val - o2) = (y 2).val; omega
    rw [← he]
    exact (View.read_writes_cons_emb v f _ w L _).trans (hp _)
  · refine Eq.trans ?_ (hr h)
    by_cases h0 : (y 0).val = o0
    · refine View.read_writes_cons_miss_of_axis v f _ L y 2 o2 256 rfl rfl rfl ?_
      by_contra hc
      exact h ⟨h0, by omega, by omega⟩
    · refine View.read_writes_cons_miss_of_axis v f _ L y 0 o0 1 rfl rfl rfl ?_
      omega

/-- Is key `k` at or before query `o + j`: the kernel's comparison of two iotas. -/
theorem mask_word (k : Fin 1024) (j : Fin 256) (o : ℕ) (ho : o < 1024) :
    (BitVec.sle (BitVec.ofNat 32 k.val) (BitVec.ofNat 32 j.val + BitVec.ofNat 32 o)) = decide (k.val ≤ o + j.val) := by
  have h1 : (BitVec.ofNat 32 k.val).toInt = k.val := by
    rw [BitVec.toInt_eq_toNat_of_lt] <;> simp [BitVec.toNat_ofNat] <;> omega
  have h2 : (BitVec.ofNat 32 j.val + BitVec.ofNat 32 o).toInt = (o + j.val : ℕ) := by
    rw [BitVec.toInt_eq_toNat_of_lt] <;> simp [BitVec.toNat_add, BitVec.toNat_ofNat] <;> omega
  rw [BitVec.sle_eq_decide, h1, h2]
  exact decide_eq_decide.mpr Int.ofNat_le

/-- A diagonal tile's scores: those of keys after the query are −∞. -/
def diagAt (S : ℕ → Fin 2 → Fin 1024 → Fin 1024 → EReal) (b : ℕ) (c : Fin 2) (q k : Fin 1024) : EReal :=
  if k.val ≤ q.val then S (b + c.val) c q k else ⊥

/-- A strip of a diagonal tile, masked. -/
theorem masked_at (s : FVec Ideal S1024x256 .f32) (h0 : S1024x256.Iotas .tc 32 [0]) (h1 : S1024x256.Iotas .tc 32 [1]) (o : ℕ) (ho : o < 1024)
    (k : Fin 1024) (j : Fin 256) :
    select (cmpi .sle (iota .tc S1024x256 32 [0] h0) (addi (iota .tc S1024x256 32 [1] h1) (broadcast S1024x256 (BitVec.ofNat 32 o)))) s
        (broadcast S1024x256 (Named.named κ "mask" 0xF149F2CA#32 : Ideal .f32)) (ix2 k j)
      = if k.val ≤ o + j.val then s (ix2 k j) else (⊥ : EReal) := by
  have hw : cmpi .sle (iota .tc S1024x256 32 [0] h0) (addi (iota .tc S1024x256 32 [1] h1) (broadcast S1024x256 (BitVec.ofNat 32 o))) (ix2 k j)
      = BitVec.ofBool (BitVec.sle (BitVec.ofNat 32 k.val) (BitVec.ofNat 32 j.val + BitVec.ofNat 32 o)) := by
    have e0 : iota .tc S1024x256 32 [0] h0 (ix2 k j) = BitVec.ofNat 32 k.val := iota_single_apply .tc S1024x256 32 0 h0 (ix2 k j)
    have e1 : iota .tc S1024x256 32 [1] h1 (ix2 k j) = BitVec.ofNat 32 j.val := iota_single_apply .tc S1024x256 32 1 h1 (ix2 k j)
    show Scalar.cmpi .sle (iota .tc S1024x256 32 [0] h0 (ix2 k j)) (iota .tc S1024x256 32 [1] h1 (ix2 k j) + BitVec.ofNat 32 o) = _
    rw [e0, e1]
    rfl
  rw [select_apply, hw, mask_word k j o ho]
  by_cases h : k.val ≤ o + j.val
  · rw [if_pos h, decide_eq_true h]; rfl
  · rw [if_neg h, decide_eq_false h]; rfl

/-- A strip of a diagonal tile's scores, from its loads. -/
theorem diag_of (arg3 : Memref sig .tc .vmem S1x2048x256 .bf16) (X3 : BufTy.Contents (Elt Ideal) arg3.view.ty)
    (arg4 : Memref sig .tc .vmem S1x16x1024x256 .bf16) (X4 : BufTy.Contents (Elt Ideal) arg4.view.ty)
    (off : Fin 4 → ℕ) (inb : ∀ a, off a + S1x1x1024x256.size a ≤ S1x16x1024x256.size a) (h : S1x1x1024x256.ShapeCasts S1024x256)
    (qo : ℕ) (inq : ∀ a, (![0, qo, 0] : Fin 3 → ℕ) a + S1x256x256.size a ≤ S1x2048x256.size a) (h' : S1x256x256.ShapeCasts S256x256)
    (h0 : S1024x256.Iotas .tc 32 [0]) (h1 : S1024x256.Iotas .tc 32 [1]) (o : ℕ)
    (b : ℕ) (c : Fin 2) (q : Fin 1024) (k : Fin 1024) (j : Fin 256) (ho : o < 1024) (hq : qo + j.val = 1024 * c.val + q.val)
    (hoq : o + j.val = q.val) (hoff : off 1 = b + c.val) :
    select (cmpi .sle (iota .tc S1024x256 32 [0] h0) (addi (iota .tc S1024x256 32 [1] h1) (broadcast S1024x256 (BitVec.ofNat 32 o))))
        (matmul (F := Ideal) (φ₁ := .bf16) (φ₂ := .bf16) dot_S1024x256_S256x256_S1024x256_1_1_0_0_n_n none
          (shapeCast S1024x256 (View.readAt (Elt Ideal) arg4.view (Rect.unit (s := S1x16x1024x256) off S1x1x1024x256.size inb).toLoadRect X4) h)
          (shapeCast S256x256 (View.readAt (Elt Ideal) arg3.view (Rect.unit (s := S1x2048x256) ![0, qo, 0] S1x256x256.size inq).toLoadRect X3) h')
          (constant S1024x256 .f32 0x00000000#32))
        (broadcast S1024x256 (Named.named κ "mask" 0xF149F2CA#32 : Ideal .f32)) (ix2 k j)
      = diagAt (scoreAt arg3 X3 arg4 X4) b c q k := by
  refine (masked_at _ h0 h1 o ho k j).trans ?_
  unfold diagAt
  rw [scoreAt_of arg3 X3 arg4 X4 off inb h qo inq h' c q k j hq, hoff, hoq]

/-- A shift computed from a slope of zero. -/
theorem zero_shift (v3 : Ideal .f32) (h : v3 = (0 : EReal)) (x : Ideal .f32) : (Scalar.mulf v3 x : Ideal .f32) = (0 : EReal) := by
  subst h
  exact zero_mul (M₀ := EReal) x

section
variable (c : Dev nD) (i : grid0.Coords) (arg2 : Memref sig .tc .smem S8 .f32) (harg2 : arg2.IsWhole) (arg3 : Memref sig .tc .vmem S1x2048x256 .bf16) (harg3 : arg3.IsWhole) (arg4 : Memref sig .tc .vmem S1x16x1024x256 .bf16) (harg4 : arg4.IsWhole) (arg5 : Memref sig .tc .vmem S1x16x136x1024 .bf16) (harg5 : arg5.IsWhole) (arg6 : Memref sig .tc .vmem S2048x128 .bf16) (harg6 : arg6.IsWhole) (arg7 : Memref sig .tc .vmem S2x1x1024 .f32) (harg7 : arg7.IsWhole) (arg8 : Memref sig .tc .vmem S2x136x1024 .f32) (harg8 : arg8.IsWhole) (arg9 : Memref sig .tc .vmem S2x1024x1024 .f32) (harg9 : arg9.IsWhole) (arg10 : Memref sig .tc .vmem S2x1x1024 .f32) (harg10 : arg10.IsWhole)
  (x0 : Vec Ideal S8 .f32) (x1 : Vec Ideal S1x2048x256 .bf16) (x2 : Vec Ideal S1x16x1024x256 .bf16) (x3 : Vec Ideal S1x16x136x1024 .bf16)

/-- The diagonal tiles' scores are held. -/
theorem pro9 : arg9.view.read (Elt Ideal) (arg9.view.writes (Elt Ideal) arg9.view.junk (kernelRun0_A.sl.HS2_8 (F := Ideal) c i arg3 harg3 arg4 harg4 x1 x2))
    = heldS (diagAt (scoreAt arg3 (harg3.unread x1) arg4 (harg4.unread x2)) (2 * blk i)) := by
  refine funext fun y => ?_
  unfold kernelRun0_A.sl.HS2_8
  refine View.read_writes_apply_of_pieces (Val := Elt Ideal) arg9.view _ (heldS _) _ (View.PiecesOf.mem ?hp) y ?hc
  case hp =>
   refine ⟨?_, ?_, ?_, ?_, ?_, ?_, ?_, ?_, trivial⟩
   all_goals
    intro x
    obtain ⟨u, kk, j, rfl⟩ : ∃ (u : Fin 1) (kk : Fin 1024) (j : Fin 256), x = ix3 u kk j := ⟨x 0, x 1, x 2, eq_ix3 x⟩
    obtain rfl : u = 0 := Subsingleton.elim _ _
    dsimp only [k0_pay204, k0_pay205, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, kernelRun0_A.sl.r_14, kernelRun0_A.sl.r_15, kernelRun0_A.sl.r_19, kernelRun0_A.sl.r_20, kernelRun0_A.sl.r_21, kernelRun0_A.sl.v333, kernelRun0_A.sl.v334, kernelRun0_A.sl.cst_171]
    refine (storeS_at _ _ 0 kk j).trans ?_
   · refine (diag_of arg3 (harg3.unread x1) arg4 (harg4.unread x2) _ _ _ 1792 _ _ _ _ 768 (2 * blk i) 1 ⟨768 + 1 * j.val, by omega⟩ kk j (by omega) (by show 1792 + j.val = 1024 * 1 + (768 + 1 * j.val); omega) (by show 768 + j.val = 768 + 1 * j.val; omega) (off4_at i 1)).trans ?_
     exact congrArg (diagAt _ _ _ _) (Fin.ext (by show kk.val = 0 + 1 * kk.val; omega))
   · refine (diag_of arg3 (harg3.unread x1) arg4 (harg4.unread x2) _ _ _ 1536 _ _ _ _ 512 (2 * blk i) 1 ⟨512 + 1 * j.val, by omega⟩ kk j (by omega) (by show 1536 + j.val = 1024 * 1 + (512 + 1 * j.val); omega) (by show 512 + j.val = 512 + 1 * j.val; omega) (off4_at i 1)).trans ?_
     exact congrArg (diagAt _ _ _ _) (Fin.ext (by show kk.val = 0 + 1 * kk.val; omega))
   · refine (diag_of arg3 (harg3.unread x1) arg4 (harg4.unread x2) _ _ _ 1280 _ _ _ _ 256 (2 * blk i) 1 ⟨256 + 1 * j.val, by omega⟩ kk j (by omega) (by show 1280 + j.val = 1024 * 1 + (256 + 1 * j.val); omega) (by show 256 + j.val = 256 + 1 * j.val; omega) (off4_at i 1)).trans ?_
     exact congrArg (diagAt _ _ _ _) (Fin.ext (by show kk.val = 0 + 1 * kk.val; omega))
   · refine (diag_of arg3 (harg3.unread x1) arg4 (harg4.unread x2) _ _ _ 1024 _ _ _ _ 0 (2 * blk i) 1 ⟨0 + 1 * j.val, by omega⟩ kk j (by omega) (by show 1024 + j.val = 1024 * 1 + (0 + 1 * j.val); omega) (by show 0 + j.val = 0 + 1 * j.val; omega) (off4_at i 1)).trans ?_
     exact congrArg (diagAt _ _ _ _) (Fin.ext (by show kk.val = 0 + 1 * kk.val; omega))
   · refine (diag_of arg3 (harg3.unread x1) arg4 (harg4.unread x2) _ _ _ 768 _ _ _ _ 768 (2 * blk i) 0 ⟨768 + 1 * j.val, by omega⟩ kk j (by omega) (by show 768 + j.val = 1024 * 0 + (768 + 1 * j.val); omega) (by show 768 + j.val = 768 + 1 * j.val; omega) (off4_at i 0)).trans ?_
     exact congrArg (diagAt _ _ _ _) (Fin.ext (by show kk.val = 0 + 1 * kk.val; omega))
   · refine (diag_of arg3 (harg3.unread x1) arg4 (harg4.unread x2) _ _ _ 512 _ _ _ _ 512 (2 * blk i) 0 ⟨512 + 1 * j.val, by omega⟩ kk j (by omega) (by show 512 + j.val = 1024 * 0 + (512 + 1 * j.val); omega) (by show 512 + j.val = 512 + 1 * j.val; omega) (off4_at i 0)).trans ?_
     exact congrArg (diagAt _ _ _ _) (Fin.ext (by show kk.val = 0 + 1 * kk.val; omega))
   · refine (diag_of arg3 (harg3.unread x1) arg4 (harg4.unread x2) _ _ _ 256 _ _ _ _ 256 (2 * blk i) 0 ⟨256 + 1 * j.val, by omega⟩ kk j (by omega) (by show 256 + j.val = 1024 * 0 + (256 + 1 * j.val); omega) (by show 256 + j.val = 256 + 1 * j.val; omega) (off4_at i 0)).trans ?_
     exact congrArg (diagAt _ _ _ _) (Fin.ext (by show kk.val = 0 + 1 * kk.val; omega))
   · refine (diag_of arg3 (harg3.unread x1) arg4 (harg4.unread x2) _ _ _ 0 _ _ _ _ 0 (2 * blk i) 0 ⟨0 + 1 * j.val, by omega⟩ kk j (by omega) (by show 0 + j.val = 1024 * 0 + (0 + 1 * j.val); omega) (by show 0 + j.val = 0 + 1 * j.val; omega) (off4_at i 0)).trans ?_
     exact congrArg (diagAt _ _ _ _) (Fin.ext (by show kk.val = 0 + 1 * kk.val; omega))
  exact View.cover_of_tiled _ ![1, 1024, 256] (by sl_kernel_rfl) y

/-- … and their column maxima. -/
theorem pro10 : arg10.view.read (Elt Ideal) (arg10.view.writes (Elt Ideal) arg10.view.junk (kernelRun0_A.sl.HS3_8 (F := Ideal) c i arg3 harg3 arg4 harg4 x1 x2))
    = heldC (diagAt (scoreAt arg3 (harg3.unread x1) arg4 (harg4.unread x2)) (2 * blk i)) := by
  refine funext fun y => ?_
  unfold kernelRun0_A.sl.HS3_8
  refine View.read_writes_apply_of_pieces (Val := Elt Ideal) arg10.view _ (heldC _) _ (View.PiecesOf.mem ?hp) y ?hc
  case hp =>
   refine ⟨?_, ?_, ?_, ?_, ?_, ?_, ?_, ?_, trivial⟩
   all_goals
    intro x
    obtain ⟨u, u', j, rfl⟩ : ∃ (u u' : Fin 1) (j : Fin 256), x = ix3 u u' j := ⟨x 0, x 1, x 2, eq_ix3 x⟩
    obtain rfl : u = 0 := Subsingleton.elim _ _
    obtain rfl : u' = 0 := Subsingleton.elim _ _
    dsimp only [k0_pay204, k0_pay205, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, kernelRun0_A.sl.r_14, kernelRun0_A.sl.r_15, kernelRun0_A.sl.r_19, kernelRun0_A.sl.r_20, kernelRun0_A.sl.r_21, kernelRun0_A.sl.v333, kernelRun0_A.sl.v334, kernelRun0_A.sl.cst_171]
    refine (storeTop_at _ _ _ _ _ _ 0 0 j).trans (congrArg top (funext fun kk => ?_))
   · exact diag_of arg3 (harg3.unread x1) arg4 (harg4.unread x2) _ _ _ 1792 _ _ _ _ 768 (2 * blk i) 1 ⟨768 + 1 * j.val, by omega⟩ kk j (by omega) (by show 1792 + j.val = 1024 * 1 + (768 + 1 * j.val); omega) (by show 768 + j.val = 768 + 1 * j.val; omega) (off4_at i 1)
   · exact diag_of arg3 (harg3.unread x1) arg4 (harg4.unread x2) _ _ _ 1536 _ _ _ _ 512 (2 * blk i) 1 ⟨512 + 1 * j.val, by omega⟩ kk j (by omega) (by show 1536 + j.val = 1024 * 1 + (512 + 1 * j.val); omega) (by show 512 + j.val = 512 + 1 * j.val; omega) (off4_at i 1)
   · exact diag_of arg3 (harg3.unread x1) arg4 (harg4.unread x2) _ _ _ 1280 _ _ _ _ 256 (2 * blk i) 1 ⟨256 + 1 * j.val, by omega⟩ kk j (by omega) (by show 1280 + j.val = 1024 * 1 + (256 + 1 * j.val); omega) (by show 256 + j.val = 256 + 1 * j.val; omega) (off4_at i 1)
   · exact diag_of arg3 (harg3.unread x1) arg4 (harg4.unread x2) _ _ _ 1024 _ _ _ _ 0 (2 * blk i) 1 ⟨0 + 1 * j.val, by omega⟩ kk j (by omega) (by show 1024 + j.val = 1024 * 1 + (0 + 1 * j.val); omega) (by show 0 + j.val = 0 + 1 * j.val; omega) (off4_at i 1)
   · exact diag_of arg3 (harg3.unread x1) arg4 (harg4.unread x2) _ _ _ 768 _ _ _ _ 768 (2 * blk i) 0 ⟨768 + 1 * j.val, by omega⟩ kk j (by omega) (by show 768 + j.val = 1024 * 0 + (768 + 1 * j.val); omega) (by show 768 + j.val = 768 + 1 * j.val; omega) (off4_at i 0)
   · exact diag_of arg3 (harg3.unread x1) arg4 (harg4.unread x2) _ _ _ 512 _ _ _ _ 512 (2 * blk i) 0 ⟨512 + 1 * j.val, by omega⟩ kk j (by omega) (by show 512 + j.val = 1024 * 0 + (512 + 1 * j.val); omega) (by show 512 + j.val = 512 + 1 * j.val; omega) (off4_at i 0)
   · exact diag_of arg3 (harg3.unread x1) arg4 (harg4.unread x2) _ _ _ 256 _ _ _ _ 256 (2 * blk i) 0 ⟨256 + 1 * j.val, by omega⟩ kk j (by omega) (by show 256 + j.val = 1024 * 0 + (256 + 1 * j.val); omega) (by show 256 + j.val = 256 + 1 * j.val; omega) (off4_at i 0)
   · exact diag_of arg3 (harg3.unread x1) arg4 (harg4.unread x2) _ _ _ 0 _ _ _ _ 0 (2 * blk i) 0 ⟨0 + 1 * j.val, by omega⟩ kk j (by omega) (by show 0 + j.val = 1024 * 0 + (0 + 1 * j.val); omega) (by show 0 + j.val = 0 + 1 * j.val; omega) (off4_at i 0)
  exact View.cover_of_tiled _ ![1, 1, 256] (by sl_kernel_rfl) y

end

end Cert.KernelIdeal.Attn

end
-- ==== Proof.Strips.lean ====
/- STRIP BY STRIP: the running maxima and the accumulators are brought up to date one strip of 256 queries at a time, each
   strip reading what the strips before it have not touched. Here the second chunk's strips before the loop. -/
module

public import proofs.«01_k».proof.Proof.Prologue
import all proofs.«01_k».proof.Proof.Gen.KernelIdeal.Frame.RunA

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

/-- `f` on the queries numbered from `lo` to before `hi`, counted through both chunks, and `g` elsewhere. -/
def mix {n : ℕ} (lo hi : ℕ) (f g : (⟨3, ![2, n, 1024]⟩ : Shape).Idx → EReal) : (⟨3, ![2, n, 1024]⟩ : Shape).Idx → EReal :=
  fun y => if lo ≤ 1024 * (y 0).val + (y 2).val ∧ 1024 * (y 0).val + (y 2).val < hi then f y else g y

theorem mix_nil {n : ℕ} (lo : ℕ) (f g : (⟨3, ![2, n, 1024]⟩ : Shape).Idx → EReal) : mix lo lo f g = g :=
  funext fun y => if_neg (by omega)

theorem mix_all {n : ℕ} (f g : (⟨3, ![2, n, 1024]⟩ : Shape).Idx → EReal) : mix 0 2048 f g = f :=
  funext fun y => by
    have h0 : (y 0).val < 2 := (y 0).isLt
    have h2 : (y 2).val < 1024 := (y 2).isLt
    exact if_pos (by omega)

/-- One more strip. -/
theorem strip_step {sp : Space} {n : ℕ} (v : View sig .tc sp (⟨3, ![2, n, 1024]⟩ : Shape) .f32) (F : v.ty.Contents (Elt Ideal))
    (f g : (⟨3, ![2, n, 1024]⟩ : Shape).Idx → EReal) (o0 o2 : ℕ)
    (inb : ∀ a, (![o0, 0, o2] : Fin 3 → ℕ) a + (![1, n, 256] : Fin 3 → ℕ) a ≤ (⟨3, ![2, n, 1024]⟩ : Shape).size a)
    (w : (Rect.unit (s := ⟨3, ![2, n, 1024]⟩) ![o0, 0, o2] ![1, n, 256] inb).shape.Idx → EReal)
    (L : List (View.Piece (Elt Ideal) (⟨3, ![2, n, 1024]⟩ : Shape) .f32)) (lo hi hi' : ℕ)
    (hlo : lo ≤ hi) (hhi : hi = 1024 * o0 + o2) (hhi' : hi' = hi + 256)
    (hL : v.read (Elt Ideal) (v.writes (Elt Ideal) F L) = mix lo hi f g)
    (hw : ∀ x, w x = f ((Rect.unit (s := ⟨3, ![2, n, 1024]⟩) ![o0, 0, o2] ![1, n, 256] inb).emb x)) :
    v.read (Elt Ideal) (v.writes (Elt Ideal) F (⟨Rect.unit ![o0, 0, o2] ![1, n, 256] inb, w⟩ :: L)) = mix lo hi' f g := by
  have h2 : o2 + 256 ≤ 1024 := inb 2
  refine funext fun y => ?_
  have hy2 : (y 2).val < 1024 := (y 2).isLt
  refine read_strip v F (mix lo hi' f g) o0 o2 inb w L y (fun x => (hw x).trans (Eq.symm (if_pos ?_))) fun h => ?_
  · have hx0 : (x 0).val < 1 := (x 0).isLt
    have hx2 : (x 2).val < 256 := (x 2).isLt
    show lo ≤ 1024 * (o0 + 1 * (x 0).val) + (o2 + 1 * (x 2).val) ∧ 1024 * (o0 + 1 * (x 0).val) + (o2 + 1 * (x 2).val) < hi'
    omega
  · rw [hL]; unfold mix
    by_cases hh : lo ≤ 1024 * (y 0).val + (y 2).val ∧ 1024 * (y 0).val + (y 2).val < hi
    · rw [if_pos hh, if_pos (by omega)]
    · rw [if_neg hh, if_neg (by omega)]

/-- A strip's load finds what was there before the first strip. -/
theorem strip_load {sp : Space} {n : ℕ} (v : View sig .tc sp (⟨3, ![2, n, 1024]⟩ : Shape) .f32)
    (f g : (⟨3, ![2, n, 1024]⟩ : Shape).Idx → EReal) (o0 o2 : ℕ)
    (inb : ∀ a, (![o0, 0, o2] : Fin 3 → ℕ) a + (![1, n, 256] : Fin 3 → ℕ) a ≤ (⟨3, ![2, n, 1024]⟩ : Shape).size a)
    (L : List (View.Piece (Elt Ideal) (⟨3, ![2, n, 1024]⟩ : Shape) .f32)) (lo hi : ℕ) (hhi : hi = 1024 * o0 + o2)
    (hL : v.read (Elt Ideal) (v.writes (Elt Ideal) v.junk L) = mix lo hi f g)
    (x : (Rect.unit (s := ⟨3, ![2, n, 1024]⟩) ![o0, 0, o2] ![1, n, 256] inb).shape.Idx) :
    v.readCov (Val := Elt Ideal) L (Rect.unit (s := ⟨3, ![2, n, 1024]⟩) ![o0, 0, o2] ![1, n, 256] inb).toLoadRect x
      = g ((Rect.unit (s := ⟨3, ![2, n, 1024]⟩) ![o0, 0, o2] ![1, n, 256] inb).emb x) := by
  show v.readAt (Elt Ideal) _ (v.writes (Elt Ideal) v.junk L) x = _
  rw [View.readAt_apply, hL]
  have hx0 : (x 0).val < 1 := (x 0).isLt
  refine if_neg ?_
  show ¬ (lo ≤ 1024 * (o0 + 1 * (x 0).val) + (o2 + 1 * (x 2).val) ∧ 1024 * (o0 + 1 * (x 0).val) + (o2 + 1 * (x 2).val) < hi)
  omega

/-- The maxima before any tile. -/
theorem start7 {sp : Space} (v : View sig .tc sp S2x1x1024 .f32) (y : S2x1x1024.Idx) :
    v.read (Elt Ideal) (v.writes (Elt Ideal) v.junk (kernelRun0_A.sl.HS0_1 (F := Ideal))) y = (⊥ : EReal) := by
  have he : (Rect.unit (s := S2x1x1024) ![0, 0, 0] S2x1x1024.size Cert.KernelIdeal.Gen.inb_S2x1x1024_S2x1x1024_0_0_0).emb y = y := by
    refine funext fun a => Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  unfold kernelRun0_A.sl.HS0_1
  refine (congrArg _ he.symm).trans ((View.read_writes_cons_emb (Val := Elt Ideal) v v.junk (Rect.unit (s := S2x1x1024) ![0, 0, 0] S2x1x1024.size Cert.KernelIdeal.Gen.inb_S2x1x1024_S2x1x1024_0_0_0)
    (k0_pay177 (F := Ideal)) [] y).trans ?_)
  unfold k0_pay177
  exact ofBits_bot

/-- The accumulators before any tile. -/
theorem start8 {sp : Space} (v : View sig .tc sp S2x136x1024 .f32) (y : S2x136x1024.Idx) :
    v.read (Elt Ideal) (v.writes (Elt Ideal) v.junk (kernelRun0_A.sl.HS1_1 (F := Ideal))) y = (0 : EReal) := by
  have he : (Rect.unit (s := S2x136x1024) ![0, 0, 0] S2x136x1024.size Cert.KernelIdeal.Gen.inb_S2x136x1024_S2x136x1024_0_0_0).emb y = y := by
    refine funext fun a => Fin.ext ?_
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega
  unfold kernelRun0_A.sl.HS1_1
  refine (congrArg _ he.symm).trans ((View.read_writes_cons_emb (Val := Elt Ideal) v v.junk (Rect.unit (s := S2x136x1024) ![0, 0, 0] S2x136x1024.size Cert.KernelIdeal.Gen.inb_S2x136x1024_S2x136x1024_0_0_0)
    (k0_pay178 (F := Ideal)) [] y).trans ?_)
  unfold k0_pay178
  exact Ideal.ofBits_zero_f32

section
variable (c : Dev nD) (i : grid0.Coords) (arg2 : Memref sig .tc .smem S8 .f32) (harg2 : arg2.IsWhole) (arg3 : Memref sig .tc .vmem S1x2048x256 .bf16) (harg3 : arg3.IsWhole) (arg4 : Memref sig .tc .vmem S1x16x1024x256 .bf16) (harg4 : arg4.IsWhole) (arg5 : Memref sig .tc .vmem S1x16x136x1024 .bf16) (harg5 : arg5.IsWhole) (arg6 : Memref sig .tc .vmem S2048x128 .bf16) (harg6 : arg6.IsWhole) (arg7 : Memref sig .tc .vmem S2x1x1024 .f32) (harg7 : arg7.IsWhole) (arg8 : Memref sig .tc .vmem S2x136x1024 .f32) (harg8 : arg8.IsWhole) (arg9 : Memref sig .tc .vmem S2x1024x1024 .f32) (harg9 : arg9.IsWhole) (arg10 : Memref sig .tc .vmem S2x1x1024 .f32) (harg10 : arg10.IsWhole)
  (x0 : Vec Ideal S8 .f32) (x1 : Vec Ideal S1x2048x256 .bf16) (x2 : Vec Ideal S1x16x1024x256 .bf16) (x3 : Vec Ideal S1x16x136x1024 .bf16)

/-- The scores of the block's first tile. -/
abbrev firstS : Fin 2 → Fin 1024 → Fin 1024 → EReal := scoreAt arg3 (harg3.unread x1) arg4 (harg4.unread x2) (2 * blk i)

/-- The maxima after it. -/
def firstM : S2x1x1024.Idx → EReal := maxAfter (fun _ => 0) (fun _ => ⊥) (heldC (firstS i arg3 harg3 arg4 harg4 x1 x2))

/-- The accumulators after it. -/
def firstA : S2x136x1024.Idx → EReal :=
  accAfter (fun _ => 0) (fun _ => ⊥) (heldC (firstS i arg3 harg3 arg4 harg4 x1 x2)) (fun _ => 0)
    (heldS (firstS i arg3 harg3 arg4 harg4 x1 x2)) (fun _ => valAt arg5 (harg5.unread x3) (2 * blk i))

/-- The maxima after 1 of the second chunk's strips. -/
theorem pro7_1 (hr : kernelRun0_A.sl.r_1 (F := Ideal) c i arg2 harg2 x0 = (0 : EReal)) :
    arg7.view.read (Elt Ideal) (arg7.view.writes (Elt Ideal) arg7.view.junk (kernelRun0_A.sl.HS0_2 (F := Ideal) c i arg2 harg2 arg3 harg3 arg4 harg4 arg7 x0 x1 x2))
      = mix 1024 1280 (firstM i arg3 harg3 arg4 harg4 x1 x2) (fun _ => ⊥) := by
  unfold kernelRun0_A.sl.HS0_2
  refine strip_step arg7.view _ _ _ 1 0 _ _ _ 1024 1024 1280 (by omega) rfl rfl ((funext fun y => start7 arg7.view y).trans (mix_nil 1024 _ _).symm) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay179, k0_pay180, k0_pay181, k0_pay182, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay206, k0_pay207, k0_pay208, k0_pay209, k0_pay210, k0_pay211, k0_pay212, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_16, kernelRun0_A.sl.r_17, kernelRun0_A.sl.r_18]
  refine (storeM_at _ _ _ _ 0 0 j).trans ?_
  refine stepM_congr (zero_shift _ hr _) ((loadM_at _ _ j).trans (strip_load arg7.view (firstM i arg3 harg3 arg4 harg4 x1 x2) (fun _ => ⊥) 1 0 _ (kernelRun0_A.sl.HS0_1 (F := Ideal)) 1024 1024 rfl ((funext fun y => start7 arg7.view y).trans (mix_nil 1024 _ _).symm) (ix3 (0 : Fin 1) (0 : Fin 1) j))) ?_
  refine (top_at _ _ _ _ _ 0 j).trans (congrArg top (funext fun kk => ?_))
  exact (scoreAt_of arg3 (harg3.unread x1) arg4 (harg4.unread x2) _ _ _ 1024 _ _ 1 ⟨0 + 1 * j.val, by omega⟩ kk j (by show 1024 + j.val = 1024 * 1 + (0 + 1 * j.val); omega)).trans (congrArg (fun n => scoreAt arg3 (harg3.unread x1) arg4 (harg4.unread x2) n 1 ⟨0 + 1 * j.val, by omega⟩ kk) (off2_at i))

/-- The accumulators after 1 of the second chunk's strips. -/
theorem pro8_1 (hr : kernelRun0_A.sl.r_1 (F := Ideal) c i arg2 harg2 x0 = (0 : EReal)) :
    arg8.view.read (Elt Ideal) (arg8.view.writes (Elt Ideal) arg8.view.junk (kernelRun0_A.sl.HS1_2 (F := Ideal) c i arg2 harg2 arg3 harg3 arg4 harg4 arg5 harg5 arg7 arg8 x0 x1 x2 x3))
      = mix 1024 1280 (firstA i arg3 harg3 arg4 harg4 arg5 harg5 x1 x2 x3) (fun _ => 0) := by
  unfold kernelRun0_A.sl.HS1_2
  refine strip_step arg8.view _ _ _ 1 0 _ _ _ 1024 1024 1280 (by omega) rfl rfl ((funext fun y => start8 arg8.view y).trans (mix_nil 1024 _ _).symm) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay179, k0_pay180, k0_pay181, k0_pay182, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay206, k0_pay207, k0_pay208, k0_pay209, k0_pay210, k0_pay211, k0_pay212, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_16, kernelRun0_A.sl.r_17, kernelRun0_A.sl.r_18]
  refine (storeA_at _ _ _ _ _ _ _ _ _ _ 0 r j).trans ?_
  refine stepA_congr (zero_shift _ hr _) ((loadM_at _ _ j).trans (strip_load arg7.view (firstM i arg3 harg3 arg4 harg4 x1 x2) (fun _ => ⊥) 1 0 _ (kernelRun0_A.sl.HS0_1 (F := Ideal)) 1024 1024 rfl ((funext fun y => start7 arg7.view y).trans (mix_nil 1024 _ _).symm) (ix3 (0 : Fin 1) (0 : Fin 1) j))) ?_ ((loadA_at _ _ r j).trans (strip_load arg8.view (firstA i arg3 harg3 arg4 harg4 arg5 harg5 x1 x2 x3) (fun _ => 0) 1 0 _ (kernelRun0_A.sl.HS1_1 (F := Ideal)) 1024 1024 rfl ((funext fun y => start8 arg8.view y).trans (mix_nil 1024 _ _).symm) (ix3 (0 : Fin 1) r j))) (funext fun kk => ?_) (funext fun kk => (valAt_of arg5 (harg5.unread x3) _ _ _ _ _).trans ?_)
  · refine (top_at _ _ _ _ _ 0 j).trans (congrArg top (funext fun kk => ?_))
    exact (scoreAt_of arg3 (harg3.unread x1) arg4 (harg4.unread x2) _ _ _ 1024 _ _ 1 ⟨0 + 1 * j.val, by omega⟩ kk j (by show 1024 + j.val = 1024 * 1 + (0 + 1 * j.val); omega)).trans (congrArg (fun n => scoreAt arg3 (harg3.unread x1) arg4 (harg4.unread x2) n 1 ⟨0 + 1 * j.val, by omega⟩ kk) (off2_at i))
  · exact (scoreAt_of arg3 (harg3.unread x1) arg4 (harg4.unread x2) _ _ _ 1024 _ _ 1 ⟨0 + 1 * j.val, by omega⟩ kk j (by show 1024 + j.val = 1024 * 1 + (0 + 1 * j.val); omega)).trans (congrArg (fun n => scoreAt arg3 (harg3.unread x1) arg4 (harg4.unread x2) n 1 ⟨0 + 1 * j.val, by omega⟩ kk) (off2_at i))
  · exact congrArg₂ (fun n r' => valAt arg5 (harg5.unread x3) n r' kk) (off3_at i) (Fin.ext (by show r.val = 0 + 1 * r.val; omega))

/-- The maxima after 2 of the second chunk's strips. -/
theorem pro7_2 (hr : kernelRun0_A.sl.r_1 (F := Ideal) c i arg2 harg2 x0 = (0 : EReal)) :
    arg7.view.read (Elt Ideal) (arg7.view.writes (Elt Ideal) arg7.view.junk (kernelRun0_A.sl.HS0_3 (F := Ideal) c i arg2 harg2 arg3 harg3 arg4 harg4 arg7 x0 x1 x2))
      = mix 1024 1536 (firstM i arg3 harg3 arg4 harg4 x1 x2) (fun _ => ⊥) := by
  unfold kernelRun0_A.sl.HS0_3
  refine strip_step arg7.view _ _ _ 1 256 _ _ _ 1024 1280 1536 (by omega) rfl rfl (pro7_1 c i arg2 harg2 arg3 harg3 arg4 harg4 arg7 x0 x1 x2 hr) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay179, k0_pay180, k0_pay181, k0_pay182, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay206, k0_pay207, k0_pay208, k0_pay209, k0_pay210, k0_pay211, k0_pay212, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_16, kernelRun0_A.sl.r_17, kernelRun0_A.sl.r_18]
  refine (storeM_at _ _ _ _ 0 0 j).trans ?_
  refine stepM_congr (zero_shift _ hr _) ((loadM_at _ _ j).trans (strip_load arg7.view (firstM i arg3 harg3 arg4 harg4 x1 x2) (fun _ => ⊥) 1 256 _ (kernelRun0_A.sl.HS0_2 (F := Ideal) c i arg2 harg2 arg3 harg3 arg4 harg4 arg7 x0 x1 x2) 1024 1280 rfl (pro7_1 c i arg2 harg2 arg3 harg3 arg4 harg4 arg7 x0 x1 x2 hr) (ix3 (0 : Fin 1) (0 : Fin 1) j))) ?_
  refine (top_at _ _ _ _ _ 0 j).trans (congrArg top (funext fun kk => ?_))
  exact (scoreAt_of arg3 (harg3.unread x1) arg4 (harg4.unread x2) _ _ _ 1280 _ _ 1 ⟨256 + 1 * j.val, by omega⟩ kk j (by show 1280 + j.val = 1024 * 1 + (256 + 1 * j.val); omega)).trans (congrArg (fun n => scoreAt arg3 (harg3.unread x1) arg4 (harg4.unread x2) n 1 ⟨256 + 1 * j.val, by omega⟩ kk) (off2_at i))

/-- The accumulators after 2 of the second chunk's strips. -/
theorem pro8_2 (hr : kernelRun0_A.sl.r_1 (F := Ideal) c i arg2 harg2 x0 = (0 : EReal)) :
    arg8.view.read (Elt Ideal) (arg8.view.writes (Elt Ideal) arg8.view.junk (kernelRun0_A.sl.HS1_3 (F := Ideal) c i arg2 harg2 arg3 harg3 arg4 harg4 arg5 harg5 arg7 arg8 x0 x1 x2 x3))
      = mix 1024 1536 (firstA i arg3 harg3 arg4 harg4 arg5 harg5 x1 x2 x3) (fun _ => 0) := by
  unfold kernelRun0_A.sl.HS1_3
  refine strip_step arg8.view _ _ _ 1 256 _ _ _ 1024 1280 1536 (by omega) rfl rfl (pro8_1 c i arg2 harg2 arg3 harg3 arg4 harg4 arg5 harg5 arg7 arg8 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay179, k0_pay180, k0_pay181, k0_pay182, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay206, k0_pay207, k0_pay208, k0_pay209, k0_pay210, k0_pay211, k0_pay212, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_16, kernelRun0_A.sl.r_17, kernelRun0_A.sl.r_18]
  refine (storeA_at _ _ _ _ _ _ _ _ _ _ 0 r j).trans ?_
  refine stepA_congr (zero_shift _ hr _) ((loadM_at _ _ j).trans (strip_load arg7.view (firstM i arg3 harg3 arg4 harg4 x1 x2) (fun _ => ⊥) 1 256 _ (kernelRun0_A.sl.HS0_2 (F := Ideal) c i arg2 harg2 arg3 harg3 arg4 harg4 arg7 x0 x1 x2) 1024 1280 rfl (pro7_1 c i arg2 harg2 arg3 harg3 arg4 harg4 arg7 x0 x1 x2 hr) (ix3 (0 : Fin 1) (0 : Fin 1) j))) ?_ ((loadA_at _ _ r j).trans (strip_load arg8.view (firstA i arg3 harg3 arg4 harg4 arg5 harg5 x1 x2 x3) (fun _ => 0) 1 256 _ (kernelRun0_A.sl.HS1_2 (F := Ideal) c i arg2 harg2 arg3 harg3 arg4 harg4 arg5 harg5 arg7 arg8 x0 x1 x2 x3) 1024 1280 rfl (pro8_1 c i arg2 harg2 arg3 harg3 arg4 harg4 arg5 harg5 arg7 arg8 x0 x1 x2 x3 hr) (ix3 (0 : Fin 1) r j))) (funext fun kk => ?_) (funext fun kk => (valAt_of arg5 (harg5.unread x3) _ _ _ _ _).trans ?_)
  · refine (top_at _ _ _ _ _ 0 j).trans (congrArg top (funext fun kk => ?_))
    exact (scoreAt_of arg3 (harg3.unread x1) arg4 (harg4.unread x2) _ _ _ 1280 _ _ 1 ⟨256 + 1 * j.val, by omega⟩ kk j (by show 1280 + j.val = 1024 * 1 + (256 + 1 * j.val); omega)).trans (congrArg (fun n => scoreAt arg3 (harg3.unread x1) arg4 (harg4.unread x2) n 1 ⟨256 + 1 * j.val, by omega⟩ kk) (off2_at i))
  · exact (scoreAt_of arg3 (harg3.unread x1) arg4 (harg4.unread x2) _ _ _ 1280 _ _ 1 ⟨256 + 1 * j.val, by omega⟩ kk j (by show 1280 + j.val = 1024 * 1 + (256 + 1 * j.val); omega)).trans (congrArg (fun n => scoreAt arg3 (harg3.unread x1) arg4 (harg4.unread x2) n 1 ⟨256 + 1 * j.val, by omega⟩ kk) (off2_at i))
  · exact congrArg₂ (fun n r' => valAt arg5 (harg5.unread x3) n r' kk) (off3_at i) (Fin.ext (by show r.val = 0 + 1 * r.val; omega))

/-- The maxima after 3 of the second chunk's strips. -/
theorem pro7_3 (hr : kernelRun0_A.sl.r_1 (F := Ideal) c i arg2 harg2 x0 = (0 : EReal)) :
    arg7.view.read (Elt Ideal) (arg7.view.writes (Elt Ideal) arg7.view.junk (kernelRun0_A.sl.HS0_4 (F := Ideal) c i arg2 harg2 arg3 harg3 arg4 harg4 arg7 x0 x1 x2))
      = mix 1024 1792 (firstM i arg3 harg3 arg4 harg4 x1 x2) (fun _ => ⊥) := by
  unfold kernelRun0_A.sl.HS0_4
  refine strip_step arg7.view _ _ _ 1 512 _ _ _ 1024 1536 1792 (by omega) rfl rfl (pro7_2 c i arg2 harg2 arg3 harg3 arg4 harg4 arg7 x0 x1 x2 hr) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay179, k0_pay180, k0_pay181, k0_pay182, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay206, k0_pay207, k0_pay208, k0_pay209, k0_pay210, k0_pay211, k0_pay212, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_16, kernelRun0_A.sl.r_17, kernelRun0_A.sl.r_18]
  refine (storeM_at _ _ _ _ 0 0 j).trans ?_
  refine stepM_congr (zero_shift _ hr _) ((loadM_at _ _ j).trans (strip_load arg7.view (firstM i arg3 harg3 arg4 harg4 x1 x2) (fun _ => ⊥) 1 512 _ (kernelRun0_A.sl.HS0_3 (F := Ideal) c i arg2 harg2 arg3 harg3 arg4 harg4 arg7 x0 x1 x2) 1024 1536 rfl (pro7_2 c i arg2 harg2 arg3 harg3 arg4 harg4 arg7 x0 x1 x2 hr) (ix3 (0 : Fin 1) (0 : Fin 1) j))) ?_
  refine (top_at _ _ _ _ _ 0 j).trans (congrArg top (funext fun kk => ?_))
  exact (scoreAt_of arg3 (harg3.unread x1) arg4 (harg4.unread x2) _ _ _ 1536 _ _ 1 ⟨512 + 1 * j.val, by omega⟩ kk j (by show 1536 + j.val = 1024 * 1 + (512 + 1 * j.val); omega)).trans (congrArg (fun n => scoreAt arg3 (harg3.unread x1) arg4 (harg4.unread x2) n 1 ⟨512 + 1 * j.val, by omega⟩ kk) (off2_at i))

/-- The accumulators after 3 of the second chunk's strips. -/
theorem pro8_3 (hr : kernelRun0_A.sl.r_1 (F := Ideal) c i arg2 harg2 x0 = (0 : EReal)) :
    arg8.view.read (Elt Ideal) (arg8.view.writes (Elt Ideal) arg8.view.junk (kernelRun0_A.sl.HS1_4 (F := Ideal) c i arg2 harg2 arg3 harg3 arg4 harg4 arg5 harg5 arg7 arg8 x0 x1 x2 x3))
      = mix 1024 1792 (firstA i arg3 harg3 arg4 harg4 arg5 harg5 x1 x2 x3) (fun _ => 0) := by
  unfold kernelRun0_A.sl.HS1_4
  refine strip_step arg8.view _ _ _ 1 512 _ _ _ 1024 1536 1792 (by omega) rfl rfl (pro8_2 c i arg2 harg2 arg3 harg3 arg4 harg4 arg5 harg5 arg7 arg8 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay179, k0_pay180, k0_pay181, k0_pay182, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay206, k0_pay207, k0_pay208, k0_pay209, k0_pay210, k0_pay211, k0_pay212, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_16, kernelRun0_A.sl.r_17, kernelRun0_A.sl.r_18]
  refine (storeA_at _ _ _ _ _ _ _ _ _ _ 0 r j).trans ?_
  refine stepA_congr (zero_shift _ hr _) ((loadM_at _ _ j).trans (strip_load arg7.view (firstM i arg3 harg3 arg4 harg4 x1 x2) (fun _ => ⊥) 1 512 _ (kernelRun0_A.sl.HS0_3 (F := Ideal) c i arg2 harg2 arg3 harg3 arg4 harg4 arg7 x0 x1 x2) 1024 1536 rfl (pro7_2 c i arg2 harg2 arg3 harg3 arg4 harg4 arg7 x0 x1 x2 hr) (ix3 (0 : Fin 1) (0 : Fin 1) j))) ?_ ((loadA_at _ _ r j).trans (strip_load arg8.view (firstA i arg3 harg3 arg4 harg4 arg5 harg5 x1 x2 x3) (fun _ => 0) 1 512 _ (kernelRun0_A.sl.HS1_3 (F := Ideal) c i arg2 harg2 arg3 harg3 arg4 harg4 arg5 harg5 arg7 arg8 x0 x1 x2 x3) 1024 1536 rfl (pro8_2 c i arg2 harg2 arg3 harg3 arg4 harg4 arg5 harg5 arg7 arg8 x0 x1 x2 x3 hr) (ix3 (0 : Fin 1) r j))) (funext fun kk => ?_) (funext fun kk => (valAt_of arg5 (harg5.unread x3) _ _ _ _ _).trans ?_)
  · refine (top_at _ _ _ _ _ 0 j).trans (congrArg top (funext fun kk => ?_))
    exact (scoreAt_of arg3 (harg3.unread x1) arg4 (harg4.unread x2) _ _ _ 1536 _ _ 1 ⟨512 + 1 * j.val, by omega⟩ kk j (by show 1536 + j.val = 1024 * 1 + (512 + 1 * j.val); omega)).trans (congrArg (fun n => scoreAt arg3 (harg3.unread x1) arg4 (harg4.unread x2) n 1 ⟨512 + 1 * j.val, by omega⟩ kk) (off2_at i))
  · exact (scoreAt_of arg3 (harg3.unread x1) arg4 (harg4.unread x2) _ _ _ 1536 _ _ 1 ⟨512 + 1 * j.val, by omega⟩ kk j (by show 1536 + j.val = 1024 * 1 + (512 + 1 * j.val); omega)).trans (congrArg (fun n => scoreAt arg3 (harg3.unread x1) arg4 (harg4.unread x2) n 1 ⟨512 + 1 * j.val, by omega⟩ kk) (off2_at i))
  · exact congrArg₂ (fun n r' => valAt arg5 (harg5.unread x3) n r' kk) (off3_at i) (Fin.ext (by show r.val = 0 + 1 * r.val; omega))

/-- The maxima after 4 of the second chunk's strips. -/
theorem pro7_4 (hr : kernelRun0_A.sl.r_1 (F := Ideal) c i arg2 harg2 x0 = (0 : EReal)) :
    arg7.view.read (Elt Ideal) (arg7.view.writes (Elt Ideal) arg7.view.junk (kernelRun0_A.sl.HS0_5 (F := Ideal) c i arg2 harg2 arg3 harg3 arg4 harg4 arg7 x0 x1 x2))
      = mix 1024 2048 (firstM i arg3 harg3 arg4 harg4 x1 x2) (fun _ => ⊥) := by
  unfold kernelRun0_A.sl.HS0_5
  refine strip_step arg7.view _ _ _ 1 768 _ _ _ 1024 1792 2048 (by omega) rfl rfl (pro7_3 c i arg2 harg2 arg3 harg3 arg4 harg4 arg7 x0 x1 x2 hr) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay179, k0_pay180, k0_pay181, k0_pay182, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay206, k0_pay207, k0_pay208, k0_pay209, k0_pay210, k0_pay211, k0_pay212, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_16, kernelRun0_A.sl.r_17, kernelRun0_A.sl.r_18]
  refine (storeM_at _ _ _ _ 0 0 j).trans ?_
  refine stepM_congr (zero_shift _ hr _) ((loadM_at _ _ j).trans (strip_load arg7.view (firstM i arg3 harg3 arg4 harg4 x1 x2) (fun _ => ⊥) 1 768 _ (kernelRun0_A.sl.HS0_4 (F := Ideal) c i arg2 harg2 arg3 harg3 arg4 harg4 arg7 x0 x1 x2) 1024 1792 rfl (pro7_3 c i arg2 harg2 arg3 harg3 arg4 harg4 arg7 x0 x1 x2 hr) (ix3 (0 : Fin 1) (0 : Fin 1) j))) ?_
  refine (top_at _ _ _ _ _ 0 j).trans (congrArg top (funext fun kk => ?_))
  exact (scoreAt_of arg3 (harg3.unread x1) arg4 (harg4.unread x2) _ _ _ 1792 _ _ 1 ⟨768 + 1 * j.val, by omega⟩ kk j (by show 1792 + j.val = 1024 * 1 + (768 + 1 * j.val); omega)).trans (congrArg (fun n => scoreAt arg3 (harg3.unread x1) arg4 (harg4.unread x2) n 1 ⟨768 + 1 * j.val, by omega⟩ kk) (off2_at i))

/-- The accumulators after 4 of the second chunk's strips. -/
theorem pro8_4 (hr : kernelRun0_A.sl.r_1 (F := Ideal) c i arg2 harg2 x0 = (0 : EReal)) :
    arg8.view.read (Elt Ideal) (arg8.view.writes (Elt Ideal) arg8.view.junk (kernelRun0_A.sl.HS1_5 (F := Ideal) c i arg2 harg2 arg3 harg3 arg4 harg4 arg5 harg5 arg7 arg8 x0 x1 x2 x3))
      = mix 1024 2048 (firstA i arg3 harg3 arg4 harg4 arg5 harg5 x1 x2 x3) (fun _ => 0) := by
  unfold kernelRun0_A.sl.HS1_5
  refine strip_step arg8.view _ _ _ 1 768 _ _ _ 1024 1792 2048 (by omega) rfl rfl (pro8_3 c i arg2 harg2 arg3 harg3 arg4 harg4 arg5 harg5 arg7 arg8 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay179, k0_pay180, k0_pay181, k0_pay182, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay206, k0_pay207, k0_pay208, k0_pay209, k0_pay210, k0_pay211, k0_pay212, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_16, kernelRun0_A.sl.r_17, kernelRun0_A.sl.r_18]
  refine (storeA_at _ _ _ _ _ _ _ _ _ _ 0 r j).trans ?_
  refine stepA_congr (zero_shift _ hr _) ((loadM_at _ _ j).trans (strip_load arg7.view (firstM i arg3 harg3 arg4 harg4 x1 x2) (fun _ => ⊥) 1 768 _ (kernelRun0_A.sl.HS0_4 (F := Ideal) c i arg2 harg2 arg3 harg3 arg4 harg4 arg7 x0 x1 x2) 1024 1792 rfl (pro7_3 c i arg2 harg2 arg3 harg3 arg4 harg4 arg7 x0 x1 x2 hr) (ix3 (0 : Fin 1) (0 : Fin 1) j))) ?_ ((loadA_at _ _ r j).trans (strip_load arg8.view (firstA i arg3 harg3 arg4 harg4 arg5 harg5 x1 x2 x3) (fun _ => 0) 1 768 _ (kernelRun0_A.sl.HS1_4 (F := Ideal) c i arg2 harg2 arg3 harg3 arg4 harg4 arg5 harg5 arg7 arg8 x0 x1 x2 x3) 1024 1792 rfl (pro8_3 c i arg2 harg2 arg3 harg3 arg4 harg4 arg5 harg5 arg7 arg8 x0 x1 x2 x3 hr) (ix3 (0 : Fin 1) r j))) (funext fun kk => ?_) (funext fun kk => (valAt_of arg5 (harg5.unread x3) _ _ _ _ _).trans ?_)
  · refine (top_at _ _ _ _ _ 0 j).trans (congrArg top (funext fun kk => ?_))
    exact (scoreAt_of arg3 (harg3.unread x1) arg4 (harg4.unread x2) _ _ _ 1792 _ _ 1 ⟨768 + 1 * j.val, by omega⟩ kk j (by show 1792 + j.val = 1024 * 1 + (768 + 1 * j.val); omega)).trans (congrArg (fun n => scoreAt arg3 (harg3.unread x1) arg4 (harg4.unread x2) n 1 ⟨768 + 1 * j.val, by omega⟩ kk) (off2_at i))
  · exact (scoreAt_of arg3 (harg3.unread x1) arg4 (harg4.unread x2) _ _ _ 1792 _ _ 1 ⟨768 + 1 * j.val, by omega⟩ kk j (by show 1792 + j.val = 1024 * 1 + (768 + 1 * j.val); omega)).trans (congrArg (fun n => scoreAt arg3 (harg3.unread x1) arg4 (harg4.unread x2) n 1 ⟨768 + 1 * j.val, by omega⟩ kk) (off2_at i))
  · exact congrArg₂ (fun n r' => valAt arg5 (harg5.unread x3) n r' kk) (off3_at i) (Fin.ext (by show r.val = 0 + 1 * r.val; omega))

end

end Cert.KernelIdeal.Attn

end
-- ==== Proof.Epilogue.lean ====
/- AFTER THE LOOP: what the loops leave in the four scratch arrays, and the last held tile folded in, strip by strip. -/
module

public import proofs.«01_k».proof.Proof.Strips
import all proofs.«01_k».proof.Proof.Gen.KernelIdeal.Loops
import all proofs.«01_k».proof.Proof.Gen.KernelIdeal.Frame.RunA

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

section
variable (c : Dev nD) (i : grid0.Coords) (arg2 : Memref sig .tc .smem S8 .f32) (harg2 : arg2.IsWhole) (arg3 : Memref sig .tc .vmem S1x2048x256 .bf16) (harg3 : arg3.IsWhole) (arg4 : Memref sig .tc .vmem S1x16x1024x256 .bf16) (harg4 : arg4.IsWhole) (arg5 : Memref sig .tc .vmem S1x16x136x1024 .bf16) (harg5 : arg5.IsWhole) (arg6 : Memref sig .tc .vmem S2048x128 .bf16) (harg6 : arg6.IsWhole) (arg7 : Memref sig .tc .vmem S2x1x1024 .f32) (harg7 : arg7.IsWhole) (arg8 : Memref sig .tc .vmem S2x136x1024 .f32) (harg8 : arg8.IsWhole) (arg9 : Memref sig .tc .vmem S2x1024x1024 .f32) (harg9 : arg9.IsWhole) (arg10 : Memref sig .tc .vmem S2x1x1024 .f32) (harg10 : arg10.IsWhole)
  (x0 : Vec Ideal S8 .f32) (x1 : Vec Ideal S1x2048x256 .bf16) (x2 : Vec Ideal S1x16x1024x256 .bf16) (x3 : Vec Ideal S1x16x136x1024 .bf16)

/-- The maxima when the loop begins. -/
def beginM : S2x1x1024.Idx → EReal := mix 1024 2048 (firstM i arg3 harg3 arg4 harg4 x1 x2) (fun _ => ⊥)

/-- The accumulators when the loop begins. -/
def beginA : S2x136x1024.Idx → EReal := mix 1024 2048 (firstA i arg3 harg3 arg4 harg4 arg5 harg5 x1 x2 x3) (fun _ => 0)

/-- The tiles of scores in the order they are folded in after that. -/
def foldS : ℕ → Fin 2 → Fin 1024 → Fin 1024 → EReal :=
  tileS (diagAt (scoreAt arg3 (harg3.unread x1) arg4 (harg4.unread x2)) (2 * blk i)) (scoreAt arg3 (harg3.unread x1) arg4 (harg4.unread x2))

/-- Their tiles of values. -/
def foldV : ℕ → Fin 2 → Fin 136 → Fin 1024 → EReal := fun n c => valAt arg5 (harg5.unread x3) (heldTile (blk i) n c)

/-- The maxima after `n` of them. -/
def theM (n : ℕ) : S2x1x1024.Idx → EReal := maxS (beginM i arg3 harg3 arg4 harg4 x1 x2) (foldS i arg3 harg3 arg4 harg4 x1 x2) n

/-- The accumulators after `n` of them. -/
def theA (n : ℕ) : S2x136x1024.Idx → EReal :=
  accS (beginM i arg3 harg3 arg4 harg4 x1 x2) (beginA i arg3 harg3 arg4 harg4 arg5 harg5 x1 x2 x3) (foldS i arg3 harg3 arg4 harg4 x1 x2)
    (foldV i arg5 harg5 x3) n

section
variable (v0 : BitVec 32) (v332 v332' : FVec Ideal S1024x256 .f32) (v333 v333' v334 v334' v335 v335' : IVec S1024x256 32) (v0' : BitVec 32) (v3 v3' : Ideal .f32) (w : BitVec 32)
  (g7 : BufTy.Contents (Elt Ideal) arg7.view.ty) (g8 : BufTy.Contents (Elt Ideal) arg8.view.ty) (g9 : BufTy.Contents (Elt Ideal) arg9.view.ty) (g10 : BufTy.Contents (Elt Ideal) arg10.view.ty)

theorem after7 (hv3 : v3 = (0 : EReal)) (hr : kernelRun0_A.sl.r_1 (F := Ideal) c i arg2 harg2 x0 = (0 : EReal)) :
    arg7.view.read (Elt Ideal) (arg7.view.writes (Elt Ideal) arg7.view.junk ((pb_k0_t2 (F := Ideal) Variants.none c none i arg2 harg2 arg3 harg3 arg4 harg4 arg5 harg5 arg6 harg6 arg7 harg7 arg8 harg8 arg9 harg9 arg10 harg10 v0' v3' v332' v333' v334' v335' w (harg3.unread x1) (harg4.unread x2) (harg5.unread x3) g7 g8 g9 g10 (Scf.trips (k0_t2_loop i).lb (k0_t2_loop i).ub (k0_t2_loop i).st)).1 ++ ((pb_k0_t1 (F := Ideal) Variants.none c none i arg2 harg2 arg3 harg3 arg4 harg4 arg5 harg5 arg6 harg6 arg7 harg7 arg8 harg8 arg9 harg9 arg10 harg10 v0 v3 v332 v333 v334 v335 (harg3.unread x1) (harg4.unread x2) (harg5.unread x3) (arg7.view.writes (Elt Ideal) arg7.view.junk (kernelRun0_A.sl.HS0_5 (F := Ideal) c i arg2 harg2 arg3 harg3 arg4 harg4 arg7 x0 x1 x2)) (arg8.view.writes (Elt Ideal) arg8.view.junk (kernelRun0_A.sl.HS1_5 (F := Ideal) c i arg2 harg2 arg3 harg3 arg4 harg4 arg5 harg5 arg7 arg8 x0 x1 x2 x3)) (arg9.view.writes (Elt Ideal) arg9.view.junk (kernelRun0_A.sl.HS2_8 (F := Ideal) c i arg3 harg3 arg4 harg4 x1 x2)) (arg10.view.writes (Elt Ideal) arg10.view.junk (kernelRun0_A.sl.HS3_8 (F := Ideal) c i arg3 harg3 arg4 harg4 x1 x2)) (Scf.trips (k0_t1_loop i).lb (k0_t1_loop i).ub (k0_t1_loop i).st)).1 ++ kernelRun0_A.sl.HS0_5 (F := Ideal) c i arg2 harg2 arg3 harg3 arg4 harg4 arg7 x0 x1 x2)))
      = theM i arg3 harg3 arg4 harg4 x1 x2 (2 * blk i) := by
  have e2 : pb_k0_t2 (F := Ideal) Variants.none c none i arg2 harg2 arg3 harg3 arg4 harg4 arg5 harg5 arg6 harg6 arg7 harg7 arg8 harg8 arg9 harg9 arg10 harg10 v0' v3' v332' v333' v334' v335' w (harg3.unread x1) (harg4.unread x2) (harg5.unread x3) g7 g8 g9 g10 (Scf.trips (k0_t2_loop i).lb (k0_t2_loop i).ub (k0_t2_loop i).st) = ([], [], [], []) := by
    rw [show Scf.trips (k0_t2_loop i).lb (k0_t2_loop i).ub (k0_t2_loop i).st = 0 from trips2 i]
    rfl
  have h := loop_at Variants.none c none i arg2 harg2 arg3 harg3 arg4 harg4 arg5 harg5 arg6 harg6 arg7 harg7 arg8 harg8 arg9 harg9 arg10 harg10 v0 v3 v332 v333 v334 v335 (harg3.unread x1) (harg4.unread x2) (harg5.unread x3) (arg7.view.writes (Elt Ideal) arg7.view.junk (kernelRun0_A.sl.HS0_5 (F := Ideal) c i arg2 harg2 arg3 harg3 arg4 harg4 arg7 x0 x1 x2)) (arg8.view.writes (Elt Ideal) arg8.view.junk (kernelRun0_A.sl.HS1_5 (F := Ideal) c i arg2 harg2 arg3 harg3 arg4 harg4 arg5 harg5 arg7 arg8 x0 x1 x2 x3)) (arg9.view.writes (Elt Ideal) arg9.view.junk (kernelRun0_A.sl.HS2_8 (F := Ideal) c i arg3 harg3 arg4 harg4 x1 x2)) (arg10.view.writes (Elt Ideal) arg10.view.junk (kernelRun0_A.sl.HS3_8 (F := Ideal) c i arg3 harg3 arg4 harg4 x1 x2)) hv3
    _ (pro9 c i arg3 harg3 arg4 harg4 arg9 x1 x2) (pro10 c i arg3 harg3 arg4 harg4 arg10 x1 x2) (Scf.trips (k0_t1_loop i).lb (k0_t1_loop i).ub (k0_t1_loop i).st) le_rfl
  rw [e2, List.nil_append, View.writes_append]
  refine (h.1).trans ?_
  rw [show Scf.trips (k0_t1_loop i).lb (k0_t1_loop i).ub (k0_t1_loop i).st = 2 * blk i from trips1 i]
  rw [pro7_4 c i arg2 harg2 arg3 harg3 arg4 harg4 arg7 x0 x1 x2 hr]
  rfl

theorem after8 (hv3 : v3 = (0 : EReal)) (hr : kernelRun0_A.sl.r_1 (F := Ideal) c i arg2 harg2 x0 = (0 : EReal)) :
    arg8.view.read (Elt Ideal) (arg8.view.writes (Elt Ideal) arg8.view.junk ((pb_k0_t2 (F := Ideal) Variants.none c none i arg2 harg2 arg3 harg3 arg4 harg4 arg5 harg5 arg6 harg6 arg7 harg7 arg8 harg8 arg9 harg9 arg10 harg10 v0' v3' v332' v333' v334' v335' w (harg3.unread x1) (harg4.unread x2) (harg5.unread x3) g7 g8 g9 g10 (Scf.trips (k0_t2_loop i).lb (k0_t2_loop i).ub (k0_t2_loop i).st)).2.1 ++ ((pb_k0_t1 (F := Ideal) Variants.none c none i arg2 harg2 arg3 harg3 arg4 harg4 arg5 harg5 arg6 harg6 arg7 harg7 arg8 harg8 arg9 harg9 arg10 harg10 v0 v3 v332 v333 v334 v335 (harg3.unread x1) (harg4.unread x2) (harg5.unread x3) (arg7.view.writes (Elt Ideal) arg7.view.junk (kernelRun0_A.sl.HS0_5 (F := Ideal) c i arg2 harg2 arg3 harg3 arg4 harg4 arg7 x0 x1 x2)) (arg8.view.writes (Elt Ideal) arg8.view.junk (kernelRun0_A.sl.HS1_5 (F := Ideal) c i arg2 harg2 arg3 harg3 arg4 harg4 arg5 harg5 arg7 arg8 x0 x1 x2 x3)) (arg9.view.writes (Elt Ideal) arg9.view.junk (kernelRun0_A.sl.HS2_8 (F := Ideal) c i arg3 harg3 arg4 harg4 x1 x2)) (arg10.view.writes (Elt Ideal) arg10.view.junk (kernelRun0_A.sl.HS3_8 (F := Ideal) c i arg3 harg3 arg4 harg4 x1 x2)) (Scf.trips (k0_t1_loop i).lb (k0_t1_loop i).ub (k0_t1_loop i).st)).2.1 ++ kernelRun0_A.sl.HS1_5 (F := Ideal) c i arg2 harg2 arg3 harg3 arg4 harg4 arg5 harg5 arg7 arg8 x0 x1 x2 x3)))
      = theA i arg3 harg3 arg4 harg4 arg5 harg5 x1 x2 x3 (2 * blk i) := by
  have e2 : pb_k0_t2 (F := Ideal) Variants.none c none i arg2 harg2 arg3 harg3 arg4 harg4 arg5 harg5 arg6 harg6 arg7 harg7 arg8 harg8 arg9 harg9 arg10 harg10 v0' v3' v332' v333' v334' v335' w (harg3.unread x1) (harg4.unread x2) (harg5.unread x3) g7 g8 g9 g10 (Scf.trips (k0_t2_loop i).lb (k0_t2_loop i).ub (k0_t2_loop i).st) = ([], [], [], []) := by
    rw [show Scf.trips (k0_t2_loop i).lb (k0_t2_loop i).ub (k0_t2_loop i).st = 0 from trips2 i]
    rfl
  have h := loop_at Variants.none c none i arg2 harg2 arg3 harg3 arg4 harg4 arg5 harg5 arg6 harg6 arg7 harg7 arg8 harg8 arg9 harg9 arg10 harg10 v0 v3 v332 v333 v334 v335 (harg3.unread x1) (harg4.unread x2) (harg5.unread x3) (arg7.view.writes (Elt Ideal) arg7.view.junk (kernelRun0_A.sl.HS0_5 (F := Ideal) c i arg2 harg2 arg3 harg3 arg4 harg4 arg7 x0 x1 x2)) (arg8.view.writes (Elt Ideal) arg8.view.junk (kernelRun0_A.sl.HS1_5 (F := Ideal) c i arg2 harg2 arg3 harg3 arg4 harg4 arg5 harg5 arg7 arg8 x0 x1 x2 x3)) (arg9.view.writes (Elt Ideal) arg9.view.junk (kernelRun0_A.sl.HS2_8 (F := Ideal) c i arg3 harg3 arg4 harg4 x1 x2)) (arg10.view.writes (Elt Ideal) arg10.view.junk (kernelRun0_A.sl.HS3_8 (F := Ideal) c i arg3 harg3 arg4 harg4 x1 x2)) hv3
    _ (pro9 c i arg3 harg3 arg4 harg4 arg9 x1 x2) (pro10 c i arg3 harg3 arg4 harg4 arg10 x1 x2) (Scf.trips (k0_t1_loop i).lb (k0_t1_loop i).ub (k0_t1_loop i).st) le_rfl
  rw [e2, List.nil_append, View.writes_append]
  refine (h.2.1).trans ?_
  rw [show Scf.trips (k0_t1_loop i).lb (k0_t1_loop i).ub (k0_t1_loop i).st = 2 * blk i from trips1 i]
  rw [pro7_4 c i arg2 harg2 arg3 harg3 arg4 harg4 arg7 x0 x1 x2 hr, pro8_4 c i arg2 harg2 arg3 harg3 arg4 harg4 arg5 harg5 arg7 arg8 x0 x1 x2 x3 hr]
  rfl

theorem after9 (hv3 : v3 = (0 : EReal)) (hr : kernelRun0_A.sl.r_1 (F := Ideal) c i arg2 harg2 x0 = (0 : EReal)) :
    arg9.view.read (Elt Ideal) (arg9.view.writes (Elt Ideal) arg9.view.junk ((pb_k0_t2 (F := Ideal) Variants.none c none i arg2 harg2 arg3 harg3 arg4 harg4 arg5 harg5 arg6 harg6 arg7 harg7 arg8 harg8 arg9 harg9 arg10 harg10 v0' v3' v332' v333' v334' v335' w (harg3.unread x1) (harg4.unread x2) (harg5.unread x3) g7 g8 g9 g10 (Scf.trips (k0_t2_loop i).lb (k0_t2_loop i).ub (k0_t2_loop i).st)).2.2.1 ++ ((pb_k0_t1 (F := Ideal) Variants.none c none i arg2 harg2 arg3 harg3 arg4 harg4 arg5 harg5 arg6 harg6 arg7 harg7 arg8 harg8 arg9 harg9 arg10 harg10 v0 v3 v332 v333 v334 v335 (harg3.unread x1) (harg4.unread x2) (harg5.unread x3) (arg7.view.writes (Elt Ideal) arg7.view.junk (kernelRun0_A.sl.HS0_5 (F := Ideal) c i arg2 harg2 arg3 harg3 arg4 harg4 arg7 x0 x1 x2)) (arg8.view.writes (Elt Ideal) arg8.view.junk (kernelRun0_A.sl.HS1_5 (F := Ideal) c i arg2 harg2 arg3 harg3 arg4 harg4 arg5 harg5 arg7 arg8 x0 x1 x2 x3)) (arg9.view.writes (Elt Ideal) arg9.view.junk (kernelRun0_A.sl.HS2_8 (F := Ideal) c i arg3 harg3 arg4 harg4 x1 x2)) (arg10.view.writes (Elt Ideal) arg10.view.junk (kernelRun0_A.sl.HS3_8 (F := Ideal) c i arg3 harg3 arg4 harg4 x1 x2)) (Scf.trips (k0_t1_loop i).lb (k0_t1_loop i).ub (k0_t1_loop i).st)).2.2.1 ++ kernelRun0_A.sl.HS2_8 (F := Ideal) c i arg3 harg3 arg4 harg4 x1 x2)))
      = heldS (foldS i arg3 harg3 arg4 harg4 x1 x2 (2 * blk i)) := by
  have e2 : pb_k0_t2 (F := Ideal) Variants.none c none i arg2 harg2 arg3 harg3 arg4 harg4 arg5 harg5 arg6 harg6 arg7 harg7 arg8 harg8 arg9 harg9 arg10 harg10 v0' v3' v332' v333' v334' v335' w (harg3.unread x1) (harg4.unread x2) (harg5.unread x3) g7 g8 g9 g10 (Scf.trips (k0_t2_loop i).lb (k0_t2_loop i).ub (k0_t2_loop i).st) = ([], [], [], []) := by
    rw [show Scf.trips (k0_t2_loop i).lb (k0_t2_loop i).ub (k0_t2_loop i).st = 0 from trips2 i]
    rfl
  have h := loop_at Variants.none c none i arg2 harg2 arg3 harg3 arg4 harg4 arg5 harg5 arg6 harg6 arg7 harg7 arg8 harg8 arg9 harg9 arg10 harg10 v0 v3 v332 v333 v334 v335 (harg3.unread x1) (harg4.unread x2) (harg5.unread x3) (arg7.view.writes (Elt Ideal) arg7.view.junk (kernelRun0_A.sl.HS0_5 (F := Ideal) c i arg2 harg2 arg3 harg3 arg4 harg4 arg7 x0 x1 x2)) (arg8.view.writes (Elt Ideal) arg8.view.junk (kernelRun0_A.sl.HS1_5 (F := Ideal) c i arg2 harg2 arg3 harg3 arg4 harg4 arg5 harg5 arg7 arg8 x0 x1 x2 x3)) (arg9.view.writes (Elt Ideal) arg9.view.junk (kernelRun0_A.sl.HS2_8 (F := Ideal) c i arg3 harg3 arg4 harg4 x1 x2)) (arg10.view.writes (Elt Ideal) arg10.view.junk (kernelRun0_A.sl.HS3_8 (F := Ideal) c i arg3 harg3 arg4 harg4 x1 x2)) hv3
    _ (pro9 c i arg3 harg3 arg4 harg4 arg9 x1 x2) (pro10 c i arg3 harg3 arg4 harg4 arg10 x1 x2) (Scf.trips (k0_t1_loop i).lb (k0_t1_loop i).ub (k0_t1_loop i).st) le_rfl
  rw [e2, List.nil_append, View.writes_append]
  refine (h.2.2.1).trans ?_
  rw [show Scf.trips (k0_t1_loop i).lb (k0_t1_loop i).ub (k0_t1_loop i).st = 2 * blk i from trips1 i]
  rfl

theorem after10 (hv3 : v3 = (0 : EReal)) (hr : kernelRun0_A.sl.r_1 (F := Ideal) c i arg2 harg2 x0 = (0 : EReal)) :
    arg10.view.read (Elt Ideal) (arg10.view.writes (Elt Ideal) arg10.view.junk ((pb_k0_t2 (F := Ideal) Variants.none c none i arg2 harg2 arg3 harg3 arg4 harg4 arg5 harg5 arg6 harg6 arg7 harg7 arg8 harg8 arg9 harg9 arg10 harg10 v0' v3' v332' v333' v334' v335' w (harg3.unread x1) (harg4.unread x2) (harg5.unread x3) g7 g8 g9 g10 (Scf.trips (k0_t2_loop i).lb (k0_t2_loop i).ub (k0_t2_loop i).st)).2.2.2 ++ ((pb_k0_t1 (F := Ideal) Variants.none c none i arg2 harg2 arg3 harg3 arg4 harg4 arg5 harg5 arg6 harg6 arg7 harg7 arg8 harg8 arg9 harg9 arg10 harg10 v0 v3 v332 v333 v334 v335 (harg3.unread x1) (harg4.unread x2) (harg5.unread x3) (arg7.view.writes (Elt Ideal) arg7.view.junk (kernelRun0_A.sl.HS0_5 (F := Ideal) c i arg2 harg2 arg3 harg3 arg4 harg4 arg7 x0 x1 x2)) (arg8.view.writes (Elt Ideal) arg8.view.junk (kernelRun0_A.sl.HS1_5 (F := Ideal) c i arg2 harg2 arg3 harg3 arg4 harg4 arg5 harg5 arg7 arg8 x0 x1 x2 x3)) (arg9.view.writes (Elt Ideal) arg9.view.junk (kernelRun0_A.sl.HS2_8 (F := Ideal) c i arg3 harg3 arg4 harg4 x1 x2)) (arg10.view.writes (Elt Ideal) arg10.view.junk (kernelRun0_A.sl.HS3_8 (F := Ideal) c i arg3 harg3 arg4 harg4 x1 x2)) (Scf.trips (k0_t1_loop i).lb (k0_t1_loop i).ub (k0_t1_loop i).st)).2.2.2 ++ kernelRun0_A.sl.HS3_8 (F := Ideal) c i arg3 harg3 arg4 harg4 x1 x2)))
      = heldC (foldS i arg3 harg3 arg4 harg4 x1 x2 (2 * blk i)) := by
  have e2 : pb_k0_t2 (F := Ideal) Variants.none c none i arg2 harg2 arg3 harg3 arg4 harg4 arg5 harg5 arg6 harg6 arg7 harg7 arg8 harg8 arg9 harg9 arg10 harg10 v0' v3' v332' v333' v334' v335' w (harg3.unread x1) (harg4.unread x2) (harg5.unread x3) g7 g8 g9 g10 (Scf.trips (k0_t2_loop i).lb (k0_t2_loop i).ub (k0_t2_loop i).st) = ([], [], [], []) := by
    rw [show Scf.trips (k0_t2_loop i).lb (k0_t2_loop i).ub (k0_t2_loop i).st = 0 from trips2 i]
    rfl
  have h := loop_at Variants.none c none i arg2 harg2 arg3 harg3 arg4 harg4 arg5 harg5 arg6 harg6 arg7 harg7 arg8 harg8 arg9 harg9 arg10 harg10 v0 v3 v332 v333 v334 v335 (harg3.unread x1) (harg4.unread x2) (harg5.unread x3) (arg7.view.writes (Elt Ideal) arg7.view.junk (kernelRun0_A.sl.HS0_5 (F := Ideal) c i arg2 harg2 arg3 harg3 arg4 harg4 arg7 x0 x1 x2)) (arg8.view.writes (Elt Ideal) arg8.view.junk (kernelRun0_A.sl.HS1_5 (F := Ideal) c i arg2 harg2 arg3 harg3 arg4 harg4 arg5 harg5 arg7 arg8 x0 x1 x2 x3)) (arg9.view.writes (Elt Ideal) arg9.view.junk (kernelRun0_A.sl.HS2_8 (F := Ideal) c i arg3 harg3 arg4 harg4 x1 x2)) (arg10.view.writes (Elt Ideal) arg10.view.junk (kernelRun0_A.sl.HS3_8 (F := Ideal) c i arg3 harg3 arg4 harg4 x1 x2)) hv3
    _ (pro9 c i arg3 harg3 arg4 harg4 arg9 x1 x2) (pro10 c i arg3 harg3 arg4 harg4 arg10 x1 x2) (Scf.trips (k0_t1_loop i).lb (k0_t1_loop i).ub (k0_t1_loop i).st) le_rfl
  rw [e2, List.nil_append, View.writes_append]
  refine (h.2.2.2).trans ?_
  rw [show Scf.trips (k0_t1_loop i).lb (k0_t1_loop i).ub (k0_t1_loop i).st = 2 * blk i from trips1 i]
  rfl

end

theorem epi7_1 (hr : kernelRun0_A.sl.r_1 (F := Ideal) c i arg2 harg2 x0 = (0 : EReal)) :
    arg7.view.read (Elt Ideal) (arg7.view.writes (Elt Ideal) arg7.view.junk (kernelRun0_A.sl.HS0_1_1 (F := Ideal) c i arg2 harg2 arg3 harg3 arg4 harg4 arg5 harg5 arg6 harg6 arg7 harg7 arg8 harg8 arg9 harg9 arg10 harg10 x0 x1 x2 x3))
      = mix 0 256 (theM i arg3 harg3 arg4 harg4 x1 x2 (2 * blk i + 1)) (theM i arg3 harg3 arg4 harg4 x1 x2 (2 * blk i)) := by
  unfold kernelRun0_A.sl.HS0_1_1
  refine strip_step arg7.view _ _ _ 0 0 _ _ _ 0 0 256 (by omega) rfl rfl ((after7 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 0 (theM i arg3 harg3 arg4 harg4 x1 x2 (2 * blk i + 1)) _).symm) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeM_at _ _ _ _ 0 0 j).trans ?_
  exact stepM_congr (zero_shift _ hr _) ((loadM_at _ _ j).trans (strip_load arg7.view (theM i arg3 harg3 arg4 harg4 x1 x2 (2 * blk i + 1)) (theM i arg3 harg3 arg4 harg4 x1 x2 (2 * blk i)) 0 0 _ _ 0 0 rfl ((after7 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 0 (theM i arg3 harg3 arg4 harg4 x1 x2 (2 * blk i + 1)) _).symm) (ix3 (0 : Fin 1) (0 : Fin 1) j))) ((loadM_at _ _ j).trans (strip_load arg10.view (heldC (foldS i arg3 harg3 arg4 harg4 x1 x2 (2 * blk i))) (heldC (foldS i arg3 harg3 arg4 harg4 x1 x2 (2 * blk i))) 0 0 _ _ 0 0 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 0 _ _).symm) (ix3 (0 : Fin 1) (0 : Fin 1) j)))

theorem epi8_1 (hr : kernelRun0_A.sl.r_1 (F := Ideal) c i arg2 harg2 x0 = (0 : EReal)) :
    arg8.view.read (Elt Ideal) (arg8.view.writes (Elt Ideal) arg8.view.junk (kernelRun0_A.sl.HS1_1_1 (F := Ideal) c i arg2 harg2 arg3 harg3 arg4 harg4 arg5 harg5 arg6 harg6 arg7 harg7 arg8 harg8 arg9 harg9 arg10 harg10 x0 x1 x2 x3))
      = mix 0 256 (theA i arg3 harg3 arg4 harg4 arg5 harg5 x1 x2 x3 (2 * blk i + 1)) (theA i arg3 harg3 arg4 harg4 arg5 harg5 x1 x2 x3 (2 * blk i)) := by
  unfold kernelRun0_A.sl.HS1_1_1
  refine strip_step arg8.view _ _ _ 0 0 _ _ _ 0 0 256 (by omega) rfl rfl ((after8 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 0 (theA i arg3 harg3 arg4 harg4 arg5 harg5 x1 x2 x3 (2 * blk i + 1)) _).symm) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeA_at _ _ _ _ _ _ _ _ _ _ 0 r j).trans ?_
  refine stepA_congr (zero_shift _ hr _) (((loadM_at _ _ j).trans (strip_load arg7.view (theM i arg3 harg3 arg4 harg4 x1 x2 (2 * blk i + 1)) (theM i arg3 harg3 arg4 harg4 x1 x2 (2 * blk i)) 0 0 _ _ 0 0 rfl ((after7 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 0 (theM i arg3 harg3 arg4 harg4 x1 x2 (2 * blk i + 1)) _).symm) (ix3 (0 : Fin 1) (0 : Fin 1) j))).trans (congrArg (theM i arg3 harg3 arg4 harg4 x1 x2 (2 * blk i)) (funext fun a => Fin.ext (match a with | ⟨0, _⟩ => rfl | ⟨1, _⟩ => rfl | ⟨2, _⟩ => rfl)))) ((loadM_at _ _ j).trans (strip_load arg10.view (heldC (foldS i arg3 harg3 arg4 harg4 x1 x2 (2 * blk i))) (heldC (foldS i arg3 harg3 arg4 harg4 x1 x2 (2 * blk i))) 0 0 _ _ 0 0 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 0 _ _).symm) (ix3 (0 : Fin 1) (0 : Fin 1) j))) ((loadA_at _ _ r j).trans (strip_load arg8.view (theA i arg3 harg3 arg4 harg4 arg5 harg5 x1 x2 x3 (2 * blk i + 1)) (theA i arg3 harg3 arg4 harg4 arg5 harg5 x1 x2 x3 (2 * blk i)) 0 0 _ _ 0 0 rfl ((after8 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 0 (theA i arg3 harg3 arg4 harg4 arg5 harg5 x1 x2 x3 (2 * blk i + 1)) _).symm) (ix3 (0 : Fin 1) r j))) (funext fun kk => (loadS_at _ _ kk j).trans ((strip_load arg9.view (heldS (foldS i arg3 harg3 arg4 harg4 x1 x2 (2 * blk i))) (heldS (foldS i arg3 harg3 arg4 harg4 x1 x2 (2 * blk i))) 0 0 _ _ 0 0 rfl ((after9 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 0 _ _).symm) (ix3 (0 : Fin 1) kk j)).trans (congrArg (foldS i arg3 harg3 arg4 harg4 x1 x2 (2 * blk i) 0 ⟨0 + 1 * j.val, by omega⟩) (Fin.ext (by show 0 + 1 * kk.val = kk.val; omega))))) (funext fun kk => (valAt_of arg5 (harg5.unread x3) _ _ _ _ _).trans ?_)
  exact congrArg₂ (fun n r' => valAt arg5 (harg5.unread x3) n r' kk) (off9_at i 0) (Fin.ext (by show r.val = 0 + 1 * r.val; omega))

theorem epi7_2 (hr : kernelRun0_A.sl.r_1 (F := Ideal) c i arg2 harg2 x0 = (0 : EReal)) :
    arg7.view.read (Elt Ideal) (arg7.view.writes (Elt Ideal) arg7.view.junk (kernelRun0_A.sl.HS0_2_1 (F := Ideal) c i arg2 harg2 arg3 harg3 arg4 harg4 arg5 harg5 arg6 harg6 arg7 harg7 arg8 harg8 arg9 harg9 arg10 harg10 x0 x1 x2 x3))
      = mix 0 512 (theM i arg3 harg3 arg4 harg4 x1 x2 (2 * blk i + 1)) (theM i arg3 harg3 arg4 harg4 x1 x2 (2 * blk i)) := by
  unfold kernelRun0_A.sl.HS0_2_1
  refine strip_step arg7.view _ _ _ 0 256 _ _ _ 0 256 512 (by omega) rfl rfl (epi7_1 c i arg2 harg2 arg3 harg3 arg4 harg4 arg5 harg5 arg6 harg6 arg7 harg7 arg8 harg8 arg9 harg9 arg10 harg10 x0 x1 x2 x3 hr) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeM_at _ _ _ _ 0 0 j).trans ?_
  exact stepM_congr (zero_shift _ hr _) ((loadM_at _ _ j).trans (strip_load arg7.view (theM i arg3 harg3 arg4 harg4 x1 x2 (2 * blk i + 1)) (theM i arg3 harg3 arg4 harg4 x1 x2 (2 * blk i)) 0 256 _ _ 0 256 rfl (epi7_1 c i arg2 harg2 arg3 harg3 arg4 harg4 arg5 harg5 arg6 harg6 arg7 harg7 arg8 harg8 arg9 harg9 arg10 harg10 x0 x1 x2 x3 hr) (ix3 (0 : Fin 1) (0 : Fin 1) j))) ((loadM_at _ _ j).trans (strip_load arg10.view (heldC (foldS i arg3 harg3 arg4 harg4 x1 x2 (2 * blk i))) (heldC (foldS i arg3 harg3 arg4 harg4 x1 x2 (2 * blk i))) 0 256 _ _ 256 256 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 256 _ _).symm) (ix3 (0 : Fin 1) (0 : Fin 1) j)))

theorem epi8_2 (hr : kernelRun0_A.sl.r_1 (F := Ideal) c i arg2 harg2 x0 = (0 : EReal)) :
    arg8.view.read (Elt Ideal) (arg8.view.writes (Elt Ideal) arg8.view.junk (kernelRun0_A.sl.HS1_2_1 (F := Ideal) c i arg2 harg2 arg3 harg3 arg4 harg4 arg5 harg5 arg6 harg6 arg7 harg7 arg8 harg8 arg9 harg9 arg10 harg10 x0 x1 x2 x3))
      = mix 0 512 (theA i arg3 harg3 arg4 harg4 arg5 harg5 x1 x2 x3 (2 * blk i + 1)) (theA i arg3 harg3 arg4 harg4 arg5 harg5 x1 x2 x3 (2 * blk i)) := by
  unfold kernelRun0_A.sl.HS1_2_1
  refine strip_step arg8.view _ _ _ 0 256 _ _ _ 0 256 512 (by omega) rfl rfl (epi8_1 c i arg2 harg2 arg3 harg3 arg4 harg4 arg5 harg5 arg6 harg6 arg7 harg7 arg8 harg8 arg9 harg9 arg10 harg10 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeA_at _ _ _ _ _ _ _ _ _ _ 0 r j).trans ?_
  refine stepA_congr (zero_shift _ hr _) (((loadM_at _ _ j).trans (strip_load arg7.view (theM i arg3 harg3 arg4 harg4 x1 x2 (2 * blk i + 1)) (theM i arg3 harg3 arg4 harg4 x1 x2 (2 * blk i)) 0 256 _ _ 0 256 rfl (epi7_1 c i arg2 harg2 arg3 harg3 arg4 harg4 arg5 harg5 arg6 harg6 arg7 harg7 arg8 harg8 arg9 harg9 arg10 harg10 x0 x1 x2 x3 hr) (ix3 (0 : Fin 1) (0 : Fin 1) j))).trans (congrArg (theM i arg3 harg3 arg4 harg4 x1 x2 (2 * blk i)) (funext fun a => Fin.ext (match a with | ⟨0, _⟩ => rfl | ⟨1, _⟩ => rfl | ⟨2, _⟩ => rfl)))) ((loadM_at _ _ j).trans (strip_load arg10.view (heldC (foldS i arg3 harg3 arg4 harg4 x1 x2 (2 * blk i))) (heldC (foldS i arg3 harg3 arg4 harg4 x1 x2 (2 * blk i))) 0 256 _ _ 256 256 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 256 _ _).symm) (ix3 (0 : Fin 1) (0 : Fin 1) j))) ((loadA_at _ _ r j).trans (strip_load arg8.view (theA i arg3 harg3 arg4 harg4 arg5 harg5 x1 x2 x3 (2 * blk i + 1)) (theA i arg3 harg3 arg4 harg4 arg5 harg5 x1 x2 x3 (2 * blk i)) 0 256 _ _ 0 256 rfl (epi8_1 c i arg2 harg2 arg3 harg3 arg4 harg4 arg5 harg5 arg6 harg6 arg7 harg7 arg8 harg8 arg9 harg9 arg10 harg10 x0 x1 x2 x3 hr) (ix3 (0 : Fin 1) r j))) (funext fun kk => (loadS_at _ _ kk j).trans ((strip_load arg9.view (heldS (foldS i arg3 harg3 arg4 harg4 x1 x2 (2 * blk i))) (heldS (foldS i arg3 harg3 arg4 harg4 x1 x2 (2 * blk i))) 0 256 _ _ 256 256 rfl ((after9 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 256 _ _).symm) (ix3 (0 : Fin 1) kk j)).trans (congrArg (foldS i arg3 harg3 arg4 harg4 x1 x2 (2 * blk i) 0 ⟨256 + 1 * j.val, by omega⟩) (Fin.ext (by show 0 + 1 * kk.val = kk.val; omega))))) (funext fun kk => (valAt_of arg5 (harg5.unread x3) _ _ _ _ _).trans ?_)
  exact congrArg₂ (fun n r' => valAt arg5 (harg5.unread x3) n r' kk) (off9_at i 0) (Fin.ext (by show r.val = 0 + 1 * r.val; omega))

theorem epi7_3 (hr : kernelRun0_A.sl.r_1 (F := Ideal) c i arg2 harg2 x0 = (0 : EReal)) :
    arg7.view.read (Elt Ideal) (arg7.view.writes (Elt Ideal) arg7.view.junk (kernelRun0_A.sl.HS0_3_1 (F := Ideal) c i arg2 harg2 arg3 harg3 arg4 harg4 arg5 harg5 arg6 harg6 arg7 harg7 arg8 harg8 arg9 harg9 arg10 harg10 x0 x1 x2 x3))
      = mix 0 768 (theM i arg3 harg3 arg4 harg4 x1 x2 (2 * blk i + 1)) (theM i arg3 harg3 arg4 harg4 x1 x2 (2 * blk i)) := by
  unfold kernelRun0_A.sl.HS0_3_1
  refine strip_step arg7.view _ _ _ 0 512 _ _ _ 0 512 768 (by omega) rfl rfl (epi7_2 c i arg2 harg2 arg3 harg3 arg4 harg4 arg5 harg5 arg6 harg6 arg7 harg7 arg8 harg8 arg9 harg9 arg10 harg10 x0 x1 x2 x3 hr) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeM_at _ _ _ _ 0 0 j).trans ?_
  exact stepM_congr (zero_shift _ hr _) ((loadM_at _ _ j).trans (strip_load arg7.view (theM i arg3 harg3 arg4 harg4 x1 x2 (2 * blk i + 1)) (theM i arg3 harg3 arg4 harg4 x1 x2 (2 * blk i)) 0 512 _ _ 0 512 rfl (epi7_2 c i arg2 harg2 arg3 harg3 arg4 harg4 arg5 harg5 arg6 harg6 arg7 harg7 arg8 harg8 arg9 harg9 arg10 harg10 x0 x1 x2 x3 hr) (ix3 (0 : Fin 1) (0 : Fin 1) j))) ((loadM_at _ _ j).trans (strip_load arg10.view (heldC (foldS i arg3 harg3 arg4 harg4 x1 x2 (2 * blk i))) (heldC (foldS i arg3 harg3 arg4 harg4 x1 x2 (2 * blk i))) 0 512 _ _ 512 512 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 512 _ _).symm) (ix3 (0 : Fin 1) (0 : Fin 1) j)))

theorem epi8_3 (hr : kernelRun0_A.sl.r_1 (F := Ideal) c i arg2 harg2 x0 = (0 : EReal)) :
    arg8.view.read (Elt Ideal) (arg8.view.writes (Elt Ideal) arg8.view.junk (kernelRun0_A.sl.HS1_3_1 (F := Ideal) c i arg2 harg2 arg3 harg3 arg4 harg4 arg5 harg5 arg6 harg6 arg7 harg7 arg8 harg8 arg9 harg9 arg10 harg10 x0 x1 x2 x3))
      = mix 0 768 (theA i arg3 harg3 arg4 harg4 arg5 harg5 x1 x2 x3 (2 * blk i + 1)) (theA i arg3 harg3 arg4 harg4 arg5 harg5 x1 x2 x3 (2 * blk i)) := by
  unfold kernelRun0_A.sl.HS1_3_1
  refine strip_step arg8.view _ _ _ 0 512 _ _ _ 0 512 768 (by omega) rfl rfl (epi8_2 c i arg2 harg2 arg3 harg3 arg4 harg4 arg5 harg5 arg6 harg6 arg7 harg7 arg8 harg8 arg9 harg9 arg10 harg10 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeA_at _ _ _ _ _ _ _ _ _ _ 0 r j).trans ?_
  refine stepA_congr (zero_shift _ hr _) (((loadM_at _ _ j).trans (strip_load arg7.view (theM i arg3 harg3 arg4 harg4 x1 x2 (2 * blk i + 1)) (theM i arg3 harg3 arg4 harg4 x1 x2 (2 * blk i)) 0 512 _ _ 0 512 rfl (epi7_2 c i arg2 harg2 arg3 harg3 arg4 harg4 arg5 harg5 arg6 harg6 arg7 harg7 arg8 harg8 arg9 harg9 arg10 harg10 x0 x1 x2 x3 hr) (ix3 (0 : Fin 1) (0 : Fin 1) j))).trans (congrArg (theM i arg3 harg3 arg4 harg4 x1 x2 (2 * blk i)) (funext fun a => Fin.ext (match a with | ⟨0, _⟩ => rfl | ⟨1, _⟩ => rfl | ⟨2, _⟩ => rfl)))) ((loadM_at _ _ j).trans (strip_load arg10.view (heldC (foldS i arg3 harg3 arg4 harg4 x1 x2 (2 * blk i))) (heldC (foldS i arg3 harg3 arg4 harg4 x1 x2 (2 * blk i))) 0 512 _ _ 512 512 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 512 _ _).symm) (ix3 (0 : Fin 1) (0 : Fin 1) j))) ((loadA_at _ _ r j).trans (strip_load arg8.view (theA i arg3 harg3 arg4 harg4 arg5 harg5 x1 x2 x3 (2 * blk i + 1)) (theA i arg3 harg3 arg4 harg4 arg5 harg5 x1 x2 x3 (2 * blk i)) 0 512 _ _ 0 512 rfl (epi8_2 c i arg2 harg2 arg3 harg3 arg4 harg4 arg5 harg5 arg6 harg6 arg7 harg7 arg8 harg8 arg9 harg9 arg10 harg10 x0 x1 x2 x3 hr) (ix3 (0 : Fin 1) r j))) (funext fun kk => (loadS_at _ _ kk j).trans ((strip_load arg9.view (heldS (foldS i arg3 harg3 arg4 harg4 x1 x2 (2 * blk i))) (heldS (foldS i arg3 harg3 arg4 harg4 x1 x2 (2 * blk i))) 0 512 _ _ 512 512 rfl ((after9 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 512 _ _).symm) (ix3 (0 : Fin 1) kk j)).trans (congrArg (foldS i arg3 harg3 arg4 harg4 x1 x2 (2 * blk i) 0 ⟨512 + 1 * j.val, by omega⟩) (Fin.ext (by show 0 + 1 * kk.val = kk.val; omega))))) (funext fun kk => (valAt_of arg5 (harg5.unread x3) _ _ _ _ _).trans ?_)
  exact congrArg₂ (fun n r' => valAt arg5 (harg5.unread x3) n r' kk) (off9_at i 0) (Fin.ext (by show r.val = 0 + 1 * r.val; omega))

theorem epi7_4 (hr : kernelRun0_A.sl.r_1 (F := Ideal) c i arg2 harg2 x0 = (0 : EReal)) :
    arg7.view.read (Elt Ideal) (arg7.view.writes (Elt Ideal) arg7.view.junk (kernelRun0_A.sl.HS0_4_1 (F := Ideal) c i arg2 harg2 arg3 harg3 arg4 harg4 arg5 harg5 arg6 harg6 arg7 harg7 arg8 harg8 arg9 harg9 arg10 harg10 x0 x1 x2 x3))
      = mix 0 1024 (theM i arg3 harg3 arg4 harg4 x1 x2 (2 * blk i + 1)) (theM i arg3 harg3 arg4 harg4 x1 x2 (2 * blk i)) := by
  unfold kernelRun0_A.sl.HS0_4_1
  refine strip_step arg7.view _ _ _ 0 768 _ _ _ 0 768 1024 (by omega) rfl rfl (epi7_3 c i arg2 harg2 arg3 harg3 arg4 harg4 arg5 harg5 arg6 harg6 arg7 harg7 arg8 harg8 arg9 harg9 arg10 harg10 x0 x1 x2 x3 hr) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeM_at _ _ _ _ 0 0 j).trans ?_
  exact stepM_congr (zero_shift _ hr _) ((loadM_at _ _ j).trans (strip_load arg7.view (theM i arg3 harg3 arg4 harg4 x1 x2 (2 * blk i + 1)) (theM i arg3 harg3 arg4 harg4 x1 x2 (2 * blk i)) 0 768 _ _ 0 768 rfl (epi7_3 c i arg2 harg2 arg3 harg3 arg4 harg4 arg5 harg5 arg6 harg6 arg7 harg7 arg8 harg8 arg9 harg9 arg10 harg10 x0 x1 x2 x3 hr) (ix3 (0 : Fin 1) (0 : Fin 1) j))) ((loadM_at _ _ j).trans (strip_load arg10.view (heldC (foldS i arg3 harg3 arg4 harg4 x1 x2 (2 * blk i))) (heldC (foldS i arg3 harg3 arg4 harg4 x1 x2 (2 * blk i))) 0 768 _ _ 768 768 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 768 _ _).symm) (ix3 (0 : Fin 1) (0 : Fin 1) j)))

theorem epi8_4 (hr : kernelRun0_A.sl.r_1 (F := Ideal) c i arg2 harg2 x0 = (0 : EReal)) :
    arg8.view.read (Elt Ideal) (arg8.view.writes (Elt Ideal) arg8.view.junk (kernelRun0_A.sl.HS1_4_1 (F := Ideal) c i arg2 harg2 arg3 harg3 arg4 harg4 arg5 harg5 arg6 harg6 arg7 harg7 arg8 harg8 arg9 harg9 arg10 harg10 x0 x1 x2 x3))
      = mix 0 1024 (theA i arg3 harg3 arg4 harg4 arg5 harg5 x1 x2 x3 (2 * blk i + 1)) (theA i arg3 harg3 arg4 harg4 arg5 harg5 x1 x2 x3 (2 * blk i)) := by
  unfold kernelRun0_A.sl.HS1_4_1
  refine strip_step arg8.view _ _ _ 0 768 _ _ _ 0 768 1024 (by omega) rfl rfl (epi8_3 c i arg2 harg2 arg3 harg3 arg4 harg4 arg5 harg5 arg6 harg6 arg7 harg7 arg8 harg8 arg9 harg9 arg10 harg10 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeA_at _ _ _ _ _ _ _ _ _ _ 0 r j).trans ?_
  refine stepA_congr (zero_shift _ hr _) (((loadM_at _ _ j).trans (strip_load arg7.view (theM i arg3 harg3 arg4 harg4 x1 x2 (2 * blk i + 1)) (theM i arg3 harg3 arg4 harg4 x1 x2 (2 * blk i)) 0 768 _ _ 0 768 rfl (epi7_3 c i arg2 harg2 arg3 harg3 arg4 harg4 arg5 harg5 arg6 harg6 arg7 harg7 arg8 harg8 arg9 harg9 arg10 harg10 x0 x1 x2 x3 hr) (ix3 (0 : Fin 1) (0 : Fin 1) j))).trans (congrArg (theM i arg3 harg3 arg4 harg4 x1 x2 (2 * blk i)) (funext fun a => Fin.ext (match a with | ⟨0, _⟩ => rfl | ⟨1, _⟩ => rfl | ⟨2, _⟩ => rfl)))) ((loadM_at _ _ j).trans (strip_load arg10.view (heldC (foldS i arg3 harg3 arg4 harg4 x1 x2 (2 * blk i))) (heldC (foldS i arg3 harg3 arg4 harg4 x1 x2 (2 * blk i))) 0 768 _ _ 768 768 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 768 _ _).symm) (ix3 (0 : Fin 1) (0 : Fin 1) j))) ((loadA_at _ _ r j).trans (strip_load arg8.view (theA i arg3 harg3 arg4 harg4 arg5 harg5 x1 x2 x3 (2 * blk i + 1)) (theA i arg3 harg3 arg4 harg4 arg5 harg5 x1 x2 x3 (2 * blk i)) 0 768 _ _ 0 768 rfl (epi8_3 c i arg2 harg2 arg3 harg3 arg4 harg4 arg5 harg5 arg6 harg6 arg7 harg7 arg8 harg8 arg9 harg9 arg10 harg10 x0 x1 x2 x3 hr) (ix3 (0 : Fin 1) r j))) (funext fun kk => (loadS_at _ _ kk j).trans ((strip_load arg9.view (heldS (foldS i arg3 harg3 arg4 harg4 x1 x2 (2 * blk i))) (heldS (foldS i arg3 harg3 arg4 harg4 x1 x2 (2 * blk i))) 0 768 _ _ 768 768 rfl ((after9 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 768 _ _).symm) (ix3 (0 : Fin 1) kk j)).trans (congrArg (foldS i arg3 harg3 arg4 harg4 x1 x2 (2 * blk i) 0 ⟨768 + 1 * j.val, by omega⟩) (Fin.ext (by show 0 + 1 * kk.val = kk.val; omega))))) (funext fun kk => (valAt_of arg5 (harg5.unread x3) _ _ _ _ _).trans ?_)
  exact congrArg₂ (fun n r' => valAt arg5 (harg5.unread x3) n r' kk) (off9_at i 0) (Fin.ext (by show r.val = 0 + 1 * r.val; omega))

theorem epi7_5 (hr : kernelRun0_A.sl.r_1 (F := Ideal) c i arg2 harg2 x0 = (0 : EReal)) :
    arg7.view.read (Elt Ideal) (arg7.view.writes (Elt Ideal) arg7.view.junk (kernelRun0_A.sl.HS0_5_1 (F := Ideal) c i arg2 harg2 arg3 harg3 arg4 harg4 arg5 harg5 arg6 harg6 arg7 harg7 arg8 harg8 arg9 harg9 arg10 harg10 x0 x1 x2 x3))
      = mix 0 1280 (theM i arg3 harg3 arg4 harg4 x1 x2 (2 * blk i + 1)) (theM i arg3 harg3 arg4 harg4 x1 x2 (2 * blk i)) := by
  unfold kernelRun0_A.sl.HS0_5_1
  refine strip_step arg7.view _ _ _ 1 0 _ _ _ 0 1024 1280 (by omega) rfl rfl (epi7_4 c i arg2 harg2 arg3 harg3 arg4 harg4 arg5 harg5 arg6 harg6 arg7 harg7 arg8 harg8 arg9 harg9 arg10 harg10 x0 x1 x2 x3 hr) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeM_at _ _ _ _ 0 0 j).trans ?_
  exact stepM_congr (zero_shift _ hr _) ((loadM_at _ _ j).trans (strip_load arg7.view (theM i arg3 harg3 arg4 harg4 x1 x2 (2 * blk i + 1)) (theM i arg3 harg3 arg4 harg4 x1 x2 (2 * blk i)) 1 0 _ _ 0 1024 rfl (epi7_4 c i arg2 harg2 arg3 harg3 arg4 harg4 arg5 harg5 arg6 harg6 arg7 harg7 arg8 harg8 arg9 harg9 arg10 harg10 x0 x1 x2 x3 hr) (ix3 (0 : Fin 1) (0 : Fin 1) j))) ((loadM_at _ _ j).trans (strip_load arg10.view (heldC (foldS i arg3 harg3 arg4 harg4 x1 x2 (2 * blk i))) (heldC (foldS i arg3 harg3 arg4 harg4 x1 x2 (2 * blk i))) 1 0 _ _ 1024 1024 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1024 _ _).symm) (ix3 (0 : Fin 1) (0 : Fin 1) j)))

theorem epi8_5 (hr : kernelRun0_A.sl.r_1 (F := Ideal) c i arg2 harg2 x0 = (0 : EReal)) :
    arg8.view.read (Elt Ideal) (arg8.view.writes (Elt Ideal) arg8.view.junk (kernelRun0_A.sl.HS1_5_1 (F := Ideal) c i arg2 harg2 arg3 harg3 arg4 harg4 arg5 harg5 arg6 harg6 arg7 harg7 arg8 harg8 arg9 harg9 arg10 harg10 x0 x1 x2 x3))
      = mix 0 1280 (theA i arg3 harg3 arg4 harg4 arg5 harg5 x1 x2 x3 (2 * blk i + 1)) (theA i arg3 harg3 arg4 harg4 arg5 harg5 x1 x2 x3 (2 * blk i)) := by
  unfold kernelRun0_A.sl.HS1_5_1
  refine strip_step arg8.view _ _ _ 1 0 _ _ _ 0 1024 1280 (by omega) rfl rfl (epi8_4 c i arg2 harg2 arg3 harg3 arg4 harg4 arg5 harg5 arg6 harg6 arg7 harg7 arg8 harg8 arg9 harg9 arg10 harg10 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeA_at _ _ _ _ _ _ _ _ _ _ 0 r j).trans ?_
  refine stepA_congr (zero_shift _ hr _) (((loadM_at _ _ j).trans (strip_load arg7.view (theM i arg3 harg3 arg4 harg4 x1 x2 (2 * blk i + 1)) (theM i arg3 harg3 arg4 harg4 x1 x2 (2 * blk i)) 1 0 _ _ 0 1024 rfl (epi7_4 c i arg2 harg2 arg3 harg3 arg4 harg4 arg5 harg5 arg6 harg6 arg7 harg7 arg8 harg8 arg9 harg9 arg10 harg10 x0 x1 x2 x3 hr) (ix3 (0 : Fin 1) (0 : Fin 1) j))).trans (congrArg (theM i arg3 harg3 arg4 harg4 x1 x2 (2 * blk i)) (funext fun a => Fin.ext (match a with | ⟨0, _⟩ => rfl | ⟨1, _⟩ => rfl | ⟨2, _⟩ => rfl)))) ((loadM_at _ _ j).trans (strip_load arg10.view (heldC (foldS i arg3 harg3 arg4 harg4 x1 x2 (2 * blk i))) (heldC (foldS i arg3 harg3 arg4 harg4 x1 x2 (2 * blk i))) 1 0 _ _ 1024 1024 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1024 _ _).symm) (ix3 (0 : Fin 1) (0 : Fin 1) j))) ((loadA_at _ _ r j).trans (strip_load arg8.view (theA i arg3 harg3 arg4 harg4 arg5 harg5 x1 x2 x3 (2 * blk i + 1)) (theA i arg3 harg3 arg4 harg4 arg5 harg5 x1 x2 x3 (2 * blk i)) 1 0 _ _ 0 1024 rfl (epi8_4 c i arg2 harg2 arg3 harg3 arg4 harg4 arg5 harg5 arg6 harg6 arg7 harg7 arg8 harg8 arg9 harg9 arg10 harg10 x0 x1 x2 x3 hr) (ix3 (0 : Fin 1) r j))) (funext fun kk => (loadS_at _ _ kk j).trans ((strip_load arg9.view (heldS (foldS i arg3 harg3 arg4 harg4 x1 x2 (2 * blk i))) (heldS (foldS i arg3 harg3 arg4 harg4 x1 x2 (2 * blk i))) 1 0 _ _ 1024 1024 rfl ((after9 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1024 _ _).symm) (ix3 (0 : Fin 1) kk j)).trans (congrArg (foldS i arg3 harg3 arg4 harg4 x1 x2 (2 * blk i) 1 ⟨0 + 1 * j.val, by omega⟩) (Fin.ext (by show 0 + 1 * kk.val = kk.val; omega))))) (funext fun kk => (valAt_of arg5 (harg5.unread x3) _ _ _ _ _).trans ?_)
  exact congrArg₂ (fun n r' => valAt arg5 (harg5.unread x3) n r' kk) (off9_at i 1) (Fin.ext (by show r.val = 0 + 1 * r.val; omega))

theorem epi7_6 (hr : kernelRun0_A.sl.r_1 (F := Ideal) c i arg2 harg2 x0 = (0 : EReal)) :
    arg7.view.read (Elt Ideal) (arg7.view.writes (Elt Ideal) arg7.view.junk (kernelRun0_A.sl.HS0_6 (F := Ideal) c i arg2 harg2 arg3 harg3 arg4 harg4 arg5 harg5 arg6 harg6 arg7 harg7 arg8 harg8 arg9 harg9 arg10 harg10 x0 x1 x2 x3))
      = mix 0 1536 (theM i arg3 harg3 arg4 harg4 x1 x2 (2 * blk i + 1)) (theM i arg3 harg3 arg4 harg4 x1 x2 (2 * blk i)) := by
  unfold kernelRun0_A.sl.HS0_6
  refine strip_step arg7.view _ _ _ 1 256 _ _ _ 0 1280 1536 (by omega) rfl rfl (epi7_5 c i arg2 harg2 arg3 harg3 arg4 harg4 arg5 harg5 arg6 harg6 arg7 harg7 arg8 harg8 arg9 harg9 arg10 harg10 x0 x1 x2 x3 hr) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeM_at _ _ _ _ 0 0 j).trans ?_
  exact stepM_congr (zero_shift _ hr _) ((loadM_at _ _ j).trans (strip_load arg7.view (theM i arg3 harg3 arg4 harg4 x1 x2 (2 * blk i + 1)) (theM i arg3 harg3 arg4 harg4 x1 x2 (2 * blk i)) 1 256 _ _ 0 1280 rfl (epi7_5 c i arg2 harg2 arg3 harg3 arg4 harg4 arg5 harg5 arg6 harg6 arg7 harg7 arg8 harg8 arg9 harg9 arg10 harg10 x0 x1 x2 x3 hr) (ix3 (0 : Fin 1) (0 : Fin 1) j))) ((loadM_at _ _ j).trans (strip_load arg10.view (heldC (foldS i arg3 harg3 arg4 harg4 x1 x2 (2 * blk i))) (heldC (foldS i arg3 harg3 arg4 harg4 x1 x2 (2 * blk i))) 1 256 _ _ 1280 1280 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1280 _ _).symm) (ix3 (0 : Fin 1) (0 : Fin 1) j)))

theorem epi8_6 (hr : kernelRun0_A.sl.r_1 (F := Ideal) c i arg2 harg2 x0 = (0 : EReal)) :
    arg8.view.read (Elt Ideal) (arg8.view.writes (Elt Ideal) arg8.view.junk (kernelRun0_A.sl.HS1_6 (F := Ideal) c i arg2 harg2 arg3 harg3 arg4 harg4 arg5 harg5 arg6 harg6 arg7 harg7 arg8 harg8 arg9 harg9 arg10 harg10 x0 x1 x2 x3))
      = mix 0 1536 (theA i arg3 harg3 arg4 harg4 arg5 harg5 x1 x2 x3 (2 * blk i + 1)) (theA i arg3 harg3 arg4 harg4 arg5 harg5 x1 x2 x3 (2 * blk i)) := by
  unfold kernelRun0_A.sl.HS1_6
  refine strip_step arg8.view _ _ _ 1 256 _ _ _ 0 1280 1536 (by omega) rfl rfl (epi8_5 c i arg2 harg2 arg3 harg3 arg4 harg4 arg5 harg5 arg6 harg6 arg7 harg7 arg8 harg8 arg9 harg9 arg10 harg10 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeA_at _ _ _ _ _ _ _ _ _ _ 0 r j).trans ?_
  refine stepA_congr (zero_shift _ hr _) (((loadM_at _ _ j).trans (strip_load arg7.view (theM i arg3 harg3 arg4 harg4 x1 x2 (2 * blk i + 1)) (theM i arg3 harg3 arg4 harg4 x1 x2 (2 * blk i)) 1 256 _ _ 0 1280 rfl (epi7_5 c i arg2 harg2 arg3 harg3 arg4 harg4 arg5 harg5 arg6 harg6 arg7 harg7 arg8 harg8 arg9 harg9 arg10 harg10 x0 x1 x2 x3 hr) (ix3 (0 : Fin 1) (0 : Fin 1) j))).trans (congrArg (theM i arg3 harg3 arg4 harg4 x1 x2 (2 * blk i)) (funext fun a => Fin.ext (match a with | ⟨0, _⟩ => rfl | ⟨1, _⟩ => rfl | ⟨2, _⟩ => rfl)))) ((loadM_at _ _ j).trans (strip_load arg10.view (heldC (foldS i arg3 harg3 arg4 harg4 x1 x2 (2 * blk i))) (heldC (foldS i arg3 harg3 arg4 harg4 x1 x2 (2 * blk i))) 1 256 _ _ 1280 1280 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1280 _ _).symm) (ix3 (0 : Fin 1) (0 : Fin 1) j))) ((loadA_at _ _ r j).trans (strip_load arg8.view (theA i arg3 harg3 arg4 harg4 arg5 harg5 x1 x2 x3 (2 * blk i + 1)) (theA i arg3 harg3 arg4 harg4 arg5 harg5 x1 x2 x3 (2 * blk i)) 1 256 _ _ 0 1280 rfl (epi8_5 c i arg2 harg2 arg3 harg3 arg4 harg4 arg5 harg5 arg6 harg6 arg7 harg7 arg8 harg8 arg9 harg9 arg10 harg10 x0 x1 x2 x3 hr) (ix3 (0 : Fin 1) r j))) (funext fun kk => (loadS_at _ _ kk j).trans ((strip_load arg9.view (heldS (foldS i arg3 harg3 arg4 harg4 x1 x2 (2 * blk i))) (heldS (foldS i arg3 harg3 arg4 harg4 x1 x2 (2 * blk i))) 1 256 _ _ 1280 1280 rfl ((after9 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1280 _ _).symm) (ix3 (0 : Fin 1) kk j)).trans (congrArg (foldS i arg3 harg3 arg4 harg4 x1 x2 (2 * blk i) 1 ⟨256 + 1 * j.val, by omega⟩) (Fin.ext (by show 0 + 1 * kk.val = kk.val; omega))))) (funext fun kk => (valAt_of arg5 (harg5.unread x3) _ _ _ _ _).trans ?_)
  exact congrArg₂ (fun n r' => valAt arg5 (harg5.unread x3) n r' kk) (off9_at i 1) (Fin.ext (by show r.val = 0 + 1 * r.val; omega))

theorem epi7_7 (hr : kernelRun0_A.sl.r_1 (F := Ideal) c i arg2 harg2 x0 = (0 : EReal)) :
    arg7.view.read (Elt Ideal) (arg7.view.writes (Elt Ideal) arg7.view.junk (kernelRun0_A.sl.HS0_7 (F := Ideal) c i arg2 harg2 arg3 harg3 arg4 harg4 arg5 harg5 arg6 harg6 arg7 harg7 arg8 harg8 arg9 harg9 arg10 harg10 x0 x1 x2 x3))
      = mix 0 1792 (theM i arg3 harg3 arg4 harg4 x1 x2 (2 * blk i + 1)) (theM i arg3 harg3 arg4 harg4 x1 x2 (2 * blk i)) := by
  unfold kernelRun0_A.sl.HS0_7
  refine strip_step arg7.view _ _ _ 1 512 _ _ _ 0 1536 1792 (by omega) rfl rfl (epi7_6 c i arg2 harg2 arg3 harg3 arg4 harg4 arg5 harg5 arg6 harg6 arg7 harg7 arg8 harg8 arg9 harg9 arg10 harg10 x0 x1 x2 x3 hr) fun x => ?_
  obtain ⟨u, u', j, rfl⟩ : ∃ (u u' : Fin 1) (j : Fin 256), x = ix3 u u' j := ⟨x 0, x 1, x 2, eq_ix3 x⟩
  obtain rfl : u = 0 := Subsingleton.elim _ _
  obtain rfl : u' = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeM_at _ _ _ _ 0 0 j).trans ?_
  exact stepM_congr (zero_shift _ hr _) ((loadM_at _ _ j).trans (strip_load arg7.view (theM i arg3 harg3 arg4 harg4 x1 x2 (2 * blk i + 1)) (theM i arg3 harg3 arg4 harg4 x1 x2 (2 * blk i)) 1 512 _ _ 0 1536 rfl (epi7_6 c i arg2 harg2 arg3 harg3 arg4 harg4 arg5 harg5 arg6 harg6 arg7 harg7 arg8 harg8 arg9 harg9 arg10 harg10 x0 x1 x2 x3 hr) (ix3 (0 : Fin 1) (0 : Fin 1) j))) ((loadM_at _ _ j).trans (strip_load arg10.view (heldC (foldS i arg3 harg3 arg4 harg4 x1 x2 (2 * blk i))) (heldC (foldS i arg3 harg3 arg4 harg4 x1 x2 (2 * blk i))) 1 512 _ _ 1536 1536 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1536 _ _).symm) (ix3 (0 : Fin 1) (0 : Fin 1) j)))

theorem epi8_7 (hr : kernelRun0_A.sl.r_1 (F := Ideal) c i arg2 harg2 x0 = (0 : EReal)) :
    arg8.view.read (Elt Ideal) (arg8.view.writes (Elt Ideal) arg8.view.junk (kernelRun0_A.sl.HS1_7 (F := Ideal) c i arg2 harg2 arg3 harg3 arg4 harg4 arg5 harg5 arg6 harg6 arg7 harg7 arg8 harg8 arg9 harg9 arg10 harg10 x0 x1 x2 x3))
      = mix 0 1792 (theA i arg3 harg3 arg4 harg4 arg5 harg5 x1 x2 x3 (2 * blk i + 1)) (theA i arg3 harg3 arg4 harg4 arg5 harg5 x1 x2 x3 (2 * blk i)) := by
  unfold kernelRun0_A.sl.HS1_7
  refine strip_step arg8.view _ _ _ 1 512 _ _ _ 0 1536 1792 (by omega) rfl rfl (epi8_6 c i arg2 harg2 arg3 harg3 arg4 harg4 arg5 harg5 arg6 harg6 arg7 harg7 arg8 harg8 arg9 harg9 arg10 harg10 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeA_at _ _ _ _ _ _ _ _ _ _ 0 r j).trans ?_
  refine stepA_congr (zero_shift _ hr _) (((loadM_at _ _ j).trans (strip_load arg7.view (theM i arg3 harg3 arg4 harg4 x1 x2 (2 * blk i + 1)) (theM i arg3 harg3 arg4 harg4 x1 x2 (2 * blk i)) 1 512 _ _ 0 1536 rfl (epi7_6 c i arg2 harg2 arg3 harg3 arg4 harg4 arg5 harg5 arg6 harg6 arg7 harg7 arg8 harg8 arg9 harg9 arg10 harg10 x0 x1 x2 x3 hr) (ix3 (0 : Fin 1) (0 : Fin 1) j))).trans (congrArg (theM i arg3 harg3 arg4 harg4 x1 x2 (2 * blk i)) (funext fun a => Fin.ext (match a with | ⟨0, _⟩ => rfl | ⟨1, _⟩ => rfl | ⟨2, _⟩ => rfl)))) ((loadM_at _ _ j).trans (strip_load arg10.view (heldC (foldS i arg3 harg3 arg4 harg4 x1 x2 (2 * blk i))) (heldC (foldS i arg3 harg3 arg4 harg4 x1 x2 (2 * blk i))) 1 512 _ _ 1536 1536 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1536 _ _).symm) (ix3 (0 : Fin 1) (0 : Fin 1) j))) ((loadA_at _ _ r j).trans (strip_load arg8.view (theA i arg3 harg3 arg4 harg4 arg5 harg5 x1 x2 x3 (2 * blk i + 1)) (theA i arg3 harg3 arg4 harg4 arg5 harg5 x1 x2 x3 (2 * blk i)) 1 512 _ _ 0 1536 rfl (epi8_6 c i arg2 harg2 arg3 harg3 arg4 harg4 arg5 harg5 arg6 harg6 arg7 harg7 arg8 harg8 arg9 harg9 arg10 harg10 x0 x1 x2 x3 hr) (ix3 (0 : Fin 1) r j))) (funext fun kk => (loadS_at _ _ kk j).trans ((strip_load arg9.view (heldS (foldS i arg3 harg3 arg4 harg4 x1 x2 (2 * blk i))) (heldS (foldS i arg3 harg3 arg4 harg4 x1 x2 (2 * blk i))) 1 512 _ _ 1536 1536 rfl ((after9 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1536 _ _).symm) (ix3 (0 : Fin 1) kk j)).trans (congrArg (foldS i arg3 harg3 arg4 harg4 x1 x2 (2 * blk i) 1 ⟨512 + 1 * j.val, by omega⟩) (Fin.ext (by show 0 + 1 * kk.val = kk.val; omega))))) (funext fun kk => (valAt_of arg5 (harg5.unread x3) _ _ _ _ _).trans ?_)
  exact congrArg₂ (fun n r' => valAt arg5 (harg5.unread x3) n r' kk) (off9_at i 1) (Fin.ext (by show r.val = 0 + 1 * r.val; omega))

theorem epi8_8 (hr : kernelRun0_A.sl.r_1 (F := Ideal) c i arg2 harg2 x0 = (0 : EReal)) :
    arg8.view.read (Elt Ideal) (arg8.view.writes (Elt Ideal) arg8.view.junk (kernelRun0_A.sl.HS1_8 (F := Ideal) c i arg2 harg2 arg3 harg3 arg4 harg4 arg5 harg5 arg6 harg6 arg7 harg7 arg8 harg8 arg9 harg9 arg10 harg10 x0 x1 x2 x3))
      = mix 0 2048 (theA i arg3 harg3 arg4 harg4 arg5 harg5 x1 x2 x3 (2 * blk i + 1)) (theA i arg3 harg3 arg4 harg4 arg5 harg5 x1 x2 x3 (2 * blk i)) := by
  unfold kernelRun0_A.sl.HS1_8
  refine strip_step arg8.view _ _ _ 1 768 _ _ _ 0 1792 2048 (by omega) rfl rfl (epi8_7 c i arg2 harg2 arg3 harg3 arg4 harg4 arg5 harg5 arg6 harg6 arg7 harg7 arg8 harg8 arg9 harg9 arg10 harg10 x0 x1 x2 x3 hr) fun x => ?_
  obtain ⟨u, r, j, rfl⟩ : ∃ (u : Fin 1) (r : Fin 136) (j : Fin 256), x = ix3 u r j := ⟨x 0, x 1, x 2, eq_ix3 x⟩
  obtain rfl : u = 0 := Subsingleton.elim _ _
  dsimp only [k0_pay242, k0_pay243, k0_pay245, k0_pay246, k0_pay247, k0_pay248, k0_pay249, k0_pay250, k0_pay252, k0_pay253, k0_pay254, k0_pay255, k0_pay257, k0_pay258, k0_pay259, k0_pay260, k0_pay262, k0_pay263, k0_pay264, k0_pay265, k0_pay267, k0_pay268, k0_pay269, k0_pay270, k0_pay271, k0_pay273, k0_pay274, k0_pay275, k0_pay276, k0_pay277, k0_pay278, k0_pay280, k0_pay281, k0_pay282, k0_pay283, k0_pay284, k0_pay285, k0_pay286, k0_pay288, k0_pay289, k0_pay290, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39]
  refine (storeA_at _ _ _ _ _ _ _ _ _ _ 0 r j).trans ?_
  refine stepA_congr (zero_shift _ hr _) (((loadM_at _ _ j).trans (strip_load arg7.view (theM i arg3 harg3 arg4 harg4 x1 x2 (2 * blk i + 1)) (theM i arg3 harg3 arg4 harg4 x1 x2 (2 * blk i)) 1 768 _ _ 0 1792 rfl (epi7_7 c i arg2 harg2 arg3 harg3 arg4 harg4 arg5 harg5 arg6 harg6 arg7 harg7 arg8 harg8 arg9 harg9 arg10 harg10 x0 x1 x2 x3 hr) (ix3 (0 : Fin 1) (0 : Fin 1) j))).trans (congrArg (theM i arg3 harg3 arg4 harg4 x1 x2 (2 * blk i)) (funext fun a => Fin.ext (match a with | ⟨0, _⟩ => rfl | ⟨1, _⟩ => rfl | ⟨2, _⟩ => rfl)))) ((loadM_at _ _ j).trans (strip_load arg10.view (heldC (foldS i arg3 harg3 arg4 harg4 x1 x2 (2 * blk i))) (heldC (foldS i arg3 harg3 arg4 harg4 x1 x2 (2 * blk i))) 1 768 _ _ 1792 1792 rfl ((after10 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1792 _ _).symm) (ix3 (0 : Fin 1) (0 : Fin 1) j))) ((loadA_at _ _ r j).trans (strip_load arg8.view (theA i arg3 harg3 arg4 harg4 arg5 harg5 x1 x2 x3 (2 * blk i + 1)) (theA i arg3 harg3 arg4 harg4 arg5 harg5 x1 x2 x3 (2 * blk i)) 1 768 _ _ 0 1792 rfl (epi8_7 c i arg2 harg2 arg3 harg3 arg4 harg4 arg5 harg5 arg6 harg6 arg7 harg7 arg8 harg8 arg9 harg9 arg10 harg10 x0 x1 x2 x3 hr) (ix3 (0 : Fin 1) r j))) (funext fun kk => (loadS_at _ _ kk j).trans ((strip_load arg9.view (heldS (foldS i arg3 harg3 arg4 harg4 x1 x2 (2 * blk i))) (heldS (foldS i arg3 harg3 arg4 harg4 x1 x2 (2 * blk i))) 1 768 _ _ 1792 1792 rfl ((after9 c i arg2 harg2 arg3 harg3 arg4 harg4 arg5 harg5 arg6 harg6 arg7 harg7 arg8 harg8 arg9 harg9 arg10 harg10 x0 x1 x2 x3 _ _ _ _ _ _ _ _ _ _ _ _ _ _ _ _ _ hr hr).trans (mix_nil 1792 _ _).symm) (ix3 (0 : Fin 1) kk j)).trans (congrArg (foldS i arg3 harg3 arg4 harg4 x1 x2 (2 * blk i) 1 ⟨768 + 1 * j.val, by omega⟩) (Fin.ext (by show 0 + 1 * kk.val = kk.val; omega))))) (funext fun kk => (valAt_of arg5 (harg5.unread x3) _ _ _ _ _).trans ?_)
  exact congrArg₂ (fun n r' => valAt arg5 (harg5.unread x3) n r' kk) (off9_at i 1) (Fin.ext (by show r.val = 0 + 1 * r.val; omega))

end

end Cert.KernelIdeal.Attn

end
-- ==== Proof.Output.lean ====
/- THE BLOCK a grid point leaves: the accumulators' rows over their last used row, transposed. -/
module

public import proofs.«01_k».proof.Proof.Epilogue
import all proofs.«01_k».proof.Proof.Gen.KernelIdeal.Frame.RunA

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

/-- A chunk's rows over the row after them, transposed, as they are stored. -/
theorem quot_at (x : FVec Ideal S1x136x1024 .f32) (h : S1x136x1024.ShapeCasts S136x1024) (h1 : S136x1024.Slices ![0, 0] S128x1024)
    (h2 : S136x1024.Slices ![128, 0] S1x1024) (h3 : S1x1024.Broadcasts S128x1024) (h4 : S128x1024.Transposes [1, 0] S1024x128)
    (h5 : FTy.bf16.bits < FTy.f32.bits) (q : Fin 1024) (r : Fin 128) :
    truncf (F := Ideal) .bf16 (transpose S1024x128 [1, 0]
        (divf (extractStridedSlice S128x1024 ![0, 0] (shapeCast S136x1024 x h) h1)
          (broadcastTo S128x1024 (extractStridedSlice S1x1024 ![128, 0] (shapeCast S136x1024 x h) h2) h3)) h4) h5 (ix2 q r)
      = Ideal.div (x (ix3 0 ⟨r.val, by omega⟩ q)) (x (ix3 0 128 q)) := by
  have hc : ∀ (s : Fin 136), shapeCast S136x1024 x h (ix2 s q) = x (ix3 0 s q) := fun s => shapeCast_1ab_ab_apply (a := 136) (b := 1024) _ h s q
  refine (truncf_apply _ h5 (ix2 q r)).trans ?_
  refine (transpose_ix2_apply (a := 128) (b := 1024) _ h4 q r).trans ?_
  refine congrArg₂ Ideal.div ?_ ?_
  · refine Eq.trans ?_ (hc ⟨r.val, by omega⟩)
    exact congrArg (shapeCast S136x1024 x h) (funext fun a => Fin.ext (match a with | ⟨0, _⟩ => (by show 0 + r.val = r.val; omega) | ⟨1, _⟩ => (by show 0 + q.val = q.val; omega)))
  · refine (broadcastTo_1b_ab_apply (a := 128) (b := 1024) _ h3 r q).trans (Eq.trans ?_ (hc 128))
    exact congrArg (shapeCast S136x1024 x h) (funext fun a => Fin.ext (match a with | ⟨0, _⟩ => rfl | ⟨1, _⟩ => (by show 0 + q.val = q.val; omega)))

/-- A load finds what the array holds. -/
theorem whole_load {sp : Space} {s : Shape} (v : View sig .tc sp s .f32) (G : s.Idx → EReal) (off
    sz : Fin s.rank → ℕ) (inb : ∀ a, off a + sz a ≤ s.size a) (L : List (View.Piece (Elt Ideal) s .f32))
    (hL : v.read (Elt Ideal) (v.writes (Elt Ideal) v.junk L) = G) (x : (Rect.unit (s := s) off sz inb).shape.Idx) :
    v.readCov (Val := Elt Ideal) L (Rect.unit (s := s) off sz inb).toLoadRect x = G ((Rect.unit (s := s) off sz inb).emb x) := by
  show v.readAt (Elt Ideal) _ (v.writes (Elt Ideal) v.junk L) x = _
  rw [View.readAt_apply, hL]
  rfl

section
variable (c : Dev nD) (i : grid0.Coords) (arg2 : Memref sig .tc .smem S8 .f32) (harg2 : arg2.IsWhole) (arg3 : Memref sig .tc .vmem S1x2048x256 .bf16) (harg3 : arg3.IsWhole) (arg4 : Memref sig .tc .vmem S1x16x1024x256 .bf16) (harg4 : arg4.IsWhole) (arg5 : Memref sig .tc .vmem S1x16x136x1024 .bf16) (harg5 : arg5.IsWhole) (arg6 : Memref sig .tc .vmem S2048x128 .bf16) (harg6 : arg6.IsWhole) (arg7 : Memref sig .tc .vmem S2x1x1024 .f32) (harg7 : arg7.IsWhole) (arg8 : Memref sig .tc .vmem S2x136x1024 .f32) (harg8 : arg8.IsWhole) (arg9 : Memref sig .tc .vmem S2x1024x1024 .f32) (harg9 : arg9.IsWhole) (arg10 : Memref sig .tc .vmem S2x1x1024 .f32) (harg10 : arg10.IsWhole)
  (x0 : Vec Ideal S8 .f32) (x1 : Vec Ideal S1x2048x256 .bf16) (x2 : Vec Ideal S1x16x1024x256 .bf16) (x3 : Vec Ideal S1x16x136x1024 .bf16)

/-- The block: query by query, a row's accumulator over row 128's. -/
def outF : S2048x128.Idx → EReal := fun y =>
  Ideal.div (theA i arg3 harg3 arg4 harg4 arg5 harg5 x1 x2 x3 (2 * blk i + 1) (ix3 ⟨(y 0).val / 1024, by have h : (y 0).val < 2048 := (y 0).isLt; omega⟩ ⟨(y 1).val, by have h : (y 1).val < 128 := (y 1).isLt; omega⟩
      ⟨(y 0).val % 1024, Nat.mod_lt _ (by omega)⟩))
    (theA i arg3 harg3 arg4 harg4 arg5 harg5 x1 x2 x3 (2 * blk i + 1) (ix3 ⟨(y 0).val / 1024, by have h : (y 0).val < 2048 := (y 0).isLt; omega⟩ (128 : Fin 136)
      ⟨(y 0).val % 1024, Nat.mod_lt _ (by omega)⟩))

/-- A load of the accumulators at the end. -/
theorem readAt8 (hr : kernelRun0_A.sl.r_1 (F := Ideal) c i arg2 harg2 x0 = (0 : EReal)) (off : Fin 3 → ℕ)
    (inb : ∀ a, off a + S1x136x1024.size a ≤ S2x136x1024.size a) (x : S1x136x1024.Idx) :
    arg8.view.readCov (Val := Elt Ideal) (kernelRun0_A.sl.HS1_8 (F := Ideal) c i arg2 harg2 arg3 harg3 arg4 harg4 arg5 harg5 arg6 harg6 arg7 harg7 arg8 harg8 arg9 harg9 arg10 harg10 x0 x1 x2 x3) (Rect.unit (s := S2x136x1024) off S1x136x1024.size inb).toLoadRect x
      = theA i arg3 harg3 arg4 harg4 arg5 harg5 x1 x2 x3 (2 * blk i + 1) ((Rect.unit (s := S2x136x1024) off S1x136x1024.size inb).emb x) := by
  exact whole_load arg8.view _ off _ inb _ ((epi8_8 c i arg2 harg2 arg3 harg3 arg4 harg4 arg5 harg5 arg6 harg6 arg7 harg7 arg8 harg8 arg9 harg9 arg10 harg10 x0 x1 x2 x3 hr).trans (mix_all _ _)) x

theorem out_at (hr : kernelRun0_A.sl.r_1 (F := Ideal) c i arg2 harg2 x0 = (0 : EReal)) :
    out0_A_4 (F := Ideal) c i arg2 harg2 arg3 harg3 arg4 harg4 arg5 harg5 arg6 harg6 arg7 harg7 arg8 harg8 arg9 harg9 arg10 harg10 x0 x1 x2 x3 = outF i arg3 harg3 arg4 harg4 arg5 harg5 x1 x2 x3 := by
  refine funext fun y => ?_
  unfold out0_A_4
  refine View.read_writes_apply_of_pieces (Val := Elt Ideal) VO0_4 _ (outF i arg3 harg3 arg4 harg4 arg5 harg5 x1 x2 x3) _ (View.PiecesOf.mem ?hp) y (cover0_A_4 c i arg2 harg2 arg3 harg3 arg4 harg4 arg5 harg5 arg6 harg6 arg7 harg7 arg8 harg8 arg9 harg9 arg10 harg10 x0 x1 x2 x3 y)
  case hp =>
   unfold kernelRun0_A
   dsimp only
   refine ⟨?_, ?_, trivial⟩
   all_goals
    intro x
    dsimp only [k0_pay1, k0_pay292, k0_pay293, k0_pay294, k0_pay295, kernelRun0_A.sl.r_40, kernelRun0_A.sl.r_41]
   · obtain ⟨q, r, rfl⟩ : ∃ (q : Fin 1024) (r : Fin 128), x = ix2 q r := ⟨x 0, x 1, eq_ix2 x⟩
     refine (quot_at _ _ _ _ _ _ _ q r).trans ?_
     have hA : ∀ (s : Fin 136), kernelRun0_A.sl.v682 (F := Ideal) c i arg2 harg2 arg3 harg3 arg4 harg4 arg5 harg5 arg6 harg6 arg7 harg7 arg8 harg8 arg9 harg9 arg10 harg10 x0 x1 x2 x3 (ix3 0 s q) = theA i arg3 harg3 arg4 harg4 arg5 harg5 x1 x2 x3 (2 * blk i + 1) (ix3 (1 : Fin 2) s q) := fun s => by
       refine (readAt8 c i arg2 harg2 arg3 harg3 arg4 harg4 arg5 harg5 arg6 harg6 arg7 harg7 arg8 harg8 arg9 harg9 arg10 harg10 x0 x1 x2 x3 hr _ _ _).trans (congrArg (theA i arg3 harg3 arg4 harg4 arg5 harg5 x1 x2 x3 (2 * blk i + 1)) (funext fun a => Fin.ext ?_))
       match a with
       | ⟨0, _⟩ => rfl
       | ⟨1, _⟩ => show 0 + 1 * s.val = s.val; omega
       | ⟨2, _⟩ => show 0 + 1 * q.val = q.val; omega
     unfold outF
     refine congrArg₂ Ideal.div ((hA _).trans (congrArg (theA i arg3 harg3 arg4 harg4 arg5 harg5 x1 x2 x3 (2 * blk i + 1)) ?_)) ((hA _).trans (congrArg (theA i arg3 harg3 arg4 harg4 arg5 harg5 x1 x2 x3 (2 * blk i + 1)) ?_))
     all_goals
       refine funext fun a => Fin.ext ?_
       match a with
       | ⟨0, _⟩ => show 1 = (1024 + 1 * q.val) / 1024; omega
       | ⟨1, _⟩ => first | rfl | (show r.val = 0 + 1 * r.val; omega)
       | ⟨2, _⟩ => show q.val = (1024 + 1 * q.val) % 1024; omega
   · obtain ⟨q, r, rfl⟩ : ∃ (q : Fin 1024) (r : Fin 128), x = ix2 q r := ⟨x 0, x 1, eq_ix2 x⟩
     refine (quot_at _ _ _ _ _ _ _ q r).trans ?_
     have hA : ∀ (s : Fin 136), kernelRun0_A.sl.v673 (F := Ideal) c i arg2 harg2 arg3 harg3 arg4 harg4 arg5 harg5 arg6 harg6 arg7 harg7 arg8 harg8 arg9 harg9 arg10 harg10 x0 x1 x2 x3 (ix3 0 s q) = theA i arg3 harg3 arg4 harg4 arg5 harg5 x1 x2 x3 (2 * blk i + 1) (ix3 (0 : Fin 2) s q) := fun s => by
       refine (readAt8 c i arg2 harg2 arg3 harg3 arg4 harg4 arg5 harg5 arg6 harg6 arg7 harg7 arg8 harg8 arg9 harg9 arg10 harg10 x0 x1 x2 x3 hr _ _ _).trans (congrArg (theA i arg3 harg3 arg4 harg4 arg5 harg5 x1 x2 x3 (2 * blk i + 1)) (funext fun a => Fin.ext ?_))
       match a with
       | ⟨0, _⟩ => rfl
       | ⟨1, _⟩ => show 0 + 1 * s.val = s.val; omega
       | ⟨2, _⟩ => show 0 + 1 * q.val = q.val; omega
     unfold outF
     refine congrArg₂ Ideal.div ((hA _).trans (congrArg (theA i arg3 harg3 arg4 harg4 arg5 harg5 x1 x2 x3 (2 * blk i + 1)) ?_)) ((hA _).trans (congrArg (theA i arg3 harg3 arg4 harg4 arg5 harg5 x1 x2 x3 (2 * blk i + 1)) ?_))
     all_goals
       refine funext fun a => Fin.ext ?_
       match a with
       | ⟨0, _⟩ => show 0 = (0 + 1 * q.val) / 1024; omega
       | ⟨1, _⟩ => first | rfl | (show r.val = 0 + 1 * r.val; omega)
       | ⟨2, _⟩ => show q.val = (0 + 1 * q.val) % 1024; omega

end

end Cert.KernelIdeal.Attn

end
-- ==== Proof.Fold.lean ====
/- THE FOLD of a grid point's tiles, query by query: the tiles in the order they are folded in, the sum they leave, and the
   quotient of two such sums over all 16384 keys. -/
module

public import proofs.«01_k».proof.Proof.Softmax
public import proofs.«01_k».proof.Proof.Output
public import Idealize.ShloMosaic.Lib.Pipeline.ValueKit.Acc

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

section
variable (S : ℕ → Fin 2 → Fin 1024 → Fin 1024 → EReal) (V : ℕ → Fin 136 → Fin 1024 → EReal) (g : ℕ)

/-- The maxima the loop begins with. -/
abbrev m0 : S2x1x1024.Idx → EReal := mix 1024 2048 (maxAfter (fun _ => 0) (fun _ => ⊥) (heldC (S (2 * g)))) (fun _ => ⊥)

/-- The accumulators the loop begins with. -/
abbrev a0 : S2x136x1024.Idx → EReal :=
  mix 1024 2048 (accAfter (fun _ => 0) (fun _ => ⊥) (heldC (S (2 * g))) (fun _ => 0) (heldS (S (2 * g))) (fun _ => V (2 * g))) (fun _ => 0)

/-- The tiles after the prologue. -/
abbrev ts : ℕ → Fin 2 → Fin 1024 → Fin 1024 → EReal := tileS (diagAt S (2 * g)) S

/-- All tiles of one query, in order: for the second chunk the tile before its diagonal comes first. -/
def ordS (c : Fin 2) (q : Fin 1024) : ℕ → Fin 1024 → EReal :=
  if c = 0 then fun n => ts S g n c q else fun n => Nat.casesOn n (S (2 * g) c q) fun n => ts S g n c q

/-- Their values. -/
def ordV (c : Fin 2) (r : Fin 136) : ℕ → Fin 1024 → EReal :=
  if c = 0 then fun n => V (heldTile g n c) r else fun n => Nat.casesOn n (V (2 * g) r) fun n => V (heldTile g n c) r

theorem begin_m (c : Fin 2) (q : Fin 1024) : m0 S g (ix3 c 0 q) = runM (ordS S g c q) c.val := by
  match c with
  | 0 => exact if_neg (fun h => absurd (show 1024 ≤ 1024 * 0 + q.val from h.1) (by omega))
  | 1 =>
    refine (if_pos (show 1024 ≤ 1024 * 1 + q.val ∧ 1024 * 1 + q.val < 2048 by omega)).trans ?_
    rfl

theorem begin_a (c : Fin 2) (r : Fin 136) (q : Fin 1024) : a0 S V g (ix3 c r q) = runA (ordS S g c q) (ordV V g c r) c.val := by
  match c with
  | 0 => exact if_neg (fun h => absurd (show 1024 ≤ 1024 * 0 + q.val from h.1) (by omega))
  | 1 =>
    refine (if_pos (show 1024 ≤ 1024 * 1 + q.val ∧ 1024 * 1 + q.val < 2048 by omega)).trans ?_
    rfl

theorem ordS_at (c : Fin 2) (q : Fin 1024) (n : ℕ) : ordS S g c q (n + c.val) = ts S g n c q := by
  match c with
  | 0 => rfl
  | 1 => rfl

theorem ordV_at (c : Fin 2) (r : Fin 136) (n : ℕ) : ordV V g c r (n + c.val) = V (heldTile g n c) r := by
  match c with
  | 0 => rfl
  | 1 => rfl

theorem fold_m (c : Fin 2) (q : Fin 1024) (n : ℕ) : maxS (m0 S g) (ts S g) n (ix3 c 0 q) = runM (ordS S g c q) (n + c.val) := by
  induction n with
  | zero => rw [Nat.zero_add]; exact begin_m S g c q
  | succ n ih =>
    rw [Nat.add_right_comm]
    show stepM 0 (maxS (m0 S g) (ts S g) n (ix3 c 0 q)) (top (ts S g n c q)) = stepM 0 (runM _ (n + c.val)) (top (ordS S g c q (n + c.val)))
    rw [ih, ordS_at]

theorem fold_a (c : Fin 2) (r : Fin 136) (q : Fin 1024) (n : ℕ) :
    accS (m0 S g) (a0 S V g) (ts S g) (fun n c => V (heldTile g n c)) n (ix3 c r q) = runA (ordS S g c q) (ordV V g c r) (n + c.val) := by
  induction n with
  | zero => rw [Nat.zero_add]; exact begin_a S V g c r q
  | succ n ih =>
    rw [Nat.add_right_comm]
    show stepA 0 (maxS (m0 S g) (ts S g) n (ix3 c 0 q)) (top (ts S g n c q)) (accS (m0 S g) (a0 S V g) (ts S g) (fun n c => V (heldTile g n c)) n (ix3 c r q))
        (ts S g n c q) (V (heldTile g n c) r)
      = stepA 0 (runM _ (n + c.val)) (top (ordS S g c q (n + c.val))) (runA _ _ (n + c.val)) (ordS S g c q (n + c.val)) (ordV V g c r (n + c.val))
    rw [ih, fold_m, ordS_at, ordV_at]

/-- A tile's scores with the keys after the query masked. -/
def seenS (c : Fin 2) (q : Fin 1024) (b : ℕ) (k : Fin 1024) : EReal :=
  if 1024 * b + k.val ≤ 2048 * g + 1024 * c.val + q.val then S b c q k else ⊥

/-- The tiles in order are the tiles up to the diagonal, masked, each with its values. -/
theorem sum_ord (c : Fin 2) (q : Fin 1024) (r : Fin 136) (e : EReal → EReal) :
    ∑ b ∈ Finset.range (2 * g + 1 + c.val), ∑ k : Fin 1024, ordV V g c r b k * e (ordS S g c q b k)
      = ∑ b ∈ Finset.range (2 * g + 1 + c.val), ∑ k : Fin 1024, V b r k * e (seenS S g c q b k) := by
  have hlt : ∀ b, b < 2 * g → ∀ k : Fin 1024, seenS S g c q b k = S b c q k := fun b hb k => if_pos (by have := c.isLt; omega)
  have hdiag : ∀ k : Fin 1024, seenS S g c q (2 * g + c.val) k = diagAt S (2 * g) c q k := fun k => by
    unfold seenS diagAt
    by_cases h : k.val ≤ q.val
    · rw [if_pos h, if_pos (by omega)]
    · rw [if_neg h, if_neg (by omega)]
  match c, hlt, hdiag with
  | 0, hlt, hdiag =>
    rw [show 2 * g + 1 + (0 : Fin 2).val = 2 * g + 1 from rfl, Finset.sum_range_succ', Finset.sum_range_succ]
    refine congrArg₂ (· + ·) (Finset.sum_congr rfl fun b hb => Finset.sum_congr rfl fun k _ => ?_) (Finset.sum_congr rfl fun k _ => ?_)
    · rw [hlt b (Finset.mem_range.mp hb)]; rfl
    · rw [show seenS S g 0 q (2 * g) k = diagAt S (2 * g) 0 q k from hdiag k]; rfl
  | 1, hlt, hdiag =>
    rw [show 2 * g + 1 + (1 : Fin 2).val = 2 * g + 1 + 1 from rfl, Finset.sum_range_succ', Finset.sum_range_succ', Finset.sum_range_succ,
      Finset.sum_range_succ, add_assoc, add_assoc, add_comm (∑ k : Fin 1024, ordV V g 1 r (0 + 1) k * _)]
    refine congrArg₂ (· + ·) (Finset.sum_congr rfl fun b hb => Finset.sum_congr rfl fun k _ => ?_)
      (congrArg₂ (· + ·) (Finset.sum_congr rfl fun k _ => ?_) (Finset.sum_congr rfl fun k _ => ?_))
    · rw [hlt b (Finset.mem_range.mp hb)]; rfl
    · rw [show seenS S g 1 q (2 * g) k = S (2 * g) 1 q k from if_pos (by show _ ≤ 2048 * g + 1024 * 1 + q.val; omega)]; rfl
    · rw [show seenS S g 1 q (2 * g + 1) k = diagAt S (2 * g) 1 q k from hdiag k]; rfl

variable (z : Fin 16384 → ℝ) (c : Fin 2) (q : Fin 1024)

/-- What the last tile leaves, as a sum over all keys against one real number. -/
theorem acc_sum (hg : g < 8) (hz : ∀ (b : Fin 16) (k : Fin 1024), S b.val c q k = (z ⟨b.val * 1024 + k.val, by omega⟩ : EReal))
    (hS : ∀ b k, S b c q k ≠ ⊤ ∧ S b c q k ≠ ⊥) :
    ∃ m : ℝ, ∀ (r : Fin 136) (v : Fin 16384 → EReal),
      (∀ (b : Fin 16) (k : Fin 1024), V b.val r k = v ⟨b.val * 1024 + k.val, by omega⟩) →
      accS (m0 S g) (a0 S V g) (ts S g) (fun n c => V (heldTile g n c)) (2 * g + 1) (ix3 c r q)
        = ∑ j : Fin 16384, v j * (((2 : ℝ) ^ (-m) * (if j.val ≤ 2048 * g + 1024 * c.val + q.val then (2 : ℝ) ^ (z j) else 0) : ℝ) : EReal) := by
  have hord : ∀ n, (∃ b, ordS S g c q n = S b c q) ∨ ordS S g c q n = diagAt S (2 * g) c q := by
    intro n
    match c, n with
    | 0, 0 => exact Or.inr rfl
    | 0, n + 1 => exact Or.inl ⟨n, rfl⟩
    | 1, 0 => exact Or.inl ⟨2 * g, rfl⟩
    | 1, 1 => exact Or.inr rfl
    | 1, n + 2 => exact Or.inl ⟨n, rfl⟩
  have hT : ∀ n k, ordS S g c q n k ≠ ⊤ := by
    intro n k
    rcases hord n with ⟨b, hb⟩ | hb
    · rw [hb]; exact (hS b k).1
    · rw [hb]; unfold diagAt; split
      · exact (hS _ k).1
      · exact bot_ne_top
  have hB : ∀ n, ∃ k, ordS S g c q n k ≠ ⊥ := by
    intro n
    refine ⟨0, ?_⟩
    rcases hord n with ⟨b, hb⟩ | hb
    · rw [hb]; exact (hS b 0).2
    · rw [hb]; unfold diagAt; rw [if_pos (show (0 : Fin 1024).val ≤ q.val from Nat.zero_le _)]; exact (hS _ 0).2
  obtain ⟨m, hm⟩ := runM_real _ hT hB (2 * g + c.val)
  refine ⟨m, fun r v hv => ?_⟩
  rw [fold_a, runA_eq _ _ hT hB, show runM (ordS S g c q) (2 * g + 1 + c.val) = (m : EReal) by rw [← hm, Nat.add_right_comm],
    sum_ord S V g c q r (fun s => Ideal.exp2 (s - (m : EReal)))]
  have hle : 2 * g + 1 + c.val ≤ 16 := by have := c.isLt; omega
  rw [Finset.sum_subset (s₁ := Finset.range (2 * g + 1 + c.val)) (s₂ := Finset.range 16) (Finset.range_subset_range.mpr hle) (fun b _ hb => by
    refine Finset.sum_eq_zero fun k _ => ?_
    have hb' : 2 * g + 1 + c.val ≤ b := by simpa using hb
    rw [show seenS S g c q b k = ⊥ from if_neg (by omega)]
    simp), Finset.sum_range]
  rw [← Fin.sum_mul_add_fin 16 1024 (fun j : Fin 16384 => v j * (((2 : ℝ) ^ (-m) * (if j.val ≤ 2048 * g + 1024 * c.val + q.val then (2 : ℝ) ^ (z j) else 0) : ℝ) : EReal)) (by norm_num)]
  refine Finset.sum_congr rfl fun b _ => Finset.sum_congr rfl fun k _ => ?_
  refine congrArg₂ (· * ·) (hv b k) ?_
  unfold seenS
  rw [mul_comm 1024 b.val]
  show Ideal.exp2 ((if b.val * 1024 + k.val ≤ _ then _ else _) - _) = ((_ * (if b.val * 1024 + k.val ≤ _ then _ else _) : ℝ) : EReal)
  by_cases h : b.val * 1024 + k.val ≤ 2048 * g + 1024 * c.val + q.val
  · rw [if_pos h, if_pos h, hz, ← EReal.coe_sub, Ideal.exp2_coe]
    refine congrArg _ ?_
    show (2 : ℝ) ^ (_ - m) = _
    rw [← Real.rpow_add (by norm_num), sub_eq_add_neg, add_comm]
  · rw [if_neg h, if_neg h]
    simp

end

end Cert.KernelIdeal.Attn

end
-- ==== Proof.Host.lean ====
/- WHAT THE HOST CODE BEFORE THE KERNEL leaves in the arrays the kernel reads, entry by entry. -/
module

public import proofs.«01_k».proof.Proof.Steps
public import Idealize.ShloMosaic.Lib.Claim
public import Idealize.ShloMosaic.Lib.KernelVsHost
public import Idealize.ShloMosaic.Lib.StableHlo.RunRead

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (c : Dev nD)

/-- One entry of the queries, of the keys, of the values. -/
def argQ (h : Fin 8) (s : Fin 16384) (d : Fin 192) : EReal := (m ((c : Thread nD τ).loc main_arg0) : S8x16384x192.Idx → EReal) (ix3 h s d)
def argK (h : Fin 8) (s : Fin 16384) (d : Fin 192) : EReal := (m ((c : Thread nD τ).loc main_arg1) : S8x16384x192.Idx → EReal) (ix3 h s d)
def argV (h : Fin 8) (s : Fin 16384) (r : Fin 128) : EReal := (m ((c : Thread nD τ).loc main_arg2) : S8x16384x128.Idx → EReal) (ix3 h s r)

theorem V_v16 : V m c main_v16 = broadcastInDim S8 ![] bcast_S_S8 (constant (F := Ideal) S_ .f32 0x00000000#32) := by
  entry_read
  simp only [List.flatten_cons, List.flatten_nil, List.cons_append, List.nil_append]
  after_reads_simp

/-- The queries the kernel reads, scaled and padded. -/
theorem V_v6 : V m c main_v6 = truncf .bf16 (pad S8x16384x256 ![0, 0, 0] ![0, 0, 64] ![0, 0, 0]
    (mulf (m ((c : Thread nD τ).loc main_arg0)) (broadcastInDim S8x16384x192 ![] bcast_S_S8x16384x192
      (Host.divf (Host.rsqrt (constant (F := Ideal) S_ .f32 0x43400000#32)) (Host.log (constant (F := Ideal) S_ .f32 0x40000000#32)))))
    (sitofp (F := Ideal) .f32 (constantI S_ 32 0#32)) pads_S8x16384x192_S8x16384x256_000_000_0640 h_S_) bitsLt_bf16_f32 := by
  entry_read
  simp only [List.flatten_cons, List.flatten_nil, List.cons_append, List.nil_append]
  after_reads_simp
  rfl

/-- The keys, padded and cut into tiles. -/
theorem V_v9 : V m c main_v9 = shapeCast S8x16x1024x256 (truncf .bf16 (pad S8x16384x256 ![0, 0, 0] ![0, 0, 64] ![0, 0, 0]
    (m ((c : Thread nD τ).loc main_arg1)) (sitofp (F := Ideal) .f32 (constantI S_ 32 0#32)) pads_S8x16384x192_S8x16384x256_000_000_0640 h_S_) bitsLt_bf16_f32)
      shapeCasts_S8x16384x256_S8x16x1024x256 := by
  entry_read
  simp only [List.flatten_cons, List.flatten_nil, List.cons_append, List.nil_append]
  after_reads_simp
  rfl

/-- The values' tiles, the row of ones, and the rows of zeros. -/
abbrev pieces : List ((s : Shape) × (s.Idx → Ideal .f32)) :=
    [⟨S8x16x128x1024, transpose S8x16x128x1024 [0, 1, 3, 2] (shapeCast S8x16x1024x128 (m ((c : Thread nD τ).loc main_arg2)) shapeCasts_S8x16384x128_S8x16x1024x128) transposes_S8x16x1024x128_S8x16x128x1024_0_1_3_2⟩,
     ⟨S8x16x1x1024, broadcastInDim S8x16x1x1024 ![] bcast_S_S8x16x1x1024 (constant (F := Ideal) S_ .f32 0x3F800000#32)⟩,
     ⟨S8x16x7x1024, broadcastInDim S8x16x7x1024 ![] bcast_S_S8x16x7x1024 (constant (F := Ideal) S_ .f32 0x00000000#32)⟩]

/-- The values, cut into tiles, transposed, with a row of ones below. -/
theorem V_v15 : V m c main_v15 = truncf .bf16 (concatenate S8x16x136x1024 2 (pieces m c)
    concatenates_S8x16x128x1024_S8x16x1x1024_S8x16x7x1024_S8x16x136x1024_d2) bitsLt_bf16_f32 := by
  entry_read
  simp only [List.flatten_cons, List.flatten_nil, List.cons_append, List.nil_append]
  after_reads_simp
  rfl

/-- The factor on the queries: one over the root of 192, over the logarithm of 2. -/
def cst : ℝ := (√192)⁻¹ * (1 / Real.log 2)

theorem ofBits_192 : (FloatOps.ofBits .f32 0x43400000#32 : Ideal .f32) = ((192 : ℝ) : EReal) := by
  show Ideal.ofBits .f32 0x43400000#32 = _
  simp [Ideal.ofBits, Ideal.ieee]
  rw [← EReal.coe_mul]
  norm_num

theorem ofBits_2 : (FloatOps.ofBits .f32 0x40000000#32 : Ideal .f32) = ((2 : ℝ) : EReal) := by
  show Ideal.ofBits .f32 0x40000000#32 = _
  simp [Ideal.ofBits, Ideal.ieee]
  rw [← EReal.coe_mul]
  norm_num

theorem rsqrt_192 : Ideal.rsqrt ((192 : ℝ) : EReal) = (((√192)⁻¹ : ℝ) : EReal) := by
  rw [Ideal.rsqrt_coe, if_neg (by norm_num), if_neg (by norm_num)]

theorem cst_eq (j : S_.Idx) : Host.divf (Host.rsqrt (constant (F := Ideal) S_ .f32 0x43400000#32)) (Host.log (constant (F := Ideal) S_ .f32 0x40000000#32)) j
    = ((cst : ℝ) : EReal) := by
  show Ideal.div (Ideal.rsqrt (FloatOps.ofBits .f32 0x43400000#32 : Ideal .f32)) (Ideal.log (FloatOps.ofBits .f32 0x40000000#32 : Ideal .f32)) = _
  rw [ofBits_192, ofBits_2, rsqrt_192, Ideal.log_coe, if_neg (by norm_num), Ideal.div_coe (Real.log_pos (by norm_num)).ne', ← EReal.coe_mul]
  rfl

/-- The word 0, as a float. -/
theorem pad_zero (j : S_.Idx) : sitofp (F := Ideal) .f32 (constantI S_ 32 0#32) j = (0 : EReal) := by
  show ((((0#32 : BitVec 32).toInt : ℤ) : ℝ) : EReal) = 0
  simp

theorem padded_at (x : FVec Ideal S8x16384x192 .f32) (h : Fin 8) (s : Fin 16384) (d : Fin 256) :
    pad S8x16384x256 ![0, 0, 0] ![0, 0, 64] ![0, 0, 0] x (sitofp (F := Ideal) .f32 (constantI S_ 32 0#32)) pads_S8x16384x192_S8x16384x256_000_000_0640 h_S_ (ix3 h s d)
      = if hd : d.val < 192 then x (ix3 h s ⟨d.val, hd⟩) else (0 : EReal) := by
  by_cases hd : d.val < 192
  · rw [dif_pos hd]
    exact pad_apply_of_inside _ _ _ x _ _ _ (ix3 h s d) (ix3 h s ⟨d.val, hd⟩) (fun a => match a with
      | ⟨0, _⟩ => by show h.val = 0 + h.val * (0 + 1); omega
      | ⟨1, _⟩ => by show s.val = 0 + s.val * (0 + 1); omega
      | ⟨2, _⟩ => by show d.val = 0 + d.val * (0 + 1); omega)
  · rw [dif_neg hd]
    exact (pad_apply_of_not_inside _ _ _ x _ _ _ (ix3 h s d) 2 (fun hh => hd (by
      have h3 : (d.val - 0) / (0 + 1) < 192 := hh.2.2
      rwa [Nat.sub_zero, Nat.zero_add, Nat.div_one] at h3))).trans (pad_zero _)

theorem v6_at (h : Fin 8) (s : Fin 16384) (d : Fin 256) :
    V m c main_v6 (ix3 h s d) = if hd : d.val < 192 then argQ m c h s ⟨d.val, hd⟩ * ((cst : ℝ) : EReal) else (0 : EReal) := by
  rw [V_v6]
  refine (truncf_apply _ bitsLt_bf16_f32 (ix3 h s d)).trans ((padded_at _ h s d).trans ?_)
  refine dite_congr rfl (fun hd => ?_) (fun _ => rfl)
  refine congrArg (argQ m c h s ⟨d.val, hd⟩ * ·) ?_
  exact cst_eq _

theorem v9_at (h : Fin 8) (b : Fin 16) (k : Fin 1024) (d : Fin 256) :
    V m c main_v9 (ix4 h b k d)
      = if hd : d.val < 192 then argK m c h ⟨b.val * 1024 + k.val, by omega⟩ ⟨d.val, hd⟩ else (0 : EReal) := by
  rw [V_v9]
  refine (shapeCast_apply _ _ (ix4 h b k d) (ix3 h (⟨b.val * 1024 + k.val, by omega⟩ : Fin 16384) d) ?_).trans ?_
  · rw [Shape.rowMajor_val_four, Shape.rowMajor_val_three]
    show (h.val * 16384 + (b.val * 1024 + k.val)) * 256 + d.val = ((h.val * 16 + b.val) * 1024 + k.val) * 256 + d.val
    omega
  · exact (truncf_apply _ bitsLt_bf16_f32 _).trans (padded_at _ h _ d)

theorem v15_at (h : Fin 8) (b : Fin 16) (r : Fin 128) (k : Fin 1024) :
    V m c main_v15 (ix4 h b (⟨r.val, by omega⟩ : Fin 136) k)
      = argV m c h ⟨b.val * 1024 + k.val, by omega⟩ r := by
  rw [V_v15]
  refine (truncf_apply _ bitsLt_bf16_f32 _).trans ?_
  refine Eq.trans (b := transpose S8x16x128x1024 [0, 1, 3, 2] (shapeCast S8x16x1024x128 (m ((c : Thread nD τ).loc main_arg2)) shapeCasts_S8x16384x128_S8x16x1024x128)
    transposes_S8x16x1024x128_S8x16x128x1024_0_1_3_2 (ix4 h b r k)) ?_ ?_
  · refine concatenate_apply_piece 2 (pieces m c) concatenates_S8x16x128x1024_S8x16x1x1024_S8x16x7x1024_S8x16x136x1024_d2 _ 0 (by simp) S8x16x128x1024 _ rfl rfl 0 rfl (ix4 h b r k) (fun a => ?_) ?_
    · match a with
      | ⟨0, _⟩ => exact fun _ => rfl
      | ⟨1, _⟩ => exact fun _ => rfl
      | ⟨2, _⟩ => exact fun hn => absurd rfl hn
      | ⟨3, _⟩ => exact fun _ => rfl
    · show 0 + r.val = r.val; omega
  · refine (transpose_apply _ _ _ (ix4 h b r k) (ix4 h b k r) (fun a => ?_)).trans ?_
    · match a with
      | ⟨0, _⟩ => rfl
      | ⟨1, _⟩ => rfl
      | ⟨2, _⟩ => rfl
      | ⟨3, _⟩ => rfl
    · refine shapeCast_apply _ _ (ix4 h b k r) (ix3 h (⟨b.val * 1024 + k.val, by omega⟩ : Fin 16384) r) ?_
      rw [Shape.rowMajor_val_four, Shape.rowMajor_val_three]
      show (h.val * 16384 + (b.val * 1024 + k.val)) * 128 + r.val = ((h.val * 16 + b.val) * 1024 + k.val) * 128 + r.val
      omega

theorem v15_one (h : Fin 8) (b : Fin 16) (k : Fin 1024) : V m c main_v15 (ix4 h b (128 : Fin 136) k) = (1 : EReal) := by
  rw [V_v15]
  refine (truncf_apply _ bitsLt_bf16_f32 _).trans ?_
  refine Eq.trans (b := broadcastInDim S8x16x1x1024 ![] bcast_S_S8x16x1x1024 (constant (F := Ideal) S_ .f32 0x3F800000#32) (ix4 h b (0 : Fin 1) k)) ?_ ?_
  · refine concatenate_apply_piece 2 (pieces m c) concatenates_S8x16x128x1024_S8x16x1x1024_S8x16x7x1024_S8x16x136x1024_d2 _ 1 (by simp) S8x16x1x1024 _ rfl rfl 128 rfl (ix4 h b (0 : Fin 1) k) (fun a => ?_) ?_
    · match a with
      | ⟨0, _⟩ => exact fun _ => rfl
      | ⟨1, _⟩ => exact fun _ => rfl
      | ⟨2, _⟩ => exact fun hn => absurd rfl hn
      | ⟨3, _⟩ => exact fun _ => rfl
    · rfl
  · show Ideal.ofBits .f32 0x3F800000#32 = 1
    simp [Ideal.ofBits, Ideal.ieee]
    rw [← EReal.coe_mul]
    norm_num

theorem v16_at (j : S8.Idx) : V m c main_v16 j = (0 : EReal) := by
  rw [V_v16]
  exact Ideal.ofBits_zero_f32

end Cert.KernelIdeal.Attn

end
-- ==== Proof.Blocks.lean ====
/- THE BLOCKS the kernel reads at a grid point, entry by entry. -/
module

public import proofs.«01_k».proof.Proof.Host
public import Idealize.ShloMosaic.Lib.Pipeline.Value

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

variable (m : (ℓ : Loc nD τ sig) → Buf (Elt Ideal) ℓ) (c : Dev nD)

/-- The head of a grid point. -/
abbrev hd (t : Fin cfg0.N) : Fin 8 := grid0.coords t 0

theorem index1 (t : Fin cfg0.N) : win0_1.index t = ![(grid0.coords t 0).val, (grid0.coords t 1).val, 0] :=
  (by decide +kernel : ∀ t : Fin grid0.N, win0_1.index t = ![(grid0.coords t 0).val, (grid0.coords t 1).val, 0]) t
theorem index2 (t : Fin cfg0.N) : win0_2.index t = ![(grid0.coords t 0).val, 0, 0, 0] :=
  (by decide +kernel : ∀ t : Fin grid0.N, win0_2.index t = ![(grid0.coords t 0).val, 0, 0, 0]) t
theorem index3 (t : Fin cfg0.N) : win0_3.index t = ![(grid0.coords t 0).val, 0, 0, 0] :=
  (by decide +kernel : ∀ t : Fin grid0.N, win0_3.index t = ![(grid0.coords t 0).val, 0, 0, 0]) t
theorem index4 (t : Fin cfg0.N) : win0_4.index t = ![(grid0.coords t 1).val, (grid0.coords t 0).val] :=
  (by decide +kernel : ∀ t : Fin grid0.N, win0_4.index t = ![(grid0.coords t 1).val, (grid0.coords t 0).val]) t

theorem iblk0_at (t : Fin cfg0.N) (y : S8.Idx) : iblk m c 0 t y = (0 : EReal) := by
  exact v16_at m c _

/-! Each block against its array, whatever the array holds. -/

theorem read1 (A : S8x16384x256.Idx → Ideal .bf16) (t : Fin cfg0.N) (s : Fin 2048) (d : Fin 256) :
    ((cfg0.win 1).blk t).view.read (Elt Ideal) A (ix3 (0 : Fin 1) s d)
      = A (ix3 (hd t) (⟨2048 * (grid0.coords t 1).val + s.val, by have h : (grid0.coords t 1).val < 8 := (grid0.coords t 1).isLt; omega⟩ : Fin 16384) d) := by
  refine congrArg A (funext fun a => Fin.ext ?_)
  refine (Pipeline.Window.rect_emb_val win0_1 t (ix3 (0 : Fin 1) s d) a).trans ?_
  rw [index1]
  match a with
  | ⟨0, _⟩ => exact Nat.mul_one _
  | ⟨1, _⟩ => exact congrArg (· + s.val) (Nat.mul_comm _ _)
  | ⟨2, _⟩ => exact (congrArg (· + d.val) (Nat.zero_mul _)).trans (Nat.zero_add _)

theorem read2 (A : S8x16x1024x256.Idx → Ideal .bf16) (t : Fin cfg0.N) (b : Fin 16) (k : Fin 1024) (d : Fin 256) :
    ((cfg0.win 2).blk t).view.read (Elt Ideal) A (ix4 (0 : Fin 1) b k d) = A (ix4 (hd t) b k d) := by
  refine congrArg A (funext fun a => Fin.ext ?_)
  refine (Pipeline.Window.rect_emb_val win0_2 t (ix4 (0 : Fin 1) b k d) a).trans ?_
  rw [index2]
  match a with
  | ⟨0, _⟩ => exact Nat.mul_one _
  | ⟨1, _⟩ => exact (congrArg (· + b.val) (Nat.zero_mul _)).trans (Nat.zero_add _)
  | ⟨2, _⟩ => exact (congrArg (· + k.val) (Nat.zero_mul _)).trans (Nat.zero_add _)
  | ⟨3, _⟩ => exact (congrArg (· + d.val) (Nat.zero_mul _)).trans (Nat.zero_add _)

theorem read3 (A : S8x16x136x1024.Idx → Ideal .bf16) (t : Fin cfg0.N) (b : Fin 16) (r : Fin 136) (k : Fin 1024) :
    ((cfg0.win 3).blk t).view.read (Elt Ideal) A (ix4 (0 : Fin 1) b r k) = A (ix4 (hd t) b r k) := by
  refine congrArg A (funext fun a => Fin.ext ?_)
  refine (Pipeline.Window.rect_emb_val win0_3 t (ix4 (0 : Fin 1) b r k) a).trans ?_
  rw [index3]
  match a with
  | ⟨0, _⟩ => exact Nat.mul_one _
  | ⟨1, _⟩ => exact (congrArg (· + b.val) (Nat.zero_mul _)).trans (Nat.zero_add _)
  | ⟨2, _⟩ => exact (congrArg (· + r.val) (Nat.zero_mul _)).trans (Nat.zero_add _)
  | ⟨3, _⟩ => exact (congrArg (· + k.val) (Nat.zero_mul _)).trans (Nat.zero_add _)

theorem read4 (A : S16384x1024.Idx → Ideal .bf16) (t : Fin cfg0.N) (s : Fin 2048) (r : Fin 128) :
    ((cfg0.win 4).blk t).view.read (Elt Ideal) A (ix2 s r)
      = A (ix2 (⟨2048 * (grid0.coords t 1).val + s.val, by have h : (grid0.coords t 1).val < 8 := (grid0.coords t 1).isLt; omega⟩ : Fin 16384)
          (⟨128 * (grid0.coords t 0).val + r.val, by have h : (grid0.coords t 0).val < 8 := (grid0.coords t 0).isLt; omega⟩ : Fin 1024)) := by
  refine congrArg A (funext fun a => Fin.ext ?_)
  refine (Pipeline.Window.rect_emb_val win0_4 t (ix2 s r) a).trans ?_
  rw [index4]
  match a with
  | ⟨0, _⟩ => exact congrArg (· + s.val) (Nat.mul_comm _ _)
  | ⟨1, _⟩ => exact congrArg (· + r.val) (Nat.mul_comm _ _)

theorem iblk1_at (t : Fin cfg0.N) (s : Fin 2048) (d : Fin 256) :
    iblk m c 1 t (ix3 (0 : Fin 1) s d)
      = V m c main_v6 (ix3 (hd t) (⟨2048 * (grid0.coords t 1).val + s.val, by have h : (grid0.coords t 1).val < 8 := (grid0.coords t 1).isLt; omega⟩ : Fin 16384) d) := by
  unfold iblk
  exact read1 (V m c (Pipeline.arrRef spec0 1)) t s d

theorem iblk2_at (t : Fin cfg0.N) (b : Fin 16) (k : Fin 1024) (d : Fin 256) :
    iblk m c 2 t (ix4 (0 : Fin 1) b k d) = V m c main_v9 (ix4 (hd t) b k d) := by
  unfold iblk
  exact read2 (V m c (Pipeline.arrRef spec0 2)) t b k d

theorem iblk3_at (t : Fin cfg0.N) (b : Fin 16) (r : Fin 136) (k : Fin 1024) :
    iblk m c 3 t (ix4 (0 : Fin 1) b r k) = V m c main_v15 (ix4 (hd t) b r k) := by
  unfold iblk
  exact read3 (V m c (Pipeline.arrRef spec0 3)) t b r k

end Cert.KernelIdeal.Attn

end
-- ==== Proof.Attention.lean ====
/- THE BLOCK OF A GRID POINT IS CAUSAL SOFTMAX ATTENTION of its head, on real queries and keys. -/
module

public import proofs.«01_k».proof.Proof.Fold
public import proofs.«01_k».proof.Proof.Blocks

@[expose] public section

noncomputable section

namespace Cert.KernelIdeal.Attn

open Cert.KernelIdeal Cert.KernelIdeal.Gen Idealize.ShloMosaic Idealize.ShloMosaic.TcCoe Idealize.SL.Sem
open Idealize.ShloMosaic.ValueIdx
open scoped BigOperators

/-- The weight of key `j` for query `n` of head `h`, before normalisation: none after the query. -/
def weight (rq rk : Fin 8 → Fin 16384 → Fin 192 → ℝ) (h : Fin 8) (n j : Fin 16384) : ℝ :=
  if j.val ≤ n.val then Real.exp ((∑ d : Fin 192, rq h n d * rk h j d) * (√192)⁻¹) else 0

theorem weight_sum_pos (rq rk : Fin 8 → Fin 16384 → Fin 192 → ℝ) (h : Fin 8) (n : Fin 16384) : 0 < ∑ j, weight rq rk h n j := by
  refine Finset.sum_pos' (fun j _ => ?_) ⟨n, Finset.mem_univ n, ?_⟩
  · unfold weight; split
    · exact (Real.exp_pos _).le
    · exact le_rfl
  · unfold weight; rw [if_pos le_rfl]; exact Real.exp_pos _

/-- Attention: the values averaged with the normalised weights. -/
def attnAt (rq rk : Fin 8 → Fin 16384 → Fin 192 → ℝ) (v : Fin 8 → Fin 16384 → Fin 128 → EReal) (h : Fin 8) (n : Fin 16384) (r : Fin 128) : EReal :=
  ∑ j : Fin 16384, v h j r * ((weight rq rk h n j / ∑ j', weight rq rk h n j' : ℝ) : EReal)

/-- The kernel's exponent in base 2. -/
def expo (rq rk : Fin 8 → Fin 16384 → Fin 192 → ℝ) (h : Fin 8) (n j : Fin 16384) : ℝ := ∑ d : Fin 192, rk h j d * (rq h n d * cst)

theorem two_expo (rq rk : Fin 8 → Fin 16384 → Fin 192 → ℝ) (h : Fin 8) (n j : Fin 16384) :
    (2 : ℝ) ^ expo rq rk h n j = Real.exp ((∑ d : Fin 192, rq h n d * rk h j d) * (√192)⁻¹) := by
  rw [Real.rpow_def_of_pos (by norm_num)]
  refine congrArg Real.exp ?_
  have hl : Real.log 2 ≠ 0 := (Real.log_pos (by norm_num)).ne'
  unfold expo cst
  rw [Finset.mul_sum, Finset.sum_mul]
  refine Finset.sum_congr rfl fun d _ => ?_
  field_simp

/-- A sum over 256 lanes whose last 64 are zero. -/
theorem sum_lanes (f : Fin 256 → EReal) (g : Fin 192 → ℝ) (hf : ∀ d : Fin 192, f ⟨d.val, by omega⟩ = (g d : EReal))
    (h0 : ∀ d : Fin 256, 192 ≤ d.val → f d = 0) : ∑ d, f d = ((∑ d, g d : ℝ) : EReal) := by
  have e := Fin.sum_univ_add (a := 192) (b := 64) (f : Fin (192 + 64) → EReal)
  refine (show ∑ d : Fin 256, f d = _ from e).trans ?_
  rw [Finset.sum_eq_zero (fun d _ => h0 _ (by show 192 ≤ 192 + d.val; omega)) (s := (Finset.univ : Finset (Fin 64))), add_zero, coe_sum]
  exact Finset.sum_congr rfl fun d _ => hf d

variable (m : (ℓ : Loc nD τ sig) → Buf (Elt Ideal) ℓ) (c : Dev nD) (t : Fin cfg0.N)
  (rq rk : Fin 8 → Fin 16384 → Fin 192 → ℝ) (hq : ∀ h s d, argQ m c h s d = (rq h s d : EReal)) (hk : ∀ h s d, argK m c h s d = (rk h s d : EReal))

theorem blk_lt' : (grid0.coords t 1).val < 8 := (grid0.coords t 1).isLt

/-- The query at place `q` of chunk `e` of the point's block. -/
abbrev qry (e : Fin 2) (q : Fin 1024) : Fin 16384 := ⟨2048 * (grid0.coords t 1).val + (1024 * e.val + q.val), by have := blk_lt' t; omega⟩

/-- The scores a grid point computes. -/
abbrev ptS : ℕ → Fin 2 → Fin 1024 → Fin 1024 → EReal :=
  scoreAt (ms0_1 t) ((hs0_1 t).unread (iblk m c 1 t)) (ms0_2 t) ((hs0_2 t).unread (iblk m c 2 t))

/-- The tiles of values it reads. -/
abbrev ptV : ℕ → Fin 136 → Fin 1024 → EReal := valAt (ms0_3 t) ((hs0_3 t).unread (iblk m c 3 t))

include hq hk in
theorem score_real (b : Fin 16) (e : Fin 2) (q k : Fin 1024) :
    ptS m c t b.val e q k = ((expo rq rk (hd t) (qry t e q) ⟨b.val * 1024 + k.val, by omega⟩ : ℝ) : EReal) := by
  have hkey : ∀ d : Fin 256, keyAt (ms0_2 t) ((hs0_2 t).unread (iblk m c 2 t)) b.val k d
      = if hd' : d.val < 192 then argK m c (hd t) ⟨b.val * 1024 + k.val, by omega⟩ ⟨d.val, hd'⟩ else (0 : EReal) := fun d => by
    unfold keyAt
    rw [dif_pos b.isLt, (hs0_2 t).read_unread]
    exact (iblk2_at m c t b k d).trans (v9_at m c (hd t) b k d)
  have hqry : ∀ d : Fin 256, qryAt (ms0_1 t) ((hs0_1 t).unread (iblk m c 1 t)) e q d
      = if hd' : d.val < 192 then argQ m c (hd t) (qry t e q) ⟨d.val, hd'⟩ * ((cst : ℝ) : EReal) else (0 : EReal) := fun d => by
    unfold qryAt
    rw [(hs0_1 t).read_unread]
    exact (iblk1_at m c t ⟨1024 * e.val + q.val, by omega⟩ d).trans (v6_at m c (hd t) (qry t e q) d)
  show ∑ d : Fin 256, _ * _ = _
  refine sum_lanes _ (fun d => rk (hd t) ⟨b.val * 1024 + k.val, by omega⟩ d * (rq (hd t) (qry t e q) d * cst)) (fun d => ?_) (fun d hd' => ?_)
  · rw [hkey, hqry, dif_pos d.isLt, dif_pos d.isLt, hq, hk, EReal.coe_mul, EReal.coe_mul]
  · rw [hkey, dif_neg (by omega), zero_mul]

theorem score_past (b : ℕ) (hb : ¬ b < 16) (e : Fin 2) (q k : Fin 1024) : ptS m c t b e q k = 0 := by
  show ∑ d : Fin 256, _ * _ = _
  refine Finset.sum_eq_zero fun d _ => ?_
  unfold keyAt
  rw [dif_neg hb, zero_mul]

theorem val_at (b : Fin 16) (r : Fin 136) (k : Fin 1024) : ptV m c t b.val r k = V m c main_v15 (ix4 (hd t) b r k) := by
  show valAt _ _ _ _ _ = _
  unfold valAt
  rw [dif_pos b.isLt, (hs0_3 t).read_unread]
  exact iblk3_at m c t b r k

include hq hk in
/-- The block's entry for one query and one column is attention there. -/
theorem outF_at (s : Fin 2048) (r : Fin 128) :
    outF (grid0.coords t) (ms0_1 t) (hs0_1 t) (ms0_2 t) (hs0_2 t) (ms0_3 t) (hs0_3 t) (iblk m c 1 t) (iblk m c 2 t) (iblk m c 3 t) (ix2 s r)
      = attnAt rq rk (argV m c) (hd t) ⟨2048 * (grid0.coords t 1).val + s.val, by have := blk_lt' t; omega⟩ r := by
  have hc : s.val / 1024 < 2 := by omega
  have hqq : s.val % 1024 < 1024 := Nat.mod_lt _ (by omega)
  have hn : qry t ⟨s.val / 1024, hc⟩ ⟨s.val % 1024, hqq⟩ = ⟨2048 * (grid0.coords t 1).val + s.val, by have := blk_lt' t; omega⟩ :=
    Fin.ext (by show 2048 * _ + (1024 * (s.val / 1024) + s.val % 1024) = 2048 * _ + s.val; omega)
  rw [← hn]
  obtain ⟨mx, hmx⟩ := acc_sum (ptS m c t) (ptV m c t) (grid0.coords t 1).val
    (expo rq rk (hd t) (qry t ⟨s.val / 1024, hc⟩ ⟨s.val % 1024, hqq⟩)) ⟨s.val / 1024, hc⟩ ⟨s.val % 1024, hqq⟩ (blk_lt' t)
    (fun b k => score_real m c t rq rk hq hk b _ _ k)
    (fun b k => by
      by_cases hb : b < 16
      · rw [show ptS m c t b _ _ k = _ from score_real m c t rq rk hq hk ⟨b, hb⟩ _ _ k]
        exact ⟨EReal.coe_ne_top _, EReal.coe_ne_bot _⟩
      · rw [score_past m c t b hb]
        exact ⟨EReal.zero_ne_top, EReal.zero_ne_bot⟩)
  have h1 := hmx ⟨r.val, by omega⟩ (fun j => argV m c (hd t) j r) (fun b k => (val_at m c t b _ k).trans (v15_at m c (hd t) b r k))
  have h2 := hmx 128 (fun _ => 1) (fun b k => (val_at m c t b _ k).trans (v15_one m c (hd t) b k))
  refine (congrArg₂ Ideal.div h1 h2).trans ?_
  refine quot_sum ((2 : ℝ) ^ (-mx)) (by positivity) (weight rq rk (hd t) (qry t ⟨s.val / 1024, hc⟩ ⟨s.val % 1024, hqq⟩)) (weight_sum_pos _ _ _ _) _ _ (fun j => ?_)
  refine congrArg (fun x : ℝ => (((2 : ℝ) ^ (-mx) * x : ℝ) : EReal)) ?_
  unfold weight
  rw [two_expo, Nat.add_assoc]

end Cert.KernelIdeal.Attn

end
-- ==== Proof.Reference.lean ====
/- THE REFERENCE, READ AT ONE ENTRY: causal softmax attention of the head the column belongs to, on real queries and keys. -/
module

public import proofs.«01_k».proof.Proof.Attention
public import proofs.«01_k».proof.Proof.Gen.ReferenceIdeal.Read
public import Idealize.ShloMosaic.Lib.Pointwise.Reduce

@[expose] public section

noncomputable section

namespace Cert.KernelIdeal.Attn

open Idealize.ShloMosaic Idealize.SL.Sem Cert.ReferenceIdeal Cert.ReferenceIdeal.Read Cert.ReferenceIdeal.Gen
open scoped BigOperators

/-! ## A left fold of maxima -/

theorem foldl_max_ge {ι : Type} (f : ι → EReal) (l : List ι) : ∀ a : EReal, a ≤ l.foldl (fun r n => max r (f n)) a := by
  induction l with
  | nil => exact fun a => le_rfl
  | cons b l ih => exact fun a => (le_max_left a (f b)).trans (ih _)

theorem foldl_max_mem {ι : Type} (f : ι → EReal) (l : List ι) (i : ι) (hi : i ∈ l) : ∀ a : EReal, f i ≤ l.foldl (fun r n => max r (f n)) a := by
  induction l with
  | nil => cases hi
  | cons b l ih =>
    intro a
    rcases List.mem_cons.1 hi with rfl | h
    · exact (le_max_right a (f i)).trans (foldl_max_ge f l _)
    · exact ih h _

theorem foldl_max_top {ι : Type} (f : ι → EReal) (hf : ∀ i, f i ≠ ⊤) (l : List ι) : ∀ a : EReal, a ≠ ⊤ → l.foldl (fun r n => max r (f n)) a ≠ ⊤ := by
  induction l with
  | nil => exact fun a h => h
  | cons b l ih =>
    intro a ha
    refine ih _ ?_
    show max a (f b) ≠ ⊤
    rcases max_choice a (f b) with h | h <;> rw [h]
    · exact ha
    · exact hf b

/-- The host's maximum over an axis, from −∞: real where no operand is +∞ and one on the line is real. -/
theorem hostMax_real {s t u : Shape} {axes : List (Fin s.rank)} (x : s.Idx → EReal) (init : u.Idx → EReal) (h : s.ReducesTo axes t) (hu : 0 < u.numel)
    (j : t.Idx) (i : s.Idx) (hd : h.drop i = j) (hx : ∀ i, x i ≠ ⊤) (hi : x i ≠ ⊥) (h0 : init (Shape.Idx.first hu) ≠ ⊤) :
    ∃ M : ℝ, Host.reduce (FloatOps.maximumf (F := Ideal) (φ := .f32)) x init h hu j = (M : EReal) := by
  have e : Host.reduce (FloatOps.maximumf (F := Ideal) (φ := .f32)) x init h hu j =
      ((List.finRange s.numel).filter fun n => h.drop (s.rowMajor.symm n) = j).foldl (fun r n => max r (x (s.rowMajor.symm n))) (init (Shape.Idx.first hu)) := rfl
  rw [e]
  have hm : s.rowMajor i ∈ (List.finRange s.numel).filter fun n => h.drop (s.rowMajor.symm n) = j := by
    rw [List.mem_filter]
    exact ⟨List.mem_finRange _, by simpa using hd⟩
  have hle := foldl_max_mem (fun n => x (s.rowMajor.symm n)) _ _ hm (init (Shape.Idx.first hu))
  have ht := foldl_max_top (fun n => x (s.rowMajor.symm n)) (fun n => hx _) ((List.finRange s.numel).filter fun n => h.drop (s.rowMajor.symm n) = j) _ h0
  rw [show s.rowMajor.symm (s.rowMajor i) = i from Equiv.symm_apply_apply _ _] at hle
  refine ⟨_, (EReal.coe_toReal ht ?_).symm⟩
  intro hb
  rw [hb] at hle
  exact hi (le_bot_iff.1 hle)

/-! ## The scores -/

section Reads

variable (x0 x1 : (⟨S8x16384x192, .f32⟩ : BufTy).Contents (Elt Ideal)) (x2 : (⟨S8x16384x128, .f32⟩ : BufTy).Contents (Elt Ideal))
variable (rq rk : Fin 8 → Fin 16384 → Fin 192 → ℝ)

/-- The score of key `j` for query `n`, scaled. -/
def scoreR (h : Fin 8) (n j : Fin 16384) : ℝ := (∑ d : Fin 192, rq h n d * rk h j d) * (√192)⁻¹

theorem v4_at (hq : ∀ h s d, x0 (ValueIdx.ix3 h s d) = (rq h s d : EReal)) (hk : ∀ h s d, x1 (ValueIdx.ix3 h s d) = (rk h s d : EReal))
    (h : Fin 8) (n j : Fin 16384) :
    val_main_v4 (F := Ideal) x0 x1 (ValueIdx.ix3 h n j) = (scoreR rq rk h n j : EReal) := by
  rw [val_main_v4_apply, val_main_v1_apply, val_main_v3_apply, val_main_v2_apply, val_main_cst_apply]
  show (∑ k : Fin 192, _) * Ideal.rsqrt (FloatOps.ofBits (F := Ideal) .f32 0x43400000#32) = _
  rw [ofBits_192, rsqrt_192]
  have e : ∀ k : Fin 192, x0 (lidx_main_v1 (ValueIdx.ix3 h n j) k) * x1 (ridx_main_v1 (ValueIdx.ix3 h n j) k) = ((rq h n k * rk h j k : ℝ) : EReal) := by
    intro k
    rw [show lidx_main_v1 (ValueIdx.ix3 h n j) k = ValueIdx.ix3 h n k from funext fun a => Fin.ext (by match a with | ⟨0, _⟩ => rfl | ⟨1, _⟩ => rfl | ⟨2, _⟩ => rfl),
      show ridx_main_v1 (ValueIdx.ix3 h n j) k = ValueIdx.ix3 h j k from funext fun a => Fin.ext (by match a with | ⟨0, _⟩ => rfl | ⟨1, _⟩ => rfl | ⟨2, _⟩ => rfl),
      hq, hk, EReal.coe_mul]
  rw [Finset.sum_congr rfl (fun k _ => e k), ← coe_sum, ← EReal.coe_mul]
  rfl

theorem word_le (a b : Nat) (ha : a < 16384) (hb : b < 16384) :
    IntOp.cmpi .sle (BitVec.ofNat 32 a) (BitVec.ofNat 32 b) = if a ≤ b then 1#1 else 0#1 := by
  have ea : (BitVec.ofNat 32 a).toInt = a := by
    rw [BitVec.toInt_eq_toNat_cond, BitVec.toNat_ofNat, Nat.mod_eq_of_lt (by omega), if_pos (by omega)]
  have eb : (BitVec.ofNat 32 b).toInt = b := by
    rw [BitVec.toInt_eq_toNat_cond, BitVec.toNat_ofNat, Nat.mod_eq_of_lt (by omega), if_pos (by omega)]
  show BitVec.ofBool ((BitVec.ofNat 32 a).sle (BitVec.ofNat 32 b)) = _
  rw [BitVec.sle_eq_decide, ea, eb]
  by_cases h : a ≤ b
  · rw [if_pos h, decide_eq_true (by exact_mod_cast h)]; rfl
  · rw [if_neg h, decide_eq_false (by exact_mod_cast h)]; rfl

theorem v10_at (hq : ∀ h s d, x0 (ValueIdx.ix3 h s d) = (rq h s d : EReal)) (hk : ∀ h s d, x1 (ValueIdx.ix3 h s d) = (rk h s d : EReal))
    (h : Fin 8) (n j : Fin 16384) :
    val_main_v10 (F := Ideal) x0 x1 (ValueIdx.ix3 h n j) = if j.val ≤ n.val then (scoreR rq rk h n j : EReal) else ⊥ := by
  rw [val_main_v10_apply, val_main_call0_v1_apply, val_main_v9_apply, val_main_v7_apply, val_main_v8_apply, val_main_v5_apply, val_main_v6_apply,
    v4_at x0 x1 rq rk hq hk, val_main_call0_v2_apply, val_main_call0_v0_apply, val_main_cst_0_apply]
  rw [show (FloatOps.ofBits .f32 0xFF800000#32 : Ideal .f32) = (⊥ : EReal) from ofBits_bot]
  have e := word_le j.val n.val j.isLt n.isLt
  rw [show IntOp.cmpi .sle (val_main_v0 (F := Ideal) (idx_main_v5 (idx_main_v7 (idx_main_call0_v1 (ValueIdx.ix3 h n j)))))
      (val_main_v0 (F := Ideal) (idx_main_v6 (idx_main_v8 (idx_main_call0_v1 (ValueIdx.ix3 h n j))))) = if j.val ≤ n.val then 1#1 else 0#1 from e]
  by_cases hj : j.val ≤ n.val
  · rw [if_pos hj, if_pos hj]; rfl
  · rw [if_neg hj, if_neg hj]; rfl

/-- The largest score of a query is real. -/
theorem v13_real (hq : ∀ h s d, x0 (ValueIdx.ix3 h s d) = (rq h s d : EReal)) (hk : ∀ h s d, x1 (ValueIdx.ix3 h s d) = (rk h s d : EReal))
    (h : Fin 8) (n : Fin 16384) : ∃ M : ℝ, val_main_v13 (F := Ideal) x0 x1 (ValueIdx.ix2 h n) = (M : EReal) := by
  have hx : ∀ i, val_main_v10 (F := Ideal) x0 x1 i ≠ (⊤ : EReal) := by
    intro i
    rw [show i = ValueIdx.ix3 (i 0) (i 1) (i 2) from funext fun a => by match a with | ⟨0, _⟩ => rfl | ⟨1, _⟩ => rfl | ⟨2, _⟩ => rfl]
    refine fun hc => ?_
    have e := (v10_at x0 x1 rq rk hq hk (i 0) (i 1) (i 2)).symm.trans hc
    split at e
    · exact EReal.coe_ne_top _ e
    · exact absurd e bot_ne_top
  have hi : val_main_v10 (F := Ideal) x0 x1 (ValueIdx.ix3 h n n) ≠ (⊥ : EReal) := by
    rw [v10_at x0 x1 rq rk hq hk, if_pos le_rfl]
    exact EReal.coe_ne_bot _
  have hd : reducesTo_S8x16384x16384_S8x16384_d2.drop (ValueIdx.ix3 h n n : S8x16384x16384.Idx) = (ValueIdx.ix2 h n : S8x16384.Idx) :=
    (Shape.ReducesTo.fiber_r3_a2 reducesTo_S8x16384x16384_S8x16384_d2 (ValueIdx.ix2 h n : S8x16384.Idx) (ValueIdx.ix3 h n n)).2 ⟨n, rfl⟩
  obtain ⟨M, hM⟩ := hostMax_real (val_main_v10 (F := Ideal) x0 x1) (val_main_cst_1 (F := Ideal)) reducesTo_S8x16384x16384_S8x16384_d2 h_S_
    (ValueIdx.ix2 h n : S8x16384.Idx) (ValueIdx.ix3 h n n) hd hx hi
    (by rw [val_main_cst_1_apply, show (FloatOps.ofBits .f32 0xFF800000#32 : Ideal .f32) = (⊥ : EReal) from ofBits_bot]; exact bot_ne_top)
  refine ⟨M, ?_⟩
  rw [val_main_v13_apply, val_main_v12_apply, val_main_cst_2_apply,
    show (FloatOps.ofBits .f32 0xFF800000#32 : Ideal .f32) = (⊥ : EReal) from ofBits_bot]
  rw [show val_main_v11 (F := Ideal) x0 x1 (ValueIdx.ix2 h n) = (M : EReal) from hM]
  show max (⊥ : EReal) (M : EReal) = _
  exact max_eq_right bot_le

/-- The exponentials: the weights, scaled by the largest score's. -/
theorem v17_at (hq : ∀ h s d, x0 (ValueIdx.ix3 h s d) = (rq h s d : EReal)) (hk : ∀ h s d, x1 (ValueIdx.ix3 h s d) = (rk h s d : EReal))
    (h : Fin 8) (n j : Fin 16384) (M : ℝ) (hM : val_main_v13 (F := Ideal) x0 x1 (ValueIdx.ix2 h n) = (M : EReal)) :
    val_main_v17 (F := Ideal) x0 x1 (ValueIdx.ix3 h n j) = ((Real.exp (-M) * weight rq rk h n j : ℝ) : EReal) := by
  rw [val_main_v17_apply, val_main_v16_apply, val_main_v15_apply, val_main_v14_apply, v10_at x0 x1 rq rk hq hk]
  rw [show idx_main_v14 (idx_main_v15 (ValueIdx.ix3 h n j)) = ValueIdx.ix2 h n from funext fun a => Fin.ext (by match a with | ⟨0, _⟩ => rfl | ⟨1, _⟩ => rfl), hM]
  show Ideal.exp ((if j.val ≤ n.val then (scoreR rq rk h n j : EReal) else ⊥) - (M : EReal)) = _
  unfold weight
  by_cases hj : j.val ≤ n.val
  · rw [if_pos hj, if_pos hj, ← EReal.coe_sub, Ideal.exp_coe, ← Real.exp_add]
    refine congrArg (fun x : ℝ => ((Real.exp x : ℝ) : EReal)) ?_
    unfold scoreR; ring
  · rw [if_neg hj, if_neg hj, EReal.bot_sub, Ideal.exp_bot, mul_zero, EReal.coe_zero]

theorem v22_at (hq : ∀ h s d, x0 (ValueIdx.ix3 h s d) = (rq h s d : EReal)) (hk : ∀ h s d, x1 (ValueIdx.ix3 h s d) = (rk h s d : EReal))
    (h : Fin 8) (n : Fin 16384) (r : Fin 128) :
    val_main_v22 (F := Ideal) x0 x1 x2 (ValueIdx.ix3 h n r) = attnAt rq rk (fun h s d => x2 (ValueIdx.ix3 h s d)) h n r := by
  obtain ⟨M, hM⟩ := v13_real x0 x1 rq rk hq hk h n
  rw [val_main_v22_apply]
  have hs : val_main_v18 (F := Ideal) x0 x1 (ValueIdx.ix2 h n) = ∑ j : Fin 16384, val_main_v17 (F := Ideal) x0 x1 (ValueIdx.ix3 h n j) := by
    rw [val_main_v18_apply, val_main_cst_3_apply, show (FloatOps.ofBits .f32 0x00000000#32 : Ideal .f32) = (0 : EReal) from Ideal.ofBits_zero_f32, zero_add]
    refine Finset.sum_congr rfl fun k _ => congrArg (val_main_v17 (F := Ideal) x0 x1) ?_
    exact funext fun a => Fin.ext (by match a with | ⟨0, _⟩ => rfl | ⟨1, _⟩ => rfl | ⟨2, _⟩ => rfl)
  have e : ∀ j : Fin 16384, val_main_v21 (F := Ideal) x0 x1 (lidx_main_v22 (ValueIdx.ix3 h n r) j) * x2 (ridx_main_v22 (ValueIdx.ix3 h n r) j)
      = Ideal.div (val_main_v17 (F := Ideal) x0 x1 (ValueIdx.ix3 h n j)) (∑ j' : Fin 16384, val_main_v17 (F := Ideal) x0 x1 (ValueIdx.ix3 h n j')) * x2 (ValueIdx.ix3 h j r) := by
    intro j
    rw [show lidx_main_v22 (ValueIdx.ix3 h n r) j = ValueIdx.ix3 h n j from funext fun a => Fin.ext (by match a with | ⟨0, _⟩ => rfl | ⟨1, _⟩ => rfl | ⟨2, _⟩ => rfl),
      show ridx_main_v22 (ValueIdx.ix3 h n r) j = ValueIdx.ix3 h j r from funext fun a => Fin.ext (by match a with | ⟨0, _⟩ => rfl | ⟨1, _⟩ => rfl | ⟨2, _⟩ => rfl),
      val_main_v21_apply, val_main_v20_apply, val_main_v19_apply,
      show idx_main_v19 (idx_main_v20 (ValueIdx.ix3 h n j)) = ValueIdx.ix2 h n from funext fun a => Fin.ext (by match a with | ⟨0, _⟩ => rfl | ⟨1, _⟩ => rfl), hs]
    rfl
  rw [Finset.sum_congr rfl (fun j _ => e j)]
  exact sum_quot (Real.exp (-M)) (Real.exp_pos _) (fun j => weight rq rk h n j) (weight_sum_pos rq rk h n)
    (fun j => val_main_v17 (F := Ideal) x0 x1 (ValueIdx.ix3 h n j)) (fun j => x2 (ValueIdx.ix3 h j r))
    (fun j => v17_at x0 x1 rq rk hq hk h n j M hM)

/-- An entry of the reference's result. -/
theorem ref_at (hq : ∀ h s d, x0 (ValueIdx.ix3 h s d) = (rq h s d : EReal)) (hk : ∀ h s d, x1 (ValueIdx.ix3 h s d) = (rk h s d : EReal))
    (h : Fin 8) (n : Fin 16384) (r : Fin 128) :
    val_main_v25 (F := Ideal) x0 x1 x2 (ValueIdx.ix2 n (⟨128 * h.val + r.val, by omega⟩ : Fin 1024))
      = attnAt rq rk (fun h s d => x2 (ValueIdx.ix3 h s d)) h n r := by
  rw [val_main_v25_apply, val_main_v24_apply, val_main_v23_apply]
  rw [show idx_main_v23 (idx_main_v24 (ValueIdx.ix2 n (⟨128 * h.val + r.val, by omega⟩ : Fin 1024))) = ValueIdx.ix3 h n r from funext fun a => Fin.ext (by
    have hh := h.isLt
    have hr := r.isLt
    match a with
    | ⟨0, _⟩ => show (n.val * 1024 + (128 * h.val + r.val)) / 128 % 8 = h.val; omega
    | ⟨1, _⟩ => show (n.val * 1024 + (128 * h.val + r.val)) / 1024 = n.val; omega
    | ⟨2, _⟩ => show (n.val * 1024 + (128 * h.val + r.val)) % 128 = r.val; omega)]
  rw [v22_at x0 x1 x2 rq rk hq hk]
  rfl

end Reads

end Cert.KernelIdeal.Attn

end
-- ==== Proof.Result.lean ====
/- THE KERNEL'S RESULT, ENTRY BY ENTRY, and the reference's: the same attention, where the queries and keys are real. -/
module

public import proofs.«01_k».proof.Proof.Attention
public import proofs.«01_k».proof.Proof.Output
public import proofs.«01_k».proof.Proof.Reference
public import proofs.«01_k».proof.Proof.Gen.KernelIdeal.Value
public import proofs.«01_k».proof.Proof.Gen.Pre_finite_qk
import all proofs.«01_k».proof.Proof.Gen.KernelIdeal.Frame.RunA

@[expose] public section

noncomputable section

namespace Cert.KernelIdeal.Attn

open Cert.KernelIdeal Cert.KernelIdeal.Gen Idealize.ShloMosaic Idealize.ShloMosaic.TcCoe Idealize.SL.Sem
open scoped BigOperators

variable (m : (ℓ : Loc nD τ sig) → Buf (Elt Ideal) ℓ) (c : Dev nD)

/-- The word the mask's offset is read from is zero. -/
theorem slope_zero (t : Fin cfg0.N) : kernelRun0_A.sl.r_1 (F := Ideal) c (grid0.coords t) (ms0_0 t) (hs0_0 t) (iblk m c 0 t) = (0 : EReal) := by
  have h0 : iblk m c 0 t = fun _ => (0 : EReal) := funext fun y => iblk0_at m c t y
  rw [h0]
  dsimp only [kernelRun0_A.sl.r_1, kernelRun0_A.sl.r, k0_pay176]
  rw [View.readAt_apply]
  have e := (hs0_0 t).read_unread (Val := Elt Ideal) (fun _ : S8.Idx => (0 : EReal))
  exact (congrArg (fun z : EReal => z * Ideal.ofBits .f32 0x44800000#32) (congrFun e _)).trans (zero_mul _)

theorem flush4 : ∀ t : Fin cfg0.N, (cfg0.win 4).flush t = true := by decide

/-- The grid point of head `h` and query strip `b`. -/
theorem point_of : ∀ (h : Fin 8) (b : Fin 8), ∃ t : Fin cfg0.N, (grid0.coords t 0).val = h.val ∧ (grid0.coords t 1).val = b.val := by decide

/-- An entry of the kernel's result. -/
theorem kernel_at (rq rk : Fin 8 → Fin 16384 → Fin 192 → ℝ) (hq : ∀ h s d, argQ m c h s d = (rq h s d : EReal)) (hk : ∀ h s d, argK m c h s d = (rk h s d : EReal))
    (h : Fin 8) (n : Fin 16384) (r : Fin 128) :
    (dats m 0 c).arrAt 4 cfg0.N (ValueIdx.ix2 n (⟨128 * h.val + r.val, by omega⟩ : Fin 1024)) = attnAt rq rk (argV m c) h n r := by
  obtain ⟨t, h0, h1⟩ := point_of h ⟨n.val / 2048, by omega⟩
  have e := congrFun (Cert.KernelIdeal.Value.blocks4 m c t (flush4 t)) (ValueIdx.ix2 (⟨n.val % 2048, by omega⟩ : Fin 2048) r)
  rw [Cert.KernelIdeal.Value.flushed4_A, out_at _ _ _ _ _ _ _ _ _ _ _ _ _ _ _ _ _ _ _ _ _ _ _ _ (slope_zero m c t)] at e
  have e4 := read4 ((dats m 0 c).arrAt 4 cfg0.N) t ⟨n.val % 2048, by omega⟩ r
  have eo := outF_at m c t rq rk hq hk ⟨n.val % 2048, by omega⟩ r
  have e' := e4.symm.trans (e.trans eo)
  have hh : hd t = h := Fin.ext h0
  have hn : 2048 * (grid0.coords t 1).val + n.val % 2048 = n.val := by rw [h1]; show 2048 * (n.val / 2048) + n.val % 2048 = n.val; omega
  rw [hh] at e'
  have i1 : (⟨2048 * (grid0.coords t 1).val + n.val % 2048, by have := n.isLt; omega⟩ : Fin 16384) = n := Fin.ext hn
  have i2 : (⟨128 * (grid0.coords t 0).val + r.val, by rw [h0]; omega⟩ : Fin 1024) = ⟨128 * h.val + r.val, by omega⟩ := Fin.ext (by show 128 * (grid0.coords t 0).val + r.val = _; rw [h0])
  rw [i2, i1] at e'
  exact e'

/-- The precondition, read: every query and key is real. -/
theorem pre_real (a0 a1 : FVec Ideal Cert.Pre_finite_qk.S8x16384x192 .f32) (a2 : FVec Ideal Cert.Pre_finite_qk.S8x16384x128 .f32)
    (h : Cert.Pre_finite_qk.fn (F := Ideal) a0 a1 a2 = fun _ => 1#1) (i : Cert.Pre_finite_qk.S8x16384x192.Idx) :
    (∃ x : ℝ, a0 i = (x : EReal)) ∧ ∃ x : ℝ, a1 i = (x : EReal) := by
  have hi : IntOp.andi (Ideal.cmp .olt (max (a0 i) (-(a0 i))) (Ideal.ofBits .f32 0x7F800000#32)) (Ideal.cmp .olt (max (a1 i) (-(a1 i))) (Ideal.ofBits .f32 0x7F800000#32)) = 1#1 := congrFun h i
  have hinf : Ideal.ofBits .f32 0x7F800000#32 = (⊤ : EReal) := by simp [Ideal.ofBits, Ideal.ieee]
  rw [hinf] at hi
  have key : ∀ x : EReal, Ideal.cmp .olt (max x (-x)) ⊤ = 1#1 → ∃ y : ℝ, x = (y : EReal) := by
    intro x hx
    have hlt : max x (-x) < ⊤ := by
      by_contra hc
      rw [show Ideal.cmp .olt (max x (-x)) ⊤ = BitVec.ofBool (decide (max x (-x) < ⊤)) from rfl, decide_eq_false hc] at hx
      exact absurd hx (by decide)
    have h1 : x ≠ ⊤ := fun e => by rw [e] at hlt; exact absurd hlt (by simp)
    have h2 : x ≠ ⊥ := fun e => by rw [e] at hlt; exact absurd hlt (by simp)
    exact ⟨_, (EReal.coe_toReal h1 h2).symm⟩
  have hand : ∀ a b : BitVec 1, IntOp.andi a b = 1#1 → a = 1#1 ∧ b = 1#1 := by decide
  exact ⟨key _ (hand _ _ hi).1, key _ (hand _ _ hi).2⟩

end Cert.KernelIdeal.Attn

end
-- ==== Proof.MlpStep.lean ====
/- ONE GRID POINT OF THE FEED-FORWARD KERNEL: what its body leaves in the output block and in the scratch, and those blocks entry by entry. -/
module

public import proofs.«01_k».proof.Proof.Gen.MlpIdeal.Frame
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.VecWindow
public import Idealize.ShloMosaic.Lib.KernelVsHost
public import Idealize.ShloMosaic.Lib.Pointwise.Reduce
public import Idealize.ShloMosaic.Lib.Pointwise.Reshape
import all proofs.«01_k».proof.Proof.Gen.MlpIdeal.Frame.RunA
import all proofs.«01_k».proof.Proof.Gen.MlpIdeal.Frame.RunB

@[expose] public section

noncomputable section

namespace Cert.MlpIdeal.Layer

open Cert.MlpIdeal Cert.MlpIdeal.Gen Idealize.ShloMosaic.TcCoe Idealize.SL.Sem
open Idealize.ShloMosaic hiding ix2
open Idealize.ShloMosaic.ValueIdx
open scoped BigOperators

/-! ## What the body leaves, over any float values -/

section
variable {F : FTy → Type} [FloatOps F]

/-- A rectangle of an array. -/
def part {s : Shape} {α : Type} (x : s.Idx → α) (off sz : Fin s.rank → ℕ) (inb : ∀ a, off a + sz a ≤ s.size a) : (Rect.unit (s := s) off sz inb).shape.Idx → α :=
  fun z => x ((Rect.unit (s := s) off sz inb).emb z)

/-- A load of a rectangle of a staged block. -/
theorem load_part {sp : Space} {s : Shape} {e : EltTy} (v : Memref sig .tc sp s e) (h : v.IsWhole) (x : s.Idx → Elt F e) (off sz : Fin s.rank → ℕ)
    (inb : ∀ a, off a + sz a ≤ s.size a) : v.view.readAt (Elt F) (Rect.unit (s := s) off sz inb).toLoadRect (h.unread x) = part x off sz inb := by
  funext z
  rw [View.readAt_apply, h.read_unread]
  rfl

/-- A load of a whole staged block. -/
theorem load_all {sp : Space} {s : Shape} {e : EltTy} (v : Memref sig .tc sp s e) (h : v.IsWhole) (x : s.Idx → Elt F e) (off : Fin s.rank → ℕ)
    (inb : ∀ a, off a + s.size a ≤ s.size a) : v.view.readAt (Elt F) (Rect.unit (s := s) off s.size inb).toLoadRect (h.unread x) = x := by
  rw [load_part]
  exact funext fun z => congrArg x (Rect.emb_unit_full inb z)

/-- The normalized rows `y`, a block of columns of the first matrix and of rows of the second: the output block `o` with their four products added. -/
def body (y : Vec F S512x2048 .bf16) (wu wd : Vec F S2048x2048 .bf16) (o : Vec F S512x2048 .f32) : Vec F S512x2048 .f32 :=
  k0_pay1 (k0_pay3 y (part wu ![0, 1024] S2048x512.size inb_S2048x2048_S2048x512_0_1024))
    (k0_pay4 y (part wu ![0, 1536] S2048x512.size inb_S2048x2048_S2048x512_0_1536))
    (k0_pay5 y (part wu ![0, 0] S2048x512.size inb_S2048x2048_S2048x512_0_0) o (part wd ![0, 0] S512x2048.size inb_S2048x2048_S512x2048_0_0))
    (k0_pay6 y (part wu ![0, 512] S2048x512.size inb_S2048x2048_S2048x512_0_512))
    (k0_pay7 (part wd ![512, 0] S512x2048.size inb_S2048x2048_S512x2048_512_0))
    (part wd ![1024, 0] S512x2048.size inb_S2048x2048_S512x2048_1024_0)
    (part wd ![1536, 0] S512x2048.size inb_S2048x2048_S512x2048_1536_0)

variable (c : Dev nD) (i : grid0.Coords) (arg2 : Memref sig .tc .vmem S512x2048 .f32) (harg2 : arg2.IsWhole) (arg3 : Memref sig .tc .vmem S1x2048 .f32) (harg3 : arg3.IsWhole)
  (arg4 : Memref sig .tc .vmem S2048x2048 .bf16) (harg4 : arg4.IsWhole) (arg5 : Memref sig .tc .vmem S2048x2048 .bf16) (harg5 : arg5.IsWhole)
  (arg6 : Memref sig .tc .vmem S512x2048 .f32) (harg6 : arg6.IsWhole) (arg7 : Memref sig .tc .vmem S512x2048 .bf16) (harg7 : arg7.IsWhole)
  (x0 : Vec F S512x2048 .f32) (x1 : Vec F S1x2048 .f32) (x2 x3 : Vec F S2048x2048 .bf16) (xo4 : Vec F S512x2048 .f32) (xs0 : Vec F S512x2048 .bf16)

/-- A later point of a row block adds its four products to what the point before left. -/
theorem out_later (hc0 : ¬cond0_0 i) :
    out0_B_4 c i arg2 harg2 arg3 harg3 arg4 harg4 arg5 harg5 arg6 harg6 arg7 harg7 hc0 x0 x1 x2 x3 xo4 xs0 = body xs0 x2 x3 xo4 := by
  unfold out0_B_4 kernelRun0_B
  dsimp only [kernelRun0_B.sl.r, kernelRun0_B.sl.r_1, kernelRun0_B.sl.r_2, kernelRun0_B.sl.r_3, kernelRun0_B.sl.r_4]
  refine (View.read_writes_full VO0_4 _ inb_S512x2048_S512x2048_0_0 _ _).trans ?_
  rw [load_all arg7 harg7 xs0 _ inb_S512x2048_S512x2048_0_0, load_all arg6 harg6 xo4 _ inb_S512x2048_S512x2048_0_0]
  simp only [load_part]
  rfl

/-- The first point of a row block normalizes its rows into the scratch … -/
theorem scratch_first (hc0 : cond0_0 i) :
    sout0_A_0 c i arg2 harg2 arg3 harg3 arg4 harg4 arg5 harg5 arg6 harg6 arg7 harg7 hc0 x0 x1 x2 x3 = k0_pay2 x0 x1 := by
  unfold sout0_A_0 kernelRun0_A
  dsimp only [kernelRun0_A.sl.HS0_1]
  refine (View.read_writes_full VS0_0 _ inb_S512x2048_S512x2048_0_0 _ _).trans ?_
  rw [load_all arg2 harg2 x0 _ inb_S512x2048_S512x2048_0_0, load_all arg3 harg3 x1 _ inb_S1x2048_S1x2048_0_0]

/-- … and adds its four products to the rows themselves. -/
theorem out_first (hc0 : cond0_0 i) :
    out0_A_4 c i arg2 harg2 arg3 harg3 arg4 harg4 arg5 harg5 arg6 harg6 arg7 harg7 hc0 x0 x1 x2 x3 = body (k0_pay2 x0 x1) x2 x3 x0 := by
  unfold out0_A_4 kernelRun0_A
  dsimp only [kernelRun0_A.sl.r, kernelRun0_A.sl.r_1, kernelRun0_A.sl.r_2, kernelRun0_A.sl.r_3, kernelRun0_A.sl.r_4, kernelRun0_A.sl.H4_1, kernelRun0_A.sl.HS0_1]
  refine (View.read_writes_full VO0_4 _ inb_S512x2048_S512x2048_0_0 _ _).trans ?_
  have e3 : kernelRun0_A.sl.v3 c arg2 harg2 arg3 harg3 arg7 x0 x1 = k0_pay2 x0 x1 := by
    unfold kernelRun0_A.sl.v3 kernelRun0_A.sl.HS0_1
    refine (View.readCov_full arg7.view inb_S512x2048_S512x2048_0_0 inb_S512x2048_S512x2048_0_0 _ _).trans ?_
    rw [load_all arg2 harg2 x0 _ inb_S512x2048_S512x2048_0_0, load_all arg3 harg3 x1 _ inb_S1x2048_S1x2048_0_0]
  have e16 : kernelRun0_A.sl.v16 c arg2 harg2 arg6 x0 = x0 := by
    unfold kernelRun0_A.sl.v16 kernelRun0_A.sl.H4_1
    refine (View.readCov_full arg6.view inb_S512x2048_S512x2048_0_0 inb_S512x2048_S512x2048_0_0 _ _).trans ?_
    exact load_all arg2 harg2 x0 _ inb_S512x2048_S512x2048_0_0
  rw [e3, e16]
  simp only [load_part]
  rfl

end

/-! ## Entry by entry, over the extended reals -/

/-- A row's inner product with a column of the first matrix, clipped at zero and squared. -/
def act (y : Fin 2048 → EReal) (u : Fin 2048 → EReal) : EReal := max (∑ d : Fin 2048, y d * u d) 0 * max (∑ d : Fin 2048, y d * u d) 0

theorem dot_up (y : FVec Ideal S512x2048 .bf16) (w : FVec Ideal S2048x512 .bf16) (s k : Fin 512) :
    matmul dot_S512x2048_S2048x512_S512x512_1_0_0_1_n_n none y w (constant (F := Ideal) S512x512 .f32 0x00000000#32) (ix2 s k) = ∑ d : Fin 2048, y (ix2 s d) * w (ix2 d k) := by
  refine (Ideal.matmul_plain_apply (M := 512) (K := 2048) (N := 512) none y w _ s k).trans ?_
  rw [constant_apply, Ideal.ofBits_zero_f32, zero_add]

theorem dot_down (p : FVec Ideal S512x512 .bf16) (w : FVec Ideal S512x2048 .bf16) (s : Fin 512) (n : Fin 2048) :
    matmul dot_S512x512_S512x2048_S512x2048_1_0_0_1_n_n none p w (constant (F := Ideal) S512x2048 .f32 0x00000000#32) (ix2 s n) = ∑ k : Fin 512, p (ix2 s k) * w (ix2 k n) := by
  refine (Ideal.matmul_plain_apply (M := 512) (K := 512) (N := 2048) none p w _ s n).trans ?_
  rw [constant_apply, Ideal.ofBits_zero_f32, zero_add]

/-- Clipped at zero and squared, as the kernel writes it. -/
theorem clip_at (v : FVec Ideal S512x512 .f32) (s k : Fin 512) :
    truncf (F := Ideal) .bf16 (mulf (maximumf v (broadcast S512x512 (Scalar.ofBits (F := Ideal) .f32 0x00000000#32)))
      (maximumf v (broadcast S512x512 (Scalar.ofBits (F := Ideal) .f32 0x00000000#32)))) bitsLt_bf16_f32 (ix2 s k) = max (v (ix2 s k)) 0 * max (v (ix2 s k)) 0 := by
  show max (v (ix2 s k)) (Ideal.ofBits .f32 0x00000000#32) * max (v (ix2 s k)) (Ideal.ofBits .f32 0x00000000#32) = _
  rw [Ideal.ofBits_zero_f32]

/-- A column of a block of columns, a row of a block of rows. -/
theorem part_cols (w : S2048x2048.Idx → EReal) (o : ℕ) (inb : ∀ a, (![0, o] : Fin 2 → ℕ) a + S2048x512.size a ≤ S2048x2048.size a) (d : Fin 2048) (k : Fin 512) (h : o + k.val < 2048) :
    part w ![0, o] S2048x512.size inb (ix2 d k) = w (ix2 d ⟨o + k.val, h⟩) :=
  congrArg w (funext fun a => Fin.ext (match a with
    | ⟨0, _⟩ => (by show 0 + 1 * d.val = d.val; omega)
    | ⟨1, _⟩ => (by show o + 1 * k.val = o + k.val; omega)))

theorem part_rows (w : S2048x2048.Idx → EReal) (o : ℕ) (inb : ∀ a, (![o, 0] : Fin 2 → ℕ) a + S512x2048.size a ≤ S2048x2048.size a) (k : Fin 512) (n : Fin 2048) (h : o + k.val < 2048) :
    part w ![o, 0] S512x2048.size inb (ix2 k n) = w (ix2 ⟨o + k.val, h⟩ n) :=
  congrArg w (funext fun a => Fin.ext (match a with
    | ⟨0, _⟩ => (by show o + 1 * k.val = o + k.val; omega)
    | ⟨1, _⟩ => (by show 0 + 1 * n.val = n.val; omega)))

section
variable (y : S512x2048.Idx → EReal) (wu wd : S2048x2048.Idx → EReal) (o : S512x2048.Idx → EReal) (s : Fin 512) (n : Fin 2048)

/-- One hidden unit's part of an entry. -/
def unit (f : ℕ) : EReal := if h : f < 2048 then act (fun d => y (ix2 s d)) (fun d => wu (ix2 d ⟨f, h⟩)) * wd (ix2 ⟨f, h⟩ n) else 0

/-- 512 hidden units' part, as the kernel multiplies it out. -/
theorem quarter (b : ℕ) (hb : b + 512 ≤ 2048) (inb : ∀ a, (![0, b] : Fin 2 → ℕ) a + S2048x512.size a ≤ S2048x2048.size a)
    (inb' : ∀ a, (![b, 0] : Fin 2 → ℕ) a + S512x2048.size a ≤ S2048x2048.size a) :
    ∑ k : Fin 512, (max (∑ d : Fin 2048, y (ix2 s d) * part wu ![0, b] S2048x512.size inb (ix2 d k)) 0 * max (∑ d : Fin 2048, y (ix2 s d) * part wu ![0, b] S2048x512.size inb (ix2 d k)) 0)
        * part wd ![b, 0] S512x2048.size inb' (ix2 k n)
      = ∑ k ∈ Finset.range 512, unit y wu wd s n (b + k) := by
  rw [Finset.sum_range]
  refine Finset.sum_congr rfl fun k _ => ?_
  have h : b + k.val < 2048 := by omega
  unfold unit act
  rw [dif_pos h, part_rows wd b inb' k n h]
  simp only [part_cols wu b inb _ k h]

/-- An entry of the block a point leaves: what it held, and 2048 hidden units' parts. -/
theorem body_at : body (F := Ideal) y wu wd o (ix2 s n) = o (ix2 s n) + ∑ f ∈ Finset.range 2048, unit y wu wd s n f := by
  have e : (2048 : ℕ) = 512 + 512 + 512 + 512 := rfl
  have hs : ∑ f ∈ Finset.range 2048, unit y wu wd s n f
      = ∑ f ∈ Finset.range 512, unit y wu wd s n (0 + f) + ∑ f ∈ Finset.range 512, unit y wu wd s n (512 + f)
        + ∑ f ∈ Finset.range 512, unit y wu wd s n (1024 + f) + ∑ f ∈ Finset.range 512, unit y wu wd s n (1536 + f) := by
    rw [e, Finset.sum_range_add, Finset.sum_range_add, Finset.sum_range_add]
    simp only [Nat.zero_add]
  rw [hs, ← quarter y wu wd s n 0 (by omega) inb_S2048x2048_S2048x512_0_0 inb_S2048x2048_S512x2048_0_0,
    ← quarter y wu wd s n 512 (by omega) inb_S2048x2048_S2048x512_0_512 inb_S2048x2048_S512x2048_512_0,
    ← quarter y wu wd s n 1024 (by omega) inb_S2048x2048_S2048x512_0_1024 inb_S2048x2048_S512x2048_1024_0,
    ← quarter y wu wd s n 1536 (by omega) inb_S2048x2048_S2048x512_0_1536 inb_S2048x2048_S512x2048_1536_0,
    ← add_assoc, ← add_assoc, ← add_assoc]
  unfold body k0_pay1 k0_pay3 k0_pay4 k0_pay5 k0_pay6 k0_pay7
  dsimp only
  simp only [shapeCast_id, addf_apply, dot_down, clip_at, dot_up]

/-- An entry of the normalized rows: the entry over its row's root mean square, times the gain. -/
theorem norm_at (x : S512x2048.Idx → EReal) (g : S1x2048.Idx → EReal) (d : Fin 2048) :
    k0_pay2 (F := Ideal) x g (ix2 s d)
      = x (ix2 s d) * Ideal.rsqrt (Ideal.div (∑ e : Fin 2048, x (ix2 s e) * x (ix2 s e)) (Ideal.ofBits .f32 0x45000000#32) + Ideal.ofBits .f32 0x358637BD#32) * g (ix2 0 d) := by
  unfold k0_pay2
  dsimp only
  rw [shapeCast_id, truncf_apply, mulf_apply, mulf_apply, shapeCast_id]
  refine congrArg₂ (fun a b : EReal => x (ix2 s d) * a * b) ?_ ?_
  · refine (broadcastTo_apply (s := S512x1) _ broadcasts_S512x1_S512x2048 (ix2 s d) (ix2 s (0 : Fin 1)) fun ax => by
      match ax with
      | ⟨0, _⟩ => rfl
      | ⟨1, _⟩ => rfl).trans ?_
    refine congrArg (fun z : EReal => Ideal.rsqrt (Ideal.div z (Ideal.ofBits .f32 0x45000000#32) + Ideal.ofBits .f32 0x358637BD#32)) ?_
    refine (shapeCast_a_a1_apply (a := 512) _ shapeCasts_S512_S512x1 s 0).trans ?_
    exact Ideal.reduceAdd_r2_a1 reduces_S512x2048_S512 _ _
  · exact broadcastTo_1b_ab_apply (a := 512) (b := 2048) _ _ s d

end

end Cert.MlpIdeal.Layer

end
-- ==== Proof.MlpResult.lean ====
/- THE FEED-FORWARD KERNEL'S RESULT, ENTRY BY ENTRY: a row, and all its hidden units' parts, gathered over the four points of its row block. -/
module

public import proofs.«01_k».proof.Proof.MlpStep
public import proofs.«01_k».proof.Proof.Gen.MlpIdeal.Value
public import Idealize.ShloMosaic.Lib.Claim
public import Idealize.ShloMosaic.Lib.StableHlo.RunRead
public import Idealize.ShloMosaic.Lib.Pipeline.Value

@[expose] public section

noncomputable section

namespace Cert.MlpIdeal.Layer

open Cert.MlpIdeal Cert.MlpIdeal.Gen Idealize.ShloMosaic.TcCoe Idealize.SL.Sem
open Idealize.ShloMosaic hiding ix1 ix2
open Idealize.ShloMosaic.ValueIdx
open scoped BigOperators

/-! ## The layer, entry by entry -/

section
variable (x : S16384x2048.Idx → EReal) (g : S2048.Idx → EReal) (wu : S2048x8192.Idx → EReal) (wd : S8192x2048.Idx → EReal) (p : Fin 16384) (n : Fin 2048)

/-- A normalized row. -/
def normRow (d : Fin 2048) : EReal :=
  x (ix2 p d) * Ideal.rsqrt (Ideal.div (∑ e : Fin 2048, x (ix2 p e) * x (ix2 p e)) (Ideal.ofBits .f32 0x45000000#32) + Ideal.ofBits .f32 0x358637BD#32) * g (ix1 d)

/-- One hidden unit's part of an entry. -/
def hidden (f : ℕ) : EReal := if h : f < 8192 then act (normRow x g p) (fun d => wu (ix2 d ⟨f, h⟩)) * wd (ix2 ⟨f, h⟩ n) else 0

end

variable (m : (ℓ : Loc nD τ sig) → Buf (Elt Ideal) ℓ) (c : Dev nD)

abbrev rows : S16384x2048.Idx → EReal := m ((c : Thread nD τ).loc main_arg0)
abbrev gain : S2048.Idx → EReal := m ((c : Thread nD τ).loc main_arg1)
abbrev wUp : S2048x8192.Idx → EReal := m ((c : Thread nD τ).loc main_arg2)
abbrev wDown : S8192x2048.Idx → EReal := m ((c : Thread nD τ).loc main_arg3)

/-! ## What the kernel reads -/

theorem V_gain : V m c main_v0 = shapeCast S1x2048 (m ((c : Thread nD τ).loc main_arg1)) shapeCasts_S2048_S1x2048 := by
  entry_read
  rfl

theorem V_up : V m c main_v1 = truncf (F := Ideal) .bf16 (m ((c : Thread nD τ).loc main_arg2)) bitsLt_bf16_f32 := by
  entry_read
  simp only [List.flatten_cons, List.flatten_nil, List.cons_append, List.nil_append]

theorem V_down : V m c main_v2 = truncf (F := Ideal) .bf16 (m ((c : Thread nD τ).loc main_arg3)) bitsLt_bf16_f32 := by
  entry_read
  simp only [List.flatten_cons, List.flatten_nil, List.cons_append, List.nil_append]

theorem index0 (t : Fin cfg0.N) : win0_0.index t = ![t.val / 4, 0] := (by decide +kernel : ∀ t : Fin grid0.N, win0_0.index t = ![t.val / 4, 0]) t
theorem index1 (t : Fin cfg0.N) : win0_1.index t = ![0, 0] := (by decide +kernel : ∀ t : Fin grid0.N, win0_1.index t = ![0, 0]) t
theorem index2 (t : Fin cfg0.N) : win0_2.index t = ![0, t.val % 4] := (by decide +kernel : ∀ t : Fin grid0.N, win0_2.index t = ![0, t.val % 4]) t
theorem index3 (t : Fin cfg0.N) : win0_3.index t = ![t.val % 4, 0] := (by decide +kernel : ∀ t : Fin grid0.N, win0_3.index t = ![t.val % 4, 0]) t

/-- A grid point's row, hidden unit. -/
def row (t : Fin cfg0.N) (s : Fin 512) : Fin 16384 := ⟨512 * (t.val / 4) + s.val, by have h : t.val < 128 := lt_of_lt_of_eq t.isLt N_0; omega⟩
def hid (t : Fin cfg0.N) (k : Fin 2048) : Fin 8192 := ⟨2048 * (t.val % 4) + k.val, by omega⟩

theorem read0 (A : S16384x2048.Idx → Ideal .f32) (t : Fin cfg0.N) (s : Fin 512) (d : Fin 2048) :
    ((cfg0.win 0).blk t).view.read (Elt Ideal) A (ix2 s d) = A (ix2 (row t s) d) := by
  refine congrArg A (funext fun a => Fin.ext ?_)
  refine (Pipeline.Window.rect_emb_val win0_0 t (ix2 s d) a).trans ?_
  rw [index0]
  match a with
  | ⟨0, _⟩ => exact congrArg (· + s.val) (Nat.mul_comm _ _)
  | ⟨1, _⟩ => exact (congrArg (· + d.val) (Nat.zero_mul _)).trans (Nat.zero_add _)

theorem read1 (A : S1x2048.Idx → Ideal .f32) (t : Fin cfg0.N) (d : Fin 2048) :
    ((cfg0.win 1).blk t).view.read (Elt Ideal) A (ix2 (0 : Fin 1) d) = A (ix2 (0 : Fin 1) d) := by
  refine congrArg A (funext fun a => Fin.ext ?_)
  refine (Pipeline.Window.rect_emb_val win0_1 t (ix2 (0 : Fin 1) d) a).trans ?_
  rw [index1]
  match a with
  | ⟨0, _⟩ => rfl
  | ⟨1, _⟩ => exact (congrArg (· + d.val) (Nat.zero_mul _)).trans (Nat.zero_add _)

theorem read2 (A : S2048x8192.Idx → Ideal .bf16) (t : Fin cfg0.N) (d k : Fin 2048) :
    ((cfg0.win 2).blk t).view.read (Elt Ideal) A (ix2 d k) = A (ix2 d (hid t k)) := by
  refine congrArg A (funext fun a => Fin.ext ?_)
  refine (Pipeline.Window.rect_emb_val win0_2 t (ix2 d k) a).trans ?_
  rw [index2]
  match a with
  | ⟨0, _⟩ => exact (congrArg (· + d.val) (Nat.zero_mul _)).trans (Nat.zero_add _)
  | ⟨1, _⟩ => exact congrArg (· + k.val) (Nat.mul_comm _ _)

theorem read3 (A : S8192x2048.Idx → Ideal .bf16) (t : Fin cfg0.N) (k n : Fin 2048) :
    ((cfg0.win 3).blk t).view.read (Elt Ideal) A (ix2 k n) = A (ix2 (hid t k) n) := by
  refine congrArg A (funext fun a => Fin.ext ?_)
  refine (Pipeline.Window.rect_emb_val win0_3 t (ix2 k n) a).trans ?_
  rw [index3]
  match a with
  | ⟨0, _⟩ => exact congrArg (· + k.val) (Nat.mul_comm _ _)
  | ⟨1, _⟩ => exact (congrArg (· + n.val) (Nat.zero_mul _)).trans (Nat.zero_add _)

theorem iblk0_at (t : Fin cfg0.N) (s : Fin 512) (d : Fin 2048) : iblk m c 0 t (ix2 s d) = rows m c (ix2 (row t s) d) := by
  unfold iblk
  refine (read0 (V m c (Pipeline.arrRef spec0 0)) t s d).trans ?_
  exact congrFun (V_main_arg0 m c) _

theorem iblk1_at (t : Fin cfg0.N) (d : Fin 2048) : iblk m c 1 t (ix2 (0 : Fin 1) d) = gain m c (ix1 d) := by
  unfold iblk
  refine (read1 (V m c (Pipeline.arrRef spec0 1)) t d).trans ?_
  refine (congrFun (V_gain m c) _).trans ?_
  exact shapeCast_a_1a_apply (a := 2048) _ _ 0 d

theorem iblk2_at (t : Fin cfg0.N) (d k : Fin 2048) : iblk m c 2 t (ix2 d k) = wUp m c (ix2 d (hid t k)) := by
  unfold iblk
  exact (read2 (V m c (Pipeline.arrRef spec0 2)) t d k).trans (congrFun (V_up m c) _)

theorem iblk3_at (t : Fin cfg0.N) (k n : Fin 2048) : iblk m c 3 t (ix2 k n) = wDown m c (ix2 (hid t k) n) := by
  unfold iblk
  exact (read3 (V m c (Pipeline.arrRef spec0 3)) t k n).trans (congrFun (V_down m c) _)

/-! ## The four points of a row block -/

/-- Normalized rows in the scratch give the hidden units of a point their parts. -/
theorem unit_hidden (t : Fin cfg0.N) (y : S512x2048.Idx → EReal) (s : Fin 512) (n : Fin 2048)
    (hy : ∀ d, y (ix2 s d) = normRow (rows m c) (gain m c) (row t s) d) (f : ℕ) (hf : f ∈ Finset.range 2048) :
    unit y (iblk m c 2 t) (iblk m c 3 t) s n f = hidden (rows m c) (gain m c) (wUp m c) (wDown m c) (row t s) n (2048 * (t.val % 4) + f) := by
  have h : f < 2048 := Finset.mem_range.mp hf
  have h' : 2048 * (t.val % 4) + f < 8192 := by omega
  unfold unit hidden
  rw [dif_pos h, dif_pos h']
  refine congrArg₂ (fun a b : EReal => a * b) (congrArg₂ act (funext hy) (funext fun d => ?_)) ?_
  · exact iblk2_at m c t d ⟨f, h⟩
  · exact iblk3_at m c t ⟨f, h⟩ n

/-- The rows of a point, normalized. -/
theorem norm_row (t : Fin cfg0.N) (s : Fin 512) (d : Fin 2048) :
    k0_pay2 (F := Ideal) (iblk m c 0 t) (iblk m c 1 t) (ix2 s d) = normRow (rows m c) (gain m c) (row t s) d := by
  rw [norm_at]
  unfold normRow
  rw [iblk1_at]
  simp only [iblk0_at]

/-- What a point leaves: the normalized rows, and the rows with the hidden units so far. -/
theorem point_at (q : ℕ) (hq : q < 32) : ∀ (j : ℕ) (_ : j < 4) (ht : 4 * q + j < cfg0.N) (s : Fin 512),
    (∀ d : Fin 2048, (outsAt0 m c (4 * q + j) ht).2 (ix2 s d) = normRow (rows m c) (gain m c) (row ⟨4 * q + j, ht⟩ s) d)
    ∧ ∀ n : Fin 2048, (outsAt0 m c (4 * q + j) ht).1 (ix2 s n) = rows m c (ix2 (row ⟨4 * q + j, ht⟩ s) n)
        + ∑ f ∈ Finset.range (2048 * (j + 1)), hidden (rows m c) (gain m c) (wUp m c) (wDown m c) (row ⟨4 * q + j, ht⟩ s) n f := by
  intro j
  induction j with
  | zero =>
    intro _ ht s
    have h0 : (⟨4 * q + 0, ht⟩ : Fin cfg0.N).val % 4 = 0 := by show (4 * q + 0) % 4 = 0; omega
    rw [outsAt0_A m c ⟨4 * q + 0, ht⟩ h0]
    dsimp only
    rw [scratch_first, out_first]
    refine ⟨fun d => norm_row m c _ s d, fun n => ?_⟩
    refine (body_at _ _ _ _ s n).trans ?_
    refine congrArg₂ (fun a b : EReal => a + b) (iblk0_at m c _ s n) (Finset.sum_congr rfl fun f hf => ?_)
    refine (unit_hidden m c _ _ s n (fun d => norm_row m c _ s d) f hf).trans ?_
    rw [h0, Nat.mul_zero, Nat.zero_add]
  | succ j ih =>
    intro hj ht s
    have ht' : 4 * q + j < cfg0.N := Nat.lt_of_succ_lt ht
    obtain ⟨ihy, iho⟩ := ih (by omega) ht' s
    have h0 : ¬(⟨4 * q + (j + 1), ht⟩ : Fin cfg0.N).val % 4 = 0 := by show ¬(4 * q + (j + 1)) % 4 = 0; omega
    have hm : (⟨4 * q + (j + 1), ht⟩ : Fin cfg0.N).val % 4 = j + 1 := by show (4 * q + (j + 1)) % 4 = j + 1; omega
    have hr : row ⟨4 * q + (j + 1), ht⟩ s = row ⟨4 * q + j, ht'⟩ s := Fin.ext (by
      show 512 * ((4 * q + (j + 1)) / 4) + s.val = 512 * ((4 * q + j) / 4) + s.val; omega)
    rw [outsAt0_B m c ⟨4 * q + (j + 1), ht⟩ h0]
    dsimp only
    rw [out_later]
    unfold sout0_B_0
    have hy : ∀ d : Fin 2048, (outsAt0 m c (4 * q + j) ht').2 (ix2 s d) = normRow (rows m c) (gain m c) (row ⟨4 * q + (j + 1), ht⟩ s) d := by
      rw [hr]; exact ihy
    refine ⟨hy, fun n => ?_⟩
    refine (body_at _ _ _ _ s n).trans ?_
    rw [show 2048 * (j + 1 + 1) = 2048 * (j + 1) + 2048 from rfl, Finset.sum_range_add]
    refine Eq.trans ?_ (add_assoc (G := EReal) _ _ _)
    refine congrArg₂ (fun a b : EReal => a + b) ?_ (Finset.sum_congr rfl fun f hf => ?_)
    · rw [hr]; exact iho n
    · exact (unit_hidden m c _ _ s n hy f hf).trans (congrArg (fun z : ℕ => hidden _ _ _ _ _ n (2048 * z + f)) hm)

/-- An entry of the kernel's result. -/
theorem kernel_at (p : Fin 16384) (n : Fin 2048) :
    Cert.MlpIdeal.Value.G4 m c (ix2 p n) = rows m c (ix2 p n) + ∑ f ∈ Finset.range 8192, hidden (rows m c) (gain m c) (wUp m c) (wDown m c) p n f := by
  have hp : p.val < 16384 := p.isLt
  have hn : n.val < 2048 := n.isLt
  have e : Cert.MlpIdeal.Value.pt4Of (ix2 p n) = 4 * (p.val / 512) + 3 := by
    show 4 * (1 * (p.val / 512 - 0) + 1 * (n.val / 2048 - 0)) + 3 = _; omega
  have ht : 4 * (p.val / 512) + 3 < cfg0.N := lt_of_lt_of_eq (by omega : _ < 128) N_0.symm
  have hl : Cert.MlpIdeal.Value.loc4Of (ix2 p n) = ix2 (⟨p.val % 512, by omega⟩ : Fin 512) n := funext fun a => Fin.ext (by
    match a with
    | ⟨0, _⟩ => rfl
    | ⟨1, _⟩ => show n.val % 2048 = n.val; omega)
  have hr : row ⟨4 * (p.val / 512) + 3, ht⟩ ⟨p.val % 512, by omega⟩ = p := Fin.ext (by
    show 512 * ((4 * (p.val / 512) + 3) / 4) + p.val % 512 = p.val; omega)
  have h := (point_at m c (p.val / 512) (by omega) 3 (by omega) ht ⟨p.val % 512, by omega⟩).2 n
  rw [hr, Cert.MlpIdeal.Value.outsAt0_sweep] at h
  unfold Cert.MlpIdeal.Value.G4
  rw [dif_pos (by rw [e]; exact ht), hl]
  simp only [e]
  exact h

end Cert.MlpIdeal.Layer

end
-- ==== Proof.MlpReference.lean ====
/- THE FEED-FORWARD REFERENCE, ENTRY BY ENTRY: the same row and the same hidden units' parts. -/
module

public import proofs.«01_k».proof.Proof.MlpResult
public import proofs.«01_k».proof.Proof.Gen.MlpReferenceIdeal.Read

@[expose] public section

noncomputable section

namespace Cert.MlpIdeal.Layer

open Cert.MlpReferenceIdeal Cert.MlpReferenceIdeal.Read Idealize.ShloMosaic.TcCoe Idealize.SL.Sem
open Idealize.ShloMosaic hiding ix1 ix2
open Idealize.ShloMosaic.ValueIdx
open scoped BigOperators

variable (x : FVec Ideal S16384x2048 .f32) (g : FVec Ideal S2048 .f32) (wu : FVec Ideal S2048x8192 .f32) (wd : FVec Ideal S8192x2048 .f32)

theorem ref_sum (p : Fin 16384) (j : S16384.Idx) (hj : (j 0).val = p.val) : val_main_v1 (F := Ideal) x j = ∑ e : Fin 2048, x (ix2 p e) * x (ix2 p e) := by
  refine (val_main_v1_apply x j).trans ?_
  rw [val_main_cst_apply]
  refine (congrArg (· + _) Ideal.ofBits_zero_f32).trans ((zero_add _).trans (Finset.sum_congr rfl fun e _ => ?_))
  refine congrArg (fun i => x i * x i) (funext fun a => Fin.ext ?_)
  match a with
  | ⟨0, _⟩ => exact hj
  | ⟨1, _⟩ => rfl

theorem ref_scale (p : Fin 16384) (j : S16384x1.Idx) (hj : (j 0).val = p.val) :
    val_main_v7 (F := Ideal) x j = Ideal.rsqrt (Ideal.div (∑ e : Fin 2048, x (ix2 p e) * x (ix2 p e)) (Ideal.ofBits .f32 0x45000000#32) + Ideal.ofBits .f32 0x358637BD#32) := by
  rw [val_main_v7_apply, val_main_v6_apply, val_main_v5_apply, val_main_cst_1_apply, val_main_v4_apply, val_main_v3_apply, val_main_cst_0_apply, val_main_v2_apply,
    ref_sum x p _ hj]
  rfl

theorem ref_norm (p : Fin 16384) (d : Fin 2048) (i : S16384x2048.Idx) (h0 : (i 0).val = p.val) (h1 : (i 1).val = d.val) :
    val_main_v12 (F := Ideal) x g i = normRow x g p d := by
  have hi : i = ix2 p d := funext fun a => Fin.ext (match a with | ⟨0, _⟩ => h0 | ⟨1, _⟩ => h1)
  rw [val_main_v12_apply, val_main_v9_apply, val_main_v8_apply, val_main_v11_apply, val_main_v10_apply, ref_scale x p _ h0]
  unfold normRow
  refine congrArg₂ (fun a b : EReal => a * _ * b) (congrArg x hi) (congrArg g (funext fun a => Fin.ext ?_))
  match a with
  | ⟨0, _⟩ => exact h1

/-- An entry of the reference's result. -/
theorem ref_at (p : Fin 16384) (n : Fin 2048) :
    val_main_v17 (F := Ideal) x g wu wd (ix2 p n) = x (ix2 p n) + ∑ f ∈ Finset.range 8192, hidden x g wu wd p n f := by
  rw [val_main_v17_apply, val_main_v16_apply, Finset.sum_range]
  refine congrArg (fun z : EReal => x (ix2 p n) + z) (Finset.sum_congr rfl fun f _ => ?_)
  unfold hidden
  rw [dif_pos f.isLt, val_main_v15_apply, val_main_v14_apply, val_main_v13_apply, val_main_call0_v0_apply, val_main_call0_cst_apply]
  have hs : ∑ d : Fin 2048, val_main_v12 (F := Ideal) x g (lidx_main_v13 (lidx_main_v16 (ix2 p n) f) d) * wu (ridx_main_v13 (lidx_main_v16 (ix2 p n) f) d)
      = ∑ d : Fin 2048, normRow x g p d * wu (ix2 d f) := Finset.sum_congr rfl fun d _ =>
    congrArg₂ (fun a b : EReal => a * b) (ref_norm x g p d _ rfl rfl) (congrArg wu (funext fun a => Fin.ext (match a with | ⟨0, _⟩ => rfl | ⟨1, _⟩ => rfl)))
  rw [hs]
  refine congrArg₂ (fun a b : EReal => a * b) ?_ (congrArg wd (funext fun a => Fin.ext (match a with | ⟨0, _⟩ => rfl | ⟨1, _⟩ => rfl)))
  unfold act
  exact congrArg (fun z : EReal => max _ z * max _ z) Ideal.ofBits_zero_f32

end Cert.MlpIdeal.Layer

end
-- ==== Proof.XaStep.lean ====
/- ONE GRID POINT OF THE CROSS-ATTENTION KERNEL: what its body leaves in the output block, and that block entry by entry. -/
module

public import proofs.«01_k».proof.Proof.Gen.XaIdeal.Value
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.VecWindow
public import Idealize.ShloMosaic.Lib.KernelVsHost
public import Idealize.ShloMosaic.Lib.Pointwise.Reduce
public import Idealize.ShloMosaic.Lib.Pointwise.Reshape
public import Idealize.ShloMosaic.Lib.Pipeline.Value
public import Idealize.ShloMosaic.Lib.Pipeline.ValueKit.Basic
public import Idealize.ShloMosaic.Lib.Pipeline.ValueKit.Tiles

@[expose] public section

noncomputable section

namespace Cert.XaIdeal.Cross

open Cert.XaIdeal Cert.XaIdeal.Gen Idealize.ShloMosaic.TcCoe Idealize.SL.Sem
open Idealize.ShloMosaic hiding ix1 ix2 ix3
open Idealize.ShloMosaic.ValueIdx
open scoped BigOperators

/-! ## A head, over any float values -/

section
variable {F : FTy → Type} [FloatOps F]

/-- One head's queries: 128 columns of the projected rows, normalized. -/
def headY (q : FVec F S512x512 .f32) (off : Fin 2 → ℕ) (h : S512x512.Slices off S512x128) (gs : FVec F S1x128 .f32) : FVec F S512x128 .bf16 :=
  let u := extractStridedSlice S512x128 off q h
  truncf .bf16 (mulf (mulf u (broadcastTo S512x128 (rsqrt (addf (divf (shapeCast S512x1 (multiReduction .add [1] S512 (mulf u u) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 gs broadcasts_S1x128_S512x128)) bitsLt_bf16_f32

/-- The softmax over the 256 memory entries. -/
def headP (sc : FVec F S512x256 .f32) : FVec F S512x256 .f32 :=
  let e := exp (subf sc (broadcastTo S512x256 (shapeCast S512x1 (multiReduction .maximumf [1] S512 sc 0xFF800000#32 reduces_S512x256_S512 (.inl rfl) rfl) shapeCasts_S512_S512x1) broadcasts_S512x1_S512x256))
  divf e (broadcastTo S512x256 (shapeCast S512x1 (multiReduction .add [1] S512 e 0x00000000#32 reduces_S512x256_S512 (.inl rfl) rfl) shapeCasts_S512_S512x1) broadcasts_S512x1_S512x256)

/-- One head's output. -/
def headO (y : FVec F S512x128 .bf16) (k v : Vec F S1x256x128 .bf16) : FVec F S512x128 .bf16 :=
  truncf .bf16 (matmul dot_S512x256_S256x128_S512x128_1_0_0_1_n_n none
    (truncf .bf16 (headP (matmul dot_S512x128_S256x128_S512x256_1_1_0_0_n_n none y (shapeCast S256x128 k shapeCasts_S1x256x128_S256x128) (constant S512x256 .f32 0x00000000#32))) bitsLt_bf16_f32)
    (shapeCast S256x128 v shapeCasts_S1x256x128_S256x128) (constant S512x128 .f32 0x00000000#32)) bitsLt_bf16_f32

/-- The four heads side by side, projected, added to the rows. -/
def tail (x : Vec F S512x2048 .f32) (o0 o1 o2 o3 : FVec F S512x128 .bf16) (wo : Vec F S512x2048 .bf16) : FVec F S512x2048 .f32 :=
  addf x (matmul dot_S512x512_S512x2048_S512x2048_1_0_0_1_n_n none
    (concatenate S512x512 1 [⟨S512x128, o0⟩, ⟨S512x128, o1⟩, ⟨S512x128, o2⟩, ⟨S512x128, o3⟩] concatenates_S512x128_S512x128_S512x128_S512x128_S512x512_d1)
    (shapeCast S512x2048 wo shapeCasts_S512x2048_S512x2048) (constant S512x2048 .f32 0x00000000#32))

/-- What the body leaves in the output block. -/
theorem out_eq (x0 : Vec F S512x2048 .f32) (x1 : Vec F S1x2048 .f32) (x2 : Vec F S2048x512 .bf16) (x3 : Vec F S1x128 .f32) (x4 x5 : Vec F S4x256x128 .bf16) (x6 : Vec F S512x2048 .bf16) :
    out0_7 x0 x1 x2 x3 x4 x5 x6 = tail x0
      (headO (headY (k0_pay2 x0 x1 x2) ![0, 0] slices_S512x512_o0_0_S512x128 (k0_pay3 x3)) (View.ld x4 r0_4) (View.ld x5 r0_4))
      (headO (headY (k0_pay2 x0 x1 x2) ![0, 128] slices_S512x512_o0_128_S512x128 (k0_pay3 x3)) (View.ld x4 r0_5) (View.ld x5 r0_5))
      (headO (headY (k0_pay2 x0 x1 x2) ![0, 256] slices_S512x512_o0_256_S512x128 (k0_pay3 x3)) (View.ld x4 r0_6) (View.ld x5 r0_6))
      (headO (headY (k0_pay2 x0 x1 x2) ![0, 384] slices_S512x512_o0_384_S512x128 (k0_pay3 x3)) (View.ld x4 r0_7) (View.ld x5 r0_7)) x6 := by
  have z : ∀ a : Fin 2, (![0, 0] : Fin 2 → ℕ) a = 0 := fun a => match a with | ⟨0, _⟩ => rfl | ⟨1, _⟩ => rfl
  unfold_out out0_7
  refine (View.canon_cons_unit_lit inb_S512x2048_S512x2048_0_0 _ _ z).trans ?_
  rw [View.ld_unit_lit inb_S512x2048_S512x2048_0_0 x0 z, View.ld_unit_lit inb_S1x2048_S1x2048_0_0 x1 z, View.ld_unit_lit inb_S2048x512_S2048x512_0_0 x2 z,
    View.ld_unit_lit inb_S1x128_S1x128_0_0 x3 z, View.ld_unit_lit inb_S512x2048_S512x2048_0_0 x6 z]
  rfl

end

/-! ## Entry by entry, over the extended reals -/

/-- The largest of 256 scores, and the softmax of them. -/
def peak (sc : Fin 256 → EReal) : EReal := (Finset.univ : Finset (Fin 256)).fold max ⊥ sc
def soft (sc : Fin 256 → EReal) (j : Fin 256) : EReal := Ideal.div (Ideal.exp (sc j - peak sc)) (∑ i : Fin 256, Ideal.exp (sc i - peak sc))

/-- A head's queries, divided by their root mean square. -/
def unitQ (u : Fin 128 → EReal) (d : Fin 128) : EReal :=
  u d * Ideal.rsqrt (Ideal.div (∑ e : Fin 128, u e * u e) (Ideal.ofBits .f32 0x43000000#32) + Ideal.ofBits .f32 0x358637BD#32)

theorem ofBits_bot : (FloatOps.ofBits .f32 0xFF800000#32 : Ideal .f32) = ⊥ := by
  show Ideal.ofBits .f32 0xFF800000#32 = ⊥
  simp [Ideal.ofBits, Ideal.ieee]

theorem col_at {a : ℕ} (v : S512x1.Idx → EReal) (h : S512x1.Broadcasts ⟨2, ![512, a]⟩) (s : Fin 512) (d : Fin a) (ha : a ≠ 1) :
    broadcastTo ⟨2, ![512, a]⟩ v h (ix2 s d) = v (ix2 s (0 : Fin 1)) :=
  broadcastTo_apply (s := S512x1) _ h (ix2 s d) (ix2 s (0 : Fin 1)) fun ax => by
    match ax with
    | ⟨0, _⟩ => rfl
    | ⟨1, _⟩ => rfl

theorem headY_at (q : FVec Ideal S512x512 .f32) (off : ℕ) (h : S512x512.Slices ![0, off] S512x128) (gs : FVec Ideal S1x128 .f32) (s : Fin 512) (d : Fin 128)
    (u : Fin 128 → EReal) (hu : ∀ e : Fin 128, ∀ i : S512x512.Idx, (i 0).val = s.val → (i 1).val = off + e.val → q i = u e) :
    headY (F := Ideal) q ![0, off] h gs (ix2 s d) = unitQ u d * gs (ix2 0 d) := by
  have ho : off + 128 ≤ 512 := h.2 1
  have hs : ∀ e : Fin 128, extractStridedSlice S512x128 ![0, off] q h (ix2 s e) = u e := fun e =>
    (extractStridedSlice_apply ![0, off] q h (ix2 s e) (ix2 s (⟨off + e.val, by omega⟩ : Fin 512)) fun a => by
      match a with
      | ⟨0, _⟩ => exact (Nat.zero_add _).symm
      | ⟨1, _⟩ => rfl).trans (hu e _ rfl rfl)
  unfold headY
  dsimp only
  rw [truncf_apply, mulf_apply, mulf_apply, hs d]
  unfold unitQ
  refine congrArg₂ (fun a b : EReal => u d * a * b) ?_ (broadcastTo_1b_ab_apply (a := 512) (b := 128) _ _ s d)
  refine (col_at _ broadcasts_S512x1_S512x128 s d (by decide)).trans ?_
  refine congrArg (fun z : EReal => Ideal.rsqrt (Ideal.div z (Ideal.ofBits .f32 0x43000000#32) + Ideal.ofBits .f32 0x358637BD#32)) ?_
  refine (shapeCast_a_a1_apply (a := 512) _ shapeCasts_S512_S512x1 s 0).trans ?_
  refine (Ideal.reduceAdd_r2_a1 reduces_S512x128_S512 _ _).trans ?_
  exact Finset.sum_congr rfl fun e _ => (mulf_apply _ _ _).trans (congrArg₂ (fun a b : EReal => a * b) (hs e) (hs e))

theorem headP_at (sc : FVec Ideal S512x256 .f32) (s : Fin 512) (j : Fin 256) :
    headP (F := Ideal) sc (ix2 s j) = soft (fun i => sc (ix2 s i)) j := by
  have hm : ∀ i : Fin 256, broadcastTo S512x256 (shapeCast S512x1 (multiReduction .maximumf [1] S512 sc 0xFF800000#32 reduces_S512x256_S512 (.inl rfl) rfl) shapeCasts_S512_S512x1) broadcasts_S512x1_S512x256 (ix2 s i)
      = peak fun i => sc (ix2 s i) := fun i => by
    refine (col_at _ broadcasts_S512x1_S512x256 s i (by decide)).trans ?_
    refine (shapeCast_a_a1_apply (a := 512) _ shapeCasts_S512_S512x1 s 0).trans ?_
    refine (Ideal.multiReduction_maximumf_single (φ := .f32) sc _ reduces_S512x256_S512 _ _ (ix1 s)).trans ?_
    rw [ofBits_bot]
    unfold peak
    refine congrArg (fun f => Finset.fold max ⊥ f Finset.univ) (funext fun k => congrArg sc ?_)
    funext a
    match a with
    | ⟨0, _⟩ => rfl
    | ⟨1, _⟩ => rfl
  unfold headP
  dsimp only
  unfold soft
  refine congrArg₂ Ideal.div (congrArg (fun z : EReal => Ideal.exp (sc (ix2 s j) - z)) (hm j)) ?_
  refine (col_at _ broadcasts_S512x1_S512x256 s j (by decide)).trans ?_
  refine (shapeCast_a_a1_apply (a := 512) _ shapeCasts_S512_S512x1 s 0).trans ?_
  refine (Ideal.reduceAdd_r2_a1 reduces_S512x256_S512 _ _).trans ?_
  exact Finset.sum_congr rfl fun i _ => congrArg (fun z : EReal => Ideal.exp (sc (ix2 s i) - z)) (hm i)

theorem headO_at (y : FVec Ideal S512x128 .bf16) (k v : Vec Ideal S1x256x128 .bf16) (s : Fin 512) (d : Fin 128) :
    headO (F := Ideal) y k v (ix2 s d)
      = ∑ j : Fin 256, soft (fun i => ∑ e : Fin 128, y (ix2 s e) * k (ix3 0 i e)) j * v (ix3 0 j d) := by
  unfold headO
  rw [truncf_apply]
  refine (Ideal.matmul_plain_apply (M := 512) (K := 256) (N := 128) none _ _ _ s d).trans ?_
  rw [constant_apply, Ideal.ofBits_zero_f32, zero_add]
  refine Finset.sum_congr rfl fun j _ => ?_
  rw [truncf_apply, headP_at, shapeCast_1ab_ab_apply (a := 256) (b := 128)]
  refine congrArg (fun z : Fin 256 → EReal => soft z j * v (ix3 0 j d)) (funext fun i => ?_)
  refine (Ideal.matmul_transposedRhs_apply (M := 512) (K := 128) (N := 256) none _ _ _ s i).trans ?_
  rw [constant_apply, Ideal.ofBits_zero_f32, zero_add]
  refine Finset.sum_congr rfl fun e _ => ?_
  rw [shapeCast_1ab_ab_apply (a := 256) (b := 128)]

theorem cat_at (o : Fin 4 → S512x128.Idx → EReal) (s : Fin 512) (c : Fin 512) :
    concatenate S512x512 1 [⟨S512x128, o 0⟩, ⟨S512x128, o 1⟩, ⟨S512x128, o 2⟩, ⟨S512x128, o 3⟩] concatenates_S512x128_S512x128_S512x128_S512x128_S512x512_d1 (ix2 s c)
      = o ⟨c.val / 128, by omega⟩ (ix2 s (⟨c.val % 128, by omega⟩ : Fin 128)) :=
  concatenate_ofFn_apply (t := S512x512) (s₁ := S512x128) 1 o concatenates_S512x128_S512x128_S512x128_S512x128_S512x512_d1 rfl 128 rfl (ix2 s c) ⟨c.val / 128, by omega⟩ rfl
    (ix2 s (⟨c.val % 128, by omega⟩ : Fin 128)) rfl fun b hb => by
      match b with
      | ⟨0, _⟩ => rfl
      | ⟨1, _⟩ => exact absurd rfl hb

theorem tail_at (x : Vec Ideal S512x2048 .f32) (o : Fin 4 → S512x128.Idx → EReal) (wo : Vec Ideal S512x2048 .bf16) (s : Fin 512) (n : Fin 2048) :
    tail (F := Ideal) x (o 0) (o 1) (o 2) (o 3) wo (ix2 s n)
      = x (ix2 s n) + ∑ c : Fin 512, o ⟨c.val / 128, by omega⟩ (ix2 s (⟨c.val % 128, by omega⟩ : Fin 128)) * wo (ix2 c n) := by
  unfold tail
  rw [addf_apply]
  refine congrArg (fun z : EReal => x (ix2 s n) + z) ?_
  refine (Ideal.matmul_plain_apply (M := 512) (K := 512) (N := 2048) none _ _ _ s n).trans ?_
  rw [constant_apply, Ideal.ofBits_zero_f32, zero_add, shapeCast_id]
  exact Finset.sum_congr rfl fun c _ => congrArg (fun z : EReal => z * wo (ix2 c n)) (cat_at o s c)

/-- A normalized row, projected. -/
theorem proj_at (x : S512x2048.Idx → EReal) (g : S1x2048.Idx → EReal) (wq : S2048x512.Idx → EReal) (s : Fin 512) (c : Fin 512) :
    k0_pay2 (F := Ideal) x g wq (ix2 s c)
      = ∑ d : Fin 2048, x (ix2 s d) * Ideal.rsqrt (Ideal.div (∑ e : Fin 2048, x (ix2 s e) * x (ix2 s e)) (Ideal.ofBits .f32 0x45000000#32) + Ideal.ofBits .f32 0x358637BD#32) * g (ix2 0 d)
          * wq (ix2 d c) := by
  unfold k0_pay2
  dsimp only
  refine (Ideal.matmul_plain_apply (M := 512) (K := 2048) (N := 512) none _ _ _ s c).trans ?_
  rw [constant_apply, Ideal.ofBits_zero_f32, zero_add, shapeCast_id, shapeCast_id]
  refine Finset.sum_congr rfl fun d _ => ?_
  rw [truncf_apply, mulf_apply, mulf_apply]
  refine congrArg₂ (fun a b : EReal => x (ix2 s d) * a * b * wq (ix2 d c)) ?_ (broadcastTo_1b_ab_apply (a := 512) (b := 2048) _ _ s d)
  refine (col_at _ broadcasts_S512x1_S512x2048 s d (by decide)).trans ?_
  refine congrArg (fun z : EReal => Ideal.rsqrt (Ideal.div z (Ideal.ofBits .f32 0x45000000#32) + Ideal.ofBits .f32 0x358637BD#32)) ?_
  refine (shapeCast_a_a1_apply (a := 512) _ shapeCasts_S512_S512x1 s 0).trans ?_
  exact Ideal.reduceAdd_r2_a1 reduces_S512x2048_S512 _ _

theorem gain_at (g : S1x128.Idx → EReal) (d : Fin 128) : k0_pay3 (F := Ideal) g (ix2 0 d) = g (ix2 0 d) * Ideal.ofBits .f32 0x3DB504F3#32 := by
  unfold k0_pay3
  rw [mulf_apply, shapeCast_id]
  rfl

/-! ## The scale, moved from the queries' gain to the scores -/

theorem sum_scale {n : ℕ} (f : Fin n → EReal) (r : EReal) (h0 : 0 ≤ r) (ht : r ≠ ⊤) : ∑ d : Fin n, f d * r = (∑ d : Fin n, f d) * r := by
  induction n with
  | zero => simp
  | succ n ih => rw [Fin.sum_univ_castSucc, Fin.sum_univ_castSucc, ih, EReal.right_distrib_of_nonneg_of_ne_top h0 ht]

theorem scale_nonneg : (0 : EReal) ≤ Ideal.ofBits .f32 0x3DB504F3#32 ∧ Ideal.ofBits .f32 0x3DB504F3#32 ≠ ⊤ := by
  have h : ∃ r : ℝ, 0 ≤ r ∧ Ideal.ofBits .f32 0x3DB504F3#32 = (r : EReal) := by
    refine ⟨_, ?_, by simp [Ideal.ofBits, Ideal.ieee]; rfl⟩
    positivity
  obtain ⟨r, hr, e⟩ := h
  rw [e]
  exact ⟨EReal.coe_nonneg.mpr hr, EReal.coe_ne_top r⟩

/-- A score with the scale in the gain is the score, scaled. -/
theorem score_scale (u g k : Fin 128 → EReal) :
    ∑ e : Fin 128, u e * (g e * Ideal.ofBits .f32 0x3DB504F3#32) * k e = (∑ e : Fin 128, u e * g e * k e) * Ideal.ofBits .f32 0x3DB504F3#32 := by
  rw [← sum_scale _ _ scale_nonneg.1 scale_nonneg.2]
  refine Finset.sum_congr rfl fun e _ => ?_
  rw [← mul_assoc, mul_right_comm]

end Cert.XaIdeal.Cross

end
-- ==== Proof.XaResult.lean ====
/- THE CROSS-ATTENTION KERNEL'S RESULT, ENTRY BY ENTRY: a row, and its four heads' outputs, projected. -/
module

public import proofs.«01_k».proof.Proof.XaStep
public import Idealize.ShloMosaic.Lib.Claim
public import Idealize.ShloMosaic.Lib.StableHlo.RunRead

@[expose] public section

noncomputable section

namespace Cert.XaIdeal.Cross

open Cert.XaIdeal Cert.XaIdeal.Gen Idealize.ShloMosaic.TcCoe Idealize.SL.Sem
open Idealize.ShloMosaic hiding ix1 ix2 ix3
open Idealize.ShloMosaic.ValueIdx
open scoped BigOperators

/-! ## The layer, entry by entry -/

section
variable (x : S16384x2048.Idx → EReal) (k v : S4x256x128.Idx → EReal) (g : S2048.Idx → EReal) (wq : S2048x512.Idx → EReal) (qn : S128.Idx → EReal)
  (wo : S512x2048.Idx → EReal) (p : Fin 16384)

/-- A normalized row, … -/
def normRow (d : Fin 2048) : EReal :=
  x (ix2 p d) * Ideal.rsqrt (Ideal.div (∑ e : Fin 2048, x (ix2 p e) * x (ix2 p e)) (Ideal.ofBits .f32 0x45000000#32) + Ideal.ofBits .f32 0x358637BD#32) * g (ix1 d)

/-- … one head's columns of its projection, … -/
def headQ (h : Fin 4) (e : Fin 128) : EReal := ∑ d : Fin 2048, normRow x g p d * wq (ix2 d (⟨128 * h.val + e.val, by omega⟩ : Fin 512))

/-- … the head's scores against the memory, … -/
def score (h : Fin 4) (i : Fin 256) : EReal :=
  (∑ e : Fin 128, unitQ (headQ x g wq p h) e * qn (ix1 e) * k (ix3 h i e)) * Ideal.ofBits .f32 0x3DB504F3#32

/-- … its output, … -/
def headOut (h : Fin 4) (d : Fin 128) : EReal := ∑ j : Fin 256, soft (score x k g wq qn p h) j * v (ix3 h j d)

/-- … and an entry of the result. -/
def entry (n : Fin 2048) : EReal :=
  x (ix2 p n) + ∑ c : Fin 512, headOut x k v g wq qn p ⟨c.val / 128, by omega⟩ ⟨c.val % 128, by omega⟩ * wo (ix2 c n)

end

variable (m : (ℓ : Loc nD τ sig) → Buf (Elt Ideal) ℓ) (c : Dev nD)

abbrev rows : S16384x2048.Idx → EReal := m ((c : Thread nD τ).loc main_arg0)
abbrev keys : S4x256x128.Idx → EReal := m ((c : Thread nD τ).loc main_arg1)
abbrev vals : S4x256x128.Idx → EReal := m ((c : Thread nD τ).loc main_arg2)
abbrev gain : S2048.Idx → EReal := m ((c : Thread nD τ).loc main_arg3)
abbrev wQ : S2048x512.Idx → EReal := m ((c : Thread nD τ).loc main_arg4)
abbrev qGain : S128.Idx → EReal := m ((c : Thread nD τ).loc main_arg5)
abbrev wO : S512x2048.Idx → EReal := m ((c : Thread nD τ).loc main_arg6)

/-! ## What the kernel reads -/

theorem V_gain : V m c main_v0 = shapeCast S1x2048 (m ((c : Thread nD τ).loc main_arg3)) shapeCasts_S2048_S1x2048 := by
  entry_read
  rfl

theorem V_wq : V m c main_v1 = truncf (F := Ideal) .bf16 (m ((c : Thread nD τ).loc main_arg4)) bitsLt_bf16_f32 := by
  entry_read
  simp only [List.flatten_cons, List.flatten_nil, List.cons_append, List.nil_append]

theorem V_qn : V m c main_v2 = shapeCast S1x128 (m ((c : Thread nD τ).loc main_arg5)) shapeCasts_S128_S1x128 := by
  entry_read
  rfl

theorem V_k : V m c main_v3 = truncf (F := Ideal) .bf16 (m ((c : Thread nD τ).loc main_arg1)) bitsLt_bf16_f32 := by
  entry_read
  simp only [List.flatten_cons, List.flatten_nil, List.cons_append, List.nil_append]

theorem V_v : V m c main_v4 = truncf (F := Ideal) .bf16 (m ((c : Thread nD τ).loc main_arg2)) bitsLt_bf16_f32 := by
  entry_read
  simp only [List.flatten_cons, List.flatten_nil, List.cons_append, List.nil_append]

theorem V_wo : V m c main_v5 = truncf (F := Ideal) .bf16 (m ((c : Thread nD τ).loc main_arg6)) bitsLt_bf16_f32 := by
  entry_read
  simp only [List.flatten_cons, List.flatten_nil, List.cons_append, List.nil_append]

theorem index0 (t : Fin cfg0.N) : win0_0.index t = ![t.val, 0] := (by decide +kernel : ∀ t : Fin grid0.N, win0_0.index t = ![t.val, 0]) t
theorem index1 (t : Fin cfg0.N) : win0_1.index t = ![0, 0] := (by decide +kernel : ∀ t : Fin grid0.N, win0_1.index t = ![0, 0]) t
theorem index2 (t : Fin cfg0.N) : win0_2.index t = ![0, 0] := (by decide +kernel : ∀ t : Fin grid0.N, win0_2.index t = ![0, 0]) t
theorem index3 (t : Fin cfg0.N) : win0_3.index t = ![0, 0] := (by decide +kernel : ∀ t : Fin grid0.N, win0_3.index t = ![0, 0]) t
theorem index4 (t : Fin cfg0.N) : win0_4.index t = ![0, 0, 0] := (by decide +kernel : ∀ t : Fin grid0.N, win0_4.index t = ![0, 0, 0]) t
theorem index5 (t : Fin cfg0.N) : win0_5.index t = ![0, 0, 0] := (by decide +kernel : ∀ t : Fin grid0.N, win0_5.index t = ![0, 0, 0]) t
theorem index6 (t : Fin cfg0.N) : win0_6.index t = ![0, 0] := (by decide +kernel : ∀ t : Fin grid0.N, win0_6.index t = ![0, 0]) t
theorem index7 (t : Fin cfg0.N) : win0_7.index t = ![t.val, 0] := (by decide +kernel : ∀ t : Fin grid0.N, win0_7.index t = ![t.val, 0]) t

/-- A grid point's row. -/
def row (t : Fin cfg0.N) (s : Fin 512) : Fin 16384 := ⟨512 * t.val + s.val, by have h : t.val < 32 := lt_of_lt_of_eq t.isLt N_0; omega⟩

theorem plain (n b : ℕ) : 0 * n + b = b := by rw [Nat.zero_mul, Nat.zero_add]

theorem read0 (A : S16384x2048.Idx → Ideal .f32) (t : Fin cfg0.N) (s : Fin 512) (d : Fin 2048) :
    ((cfg0.win 0).blk t).view.read (Elt Ideal) A (ix2 s d) = A (ix2 (row t s) d) := by
  refine congrArg A (funext fun a => Fin.ext ?_)
  refine (Pipeline.Window.rect_emb_val win0_0 t (ix2 s d) a).trans ?_
  rw [index0]
  match a with
  | ⟨0, _⟩ => exact congrArg (· + s.val) (Nat.mul_comm _ _)
  | ⟨1, _⟩ => exact plain _ _

theorem read7 (A : S16384x2048.Idx → Ideal .f32) (t : Fin cfg0.N) (s : Fin 512) (d : Fin 2048) :
    ((cfg0.win 7).blk t).view.read (Elt Ideal) A (ix2 s d) = A (ix2 (row t s) d) := by
  refine congrArg A (funext fun a => Fin.ext ?_)
  refine (Pipeline.Window.rect_emb_val win0_7 t (ix2 s d) a).trans ?_
  rw [index7]
  match a with
  | ⟨0, _⟩ => exact congrArg (· + s.val) (Nat.mul_comm _ _)
  | ⟨1, _⟩ => exact plain _ _

theorem read1 (A : S1x2048.Idx → Ideal .f32) (t : Fin cfg0.N) (d : Fin 2048) :
    ((cfg0.win 1).blk t).view.read (Elt Ideal) A (ix2 (0 : Fin 1) d) = A (ix2 (0 : Fin 1) d) := by
  refine congrArg A (funext fun a => Fin.ext ?_)
  refine (Pipeline.Window.rect_emb_val win0_1 t (ix2 (0 : Fin 1) d) a).trans ?_
  rw [index1]
  match a with
  | ⟨0, _⟩ => rfl
  | ⟨1, _⟩ => exact plain _ _

theorem read2 (A : S2048x512.Idx → Ideal .bf16) (t : Fin cfg0.N) (d : Fin 2048) (k : Fin 512) :
    ((cfg0.win 2).blk t).view.read (Elt Ideal) A (ix2 d k) = A (ix2 d k) := by
  refine congrArg A (funext fun a => Fin.ext ?_)
  refine (Pipeline.Window.rect_emb_val win0_2 t (ix2 d k) a).trans ?_
  rw [index2]
  match a with
  | ⟨0, _⟩ => exact plain _ _
  | ⟨1, _⟩ => exact plain _ _

theorem read3 (A : S1x128.Idx → Ideal .f32) (t : Fin cfg0.N) (d : Fin 128) :
    ((cfg0.win 3).blk t).view.read (Elt Ideal) A (ix2 (0 : Fin 1) d) = A (ix2 (0 : Fin 1) d) := by
  refine congrArg A (funext fun a => Fin.ext ?_)
  refine (Pipeline.Window.rect_emb_val win0_3 t (ix2 (0 : Fin 1) d) a).trans ?_
  rw [index3]
  match a with
  | ⟨0, _⟩ => rfl
  | ⟨1, _⟩ => exact plain _ _

theorem read4 (A : S4x256x128.Idx → Ideal .bf16) (t : Fin cfg0.N) (h : Fin 4) (j : Fin 256) (d : Fin 128) :
    ((cfg0.win 4).blk t).view.read (Elt Ideal) A (ix3 h j d) = A (ix3 h j d) := by
  refine congrArg A (funext fun a => Fin.ext ?_)
  refine (Pipeline.Window.rect_emb_val win0_4 t (ix3 h j d) a).trans ?_
  rw [index4]
  match a with
  | ⟨0, _⟩ => exact plain _ _
  | ⟨1, _⟩ => exact plain _ _
  | ⟨2, _⟩ => exact plain _ _

theorem read5 (A : S4x256x128.Idx → Ideal .bf16) (t : Fin cfg0.N) (h : Fin 4) (j : Fin 256) (d : Fin 128) :
    ((cfg0.win 5).blk t).view.read (Elt Ideal) A (ix3 h j d) = A (ix3 h j d) := by
  refine congrArg A (funext fun a => Fin.ext ?_)
  refine (Pipeline.Window.rect_emb_val win0_5 t (ix3 h j d) a).trans ?_
  rw [index5]
  match a with
  | ⟨0, _⟩ => exact plain _ _
  | ⟨1, _⟩ => exact plain _ _
  | ⟨2, _⟩ => exact plain _ _

theorem read6 (A : S512x2048.Idx → Ideal .bf16) (t : Fin cfg0.N) (k : Fin 512) (n : Fin 2048) :
    ((cfg0.win 6).blk t).view.read (Elt Ideal) A (ix2 k n) = A (ix2 k n) := by
  refine congrArg A (funext fun a => Fin.ext ?_)
  refine (Pipeline.Window.rect_emb_val win0_6 t (ix2 k n) a).trans ?_
  rw [index6]
  match a with
  | ⟨0, _⟩ => exact plain _ _
  | ⟨1, _⟩ => exact plain _ _

theorem iblk0_at (t : Fin cfg0.N) (s : Fin 512) (d : Fin 2048) : iblk m c 0 t (ix2 s d) = rows m c (ix2 (row t s) d) := by
  unfold iblk
  refine (read0 (V m c (Pipeline.arrRef spec0 0)) t s d).trans ?_
  exact congrFun (V_main_arg0 m c) _

theorem iblk1_at (t : Fin cfg0.N) (d : Fin 2048) : iblk m c 1 t (ix2 (0 : Fin 1) d) = gain m c (ix1 d) := by
  unfold iblk
  refine (read1 (V m c (Pipeline.arrRef spec0 1)) t d).trans ?_
  refine (congrFun (V_gain m c) _).trans ?_
  exact shapeCast_a_1a_apply (a := 2048) _ _ 0 d

theorem iblk2_at (t : Fin cfg0.N) (d : Fin 2048) (k : Fin 512) : iblk m c 2 t (ix2 d k) = wQ m c (ix2 d k) := by
  unfold iblk
  exact (read2 (V m c (Pipeline.arrRef spec0 2)) t d k).trans (congrFun (V_wq m c) _)

theorem iblk3_at (t : Fin cfg0.N) (d : Fin 128) : iblk m c 3 t (ix2 (0 : Fin 1) d) = qGain m c (ix1 d) := by
  unfold iblk
  refine (read3 (V m c (Pipeline.arrRef spec0 3)) t d).trans ?_
  refine (congrFun (V_qn m c) _).trans ?_
  exact shapeCast_a_1a_apply (a := 128) _ _ 0 d

theorem iblk4_at (t : Fin cfg0.N) (h : Fin 4) (j : Fin 256) (d : Fin 128) : iblk m c 4 t (ix3 h j d) = keys m c (ix3 h j d) := by
  unfold iblk
  exact (read4 (V m c (Pipeline.arrRef spec0 4)) t h j d).trans (congrFun (V_k m c) _)

theorem iblk5_at (t : Fin cfg0.N) (h : Fin 4) (j : Fin 256) (d : Fin 128) : iblk m c 5 t (ix3 h j d) = vals m c (ix3 h j d) := by
  unfold iblk
  exact (read5 (V m c (Pipeline.arrRef spec0 5)) t h j d).trans (congrFun (V_v m c) _)

theorem iblk6_at (t : Fin cfg0.N) (k : Fin 512) (n : Fin 2048) : iblk m c 6 t (ix2 k n) = wO m c (ix2 k n) := by
  unfold iblk
  exact (read6 (V m c (Pipeline.arrRef spec0 6)) t k n).trans (congrFun (V_wo m c) _)

/-! ## A grid point -/

/-- A point's projected rows. -/
theorem proj_row (t : Fin cfg0.N) (s : Fin 512) (h : Fin 4) (e : Fin 128) (i : S512x512.Idx) (h0 : (i 0).val = s.val) (h1 : (i 1).val = 128 * h.val + e.val) :
    k0_pay2 (F := Ideal) (iblk m c 0 t) (iblk m c 1 t) (iblk m c 2 t) i = headQ (rows m c) (gain m c) (wQ m c) (row t s) h e := by
  have hi : i = ix2 s (⟨128 * h.val + e.val, by omega⟩ : Fin 512) := funext fun a => Fin.ext (match a with | ⟨0, _⟩ => h0 | ⟨1, _⟩ => h1)
  rw [hi, proj_at]
  unfold headQ normRow
  simp only [iblk0_at, iblk1_at, iblk2_at]

/-- A head of a point. -/
theorem head_at (t : Fin cfg0.N) (h : Fin 4) (off : ℕ) (ho : off = 128 * h.val) (hs : S512x512.Slices ![0, off] S512x128) (k v : Vec Ideal S1x256x128 .bf16)
    (hk : ∀ (j : Fin 256) (d : Fin 128), k (ix3 0 j d) = keys m c (ix3 h j d)) (hv : ∀ (j : Fin 256) (d : Fin 128), v (ix3 0 j d) = vals m c (ix3 h j d)) (s : Fin 512) (d : Fin 128) :
    headO (F := Ideal) (headY (k0_pay2 (F := Ideal) (iblk m c 0 t) (iblk m c 1 t) (iblk m c 2 t)) ![0, off] hs (k0_pay3 (F := Ideal) (iblk m c 3 t))) k v (ix2 s d)
      = headOut (rows m c) (keys m c) (vals m c) (gain m c) (wQ m c) (qGain m c) (row t s) h d := by
  subst ho
  rw [headO_at]
  unfold headOut
  refine Finset.sum_congr rfl fun j _ => ?_
  rw [hv]
  refine congrArg (fun z : Fin 256 → EReal => soft z j * _) (funext fun i => ?_)
  unfold score
  rw [← score_scale]
  refine Finset.sum_congr rfl fun e _ => ?_
  rw [headY_at _ _ hs _ s e (headQ (rows m c) (gain m c) (wQ m c) (row t s) h) (fun e i h0 h1 => proj_row m c t s h e i h0 h1), gain_at, iblk3_at, hk]

/-- A point's output block. -/
theorem out_at (t : Fin cfg0.N) (s : Fin 512) (n : Fin 2048) :
    out0_7 (F := Ideal) (iblk m c 0 t) (iblk m c 1 t) (iblk m c 2 t) (iblk m c 3 t) (iblk m c 4 t) (iblk m c 5 t) (iblk m c 6 t) (ix2 s n)
      = entry (rows m c) (keys m c) (vals m c) (gain m c) (wQ m c) (qGain m c) (wO m c) (row t s) n := by
  rw [out_eq]
  have hld : ∀ (X : S4x256x128.Idx → Elt Ideal .bf16) (h : Fin 4) (inb : ∀ a, ![h.val, 0, 0] a + S1x256x128.size a ≤ S4x256x128.size a) (j : Fin 256) (d : Fin 128),
      View.ld X (Rect.unit (s := S4x256x128) ![h.val, 0, 0] S1x256x128.size inb) (ix3 (0 : Fin 1) j d) = X (ix3 h j d) := fun X h inb j d =>
    View.ld_unit_apply_of (Val := Elt Ideal) X _ _ inb (ix3 (0 : Fin 1) j d) (ix3 h j d) fun a => by
      match a with
      | ⟨0, _⟩ => rfl
      | ⟨1, _⟩ => exact (Nat.zero_add _).symm
      | ⟨2, _⟩ => exact (Nat.zero_add _).symm
  let q := k0_pay2 (F := Ideal) (iblk m c 0 t) (iblk m c 1 t) (iblk m c 2 t)
  let gs := k0_pay3 (F := Ideal) (iblk m c 3 t)
  let o : Fin 4 → S512x128.Idx → EReal := ![
    headO (F := Ideal) (headY q ![0, 0] slices_S512x512_o0_0_S512x128 gs) (View.ld (iblk m c 4 t) r0_4) (View.ld (iblk m c 5 t) r0_4),
    headO (F := Ideal) (headY q ![0, 128] slices_S512x512_o0_128_S512x128 gs) (View.ld (iblk m c 4 t) r0_5) (View.ld (iblk m c 5 t) r0_5),
    headO (F := Ideal) (headY q ![0, 256] slices_S512x512_o0_256_S512x128 gs) (View.ld (iblk m c 4 t) r0_6) (View.ld (iblk m c 5 t) r0_6),
    headO (F := Ideal) (headY q ![0, 384] slices_S512x512_o0_384_S512x128 gs) (View.ld (iblk m c 4 t) r0_7) (View.ld (iblk m c 5 t) r0_7)]
  have ho : ∀ (h : Fin 4) (d : Fin 128), o h (ix2 s d) = headOut (rows m c) (keys m c) (vals m c) (gain m c) (wQ m c) (qGain m c) (row t s) h d := fun h d => by
    match h with
    | ⟨0, _⟩ => exact head_at m c t 0 0 rfl slices_S512x512_o0_0_S512x128 _ _ (fun j d => (hld _ 0 _ j d).trans (iblk4_at m c t 0 j d)) (fun j d => (hld _ 0 _ j d).trans (iblk5_at m c t 0 j d)) s d
    | ⟨1, _⟩ => exact head_at m c t 1 128 rfl slices_S512x512_o0_128_S512x128 _ _ (fun j d => (hld _ 1 _ j d).trans (iblk4_at m c t 1 j d)) (fun j d => (hld _ 1 _ j d).trans (iblk5_at m c t 1 j d)) s d
    | ⟨2, _⟩ => exact head_at m c t 2 256 rfl slices_S512x512_o0_256_S512x128 _ _ (fun j d => (hld _ 2 _ j d).trans (iblk4_at m c t 2 j d)) (fun j d => (hld _ 2 _ j d).trans (iblk5_at m c t 2 j d)) s d
    | ⟨3, _⟩ => exact head_at m c t 3 384 rfl slices_S512x512_o0_384_S512x128 _ _ (fun j d => (hld _ 3 _ j d).trans (iblk4_at m c t 3 j d)) (fun j d => (hld _ 3 _ j d).trans (iblk5_at m c t 3 j d)) s d
  refine (tail_at (iblk m c 0 t) o (iblk m c 6 t) s n).trans ?_
  unfold entry
  rw [iblk0_at]
  refine congrArg (fun z : EReal => _ + z) (Finset.sum_congr rfl fun k _ => ?_)
  rw [ho, iblk6_at]

theorem flush7 : ∀ t : Fin cfg0.N, (cfg0.win 7).flush t = true := by decide

/-- An entry of the kernel's result. -/
theorem kernel_at (p : Fin 16384) (n : Fin 2048) :
    (dats m 0 c).arrAt 7 cfg0.N (ix2 p n) = entry (rows m c) (keys m c) (vals m c) (gain m c) (wQ m c) (qGain m c) (wO m c) p n := by
  have ht : p.val / 512 < cfg0.N := lt_of_lt_of_eq (by omega : _ < 32) N_0.symm
  have e := congrFun (Cert.XaIdeal.Value.blocks7 m c ⟨p.val / 512, ht⟩ (flush7 _)) (ix2 (⟨p.val % 512, by omega⟩ : Fin 512) n)
  rw [Cert.XaIdeal.Value.flushed7] at e
  have hr : row ⟨p.val / 512, ht⟩ ⟨p.val % 512, by omega⟩ = p := Fin.ext (by show 512 * (p.val / 512) + p.val % 512 = p.val; omega)
  have e7 := read7 ((dats m 0 c).arrAt 7 cfg0.N) ⟨p.val / 512, ht⟩ ⟨p.val % 512, by omega⟩ n
  have eo := out_at m c ⟨p.val / 512, ht⟩ ⟨p.val % 512, by omega⟩ n
  have e' := e7.symm.trans (e.trans eo)
  rw [hr] at e'
  exact e'

end Cert.XaIdeal.Cross

end
-- ==== Proof.XaReference.lean ====
/- THE CROSS-ATTENTION REFERENCE, ENTRY BY ENTRY: the same row and the same heads. -/
module

public import proofs.«01_k».proof.Proof.XaResult
public import proofs.«01_k».proof.Proof.Gen.XaReferenceIdeal.Read

@[expose] public section

noncomputable section

namespace Cert.XaIdeal.Cross

open Cert.XaReferenceIdeal Cert.XaReferenceIdeal.Gen Cert.XaReferenceIdeal.Read Idealize.ShloMosaic.TcCoe Idealize.SL.Sem
open Idealize.ShloMosaic hiding ix1 ix2 ix3
open Idealize.ShloMosaic.ValueIdx
open scoped BigOperators

variable (x : FVec Ideal S16384x2048 .f32) (k v : FVec Ideal S4x256x128 .f32) (g : FVec Ideal S2048 .f32) (wq : FVec Ideal S2048x512 .f32) (qn : FVec Ideal S128 .f32)
  (wo : FVec Ideal S512x2048 .f32)

theorem ref_sum (p : Fin 16384) (j : S16384.Idx) (hj : (j 0).val = p.val) : val_main_v1 (F := Ideal) x j = ∑ e : Fin 2048, x (ix2 p e) * x (ix2 p e) := by
  refine (val_main_v1_apply x j).trans ?_
  rw [val_main_cst_apply]
  refine (congrArg (· + _) Ideal.ofBits_zero_f32).trans ((zero_add _).trans (Finset.sum_congr rfl fun e _ => ?_))
  refine congrArg (fun i => x i * x i) (funext fun a => Fin.ext ?_)
  match a with
  | ⟨0, _⟩ => exact hj
  | ⟨1, _⟩ => rfl

theorem ref_scale (p : Fin 16384) (j : S16384x1.Idx) (hj : (j 0).val = p.val) :
    val_main_v7 (F := Ideal) x j = Ideal.rsqrt (Ideal.div (∑ e : Fin 2048, x (ix2 p e) * x (ix2 p e)) (Ideal.ofBits .f32 0x45000000#32) + Ideal.ofBits .f32 0x358637BD#32) := by
  rw [val_main_v7_apply, val_main_v6_apply, val_main_v5_apply, val_main_cst_1_apply, val_main_v4_apply, val_main_v3_apply, val_main_cst_0_apply, val_main_v2_apply,
    ref_sum x p _ hj]
  rfl

theorem ref_norm (p : Fin 16384) (d : Fin 2048) (i : S16384x2048.Idx) (h0 : (i 0).val = p.val) (h1 : (i 1).val = d.val) :
    val_main_v12 (F := Ideal) x g i = normRow x g p d := by
  have hi : i = ix2 p d := funext fun a => Fin.ext (match a with | ⟨0, _⟩ => h0 | ⟨1, _⟩ => h1)
  rw [val_main_v12_apply, val_main_v9_apply, val_main_v8_apply, val_main_v11_apply, val_main_v10_apply, ref_scale x p _ h0]
  unfold normRow
  refine congrArg₂ (fun a b : EReal => a * _ * b) (congrArg x hi) (congrArg g (funext fun a => Fin.ext ?_))
  match a with
  | ⟨0, _⟩ => exact h1

/-- A head's queries, … -/
theorem ref_q (p : Fin 16384) (h : Fin 4) (e : Fin 128) (i : S16384x4x128.Idx) (h0 : (i 0).val = p.val) (h1 : (i 1).val = h.val) (h2 : (i 2).val = e.val) :
    val_main_v14 (F := Ideal) x g wq i = headQ x g wq p h e := by
  rw [val_main_v14_apply, val_main_v13_apply]
  unfold headQ
  refine Finset.sum_congr rfl fun d _ => ?_
  refine congrArg₂ (fun a b : EReal => a * b) (ref_norm x g p d _ ?_ rfl) (congrArg wq (funext fun a => Fin.ext ?_))
  · show (((i 0).val * 4 + (i 1).val) * 128 + (i 2).val) / 512 = p.val
    omega
  · match a with
    | ⟨0, _⟩ => rfl
    | ⟨1, _⟩ =>
      show (((i 0).val * 4 + (i 1).val) * 128 + (i 2).val) % 512 = 128 * h.val + e.val
      omega

/-- … divided by their root mean square, … -/
theorem ref_unit (p : Fin 16384) (h : Fin 4) (e : Fin 128) (i : S16384x4x128.Idx) (h0 : (i 0).val = p.val) (h1 : (i 1).val = h.val) (h2 : (i 2).val = e.val) :
    val_main_v24 (F := Ideal) x g wq i = unitQ (headQ x g wq p h) e := by
  have hs : ∀ j : S16384x4.Idx, (j 0).val = p.val → (j 1).val = h.val → val_main_v16 (F := Ideal) x g wq j = ∑ e : Fin 128, headQ x g wq p h e * headQ x g wq p h e := fun j j0 j1 => by
    refine (val_main_v16_apply x g wq j).trans ?_
    rw [val_main_cst_2_apply]
    refine (congrArg (· + _) Ideal.ofBits_zero_f32).trans ((zero_add _).trans (Finset.sum_congr rfl fun e _ => ?_))
    rw [val_main_v15_apply, ref_q x g wq p h e _ j0 j1 rfl]
    rfl
  rw [val_main_v24_apply, val_main_v23_apply, val_main_v22_apply, val_main_v21_apply, val_main_v20_apply, val_main_cst_4_apply, val_main_v19_apply, val_main_v18_apply,
    val_main_cst_3_apply, val_main_v17_apply, hs _ h0 h1, ref_q x g wq p h e i h0 h1 h2]
  rfl

/-- … its scores, … -/
theorem ref_score (p : Fin 16384) (h : Fin 4) (j : Fin 256) (i : S4x16384x256.Idx) (h0 : (i 0).val = h.val) (h1 : (i 1).val = p.val) (h2 : (i 2).val = j.val) :
    val_main_v30 (F := Ideal) x k g wq qn i = score x k g wq qn p h j := by
  rw [val_main_v30_apply, val_main_v29_apply, val_main_cst_5_apply, val_main_v28_apply]
  unfold score
  refine congrArg (fun z : EReal => z * Ideal.ofBits .f32 0x3DB504F3#32) (Finset.sum_congr rfl fun e _ => ?_)
  rw [val_main_v27_apply, val_main_v26_apply, val_main_v25_apply, ref_unit x g wq p h e _ h1 h0 rfl]
  refine congrArg₂ (fun a b : EReal => _ * a * b) (congrArg qn (funext fun a => Fin.ext ?_)) (congrArg k (funext fun a => Fin.ext ?_))
  · match a with
    | ⟨0, _⟩ => rfl
  · match a with
    | ⟨0, _⟩ => exact h0
    | ⟨1, _⟩ => exact h2
    | ⟨2, _⟩ => rfl

/-- … the largest of them, … -/
theorem ref_peak (p : Fin 16384) (h : Fin 4) (i : S4x16384.Idx) (h0 : (i 0).val = h.val) (h1 : (i 1).val = p.val) :
    val_main_v33 (F := Ideal) x k g wq qn i = peak (score x k g wq qn p h) := by
  have e : val_main_v31 (F := Ideal) x k g wq qn i = peak (score x k g wq qn p h) := by
    unfold val_main_v31
    refine (Host.reduce_eq_fold_single (a := 2) (FloatOps.maximumf (F := Ideal) (φ := .f32)) _ _ reducesTo_S4x16384x256_S4x16384_d2 (by decide) h_S_ i).trans ?_
    unfold peak
    have hb : val_main_cst_6 (F := Ideal) (Shape.Idx.first h_S_) = (⊥ : EReal) := ofBits_bot
    rw [hb]
    refine congrArg (fun f => Finset.fold max ⊥ f Finset.univ) (funext fun j => ?_)
    exact ref_score x k g wq qn p h j _ h0 h1 rfl
  rw [val_main_v33_apply, val_main_v32_apply, val_main_cst_7_apply, e]
  refine (congrArg (fun z : EReal => max z _) ofBits_bot).trans ?_
  exact max_eq_right bot_le

/-- … the softmax of them, … -/
theorem ref_soft (p : Fin 16384) (h : Fin 4) (j : Fin 256) (i : S4x16384x256.Idx) (h0 : (i 0).val = h.val) (h1 : (i 1).val = p.val) (h2 : (i 2).val = j.val) :
    val_main_v41 (F := Ideal) x k g wq qn i = soft (score x k g wq qn p h) j := by
  have he : ∀ (j : Fin 256) (i : S4x16384x256.Idx), (i 0).val = h.val → (i 1).val = p.val → (i 2).val = j.val →
      val_main_v37 (F := Ideal) x k g wq qn i = Ideal.exp (score x k g wq qn p h j - peak (score x k g wq qn p h)) := fun j i i0 i1 i2 => by
    rw [val_main_v37_apply, val_main_v36_apply, val_main_v35_apply, val_main_v34_apply, ref_score x k g wq qn p h j i i0 i1 i2, ref_peak x k g wq qn p h _ i0 i1]
    rfl
  rw [val_main_v41_apply, val_main_v40_apply, val_main_v39_apply, val_main_v38_apply, he j i h0 h1 h2, val_main_cst_8_apply]
  unfold soft
  refine congrArg (fun z : EReal => Ideal.div _ z) ?_
  refine (congrArg (· + _) Ideal.ofBits_zero_f32).trans ((zero_add _).trans (Finset.sum_congr rfl fun e _ => ?_))
  exact he e _ h0 h1 rfl

/-- … and its output. -/
theorem ref_head (p : Fin 16384) (h : Fin 4) (d : Fin 128) (i : S16384x4x128.Idx) (h0 : (i 0).val = p.val) (h1 : (i 1).val = h.val) (h2 : (i 2).val = d.val) :
    val_main_v43 (F := Ideal) x k v g wq qn i = headOut x k v g wq qn p h d := by
  rw [val_main_v43_apply, val_main_v42_apply]
  unfold headOut
  refine Finset.sum_congr rfl fun j _ => ?_
  rw [ref_soft x k g wq qn p h j _ h1 h0 rfl, mul_comm]
  refine congrArg (fun z : EReal => _ * z) (congrArg v (funext fun a => Fin.ext ?_))
  match a with
  | ⟨0, _⟩ => exact h1
  | ⟨1, _⟩ => rfl
  | ⟨2, _⟩ => exact h2

/-- An entry of the reference's result. -/
theorem ref_at (p : Fin 16384) (n : Fin 2048) : val_main_v46 (F := Ideal) x k v g wq qn wo (ix2 p n) = entry x k v g wq qn wo p n := by
  rw [val_main_v46_apply, val_main_v45_apply]
  unfold entry
  refine congrArg (fun z : EReal => x (ix2 p n) + z) (Finset.sum_congr rfl fun c _ => ?_)
  rw [val_main_v44_apply, ref_head x k v g wq qn p ⟨c.val / 128, by omega⟩ ⟨c.val % 128, by omega⟩ _ ?_ ?_ ?_]
  · refine congrArg (fun z : EReal => _ * z) (congrArg wo (funext fun a => Fin.ext ?_))
    match a with
    | ⟨0, _⟩ => rfl
    | ⟨1, _⟩ => rfl
  · show (p.val * 512 + c.val) / 512 = p.val
    omega
  · show (p.val * 512 + c.val) / 128 % 4 = c.val / 128
    omega
  · show (p.val * 512 + c.val) % 128 = c.val % 128
    omega

end Cert.XaIdeal.Cross

end
-- ==== Proof.MemResult.lean ====
/- THE MEMORY'S KEYS AND VALUES, ENTRY BY ENTRY: the normalized memory projected, and each head's keys normalized. -/
module

public import proofs.«01_k».proof.Proof.Gen.MemIdeal.Value
public import Idealize.ShloMosaic.Lib.Claim
public import Idealize.ShloMosaic.Lib.StableHlo.RunRead
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.VecWindow
public import Idealize.ShloMosaic.Lib.KernelVsHost
public import Idealize.ShloMosaic.Lib.Pointwise.Reduce
public import Idealize.ShloMosaic.Lib.Pointwise.Reshape
public import Idealize.ShloMosaic.Lib.Pipeline.Value
public import Idealize.ShloMosaic.Lib.Pipeline.ValueKit.Basic
public import Idealize.ShloMosaic.Lib.Pipeline.ValueKit.Tiles

@[expose] public section

noncomputable section

namespace Cert.MemIdeal.Memory

open Cert.MemIdeal Cert.MemIdeal.Gen Idealize.ShloMosaic.TcCoe Idealize.SL.Sem
open Idealize.ShloMosaic hiding ix1 ix2 ix3
open Idealize.ShloMosaic.ValueIdx
open scoped BigOperators

/-! ## The layer, entry by entry -/

/-- A head's 128 columns, divided by their root mean square. -/
def unit (u : Fin 128 → EReal) (d : Fin 128) : EReal :=
  u d * Ideal.rsqrt (Ideal.div (∑ e : Fin 128, u e * u e) (Ideal.ofBits .f32 0x43000000#32) + Ideal.ofBits .f32 0x358637BD#32)

section
variable (x : S256x2048.Idx → EReal) (g : S2048.Idx → EReal) (w : S2048x1024.Idx → EReal) (kn : S128.Idx → EReal)

/-- A normalized memory entry, … -/
def normRow (p : Fin 256) (d : Fin 2048) : EReal :=
  x (ix2 p d) * Ideal.rsqrt (Ideal.div (∑ e : Fin 2048, x (ix2 p e) * x (ix2 p e)) (Ideal.ofBits .f32 0x45000000#32) + Ideal.ofBits .f32 0x358637BD#32) * g (ix1 d)

/-- … a column of its projection, … -/
def proj (p : Fin 256) (c : Fin 1024) : EReal := ∑ d : Fin 2048, normRow x g p d * w (ix2 d c)

/-- … a head's key, … -/
def key (h : Fin 4) (p : Fin 256) (e : Fin 128) : EReal :=
  unit (fun e => proj x g w p (⟨128 * h.val + e.val, by omega⟩ : Fin 1024)) e * kn (ix1 e)

/-- … and its value. -/
def val (h : Fin 4) (p : Fin 256) (e : Fin 128) : EReal := proj x g w p (⟨512 + 128 * h.val + e.val, by omega⟩ : Fin 1024)

end

variable (m : (ℓ : Loc nD τ sig) → Buf (Elt Ideal) ℓ) (c : Dev nD)

abbrev rows : S256x2048.Idx → EReal := m ((c : Thread nD τ).loc main_arg0)
abbrev gain : S2048.Idx → EReal := m ((c : Thread nD τ).loc main_arg1)
abbrev weights : S2048x1024.Idx → EReal := m ((c : Thread nD τ).loc main_arg2)
abbrev kGain : S128.Idx → EReal := m ((c : Thread nD τ).loc main_arg3)

/-! ## What the kernel reads -/

theorem V_gain : V m c main_v0 = shapeCast S1x2048 (m ((c : Thread nD τ).loc main_arg1)) shapeCasts_S2048_S1x2048 := by
  entry_read
  rfl

theorem V_w : V m c main_v1 = truncf (F := Ideal) .bf16 (m ((c : Thread nD τ).loc main_arg2)) bitsLt_bf16_f32 := by
  entry_read
  simp only [List.flatten_cons, List.flatten_nil, List.cons_append, List.nil_append]

theorem V_kn : V m c main_v2 = shapeCast S1x128 (m ((c : Thread nD τ).loc main_arg3)) shapeCasts_S128_S1x128 := by
  entry_read
  rfl

theorem index0 (t : Fin cfg0.N) : win0_0.index t = ![0, 0] := (by decide +kernel : ∀ t : Fin grid0.N, win0_0.index t = ![0, 0]) t
theorem index1 (t : Fin cfg0.N) : win0_1.index t = ![0, 0] := (by decide +kernel : ∀ t : Fin grid0.N, win0_1.index t = ![0, 0]) t
theorem index2 (t : Fin cfg0.N) : win0_2.index t = ![0, 0] := (by decide +kernel : ∀ t : Fin grid0.N, win0_2.index t = ![0, 0]) t
theorem index3 (t : Fin cfg0.N) : win0_3.index t = ![0, 0] := (by decide +kernel : ∀ t : Fin grid0.N, win0_3.index t = ![0, 0]) t
theorem index4 (t : Fin cfg0.N) : win0_4.index t = ![0, 0, 0] := (by decide +kernel : ∀ t : Fin grid0.N, win0_4.index t = ![0, 0, 0]) t
theorem index5 (t : Fin cfg0.N) : win0_5.index t = ![0, 0, 0] := (by decide +kernel : ∀ t : Fin grid0.N, win0_5.index t = ![0, 0, 0]) t

theorem plain (n b : ℕ) : 0 * n + b = b := by rw [Nat.zero_mul, Nat.zero_add]

theorem read0 (A : S256x2048.Idx → Ideal .f32) (t : Fin cfg0.N) (p : Fin 256) (d : Fin 2048) :
    ((cfg0.win 0).blk t).view.read (Elt Ideal) A (ix2 p d) = A (ix2 p d) := by
  refine congrArg A (funext fun a => Fin.ext ?_)
  refine (Pipeline.Window.rect_emb_val win0_0 t (ix2 p d) a).trans ?_
  rw [index0]
  match a with
  | ⟨0, _⟩ => exact plain _ _
  | ⟨1, _⟩ => exact plain _ _

theorem read1 (A : S1x2048.Idx → Ideal .f32) (t : Fin cfg0.N) (d : Fin 2048) :
    ((cfg0.win 1).blk t).view.read (Elt Ideal) A (ix2 (0 : Fin 1) d) = A (ix2 (0 : Fin 1) d) := by
  refine congrArg A (funext fun a => Fin.ext ?_)
  refine (Pipeline.Window.rect_emb_val win0_1 t (ix2 (0 : Fin 1) d) a).trans ?_
  rw [index1]
  match a with
  | ⟨0, _⟩ => rfl
  | ⟨1, _⟩ => exact plain _ _

theorem read2 (A : S2048x1024.Idx → Ideal .bf16) (t : Fin cfg0.N) (d : Fin 2048) (k : Fin 1024) :
    ((cfg0.win 2).blk t).view.read (Elt Ideal) A (ix2 d k) = A (ix2 d k) := by
  refine congrArg A (funext fun a => Fin.ext ?_)
  refine (Pipeline.Window.rect_emb_val win0_2 t (ix2 d k) a).trans ?_
  rw [index2]
  match a with
  | ⟨0, _⟩ => exact plain _ _
  | ⟨1, _⟩ => exact plain _ _

theorem read3 (A : S1x128.Idx → Ideal .f32) (t : Fin cfg0.N) (d : Fin 128) :
    ((cfg0.win 3).blk t).view.read (Elt Ideal) A (ix2 (0 : Fin 1) d) = A (ix2 (0 : Fin 1) d) := by
  refine congrArg A (funext fun a => Fin.ext ?_)
  refine (Pipeline.Window.rect_emb_val win0_3 t (ix2 (0 : Fin 1) d) a).trans ?_
  rw [index3]
  match a with
  | ⟨0, _⟩ => rfl
  | ⟨1, _⟩ => exact plain _ _

theorem read4 (A : S4x256x128.Idx → Ideal .bf16) (t : Fin cfg0.N) (h : Fin 4) (j : Fin 256) (d : Fin 128) :
    ((cfg0.win 4).blk t).view.read (Elt Ideal) A (ix3 h j d) = A (ix3 h j d) := by
  refine congrArg A (funext fun a => Fin.ext ?_)
  refine (Pipeline.Window.rect_emb_val win0_4 t (ix3 h j d) a).trans ?_
  rw [index4]
  match a with
  | ⟨0, _⟩ => exact plain _ _
  | ⟨1, _⟩ => exact plain _ _
  | ⟨2, _⟩ => exact plain _ _

theorem read5 (A : S4x256x128.Idx → Ideal .bf16) (t : Fin cfg0.N) (h : Fin 4) (j : Fin 256) (d : Fin 128) :
    ((cfg0.win 5).blk t).view.read (Elt Ideal) A (ix3 h j d) = A (ix3 h j d) := by
  refine congrArg A (funext fun a => Fin.ext ?_)
  refine (Pipeline.Window.rect_emb_val win0_5 t (ix3 h j d) a).trans ?_
  rw [index5]
  match a with
  | ⟨0, _⟩ => exact plain _ _
  | ⟨1, _⟩ => exact plain _ _
  | ⟨2, _⟩ => exact plain _ _

theorem iblk0_at (t : Fin cfg0.N) (p : Fin 256) (d : Fin 2048) : iblk m c 0 t (ix2 p d) = rows m c (ix2 p d) := by
  unfold iblk
  exact (read0 (V m c (Pipeline.arrRef spec0 0)) t p d).trans (congrFun (V_main_arg0 m c) _)

theorem iblk1_at (t : Fin cfg0.N) (d : Fin 2048) : iblk m c 1 t (ix2 (0 : Fin 1) d) = gain m c (ix1 d) := by
  unfold iblk
  refine (read1 (V m c (Pipeline.arrRef spec0 1)) t d).trans ?_
  refine (congrFun (V_gain m c) _).trans ?_
  exact shapeCast_a_1a_apply (a := 2048) _ _ 0 d

theorem iblk2_at (t : Fin cfg0.N) (d : Fin 2048) (k : Fin 1024) : iblk m c 2 t (ix2 d k) = weights m c (ix2 d k) := by
  unfold iblk
  exact (read2 (V m c (Pipeline.arrRef spec0 2)) t d k).trans (congrFun (V_w m c) _)

theorem iblk3_at (t : Fin cfg0.N) (d : Fin 128) : iblk m c 3 t (ix2 (0 : Fin 1) d) = kGain m c (ix1 d) := by
  unfold iblk
  refine (read3 (V m c (Pipeline.arrRef spec0 3)) t d).trans ?_
  refine (congrFun (V_kn m c) _).trans ?_
  exact shapeCast_a_1a_apply (a := 128) _ _ 0 d

/-! ## The body -/

theorem col_at {a : ℕ} (v : S256x1.Idx → EReal) (h : S256x1.Broadcasts ⟨2, ![256, a]⟩) (s : Fin 256) (d : Fin a) (ha : a ≠ 1) :
    broadcastTo ⟨2, ![256, a]⟩ v h (ix2 s d) = v (ix2 s (0 : Fin 1)) :=
  broadcastTo_apply (s := S256x1) _ h (ix2 s d) (ix2 s (0 : Fin 1)) fun ax => by
    match ax with
    | ⟨0, _⟩ => rfl
    | ⟨1, _⟩ => rfl

/-- A normalized row, projected. -/
theorem proj_at (x : S256x2048.Idx → EReal) (g : S1x2048.Idx → EReal) (w : S2048x1024.Idx → EReal) (s : Fin 256) (c : Fin 1024) :
    k0_pay5 (F := Ideal) x g w (ix2 s c)
      = ∑ d : Fin 2048, x (ix2 s d) * Ideal.rsqrt (Ideal.div (∑ e : Fin 2048, x (ix2 s e) * x (ix2 s e)) (Ideal.ofBits .f32 0x45000000#32) + Ideal.ofBits .f32 0x358637BD#32) * g (ix2 0 d)
          * w (ix2 d c) := by
  unfold k0_pay5
  dsimp only
  refine (Ideal.matmul_plain_apply (M := 256) (K := 2048) (N := 1024) none _ _ _ s c).trans ?_
  rw [constant_apply, Ideal.ofBits_zero_f32, zero_add, shapeCast_id, shapeCast_id]
  refine Finset.sum_congr rfl fun d _ => ?_
  rw [truncf_apply, mulf_apply, mulf_apply]
  refine congrArg₂ (fun a b : EReal => x (ix2 s d) * a * b * w (ix2 d c)) ?_ (broadcastTo_1b_ab_apply (a := 256) (b := 2048) _ _ s d)
  refine (col_at _ broadcasts_S256x1_S256x2048 s d (by decide)).trans ?_
  refine congrArg (fun z : EReal => Ideal.rsqrt (Ideal.div z (Ideal.ofBits .f32 0x45000000#32) + Ideal.ofBits .f32 0x358637BD#32)) ?_
  refine (shapeCast_a_a1_apply (a := 256) _ shapeCasts_S256_S256x1 s 0).trans ?_
  exact Ideal.reduceAdd_r2_a1 reduces_S256x2048_S256 _ _

/-- A point's projected rows. -/
theorem proj_row (t : Fin cfg0.N) (p : Fin 256) (k : Fin 1024) (i : S256x1024.Idx) (h0 : (i 0).val = p.val) (h1 : (i 1).val = k.val) :
    k0_pay5 (F := Ideal) (iblk m c 0 t) (iblk m c 1 t) (iblk m c 2 t) i = proj (rows m c) (gain m c) (weights m c) p k := by
  have hi : i = ix2 p k := funext fun a => Fin.ext (match a with | ⟨0, _⟩ => h0 | ⟨1, _⟩ => h1)
  rw [hi, proj_at]
  unfold proj normRow
  simp only [iblk0_at, iblk1_at, iblk2_at]

/-- The sum of squares of a head's columns. -/
theorem squares_at (q : FVec Ideal S256x1024 .f32) (off : ℕ) (h : S256x1024.Slices ![0, off] S256x128) (p : Fin 256) (u : Fin 128 → EReal)
    (hu : ∀ (e : Fin 128) (i : S256x1024.Idx), (i 0).val = p.val → (i 1).val = off + e.val → q i = u e) (j : S256.Idx) (hj : (j 0).val = p.val) :
    multiReduction (F := Ideal) .add [1] S256 (mulf (extractStridedSlice S256x128 ![0, off] q h) (extractStridedSlice S256x128 ![0, off] q h)) 0x00000000#32 reduces_S256x128_S256 (.inl rfl) rfl j
      = ∑ e : Fin 128, u e * u e := by
  have ho : off + 128 ≤ 1024 := h.2 1
  have hjp : j = ix1 p := funext fun a => Fin.ext (match a with | ⟨0, _⟩ => hj)
  subst hjp
  have hs : ∀ e : Fin 128, extractStridedSlice S256x128 ![0, off] q h (ix2 p e) = u e := fun e =>
    (extractStridedSlice_apply ![0, off] q h (ix2 p e) (ix2 p (⟨off + e.val, by omega⟩ : Fin 1024)) fun a => by
      match a with
      | ⟨0, _⟩ => exact (Nat.zero_add _).symm
      | ⟨1, _⟩ => rfl).trans (hu e _ rfl rfl)
  refine (Ideal.reduceAdd_r2_a1 reduces_S256x128_S256 _ _).trans ?_
  exact Finset.sum_congr rfl fun e _ => (mulf_apply _ _ _).trans (congrArg₂ (fun a b : EReal => a * b) (hs e) (hs e))

/-- What the body leaves in its two output blocks. -/
theorem out_keys (x0 : Vec Ideal S256x2048 .f32) (x1 : Vec Ideal S1x2048 .f32) (x2 : Vec Ideal S2048x1024 .bf16) (x3 : Vec Ideal S1x128 .f32) (i : S4x256x128.Idx) :
    out0_4 (F := Ideal) x0 x1 x2 x3 i = Cert.MemIdeal.Value.E4 (F := Ideal) x0 x1 x2 x3 i := by
  have z : ∀ a : Fin 2, (![0, 0] : Fin 2 → ℕ) a = 0 := fun a => match a with | ⟨0, _⟩ => rfl | ⟨1, _⟩ => rfl
  unfold_out out0_4
  rw [View.ld_unit_lit inb_S256x2048_S256x2048_0_0 x0 z, View.ld_unit_lit inb_S1x2048_S1x2048_0_0 x1 z,
    View.ld_unit_lit inb_S2048x1024_S2048x1024_0_0 x2 z, View.ld_unit_lit inb_S1x128_S1x128_0_0 x3 z]
  exact Cert.MemIdeal.Value.canon4_eq (F := Ideal) x0 x1 x2 x3 i

theorem out_vals (x0 : Vec Ideal S256x2048 .f32) (x1 : Vec Ideal S1x2048 .f32) (x2 : Vec Ideal S2048x1024 .bf16) (x3 : Vec Ideal S1x128 .f32) (i : S4x256x128.Idx) :
    out0_5 (F := Ideal) x0 x1 x2 x3 i = Cert.MemIdeal.Value.E5 (F := Ideal) x0 x1 x2 i := by
  have z : ∀ a : Fin 2, (![0, 0] : Fin 2 → ℕ) a = 0 := fun a => match a with | ⟨0, _⟩ => rfl | ⟨1, _⟩ => rfl
  unfold_out out0_5
  rw [View.ld_unit_lit inb_S256x2048_S256x2048_0_0 x0 z, View.ld_unit_lit inb_S1x2048_S1x2048_0_0 x1 z,
    View.ld_unit_lit inb_S2048x1024_S2048x1024_0_0 x2 z]
  exact Cert.MemIdeal.Value.canon5_eq (F := Ideal) x0 x1 x2 i

/-- The keys' block, … -/
theorem keys_at (t : Fin cfg0.N) (h : Fin 4) (p : Fin 256) (e : Fin 128) :
    out0_4 (F := Ideal) (iblk m c 0 t) (iblk m c 1 t) (iblk m c 2 t) (iblk m c 3 t) (ix3 h p e)
      = key (rows m c) (gain m c) (weights m c) (kGain m c) h p e := by
  have hq : ∀ (h : Fin 4) (e : Fin 128) (i : S256x1024.Idx), (i 0).val = p.val → (i 1).val = 128 * h.val + e.val →
      k0_pay5 (F := Ideal) (iblk m c 0 t) (iblk m c 1 t) (iblk m c 2 t) i = proj (rows m c) (gain m c) (weights m c) p (⟨128 * h.val + e.val, by omega⟩ : Fin 1024) :=
    fun h e i h0 h1 => proj_row m c t p _ i h0 h1
  refine (out_keys (iblk m c 0 t) (iblk m c 1 t) (iblk m c 2 t) (iblk m c 3 t) (ix3 h p e)).trans ?_
  have hf : Cert.MemIdeal.Value.Fam4_1 (F := Ideal) (iblk m c 0 t) (iblk m c 1 t) (iblk m c 2 t) (iblk m c 3 t) h (ix1 p)
      = ∑ e : Fin 128, proj (rows m c) (gain m c) (weights m c) p (⟨128 * h.val + e.val, by omega⟩ : Fin 1024)
          * proj (rows m c) (gain m c) (weights m c) p (⟨128 * h.val + e.val, by omega⟩ : Fin 1024) := by
    match h with
    | ⟨0, _⟩ => exact squares_at _ 0 slices_S256x1024_o0_0_S256x128 p _ (fun e i h0 h1 => hq 0 e i h0 h1) (ix1 p) rfl
    | ⟨1, _⟩ => exact squares_at _ 128 slices_S256x1024_o0_128_S256x128 p _ (fun e i h0 h1 => hq 1 e i h0 h1) (ix1 p) rfl
    | ⟨2, _⟩ => exact squares_at _ 256 slices_S256x1024_o0_256_S256x128 p _ (fun e i h0 h1 => hq 2 e i h0 h1) (ix1 p) rfl
    | ⟨3, _⟩ => exact squares_at _ 384 slices_S256x1024_o0_384_S256x128 p _ (fun e i h0 h1 => hq 3 e i h0 h1) (ix1 p) rfl
  have hp := hq h e (Cert.MemIdeal.Value.ix4_0 (ix3 h p e)) rfl (congrArg (· + e.val) (Nat.mul_comm _ _))
  have hsel : Cert.MemIdeal.Value.sel4 (ix3 h p e) = h := rfl
  have hix : Cert.MemIdeal.Value.ix4_1 (ix3 h p e) = ix1 p := funext fun a => Fin.ext (match a with | ⟨0, _⟩ => rfl)
  have hix2 : Cert.MemIdeal.Value.ix4_2 (ix3 h p e) = ix2 (0 : Fin 1) e := funext fun a => Fin.ext (match a with | ⟨0, _⟩ => rfl | ⟨1, _⟩ => rfl)
  have hk := iblk3_at m c t e
  unfold key unit
  refine congrArg₂ (fun a b : EReal => a * b) ?_ ((congrArg (iblk m c 3 t) hix2).trans hk)
  refine congrArg₂ (fun a b : EReal => a * Ideal.rsqrt (Ideal.div b (Ideal.ofBits .f32 0x43000000#32) + Ideal.ofBits .f32 0x358637BD#32)) hp ?_
  exact (congrArg (Cert.MemIdeal.Value.Fam4_1 (F := Ideal) (iblk m c 0 t) (iblk m c 1 t) (iblk m c 2 t) (iblk m c 3 t) h) hix).trans hf

/-- … and the values'. -/
theorem vals_at (t : Fin cfg0.N) (h : Fin 4) (p : Fin 256) (e : Fin 128) :
    out0_5 (F := Ideal) (iblk m c 0 t) (iblk m c 1 t) (iblk m c 2 t) (iblk m c 3 t) (ix3 h p e)
      = val (rows m c) (gain m c) (weights m c) h p e := by
  refine (out_vals (iblk m c 0 t) (iblk m c 1 t) (iblk m c 2 t) (iblk m c 3 t) (ix3 h p e)).trans ?_
  refine proj_row m c t p _ (Cert.MemIdeal.Value.ix5_0 (ix3 h p e)) rfl ?_
  show h.val * 128 + e.val + 512 = 512 + 128 * h.val + e.val
  omega

/-! ## The results -/

theorem only : (0 : ℕ) < cfg0.N := lt_of_lt_of_eq Nat.one_pos N_0.symm
theorem flush4 : ∀ t : Fin cfg0.N, (cfg0.win 4).flush t = true := by decide
theorem flush5 : ∀ t : Fin cfg0.N, (cfg0.win 5).flush t = true := by decide

/-- An entry of the kernel's first result, … -/
theorem kernel_key (h : Fin 4) (p : Fin 256) (e : Fin 128) :
    (dats m 0 c).arrAt 4 cfg0.N (ix3 h p e) = key (rows m c) (gain m c) (weights m c) (kGain m c) h p e := by
  have b := congrFun (Cert.MemIdeal.Value.blocks4 m c ⟨0, only⟩ (flush4 _)) (ix3 h p e)
  rw [Cert.MemIdeal.Value.flushed4] at b
  exact (read4 ((dats m 0 c).arrAt 4 cfg0.N) ⟨0, only⟩ h p e).symm.trans (b.trans (keys_at m c ⟨0, only⟩ h p e))

/-- … and of its second. -/
theorem kernel_val (h : Fin 4) (p : Fin 256) (e : Fin 128) :
    (dats m 0 c).arrAt 5 cfg0.N (ix3 h p e) = val (rows m c) (gain m c) (weights m c) h p e := by
  have b := congrFun (Cert.MemIdeal.Value.blocks5 m c ⟨0, only⟩ (flush5 _)) (ix3 h p e)
  rw [Cert.MemIdeal.Value.flushed5] at b
  exact (read5 ((dats m 0 c).arrAt 5 cfg0.N) ⟨0, only⟩ h p e).symm.trans (b.trans (vals_at m c ⟨0, only⟩ h p e))

end Cert.MemIdeal.Memory

end
-- ==== Proof.MemReference.lean ====
/- THE REFERENCE'S KEYS AND VALUES, ENTRY BY ENTRY: the same projection and the same normalized keys. -/
module

public import proofs.«01_k».proof.Proof.MemResult
public import proofs.«01_k».proof.Proof.Gen.MemReferenceIdeal.Read

@[expose] public section

noncomputable section

namespace Cert.MemIdeal.Memory

open Cert.MemReferenceIdeal Cert.MemReferenceIdeal.Gen Cert.MemReferenceIdeal.Read Idealize.ShloMosaic.TcCoe Idealize.SL.Sem
open Idealize.ShloMosaic hiding ix1 ix2 ix3
open Idealize.ShloMosaic.ValueIdx
open scoped BigOperators

variable (x : FVec Ideal S256x2048 .f32) (g : FVec Ideal S2048 .f32) (w : FVec Ideal S2048x1024 .f32) (kn : FVec Ideal S128 .f32)

theorem ref_sum (p : Fin 256) (j : S256.Idx) (hj : (j 0).val = p.val) : val_main_v1 (F := Ideal) x j = ∑ e : Fin 2048, x (ix2 p e) * x (ix2 p e) := by
  refine (val_main_v1_apply x j).trans ?_
  rw [val_main_cst_apply]
  refine (congrArg (· + _) Ideal.ofBits_zero_f32).trans ((zero_add _).trans (Finset.sum_congr rfl fun e _ => ?_))
  refine congrArg (fun i => x i * x i) (funext fun a => Fin.ext ?_)
  match a with
  | ⟨0, _⟩ => exact hj
  | ⟨1, _⟩ => rfl

theorem ref_scale (p : Fin 256) (j : S256x1.Idx) (hj : (j 0).val = p.val) :
    val_main_v7 (F := Ideal) x j = Ideal.rsqrt (Ideal.div (∑ e : Fin 2048, x (ix2 p e) * x (ix2 p e)) (Ideal.ofBits .f32 0x45000000#32) + Ideal.ofBits .f32 0x358637BD#32) := by
  rw [val_main_v7_apply, val_main_v6_apply, val_main_v5_apply, val_main_cst_1_apply, val_main_v4_apply, val_main_v3_apply, val_main_cst_0_apply, val_main_v2_apply,
    ref_sum x p _ hj]
  rfl

theorem ref_norm (p : Fin 256) (d : Fin 2048) (i : S256x2048.Idx) (h0 : (i 0).val = p.val) (h1 : (i 1).val = d.val) :
    val_main_v12 (F := Ideal) x g i = normRow x g p d := by
  have hi : i = ix2 p d := funext fun a => Fin.ext (match a with | ⟨0, _⟩ => h0 | ⟨1, _⟩ => h1)
  rw [val_main_v12_apply, val_main_v9_apply, val_main_v8_apply, val_main_v11_apply, val_main_v10_apply, ref_scale x p _ h0]
  unfold normRow
  refine congrArg₂ (fun a b : EReal => a * _ * b) (congrArg x hi) (congrArg g (funext fun a => Fin.ext ?_))
  match a with
  | ⟨0, _⟩ => exact h1

/-- The projection, seen as keys and values of four heads. -/
theorem ref_proj (p : Fin 256) (k : Fin 1024) (i : S256x2x4x128.Idx) (h0 : (i 0).val = p.val) (h1 : ((i 1).val * 4 + (i 2).val) * 128 + (i 3).val = k.val) :
    val_main_v14 (F := Ideal) x g w i = proj x g w p k := by
  rw [val_main_v14_apply, val_main_v13_apply]
  unfold proj
  refine Finset.sum_congr rfl fun d _ => ?_
  refine congrArg₂ (fun a b : EReal => a * b) (ref_norm x g p d _ ?_ rfl) (congrArg w (funext fun a => Fin.ext ?_))
  · show ((((i 0).val * 2 + (i 1).val) * 4 + (i 2).val) * 128 + (i 3).val) / 1024 = p.val
    omega
  · match a with
    | ⟨0, _⟩ => rfl
    | ⟨1, _⟩ =>
      show ((((i 0).val * 2 + (i 1).val) * 4 + (i 2).val) * 128 + (i 3).val) % 1024 = k.val
      omega

/-- A head's keys before their norm, … -/
theorem ref_k (p : Fin 256) (h : Fin 4) (e : Fin 128) (i : S256x4x128.Idx) (h0 : (i 0).val = p.val) (h1 : (i 1).val = h.val) (h2 : (i 2).val = e.val) :
    val_main_v16 (F := Ideal) x g w i = proj x g w p (⟨128 * h.val + e.val, by omega⟩ : Fin 1024) := by
  rw [val_main_v16_apply, val_main_v15_apply]
  refine ref_proj x g w p _ _ ?_ ?_
  · show (((i 0).val * 4 + (i 1).val) * 128 + (i 2).val) / 512 = p.val
    omega
  · show (0 * 4 + (((i 0).val * 4 + (i 1).val) * 128 + (i 2).val) / 128 % 4) * 128 + (((i 0).val * 4 + (i 1).val) * 128 + (i 2).val) % 128 = 128 * h.val + e.val
    omega

/-- … and its values. -/
theorem ref_v (p : Fin 256) (h : Fin 4) (e : Fin 128) (i : S256x4x128.Idx) (h0 : (i 0).val = p.val) (h1 : (i 1).val = h.val) (h2 : (i 2).val = e.val) :
    val_main_v33 (F := Ideal) x g w i = val x g w h p e := by
  rw [val_main_v33_apply, val_main_v32_apply]
  unfold val
  refine ref_proj x g w p _ _ ?_ ?_
  · show (((i 0).val * 4 + (i 1).val) * 128 + (i 2).val) / 512 = p.val
    omega
  · show ((1 + 0) * 4 + (((i 0).val * 4 + (i 1).val) * 128 + (i 2).val) / 128 % 4) * 128 + (((i 0).val * 4 + (i 1).val) * 128 + (i 2).val) % 128 = 512 + 128 * h.val + e.val
    omega

/-- The keys, divided by their root mean square. -/
theorem ref_unit (p : Fin 256) (h : Fin 4) (e : Fin 128) (i : S256x4x128.Idx) (h0 : (i 0).val = p.val) (h1 : (i 1).val = h.val) (h2 : (i 2).val = e.val) :
    val_main_v26 (F := Ideal) x g w i = unit (fun e => proj x g w p (⟨128 * h.val + e.val, by omega⟩ : Fin 1024)) e := by
  have hs : ∀ j : S256x4.Idx, (j 0).val = p.val → (j 1).val = h.val → val_main_v18 (F := Ideal) x g w j
      = ∑ e : Fin 128, proj x g w p (⟨128 * h.val + e.val, by omega⟩ : Fin 1024) * proj x g w p (⟨128 * h.val + e.val, by omega⟩ : Fin 1024) := fun j j0 j1 => by
    refine (val_main_v18_apply x g w j).trans ?_
    rw [val_main_cst_2_apply]
    refine (congrArg (· + _) Ideal.ofBits_zero_f32).trans ((zero_add _).trans (Finset.sum_congr rfl fun e _ => ?_))
    rw [val_main_v17_apply, ref_k x g w p h e _ j0 j1 rfl]
    rfl
  rw [val_main_v26_apply, val_main_v25_apply, val_main_v24_apply, val_main_v23_apply, val_main_v22_apply, val_main_cst_4_apply, val_main_v21_apply, val_main_v20_apply,
    val_main_cst_3_apply, val_main_v19_apply, hs _ h0 h1, ref_k x g w p h e i h0 h1 h2]
  rfl

/-- An entry of the reference's first result, … -/
theorem ref_key (h : Fin 4) (p : Fin 256) (e : Fin 128) : val_main_v31 (F := Ideal) x g w kn (ix3 h p e) = key x g w kn h p e := by
  rw [val_main_v31_apply, val_main_v30_apply, val_main_v29_apply, val_main_v28_apply, val_main_v27_apply, ref_unit x g w p h e _ rfl rfl rfl]
  unfold key
  refine congrArg (fun z : EReal => _ * z) (congrArg kn (funext fun a => Fin.ext ?_))
  match a with
  | ⟨0, _⟩ => rfl

/-- … and of its second. -/
theorem ref_val (h : Fin 4) (p : Fin 256) (e : Fin 128) : val_main_v35 (F := Ideal) x g w (ix3 h p e) = val x g w h p e := by
  rw [val_main_v35_apply, val_main_v34_apply, ref_v x g w p h e _ rfl rfl rfl]
  rfl

end Cert.MemIdeal.Memory

end
-- ==== Proof.OutResult.lean ====
/- THE OUTPUT PROJECTION, ENTRY BY ENTRY: a row, and the two mixers' rows, each projected through its half of the weights. -/
module

public import proofs.«01_k».proof.Proof.Gen.OutIdeal.Value
public import proofs.«01_k».proof.Proof.Gen.OutReferenceIdeal.Read
public import Idealize.ShloMosaic.Lib.Claim
public import Idealize.ShloMosaic.Lib.StableHlo.RunRead
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.VecWindow
public import Idealize.ShloMosaic.Lib.KernelVsHost
public import Idealize.ShloMosaic.Lib.Pointwise.Reduce
public import Idealize.ShloMosaic.Lib.Pointwise.Reshape
public import Idealize.ShloMosaic.Lib.Pipeline.Value
public import Idealize.ShloMosaic.Lib.Pipeline.ValueKit.Basic
public import Idealize.ShloMosaic.Lib.Pipeline.ValueKit.Tiles

@[expose] public section

noncomputable section

namespace Cert.OutIdeal.Projection

open Cert.OutIdeal Cert.OutIdeal.Gen Idealize.ShloMosaic.TcCoe Idealize.SL.Sem
open Idealize.ShloMosaic hiding ix1 ix2 ix3
open Idealize.ShloMosaic.ValueIdx
open scoped BigOperators

/-- An entry of the result, in the kernel's order. -/
def entry (x : S16384x2048.Idx → EReal) (a b : S16384x1024.Idx → EReal) (w : S2048x2048.Idx → EReal) (p : Fin 16384) (n : Fin 2048) : EReal :=
  x (ix2 p n) + (∑ k : Fin 1024, a (ix2 p k) * w (ix2 (⟨k.val, by omega⟩ : Fin 2048) n))
    + ∑ k : Fin 1024, b (ix2 p k) * w (ix2 (⟨1024 + k.val, by omega⟩ : Fin 2048) n)

variable (m : (ℓ : Loc nD τ sig) → Buf (Elt Ideal) ℓ) (c : Dev nD)

abbrev rows : S16384x2048.Idx → EReal := m ((c : Thread nD τ).loc main_arg0)
abbrev left : S16384x1024.Idx → EReal := m ((c : Thread nD τ).loc main_arg1)
abbrev right : S16384x1024.Idx → EReal := m ((c : Thread nD τ).loc main_arg2)
abbrev weights : S2048x2048.Idx → EReal := m ((c : Thread nD τ).loc main_arg3)

/-! ## What the kernel reads -/

theorem V_lo : V m c main_v1 = extractStridedSlice S1024x2048 ![0, 0] (truncf (F := Ideal) .bf16 (m ((c : Thread nD τ).loc main_arg3)) bitsLt_bf16_f32) slices_S2048x2048_S1024x2048_0_0 := by
  entry_read
  simp only [List.flatten_cons, List.flatten_nil, List.cons_append, List.nil_append]

theorem V_hi : V m c main_v2 = extractStridedSlice S1024x2048 ![1024, 0] (truncf (F := Ideal) .bf16 (m ((c : Thread nD τ).loc main_arg3)) bitsLt_bf16_f32) slices_S2048x2048_S1024x2048_1024_0 := by
  entry_read
  simp only [List.flatten_cons, List.flatten_nil, List.cons_append, List.nil_append]

theorem index0 (t : Fin cfg0.N) : win0_0.index t = ![t.val, 0] := (by decide +kernel : ∀ t : Fin grid0.N, win0_0.index t = ![t.val, 0]) t
theorem index1 (t : Fin cfg0.N) : win0_1.index t = ![t.val, 0] := (by decide +kernel : ∀ t : Fin grid0.N, win0_1.index t = ![t.val, 0]) t
theorem index2 (t : Fin cfg0.N) : win0_2.index t = ![t.val, 0] := (by decide +kernel : ∀ t : Fin grid0.N, win0_2.index t = ![t.val, 0]) t
theorem index3 (t : Fin cfg0.N) : win0_3.index t = ![0, 0] := (by decide +kernel : ∀ t : Fin grid0.N, win0_3.index t = ![0, 0]) t
theorem index4 (t : Fin cfg0.N) : win0_4.index t = ![0, 0] := (by decide +kernel : ∀ t : Fin grid0.N, win0_4.index t = ![0, 0]) t
theorem index5 (t : Fin cfg0.N) : win0_5.index t = ![t.val, 0] := (by decide +kernel : ∀ t : Fin grid0.N, win0_5.index t = ![t.val, 0]) t

/-- A grid point's row. -/
def row (t : Fin cfg0.N) (s : Fin 512) : Fin 16384 := ⟨512 * t.val + s.val, by have h : t.val < 32 := lt_of_lt_of_eq t.isLt N_0; omega⟩

theorem plain (n b : ℕ) : 0 * n + b = b := by rw [Nat.zero_mul, Nat.zero_add]

theorem read0 (A : S16384x2048.Idx → Ideal .f32) (t : Fin cfg0.N) (s : Fin 512) (d : Fin 2048) :
    ((cfg0.win 0).blk t).view.read (Elt Ideal) A (ix2 s d) = A (ix2 (row t s) d) := by
  refine congrArg A (funext fun a => Fin.ext ?_)
  refine (Pipeline.Window.rect_emb_val win0_0 t (ix2 s d) a).trans ?_
  rw [index0]
  match a with
  | ⟨0, _⟩ => exact congrArg (· + s.val) (Nat.mul_comm _ _)
  | ⟨1, _⟩ => exact plain _ _

theorem read1 (A : S16384x1024.Idx → Ideal .bf16) (t : Fin cfg0.N) (s : Fin 512) (d : Fin 1024) :
    ((cfg0.win 1).blk t).view.read (Elt Ideal) A (ix2 s d) = A (ix2 (row t s) d) := by
  refine congrArg A (funext fun a => Fin.ext ?_)
  refine (Pipeline.Window.rect_emb_val win0_1 t (ix2 s d) a).trans ?_
  rw [index1]
  match a with
  | ⟨0, _⟩ => exact congrArg (· + s.val) (Nat.mul_comm _ _)
  | ⟨1, _⟩ => exact plain _ _

theorem read2 (A : S16384x1024.Idx → Ideal .f32) (t : Fin cfg0.N) (s : Fin 512) (d : Fin 1024) :
    ((cfg0.win 2).blk t).view.read (Elt Ideal) A (ix2 s d) = A (ix2 (row t s) d) := by
  refine congrArg A (funext fun a => Fin.ext ?_)
  refine (Pipeline.Window.rect_emb_val win0_2 t (ix2 s d) a).trans ?_
  rw [index2]
  match a with
  | ⟨0, _⟩ => exact congrArg (· + s.val) (Nat.mul_comm _ _)
  | ⟨1, _⟩ => exact plain _ _

theorem read3 (A : S1024x2048.Idx → Ideal .bf16) (t : Fin cfg0.N) (k : Fin 1024) (n : Fin 2048) :
    ((cfg0.win 3).blk t).view.read (Elt Ideal) A (ix2 k n) = A (ix2 k n) := by
  refine congrArg A (funext fun a => Fin.ext ?_)
  refine (Pipeline.Window.rect_emb_val win0_3 t (ix2 k n) a).trans ?_
  rw [index3]
  match a with
  | ⟨0, _⟩ => exact plain _ _
  | ⟨1, _⟩ => exact plain _ _

theorem read4 (A : S1024x2048.Idx → Ideal .bf16) (t : Fin cfg0.N) (k : Fin 1024) (n : Fin 2048) :
    ((cfg0.win 4).blk t).view.read (Elt Ideal) A (ix2 k n) = A (ix2 k n) := by
  refine congrArg A (funext fun a => Fin.ext ?_)
  refine (Pipeline.Window.rect_emb_val win0_4 t (ix2 k n) a).trans ?_
  rw [index4]
  match a with
  | ⟨0, _⟩ => exact plain _ _
  | ⟨1, _⟩ => exact plain _ _

theorem read5 (A : S16384x2048.Idx → Ideal .f32) (t : Fin cfg0.N) (s : Fin 512) (d : Fin 2048) :
    ((cfg0.win 5).blk t).view.read (Elt Ideal) A (ix2 s d) = A (ix2 (row t s) d) := by
  refine congrArg A (funext fun a => Fin.ext ?_)
  refine (Pipeline.Window.rect_emb_val win0_5 t (ix2 s d) a).trans ?_
  rw [index5]
  match a with
  | ⟨0, _⟩ => exact congrArg (· + s.val) (Nat.mul_comm _ _)
  | ⟨1, _⟩ => exact plain _ _

theorem iblk0_at (t : Fin cfg0.N) (s : Fin 512) (d : Fin 2048) : iblk m c 0 t (ix2 s d) = rows m c (ix2 (row t s) d) := by
  unfold iblk
  exact (read0 (V m c (Pipeline.arrRef spec0 0)) t s d).trans (congrFun (V_main_arg0 m c) _)

theorem iblk1_at (t : Fin cfg0.N) (s : Fin 512) (d : Fin 1024) : iblk m c 1 t (ix2 s d) = left m c (ix2 (row t s) d) := by
  unfold iblk
  exact (read1 (V m c (Pipeline.arrRef spec0 1)) t s d).trans (congrFun (V_main_arg1 m c) _)

theorem iblk2_at (t : Fin cfg0.N) (s : Fin 512) (d : Fin 1024) : iblk m c 2 t (ix2 s d) = right m c (ix2 (row t s) d) := by
  unfold iblk
  exact (read2 (V m c (Pipeline.arrRef spec0 2)) t s d).trans (congrFun (V_main_arg2 m c) _)

theorem iblk3_at (t : Fin cfg0.N) (k : Fin 1024) (n : Fin 2048) : iblk m c 3 t (ix2 k n) = weights m c (ix2 (⟨k.val, by omega⟩ : Fin 2048) n) := by
  unfold iblk
  refine (read3 (V m c (Pipeline.arrRef spec0 3)) t k n).trans ((congrFun (V_lo m c) _).trans ?_)
  exact extractStridedSlice_apply ![0, 0] (truncf (F := Ideal) .bf16 (m ((c : Thread nD τ).loc main_arg3)) bitsLt_bf16_f32) slices_S2048x2048_S1024x2048_0_0 (ix2 k n)
    (ix2 (⟨k.val, by omega⟩ : Fin 2048) n) fun a => by
      match a with
      | ⟨0, _⟩ => exact (Nat.zero_add _).symm
      | ⟨1, _⟩ => exact (Nat.zero_add _).symm

theorem iblk4_at (t : Fin cfg0.N) (k : Fin 1024) (n : Fin 2048) : iblk m c 4 t (ix2 k n) = weights m c (ix2 (⟨1024 + k.val, by omega⟩ : Fin 2048) n) := by
  unfold iblk
  refine (read4 (V m c (Pipeline.arrRef spec0 4)) t k n).trans ((congrFun (V_hi m c) _).trans ?_)
  exact extractStridedSlice_apply ![1024, 0] (truncf (F := Ideal) .bf16 (m ((c : Thread nD τ).loc main_arg3)) bitsLt_bf16_f32) slices_S2048x2048_S1024x2048_1024_0 (ix2 k n)
    (ix2 (⟨1024 + k.val, by omega⟩ : Fin 2048) n) fun a => by
      match a with
      | ⟨0, _⟩ => rfl
      | ⟨1, _⟩ => exact (Nat.zero_add _).symm

/-! ## A grid point -/

/-- What the body leaves in the output block. -/
theorem out_eq (x0 : Vec Ideal S512x2048 .f32) (x1 : Vec Ideal S512x1024 .bf16) (x2 : Vec Ideal S512x1024 .f32) (x3 x4 : Vec Ideal S1024x2048 .bf16) :
    out0_5 (F := Ideal) x0 x1 x2 x3 x4 = k0_pay1 (F := Ideal) x0 x1 x3 x2 x4 := by
  have z : ∀ a : Fin 2, (![0, 0] : Fin 2 → ℕ) a = 0 := fun a => match a with | ⟨0, _⟩ => rfl | ⟨1, _⟩ => rfl
  unfold out0_5
  refine (View.canon_cons_unit_lit inb_S512x2048_S512x2048_0_0 _ _ z).trans ?_
  rw [View.ld_unit_lit inb_S512x2048_S512x2048_0_0 x0 z, View.ld_unit_lit inb_S512x1024_S512x1024_0_0 x1 z, View.ld_unit_lit inb_S1024x2048_S1024x2048_0_0 x3 z,
    View.ld_unit_lit inb_S512x1024_S512x1024_0_0 x2 z, View.ld_unit_lit inb_S1024x2048_S1024x2048_0_0 x4 z]

theorem pay_at (x0 : S512x2048.Idx → EReal) (x1 x2 : S512x1024.Idx → EReal) (x3 x4 : S1024x2048.Idx → EReal) (s : Fin 512) (n : Fin 2048) :
    k0_pay1 (F := Ideal) x0 x1 x3 x2 x4 (ix2 s n)
      = x0 (ix2 s n) + (∑ k : Fin 1024, x1 (ix2 s k) * x3 (ix2 k n)) + ∑ k : Fin 1024, x2 (ix2 s k) * x4 (ix2 k n) := by
  unfold k0_pay1
  rw [addf_apply, addf_apply, shapeCast_id, shapeCast_id]
  refine congrArg₂ (fun a b : EReal => x0 (ix2 s n) + a + b) ?_ ?_
  · refine (Ideal.matmul_plain_apply (M := 512) (K := 1024) (N := 2048) none _ _ _ s n).trans ?_
    rw [constant_apply, Ideal.ofBits_zero_f32, zero_add]
  · refine (Ideal.matmul_plain_apply (M := 512) (K := 1024) (N := 2048) none _ _ _ s n).trans ?_
    rw [constant_apply, Ideal.ofBits_zero_f32, zero_add]
    rfl

/-- A point's output block. -/
theorem out_at (t : Fin cfg0.N) (s : Fin 512) (n : Fin 2048) :
    out0_5 (F := Ideal) (iblk m c 0 t) (iblk m c 1 t) (iblk m c 2 t) (iblk m c 3 t) (iblk m c 4 t) (ix2 s n)
      = entry (rows m c) (left m c) (right m c) (weights m c) (row t s) n := by
  refine (congrFun (out_eq (iblk m c 0 t) (iblk m c 1 t) (iblk m c 2 t) (iblk m c 3 t) (iblk m c 4 t)) _).trans ?_
  refine (pay_at (iblk m c 0 t) (iblk m c 1 t) (iblk m c 2 t) (iblk m c 3 t) (iblk m c 4 t) s n).trans ?_
  unfold entry
  simp only [iblk0_at, iblk1_at, iblk2_at, iblk3_at, iblk4_at]

theorem flush5 : ∀ t : Fin cfg0.N, (cfg0.win 5).flush t = true := by decide

/-- An entry of the kernel's result. -/
theorem kernel_at (p : Fin 16384) (n : Fin 2048) :
    (dats m 0 c).arrAt 5 cfg0.N (ix2 p n) = entry (rows m c) (left m c) (right m c) (weights m c) p n := by
  have ht : p.val / 512 < cfg0.N := lt_of_lt_of_eq (by omega : _ < 32) N_0.symm
  have e := congrFun (Cert.OutIdeal.Value.blocks5 m c ⟨p.val / 512, ht⟩ (flush5 _)) (ix2 (⟨p.val % 512, by omega⟩ : Fin 512) n)
  rw [Cert.OutIdeal.Value.flushed5] at e
  have hr : row ⟨p.val / 512, ht⟩ ⟨p.val % 512, by omega⟩ = p := Fin.ext (by show 512 * (p.val / 512) + p.val % 512 = p.val; omega)
  have e5 := read5 ((dats m 0 c).arrAt 5 cfg0.N) ⟨p.val / 512, ht⟩ ⟨p.val % 512, by omega⟩ n
  have eo := out_at m c ⟨p.val / 512, ht⟩ ⟨p.val % 512, by omega⟩ n
  have e' := e5.symm.trans (e.trans eo)
  rw [hr] at e'
  exact e'

/-! ## The reference -/

section
open Cert.OutReferenceIdeal Cert.OutReferenceIdeal.Gen Cert.OutReferenceIdeal.Read

/-- The two mixers' rows, side by side. -/
theorem cat_at (o : Fin 2 → Cert.OutReferenceIdeal.S16384x1024.Idx → EReal) (h : Shape.Concatenates [Cert.OutReferenceIdeal.S16384x1024, Cert.OutReferenceIdeal.S16384x1024] Cert.OutReferenceIdeal.S16384x2048 1)
    (p : Fin 16384) (q : Fin 2) (k : Fin 1024) (i : Cert.OutReferenceIdeal.S16384x2048.Idx)
    (h0 : (i 0).val = p.val) (h1 : (i 1).val = 1024 * q.val + k.val) :
    concatenate Cert.OutReferenceIdeal.S16384x2048 1 [⟨Cert.OutReferenceIdeal.S16384x1024, o 0⟩, ⟨Cert.OutReferenceIdeal.S16384x1024, o 1⟩] h i = o q (ix2 p k) :=
  concatenate_ofFn_apply (t := Cert.OutReferenceIdeal.S16384x2048) (s₁ := Cert.OutReferenceIdeal.S16384x1024) 1 o h rfl 1024 rfl i q
    (by rw [h1]; omega) (ix2 p k) (by rw [h1]; show k.val = _; omega) fun b hb => by
      match b with
      | ⟨0, _⟩ => exact h0.symm
      | ⟨1, _⟩ => exact absurd rfl hb

variable (x : FVec Ideal Cert.OutReferenceIdeal.S16384x2048 .f32) (a : FVec Ideal Cert.OutReferenceIdeal.S16384x1024 .bf16) (b : FVec Ideal Cert.OutReferenceIdeal.S16384x1024 .f32)
  (w : FVec Ideal Cert.OutReferenceIdeal.S2048x2048 .f32)

/-- An entry of the reference's result. -/
theorem ref_at (p : Fin 16384) (n : Fin 2048) : val_main_v3 (F := Ideal) x a b w (ix2 p n) = entry x a b w p n := by
  have hc : ∀ (q : Fin 2) (k : Fin 1024) (i : Cert.OutReferenceIdeal.S16384x2048.Idx), (i 0).val = p.val → (i 1).val = 1024 * q.val + k.val →
      val_main_v1 (F := Ideal) a b i = (![a, b] : Fin 2 → Cert.OutReferenceIdeal.S16384x1024.Idx → EReal) q (ix2 p k) := fun q k i h0 h1 =>
    cat_at ![a, b] _ p q k i h0 h1
  have hw : ∀ (k n' : Fin 2048) (i : Cert.OutReferenceIdeal.S2048x2048.Idx), (i 0).val = k.val → (i 1).val = n'.val → w i = w (ix2 k n') := fun k n' i h0 h1 =>
    congrArg w (funext fun ax => Fin.ext (match ax with | ⟨0, _⟩ => h0 | ⟨1, _⟩ => h1))
  rw [val_main_v3_apply, val_main_v2_apply]
  unfold entry
  refine Eq.trans ?_ (add_assoc (G := EReal) _ _ _).symm
  refine congrArg (fun z : EReal => x (ix2 p n) + z) ?_
  refine (Fin.sum_univ_add (a := 1024) (b := 1024) (M := EReal) _).trans ?_
  refine congrArg₂ (fun u v : EReal => u + v) (Finset.sum_congr rfl fun k _ => ?_) (Finset.sum_congr rfl fun k _ => ?_)
  · refine congrArg₂ (fun u v : EReal => u * v) (hc 0 k _ rfl ?_) (hw ⟨k.val, by omega⟩ n _ rfl rfl)
    show k.val = 1024 * 0 + k.val
    omega
  · refine congrArg₂ (fun u v : EReal => u * v) (hc 1 k _ rfl rfl) (hw ⟨1024 + k.val, by omega⟩ n _ rfl rfl)

end

end Cert.OutIdeal.Projection

end
-- ==== Proof.MobaOutResult.lean ====
/- THE SECOND LAYER'S OUTPUT PROJECTION, ENTRY BY ENTRY: a row, and the heads' row projected. -/
module

public import proofs.«01_k».proof.Proof.Gen.MobaOutIdeal.Value
public import proofs.«01_k».proof.Proof.Gen.MobaOutReferenceIdeal.Read
public import Idealize.ShloMosaic.Lib.Claim
public import Idealize.ShloMosaic.Lib.StableHlo.RunRead
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.VecWindow
public import Idealize.ShloMosaic.Lib.KernelVsHost
public import Idealize.ShloMosaic.Lib.Pointwise.Reduce
public import Idealize.ShloMosaic.Lib.Pointwise.Reshape
public import Idealize.ShloMosaic.Lib.Pipeline.Value
public import Idealize.ShloMosaic.Lib.Pipeline.ValueKit.Basic
public import Idealize.ShloMosaic.Lib.Pipeline.ValueKit.Tiles

@[expose] public section

noncomputable section

namespace Cert.MobaOutIdeal.Projection

open Cert.MobaOutIdeal Cert.MobaOutIdeal.Gen Idealize.ShloMosaic.TcCoe Idealize.SL.Sem
open Idealize.ShloMosaic hiding ix1 ix2 ix3
open Idealize.ShloMosaic.ValueIdx
open scoped BigOperators

/-- An entry of the result. -/
def entry (x a : S16384x2048.Idx → EReal) (w : S2048x2048.Idx → EReal) (p : Fin 16384) (n : Fin 2048) : EReal :=
  x (ix2 p n) + ∑ k : Fin 2048, a (ix2 p k) * w (ix2 k n)

variable (m : (ℓ : Loc nD τ sig) → Buf (Elt Ideal) ℓ) (c : Dev nD)

abbrev rows : S16384x2048.Idx → EReal := m ((c : Thread nD τ).loc main_arg0)
abbrev heads : S16384x2048.Idx → EReal := m ((c : Thread nD τ).loc main_arg1)
abbrev weights : S2048x2048.Idx → EReal := m ((c : Thread nD τ).loc main_arg2)

/-! ## What the kernel reads -/

theorem V_w : V m c main_v0 = truncf (F := Ideal) .bf16 (m ((c : Thread nD τ).loc main_arg2)) bitsLt_bf16_f32 := by
  entry_read
  rfl

theorem index0 (t : Fin cfg0.N) : win0_0.index t = ![t.val, 0] := (by decide +kernel : ∀ t : Fin grid0.N, win0_0.index t = ![t.val, 0]) t
theorem index1 (t : Fin cfg0.N) : win0_1.index t = ![t.val, 0] := (by decide +kernel : ∀ t : Fin grid0.N, win0_1.index t = ![t.val, 0]) t
theorem index2 (t : Fin cfg0.N) : win0_2.index t = ![0, 0] := (by decide +kernel : ∀ t : Fin grid0.N, win0_2.index t = ![0, 0]) t
theorem index3 (t : Fin cfg0.N) : win0_3.index t = ![t.val, 0] := (by decide +kernel : ∀ t : Fin grid0.N, win0_3.index t = ![t.val, 0]) t

/-- A grid point's row. -/
def row (t : Fin cfg0.N) (s : Fin 512) : Fin 16384 := ⟨512 * t.val + s.val, by have h : t.val < 32 := lt_of_lt_of_eq t.isLt N_0; omega⟩

theorem plain (n b : ℕ) : 0 * n + b = b := by rw [Nat.zero_mul, Nat.zero_add]

theorem read0 (A : S16384x2048.Idx → Ideal .f32) (t : Fin cfg0.N) (s : Fin 512) (d : Fin 2048) :
    ((cfg0.win 0).blk t).view.read (Elt Ideal) A (ix2 s d) = A (ix2 (row t s) d) := by
  refine congrArg A (funext fun a => Fin.ext ?_)
  refine (Pipeline.Window.rect_emb_val win0_0 t (ix2 s d) a).trans ?_
  rw [index0]
  match a with
  | ⟨0, _⟩ => exact congrArg (· + s.val) (Nat.mul_comm _ _)
  | ⟨1, _⟩ => exact plain _ _

theorem read1 (A : S16384x2048.Idx → Ideal .bf16) (t : Fin cfg0.N) (s : Fin 512) (d : Fin 2048) :
    ((cfg0.win 1).blk t).view.read (Elt Ideal) A (ix2 s d) = A (ix2 (row t s) d) := by
  refine congrArg A (funext fun a => Fin.ext ?_)
  refine (Pipeline.Window.rect_emb_val win0_1 t (ix2 s d) a).trans ?_
  rw [index1]
  match a with
  | ⟨0, _⟩ => exact congrArg (· + s.val) (Nat.mul_comm _ _)
  | ⟨1, _⟩ => exact plain _ _

theorem read2 (A : S2048x2048.Idx → Ideal .bf16) (t : Fin cfg0.N) (k : Fin 2048) (n : Fin 2048) :
    ((cfg0.win 2).blk t).view.read (Elt Ideal) A (ix2 k n) = A (ix2 k n) := by
  refine congrArg A (funext fun a => Fin.ext ?_)
  refine (Pipeline.Window.rect_emb_val win0_2 t (ix2 k n) a).trans ?_
  rw [index2]
  match a with
  | ⟨0, _⟩ => exact plain _ _
  | ⟨1, _⟩ => exact plain _ _

theorem read3 (A : S16384x2048.Idx → Ideal .f32) (t : Fin cfg0.N) (s : Fin 512) (d : Fin 2048) :
    ((cfg0.win 3).blk t).view.read (Elt Ideal) A (ix2 s d) = A (ix2 (row t s) d) := by
  refine congrArg A (funext fun a => Fin.ext ?_)
  refine (Pipeline.Window.rect_emb_val win0_3 t (ix2 s d) a).trans ?_
  rw [index3]
  match a with
  | ⟨0, _⟩ => exact congrArg (· + s.val) (Nat.mul_comm _ _)
  | ⟨1, _⟩ => exact plain _ _

theorem iblk0_at (t : Fin cfg0.N) (s : Fin 512) (d : Fin 2048) : iblk m c 0 t (ix2 s d) = rows m c (ix2 (row t s) d) := by
  unfold iblk
  exact (read0 (V m c (Pipeline.arrRef spec0 0)) t s d).trans (congrFun (V_main_arg0 m c) _)

theorem iblk1_at (t : Fin cfg0.N) (s : Fin 512) (d : Fin 2048) : iblk m c 1 t (ix2 s d) = heads m c (ix2 (row t s) d) := by
  unfold iblk
  exact (read1 (V m c (Pipeline.arrRef spec0 1)) t s d).trans (congrFun (V_main_arg1 m c) _)

theorem iblk2_at (t : Fin cfg0.N) (k n : Fin 2048) : iblk m c 2 t (ix2 k n) = weights m c (ix2 k n) := by
  unfold iblk
  exact (read2 (V m c (Pipeline.arrRef spec0 2)) t k n).trans (congrFun (V_w m c) _)

/-! ## A grid point -/

/-- What the body leaves in the output block. -/
theorem out_eq (x0 : Vec Ideal S512x2048 .f32) (x1 : Vec Ideal S512x2048 .bf16) (x2 : Vec Ideal S2048x2048 .bf16) :
    out0_3 (F := Ideal) x0 x1 x2 = k0_pay1 (F := Ideal) x0 x1 x2 := by
  have z : ∀ a : Fin 2, (![0, 0] : Fin 2 → ℕ) a = 0 := fun a => match a with | ⟨0, _⟩ => rfl | ⟨1, _⟩ => rfl
  unfold out0_3
  refine (View.canon_cons_unit_lit inb_S512x2048_S512x2048_0_0 _ _ z).trans ?_
  rw [View.ld_unit_lit inb_S512x2048_S512x2048_0_0 x0 z, View.ld_unit_lit inb_S512x2048_S512x2048_0_0 x1 z, View.ld_unit_lit inb_S2048x2048_S2048x2048_0_0 x2 z]

theorem pay_at (x0 x1 : S512x2048.Idx → EReal) (x2 : S2048x2048.Idx → EReal) (s : Fin 512) (n : Fin 2048) :
    k0_pay1 (F := Ideal) x0 x1 x2 (ix2 s n) = x0 (ix2 s n) + ∑ k : Fin 2048, x1 (ix2 s k) * x2 (ix2 k n) := by
  unfold k0_pay1
  rw [addf_apply]
  refine congrArg (fun a : EReal => x0 (ix2 s n) + a) ?_
  refine (Ideal.matmul_plain_apply (M := 512) (K := 2048) (N := 2048) none _ _ _ s n).trans ?_
  rw [constant_apply, Ideal.ofBits_zero_f32, zero_add]
  simp only [shapeCast_id]

/-- A point's output block. -/
theorem out3_at (t : Fin cfg0.N) (s : Fin 512) (n : Fin 2048) :
    out0_3 (F := Ideal) (iblk m c 0 t) (iblk m c 1 t) (iblk m c 2 t) (ix2 s n) = entry (rows m c) (heads m c) (weights m c) (row t s) n := by
  refine (congrFun (out_eq (iblk m c 0 t) (iblk m c 1 t) (iblk m c 2 t)) _).trans ?_
  refine (pay_at (iblk m c 0 t) (iblk m c 1 t) (iblk m c 2 t) s n).trans ?_
  unfold entry
  simp only [iblk0_at, iblk1_at, iblk2_at]

theorem flush3 : ∀ t : Fin cfg0.N, (cfg0.win 3).flush t = true := by decide

/-- An entry of the kernel's result. -/
theorem kernel_at (p : Fin 16384) (n : Fin 2048) : (dats m 0 c).arrAt 3 cfg0.N (ix2 p n) = entry (rows m c) (heads m c) (weights m c) p n := by
  have ht : p.val / 512 < cfg0.N := lt_of_lt_of_eq (by omega : _ < 32) N_0.symm
  have e := congrFun (Cert.MobaOutIdeal.Value.blocks3 m c ⟨p.val / 512, ht⟩ (flush3 _)) (ix2 (⟨p.val % 512, by omega⟩ : Fin 512) n)
  rw [Cert.MobaOutIdeal.Value.flushed3] at e
  have hr : row ⟨p.val / 512, ht⟩ ⟨p.val % 512, by omega⟩ = p := Fin.ext (by show 512 * (p.val / 512) + p.val % 512 = p.val; omega)
  have ew := read3 ((dats m 0 c).arrAt 3 cfg0.N) ⟨p.val / 512, ht⟩ ⟨p.val % 512, by omega⟩ n
  have eo := out3_at m c ⟨p.val / 512, ht⟩ ⟨p.val % 512, by omega⟩ n
  have e' := ew.symm.trans (e.trans eo)
  rw [hr] at e'
  exact e'

/-! ## The reference -/

section
open Cert.MobaOutReferenceIdeal Cert.MobaOutReferenceIdeal.Gen Cert.MobaOutReferenceIdeal.Read

variable (x : FVec Ideal Cert.MobaOutReferenceIdeal.S16384x2048 .f32) (a : FVec Ideal Cert.MobaOutReferenceIdeal.S16384x2048 .bf16) (w : FVec Ideal Cert.MobaOutReferenceIdeal.S2048x2048 .f32)

/-- An entry of the reference's result. -/
theorem ref_at (p : Fin 16384) (n : Fin 2048) : val_main_v2 (F := Ideal) x a w (ix2 p n) = entry x a w p n := by
  rw [val_main_v2_apply, val_main_v1_apply]
  unfold entry
  refine congrArg (fun z : EReal => x (ix2 p n) + z) (Finset.sum_congr rfl fun k _ => ?_)
  refine congrArg₂ (fun u v : EReal => u * v) (congrArg a (funext fun ax => Fin.ext ?_)) (congrArg w (funext fun ax => Fin.ext ?_))
  · match ax with
    | ⟨0, _⟩ => rfl
    | ⟨1, _⟩ => rfl
  · match ax with
    | ⟨0, _⟩ => rfl
    | ⟨1, _⟩ => rfl

end

end Cert.MobaOutIdeal.Projection

end
-- ==== Proof.InResult.lean ====
/- THE FIRST LAYER'S FIRST PROJECTION, ENTRY BY ENTRY: the normalized row times a column of the weights, the rotary columns in two orders. -/
module

public import proofs.«01_k».proof.Proof.Gen.InIdeal.Value
public import Idealize.ShloMosaic.Lib.Claim
public import Idealize.ShloMosaic.Lib.StableHlo.RunRead
public import Idealize.ShloMosaic.Lib.ValueIdx
public import Idealize.ShloMosaic.Lib.MatmulPlain
public import Idealize.ShloMosaic.Lib.ValueLayout
public import Idealize.ShloMosaic.Lib.ValueLayoutCasts
public import Idealize.ShloMosaic.Lib.VecWindow
public import Idealize.ShloMosaic.Lib.KernelVsHost
public import Idealize.ShloMosaic.Lib.Pointwise.Reduce
public import Idealize.ShloMosaic.Lib.Pointwise.Reshape
public import Idealize.ShloMosaic.Lib.Pipeline.Value
public import Idealize.ShloMosaic.Lib.Pipeline.ValueKit.Basic
public import Idealize.ShloMosaic.Lib.Pipeline.ValueKit.Tiles

@[expose] public section

noncomputable section

namespace Cert.InIdeal.Entry

open Cert.InIdeal Cert.InIdeal.Gen Idealize.ShloMosaic.TcCoe Idealize.SL.Sem
open Idealize.ShloMosaic hiding ix1 ix2 ix3
open Idealize.ShloMosaic.ValueIdx
open scoped BigOperators

/-! ## The layer, entry by entry -/

section
variable (x : S16384x2048.Idx → EReal) (g : S2048.Idx → EReal) (w : S2048x2112.Idx → EReal) (p : Fin 16384)

/-- A normalized row, … -/
def normRow (d : Fin 2048) : EReal :=
  x (ix2 p d) * Ideal.rsqrt (Ideal.div (∑ e : Fin 2048, x (ix2 p e) * x (ix2 p e)) (Ideal.ofBits .f32 0x45000000#32) + Ideal.ofBits .f32 0x358637BD#32) * g (ix1 d)

/-- … a column of its projection, … -/
def proj (c : Fin 2112) : EReal := ∑ d : Fin 2048, normRow x g p d * w (ix2 d c)

/-- … the rotary columns, padded, … -/
def ropeA (k : Fin 128) : EReal := if h : k.val < 64 then proj x g w p ⟨1024 + k.val, by omega⟩ else 0

/-- … and with their halves exchanged. -/
def ropeB (k : Fin 128) : EReal :=
  if h : k.val < 32 then proj x g w p ⟨1056 + k.val, by omega⟩ else if h' : k.val < 64 then proj x g w p ⟨992 + k.val, by omega⟩ else 0

end

variable (m : (ℓ : Loc nD τ sig) → Buf (Elt Ideal) ℓ) (c : Dev nD)

abbrev rows : S16384x2048.Idx → EReal := m ((c : Thread nD τ).loc main_arg0)
abbrev gain : S2048.Idx → EReal := m ((c : Thread nD τ).loc main_arg1)
abbrev weights : S2048x2112.Idx → EReal := m ((c : Thread nD τ).loc main_arg2)

/-! ## The weights, as the kernel takes them -/

theorem V_gain : V m c main_v11 = shapeCast S1x2048 (m ((c : Thread nD τ).loc main_arg1)) shapeCasts_S2048_S1x2048 := by
  entry_read
  rfl

section
variable (w : S2048x2112.Idx → EReal)

/-- The rotary columns and their two halves, columns of zeros. -/
def rot : S2048x64.Idx → EReal := extractStridedSlice S2048x64 ![0, 1024] w slices_S2048x2112_S2048x64_0_1024
def lo : S2048x32.Idx → EReal := extractStridedSlice S2048x32 ![0, 0] (rot w) slices_S2048x64_S2048x32_0_0
def hi : S2048x32.Idx → EReal := extractStridedSlice S2048x32 ![0, 32] (rot w) slices_S2048x64_S2048x32_0_32
def zeros : S2048x64.Idx → EReal := broadcastInDim S2048x64 ![] bcast_S_S2048x64 (constant (F := Ideal) S_ .f32 0x00000000#32)

abbrev piecesA : List ((s : Shape) × (s.Idx → EReal)) := [⟨S2048x32, lo w⟩, ⟨S2048x32, hi w⟩, ⟨S2048x64, zeros⟩]
abbrev piecesB : List ((s : Shape) × (s.Idx → EReal)) := [⟨S2048x32, hi w⟩, ⟨S2048x32, lo w⟩, ⟨S2048x64, zeros⟩]
def padA : S2048x128.Idx → EReal := concatenate S2048x128 1 (piecesA w) concatenates_S2048x32_S2048x32_S2048x64_S2048x128_d1
def padB : S2048x128.Idx → EReal := concatenate S2048x128 1 (piecesB w) concatenates_S2048x32_S2048x32_S2048x64_S2048x128_d1

abbrev pieces : List ((s : Shape) × (s.Idx → EReal)) :=
  [⟨S2048x512, extractStridedSlice S2048x512 ![0, 0] w slices_S2048x2112_S2048x512_0_0⟩,
   ⟨S2048x512, extractStridedSlice S2048x512 ![0, 512] w slices_S2048x2112_S2048x512_0_512⟩,
   ⟨S2048x128, padA w⟩, ⟨S2048x128, padB w⟩,
   ⟨S2048x1024, extractStridedSlice S2048x1024 ![0, 1088] w slices_S2048x2112_S2048x1024_0_1088⟩]
def laid : S2048x2304.Idx → EReal :=
  concatenate S2048x2304 1 (pieces w) concatenates_S2048x512_S2048x512_S2048x128_S2048x128_S2048x1024_S2048x2304_d1

theorem rot_at (d : Fin 2048) (k : Fin 64) : rot w (ix2 d k) = w (ix2 d (⟨1024 + k.val, by omega⟩ : Fin 2112)) :=
  extractStridedSlice_apply ![0, 1024] w slices_S2048x2112_S2048x64_0_1024 (ix2 d k) (ix2 d (⟨1024 + k.val, by omega⟩ : Fin 2112)) fun a => by
    match a with
    | ⟨0, _⟩ => exact (Nat.zero_add _).symm
    | ⟨1, _⟩ => rfl

theorem lo_at (d : Fin 2048) (k : Fin 32) : lo w (ix2 d k) = w (ix2 d (⟨1024 + k.val, by omega⟩ : Fin 2112)) := by
  unfold lo
  exact (extractStridedSlice_apply ![0, 0] (rot w) slices_S2048x64_S2048x32_0_0 (ix2 d k) (ix2 d (⟨k.val, Nat.lt_of_lt_of_le k.isLt (by decide)⟩ : Fin 64)) fun a => by
    match a with
    | ⟨0, _⟩ => exact (Nat.zero_add _).symm
    | ⟨1, _⟩ => exact (Nat.zero_add _).symm).trans (rot_at w d _)

theorem hi_at (d : Fin 2048) (k : Fin 32) : hi w (ix2 d k) = w (ix2 d (⟨1056 + k.val, by omega⟩ : Fin 2112)) := by
  unfold hi
  exact (extractStridedSlice_apply ![0, 32] (rot w) slices_S2048x64_S2048x32_0_32 (ix2 d k) (ix2 d (⟨32 + k.val, by omega⟩ : Fin 64)) fun a => by
    match a with
    | ⟨0, _⟩ => exact (Nat.zero_add _).symm
    | ⟨1, _⟩ => rfl).trans ((rot_at w d _).trans (congrArg (fun k : Fin 2112 => w (ix2 d k)) (Fin.ext (by show 1024 + (32 + k.val) = 1056 + k.val; omega))))

theorem zeros_at (i : S2048x64.Idx) : zeros i = 0 := Ideal.ofBits_zero_f32

theorem padA_at (d : Fin 2048) (k : Fin 128) : padA w (ix2 d k) = if h : k.val < 64 then w (ix2 d (⟨1024 + k.val, by omega⟩ : Fin 2112)) else 0 := by
  unfold padA
  by_cases h : k.val < 64
  · rw [dif_pos h]
    by_cases h' : k.val < 32
    · refine (concatenate_apply_piece 1 (piecesA w) concatenates_S2048x32_S2048x32_S2048x64_S2048x128_d1 _ 0 (by simp) S2048x32 _ rfl rfl 0 rfl (ix2 d (⟨k.val, h'⟩ : Fin 32))
      (fun b => match b with | ⟨0, _⟩ => fun _ => rfl | ⟨1, _⟩ => fun hn => absurd rfl hn) (by show 0 + k.val = k.val; omega)).trans ?_
      exact lo_at w d _
    · refine (concatenate_apply_piece 1 (piecesA w) concatenates_S2048x32_S2048x32_S2048x64_S2048x128_d1 _ 1 (by simp) S2048x32 _ rfl rfl 32 rfl (ix2 d (⟨k.val - 32, by omega⟩ : Fin 32))
      (fun b => match b with | ⟨0, _⟩ => fun _ => rfl | ⟨1, _⟩ => fun hn => absurd rfl hn) (by show 32 + (k.val - 32) = k.val; omega)).trans ?_
      exact (hi_at w d _).trans (congrArg (fun k : Fin 2112 => w (ix2 d k)) (Fin.ext (by show 1056 + (k.val - 32) = 1024 + k.val; omega)))
  · rw [dif_neg h]
    refine (concatenate_apply_piece 1 (piecesA w) concatenates_S2048x32_S2048x32_S2048x64_S2048x128_d1 _ 2 (by simp) S2048x64 _ rfl rfl 64 rfl (ix2 d (⟨k.val - 64, by omega⟩ : Fin 64))
      (fun b => match b with | ⟨0, _⟩ => fun _ => rfl | ⟨1, _⟩ => fun hn => absurd rfl hn) (by show 64 + (k.val - 64) = k.val; omega)).trans ?_
    exact zeros_at _

theorem padB_at (d : Fin 2048) (k : Fin 128) : padB w (ix2 d k)
    = if h : k.val < 32 then w (ix2 d (⟨1056 + k.val, by omega⟩ : Fin 2112)) else if h' : k.val < 64 then w (ix2 d (⟨992 + k.val, by omega⟩ : Fin 2112)) else 0 := by
  unfold padB
  by_cases h' : k.val < 32
  · rw [dif_pos h']
    refine (concatenate_apply_piece 1 (piecesB w) concatenates_S2048x32_S2048x32_S2048x64_S2048x128_d1 _ 0 (by simp) S2048x32 _ rfl rfl 0 rfl (ix2 d (⟨k.val, h'⟩ : Fin 32))
      (fun b => match b with | ⟨0, _⟩ => fun _ => rfl | ⟨1, _⟩ => fun hn => absurd rfl hn) (by show 0 + k.val = k.val; omega)).trans ?_
    exact hi_at w d _
  rw [dif_neg h']
  by_cases h : k.val < 64
  · rw [dif_pos h]
    refine (concatenate_apply_piece 1 (piecesB w) concatenates_S2048x32_S2048x32_S2048x64_S2048x128_d1 _ 1 (by simp) S2048x32 _ rfl rfl 32 rfl (ix2 d (⟨k.val - 32, by omega⟩ : Fin 32))
      (fun b => match b with | ⟨0, _⟩ => fun _ => rfl | ⟨1, _⟩ => fun hn => absurd rfl hn) (by show 32 + (k.val - 32) = k.val; omega)).trans ?_
    exact (lo_at w d _).trans (congrArg (fun k : Fin 2112 => w (ix2 d k)) (Fin.ext (by show 1024 + (k.val - 32) = 992 + k.val; omega)))
  · rw [dif_neg h]
    refine (concatenate_apply_piece 1 (piecesB w) concatenates_S2048x32_S2048x32_S2048x64_S2048x128_d1 _ 2 (by simp) S2048x64 _ rfl rfl 64 rfl (ix2 d (⟨k.val - 64, by omega⟩ : Fin 64))
      (fun b => match b with | ⟨0, _⟩ => fun _ => rfl | ⟨1, _⟩ => fun hn => absurd rfl hn) (by show 64 + (k.val - 64) = k.val; omega)).trans ?_
    exact zeros_at _

theorem laid_cq (d : Fin 2048) (k : Fin 512) : laid w (ix2 d (⟨k.val, by omega⟩ : Fin 2304)) = w (ix2 d (⟨k.val, by omega⟩ : Fin 2112)) := by
  unfold laid
  refine (concatenate_apply_piece 1 (pieces w) concatenates_S2048x512_S2048x512_S2048x128_S2048x128_S2048x1024_S2048x2304_d1 _ 0 (by simp) S2048x512 _ rfl rfl 0 rfl (ix2 d k)
      (fun b => match b with | ⟨0, _⟩ => fun _ => rfl | ⟨1, _⟩ => fun hn => absurd rfl hn) (by show 0 + k.val = k.val; omega)).trans ?_
  exact extractStridedSlice_apply ![0, 0] w slices_S2048x2112_S2048x512_0_0 (ix2 d k) (ix2 d (⟨k.val, by omega⟩ : Fin 2112)) fun a => by
    match a with
    | ⟨0, _⟩ => exact (Nat.zero_add _).symm
    | ⟨1, _⟩ => exact (Nat.zero_add _).symm

theorem laid_ckv (d : Fin 2048) (k : Fin 512) : laid w (ix2 d (⟨512 + k.val, by omega⟩ : Fin 2304)) = w (ix2 d (⟨512 + k.val, by omega⟩ : Fin 2112)) := by
  unfold laid
  refine (concatenate_apply_piece 1 (pieces w) concatenates_S2048x512_S2048x512_S2048x128_S2048x128_S2048x1024_S2048x2304_d1 _ 1 (by simp) S2048x512 _ rfl rfl 512 rfl (ix2 d k)
      (fun b => match b with | ⟨0, _⟩ => fun _ => rfl | ⟨1, _⟩ => fun hn => absurd rfl hn) (by show 512 + k.val = 512 + k.val; omega)).trans ?_
  exact extractStridedSlice_apply ![0, 512] w slices_S2048x2112_S2048x512_0_512 (ix2 d k) (ix2 d (⟨512 + k.val, by omega⟩ : Fin 2112)) fun a => by
    match a with
    | ⟨0, _⟩ => exact (Nat.zero_add _).symm
    | ⟨1, _⟩ => rfl

theorem laid_u (d : Fin 2048) (k : Fin 1024) : laid w (ix2 d (⟨1280 + k.val, by omega⟩ : Fin 2304)) = w (ix2 d (⟨1088 + k.val, by omega⟩ : Fin 2112)) := by
  unfold laid
  refine (concatenate_apply_piece 1 (pieces w) concatenates_S2048x512_S2048x512_S2048x128_S2048x128_S2048x1024_S2048x2304_d1 _ 4 (by simp) S2048x1024 _ rfl rfl 1280 rfl (ix2 d k)
      (fun b => match b with | ⟨0, _⟩ => fun _ => rfl | ⟨1, _⟩ => fun hn => absurd rfl hn) (by show 1280 + k.val = 1280 + k.val; omega)).trans ?_
  exact extractStridedSlice_apply ![0, 1088] w slices_S2048x2112_S2048x1024_0_1088 (ix2 d k) (ix2 d (⟨1088 + k.val, by omega⟩ : Fin 2112)) fun a => by
    match a with
    | ⟨0, _⟩ => exact (Nat.zero_add _).symm
    | ⟨1, _⟩ => rfl

theorem laid_A (d : Fin 2048) (k : Fin 128) : laid w (ix2 d (⟨1024 + k.val, by omega⟩ : Fin 2304)) = padA w (ix2 d k) :=
  concatenate_apply_piece 1 (pieces w) concatenates_S2048x512_S2048x512_S2048x128_S2048x128_S2048x1024_S2048x2304_d1 _ 2 (by simp) S2048x128 _ rfl rfl 1024 rfl (ix2 d k)
      (fun b => match b with | ⟨0, _⟩ => fun _ => rfl | ⟨1, _⟩ => fun hn => absurd rfl hn) (by show 1024 + k.val = 1024 + k.val; rfl)

theorem laid_B (d : Fin 2048) (k : Fin 128) : laid w (ix2 d (⟨1152 + k.val, by omega⟩ : Fin 2304)) = padB w (ix2 d k) :=
  concatenate_apply_piece 1 (pieces w) concatenates_S2048x512_S2048x512_S2048x128_S2048x128_S2048x1024_S2048x2304_d1 _ 3 (by simp) S2048x128 _ rfl rfl 1152 rfl (ix2 d k)
      (fun b => match b with | ⟨0, _⟩ => fun _ => rfl | ⟨1, _⟩ => fun hn => absurd rfl hn) (by show 1152 + k.val = 1152 + k.val; rfl)

end

theorem V_w : V m c main_v10 = truncf (F := Ideal) .bf16 (laid (weights m c)) bitsLt_bf16_f32 := by
  show StableHlo.after hostOps0 (fun b => m (c, b)) (Proc.devRef .tc main_v10) = _
  after_reads_simp
  rfl

/-! ## What the kernel reads -/

theorem index0 (t : Fin cfg0.N) : win0_0.index t = ![t.val, 0] := (by decide +kernel : ∀ t : Fin grid0.N, win0_0.index t = ![t.val, 0]) t
theorem index1 (t : Fin cfg0.N) : win0_1.index t = ![0, 0] := (by decide +kernel : ∀ t : Fin grid0.N, win0_1.index t = ![0, 0]) t
theorem index2 (t : Fin cfg0.N) : win0_2.index t = ![0, 0] := (by decide +kernel : ∀ t : Fin grid0.N, win0_2.index t = ![0, 0]) t
theorem index3 (t : Fin cfg0.N) : win0_3.index t = ![t.val, 0] := (by decide +kernel : ∀ t : Fin grid0.N, win0_3.index t = ![t.val, 0]) t
theorem index4 (t : Fin cfg0.N) : win0_4.index t = ![t.val, 0] := (by decide +kernel : ∀ t : Fin grid0.N, win0_4.index t = ![t.val, 0]) t
theorem index5 (t : Fin cfg0.N) : win0_5.index t = ![t.val, 0] := (by decide +kernel : ∀ t : Fin grid0.N, win0_5.index t = ![t.val, 0]) t
theorem index6 (t : Fin cfg0.N) : win0_6.index t = ![t.val, 0] := (by decide +kernel : ∀ t : Fin grid0.N, win0_6.index t = ![t.val, 0]) t
theorem index7 (t : Fin cfg0.N) : win0_7.index t = ![t.val, 0] := (by decide +kernel : ∀ t : Fin grid0.N, win0_7.index t = ![t.val, 0]) t

/-- A grid point's row. -/
def row (t : Fin cfg0.N) (s : Fin 512) : Fin 16384 := ⟨512 * t.val + s.val, by have h : t.val < 32 := lt_of_lt_of_eq t.isLt N_0; omega⟩

theorem plain (n b : ℕ) : 0 * n + b = b := by rw [Nat.zero_mul, Nat.zero_add]

theorem read0 (A : S16384x2048.Idx → Ideal .f32) (t : Fin cfg0.N) (s : Fin 512) (d : Fin 2048) :
    ((cfg0.win 0).blk t).view.read (Elt Ideal) A (ix2 s d) = A (ix2 (row t s) d) := by
  refine congrArg A (funext fun a => Fin.ext ?_)
  refine (Pipeline.Window.rect_emb_val win0_0 t (ix2 s d) a).trans ?_
  rw [index0]
  match a with
  | ⟨0, _⟩ => exact congrArg (· + s.val) (Nat.mul_comm _ _)
  | ⟨1, _⟩ => exact plain _ _

theorem read1 (A : S1x2048.Idx → Ideal .f32) (t : Fin cfg0.N) (d : Fin 2048) :
    ((cfg0.win 1).blk t).view.read (Elt Ideal) A (ix2 (0 : Fin 1) d) = A (ix2 (0 : Fin 1) d) := by
  refine congrArg A (funext fun a => Fin.ext ?_)
  refine (Pipeline.Window.rect_emb_val win0_1 t (ix2 (0 : Fin 1) d) a).trans ?_
  rw [index1]
  match a with
  | ⟨0, _⟩ => rfl
  | ⟨1, _⟩ => exact plain _ _

theorem read2 (A : S2048x2304.Idx → Ideal .bf16) (t : Fin cfg0.N) (k : Fin 2048) (n : Fin 2304) :
    ((cfg0.win 2).blk t).view.read (Elt Ideal) A (ix2 k n) = A (ix2 k n) := by
  refine congrArg A (funext fun a => Fin.ext ?_)
  refine (Pipeline.Window.rect_emb_val win0_2 t (ix2 k n) a).trans ?_
  rw [index2]
  match a with
  | ⟨0, _⟩ => exact plain _ _
  | ⟨1, _⟩ => exact plain _ _

theorem read3 (A : S16384x512.Idx → Ideal .f32) (t : Fin cfg0.N) (s : Fin 512) (d : Fin 512) :
    ((cfg0.win 3).blk t).view.read (Elt Ideal) A (ix2 s d) = A (ix2 (row t s) d) := by
  refine congrArg A (funext fun a => Fin.ext ?_)
  refine (Pipeline.Window.rect_emb_val win0_3 t (ix2 s d) a).trans ?_
  rw [index3]
  match a with
  | ⟨0, _⟩ => exact congrArg (· + s.val) (Nat.mul_comm _ _)
  | ⟨1, _⟩ => exact plain _ _

theorem read4 (A : S16384x512.Idx → Ideal .f32) (t : Fin cfg0.N) (s : Fin 512) (d : Fin 512) :
    ((cfg0.win 4).blk t).view.read (Elt Ideal) A (ix2 s d) = A (ix2 (row t s) d) := by
  refine congrArg A (funext fun a => Fin.ext ?_)
  refine (Pipeline.Window.rect_emb_val win0_4 t (ix2 s d) a).trans ?_
  rw [index4]
  match a with
  | ⟨0, _⟩ => exact congrArg (· + s.val) (Nat.mul_comm _ _)
  | ⟨1, _⟩ => exact plain _ _

theorem read5 (A : S16384x128.Idx → Ideal .f32) (t : Fin cfg0.N) (s : Fin 512) (d : Fin 128) :
    ((cfg0.win 5).blk t).view.read (Elt Ideal) A (ix2 s d) = A (ix2 (row t s) d) := by
  refine congrArg A (funext fun a => Fin.ext ?_)
  refine (Pipeline.Window.rect_emb_val win0_5 t (ix2 s d) a).trans ?_
  rw [index5]
  match a with
  | ⟨0, _⟩ => exact congrArg (· + s.val) (Nat.mul_comm _ _)
  | ⟨1, _⟩ => exact plain _ _

theorem read6 (A : S16384x128.Idx → Ideal .f32) (t : Fin cfg0.N) (s : Fin 512) (d : Fin 128) :
    ((cfg0.win 6).blk t).view.read (Elt Ideal) A (ix2 s d) = A (ix2 (row t s) d) := by
  refine congrArg A (funext fun a => Fin.ext ?_)
  refine (Pipeline.Window.rect_emb_val win0_6 t (ix2 s d) a).trans ?_
  rw [index6]
  match a with
  | ⟨0, _⟩ => exact congrArg (· + s.val) (Nat.mul_comm _ _)
  | ⟨1, _⟩ => exact plain _ _

theorem read7 (A : S16384x1024.Idx → Ideal .f32) (t : Fin cfg0.N) (s : Fin 512) (d : Fin 1024) :
    ((cfg0.win 7).blk t).view.read (Elt Ideal) A (ix2 s d) = A (ix2 (row t s) d) := by
  refine congrArg A (funext fun a => Fin.ext ?_)
  refine (Pipeline.Window.rect_emb_val win0_7 t (ix2 s d) a).trans ?_
  rw [index7]
  match a with
  | ⟨0, _⟩ => exact congrArg (· + s.val) (Nat.mul_comm _ _)
  | ⟨1, _⟩ => exact plain _ _

theorem iblk0_at (t : Fin cfg0.N) (s : Fin 512) (d : Fin 2048) : iblk m c 0 t (ix2 s d) = rows m c (ix2 (row t s) d) := by
  unfold iblk
  exact (read0 (V m c (Pipeline.arrRef spec0 0)) t s d).trans (congrFun (V_main_arg0 m c) _)

theorem iblk1_at (t : Fin cfg0.N) (d : Fin 2048) : iblk m c 1 t (ix2 (0 : Fin 1) d) = gain m c (ix1 d) := by
  unfold iblk
  refine (read1 (V m c (Pipeline.arrRef spec0 1)) t d).trans ?_
  refine (congrFun (V_gain m c) _).trans ?_
  exact shapeCast_a_1a_apply (a := 2048) _ _ 0 d

theorem iblk2_at (t : Fin cfg0.N) (d : Fin 2048) (k : Fin 2304) : iblk m c 2 t (ix2 d k) = laid (weights m c) (ix2 d k) := by
  unfold iblk
  exact (read2 (V m c (Pipeline.arrRef spec0 2)) t d k).trans (congrFun (V_w m c) _)

/-! ## The body -/

/-- A normalized row, projected. -/
theorem pay_at (x : S512x2048.Idx → EReal) (g : S1x2048.Idx → EReal) (w : S2048x2304.Idx → EReal) (s : Fin 512) (k : Fin 2304) :
    k0_pay1 (F := Ideal) x g w (ix2 s k)
      = ∑ d : Fin 2048, x (ix2 s d) * Ideal.rsqrt (Ideal.div (∑ e : Fin 2048, x (ix2 s e) * x (ix2 s e)) (Ideal.ofBits .f32 0x45000000#32) + Ideal.ofBits .f32 0x358637BD#32) * g (ix2 0 d)
          * w (ix2 d k) := by
  unfold k0_pay1
  dsimp only
  refine (Ideal.matmul_plain_apply (M := 512) (K := 2048) (N := 2304) none _ _ _ s k).trans ?_
  rw [constant_apply, Ideal.ofBits_zero_f32, zero_add, shapeCast_id, shapeCast_id]
  refine Finset.sum_congr rfl fun d _ => ?_
  rw [truncf_apply, mulf_apply, mulf_apply]
  refine congrArg₂ (fun a b : EReal => x (ix2 s d) * a * b * w (ix2 d k)) ?_ (broadcastTo_1b_ab_apply (a := 512) (b := 2048) _ _ s d)
  refine (broadcastTo_apply (s := S512x1) _ broadcasts_S512x1_S512x2048 (ix2 s d) (ix2 s (0 : Fin 1)) fun ax => by
    match ax with
    | ⟨0, _⟩ => rfl
    | ⟨1, _⟩ => rfl).trans ?_
  refine congrArg (fun z : EReal => Ideal.rsqrt (Ideal.div z (Ideal.ofBits .f32 0x45000000#32) + Ideal.ofBits .f32 0x358637BD#32)) ?_
  refine (shapeCast_a_a1_apply (a := 512) _ shapeCasts_S512_S512x1 s 0).trans ?_
  exact Ideal.reduceAdd_r2_a1 reduces_S512x2048_S512 _ _

/-- A point's projected rows. -/
theorem point_at (t : Fin cfg0.N) (s : Fin 512) (k : Fin 2304) (i : S512x2304.Idx) (h0 : (i 0).val = s.val) (h1 : (i 1).val = k.val) :
    k0_pay1 (F := Ideal) (iblk m c 0 t) (iblk m c 1 t) (iblk m c 2 t) i
      = ∑ d : Fin 2048, normRow (rows m c) (gain m c) (row t s) d * laid (weights m c) (ix2 d k) := by
  have hi : i = ix2 s k := funext fun a => Fin.ext (match a with | ⟨0, _⟩ => h0 | ⟨1, _⟩ => h1)
  rw [hi, pay_at]
  unfold normRow
  simp only [iblk0_at, iblk1_at, iblk2_at]

theorem out3_eq (x0 : Vec Ideal S512x2048 .f32) (x1 : Vec Ideal S1x2048 .f32) (x2 : Vec Ideal S2048x2304 .bf16) (i : S512x512.Idx) :
    out0_3 (F := Ideal) x0 x1 x2 i = Cert.InIdeal.Value.E3 (F := Ideal) x0 x1 x2 i := by
  have z : ∀ a : Fin 2, (![0, 0] : Fin 2 → ℕ) a = 0 := fun a => match a with | ⟨0, _⟩ => rfl | ⟨1, _⟩ => rfl
  unfold out0_3
  rw [View.ld_unit_lit inb_S512x2048_S512x2048_0_0 x0 z, View.ld_unit_lit inb_S1x2048_S1x2048_0_0 x1 z, View.ld_unit_lit inb_S2048x2304_S2048x2304_0_0 x2 z]
  exact Cert.InIdeal.Value.canon3_eq (F := Ideal) x0 x1 x2 i

theorem out4_eq (x0 : Vec Ideal S512x2048 .f32) (x1 : Vec Ideal S1x2048 .f32) (x2 : Vec Ideal S2048x2304 .bf16) (i : S512x512.Idx) :
    out0_4 (F := Ideal) x0 x1 x2 i = Cert.InIdeal.Value.E4 (F := Ideal) x0 x1 x2 i := by
  have z : ∀ a : Fin 2, (![0, 0] : Fin 2 → ℕ) a = 0 := fun a => match a with | ⟨0, _⟩ => rfl | ⟨1, _⟩ => rfl
  unfold out0_4
  rw [View.ld_unit_lit inb_S512x2048_S512x2048_0_0 x0 z, View.ld_unit_lit inb_S1x2048_S1x2048_0_0 x1 z, View.ld_unit_lit inb_S2048x2304_S2048x2304_0_0 x2 z]
  exact Cert.InIdeal.Value.canon4_eq (F := Ideal) x0 x1 x2 i

theorem out5_eq (x0 : Vec Ideal S512x2048 .f32) (x1 : Vec Ideal S1x2048 .f32) (x2 : Vec Ideal S2048x2304 .bf16) (i : S512x128.Idx) :
    out0_5 (F := Ideal) x0 x1 x2 i = Cert.InIdeal.Value.E5 (F := Ideal) x0 x1 x2 i := by
  have z : ∀ a : Fin 2, (![0, 0] : Fin 2 → ℕ) a = 0 := fun a => match a with | ⟨0, _⟩ => rfl | ⟨1, _⟩ => rfl
  unfold out0_5
  rw [View.ld_unit_lit inb_S512x2048_S512x2048_0_0 x0 z, View.ld_unit_lit inb_S1x2048_S1x2048_0_0 x1 z, View.ld_unit_lit inb_S2048x2304_S2048x2304_0_0 x2 z]
  exact Cert.InIdeal.Value.canon5_eq (F := Ideal) x0 x1 x2 i

theorem out6_eq (x0 : Vec Ideal S512x2048 .f32) (x1 : Vec Ideal S1x2048 .f32) (x2 : Vec Ideal S2048x2304 .bf16) (i : S512x128.Idx) :
    out0_6 (F := Ideal) x0 x1 x2 i = Cert.InIdeal.Value.E6 (F := Ideal) x0 x1 x2 i := by
  have z : ∀ a : Fin 2, (![0, 0] : Fin 2 → ℕ) a = 0 := fun a => match a with | ⟨0, _⟩ => rfl | ⟨1, _⟩ => rfl
  unfold out0_6
  rw [View.ld_unit_lit inb_S512x2048_S512x2048_0_0 x0 z, View.ld_unit_lit inb_S1x2048_S1x2048_0_0 x1 z, View.ld_unit_lit inb_S2048x2304_S2048x2304_0_0 x2 z]
  exact Cert.InIdeal.Value.canon6_eq (F := Ideal) x0 x1 x2 i

theorem out7_eq (x0 : Vec Ideal S512x2048 .f32) (x1 : Vec Ideal S1x2048 .f32) (x2 : Vec Ideal S2048x2304 .bf16) (i : S512x1024.Idx) :
    out0_7 (F := Ideal) x0 x1 x2 i = Cert.InIdeal.Value.E7 (F := Ideal) x0 x1 x2 i := by
  have z : ∀ a : Fin 2, (![0, 0] : Fin 2 → ℕ) a = 0 := fun a => match a with | ⟨0, _⟩ => rfl | ⟨1, _⟩ => rfl
  unfold out0_7
  rw [View.ld_unit_lit inb_S512x2048_S512x2048_0_0 x0 z, View.ld_unit_lit inb_S1x2048_S1x2048_0_0 x1 z, View.ld_unit_lit inb_S2048x2304_S2048x2304_0_0 x2 z]
  exact Cert.InIdeal.Value.canon7_eq (F := Ideal) x0 x1 x2 i

theorem out3_at (t : Fin cfg0.N) (s : Fin 512) (n : Fin 512) :
    out0_3 (F := Ideal) (iblk m c 0 t) (iblk m c 1 t) (iblk m c 2 t) (ix2 s n) = proj (rows m c) (gain m c) (weights m c) (row t s) (⟨n.val, by omega⟩ : Fin 2112) := by
  refine (out3_eq (iblk m c 0 t) (iblk m c 1 t) (iblk m c 2 t) (ix2 s n)).trans ?_
  refine (point_at m c t s (⟨n.val, by omega⟩ : Fin 2304) (Cert.InIdeal.Value.ix3_0 (ix2 s n)) rfl (by show n.val = n.val; omega)).trans ?_
  unfold proj
  simp only [laid_cq]

theorem out4_at (t : Fin cfg0.N) (s : Fin 512) (n : Fin 512) :
    out0_4 (F := Ideal) (iblk m c 0 t) (iblk m c 1 t) (iblk m c 2 t) (ix2 s n) = proj (rows m c) (gain m c) (weights m c) (row t s) (⟨512 + n.val, by omega⟩ : Fin 2112) := by
  refine (out4_eq (iblk m c 0 t) (iblk m c 1 t) (iblk m c 2 t) (ix2 s n)).trans ?_
  refine (point_at m c t s (⟨512 + n.val, by omega⟩ : Fin 2304) (Cert.InIdeal.Value.ix4_0 (ix2 s n)) rfl (by show n.val + 512 = 512 + n.val; omega)).trans ?_
  unfold proj
  simp only [laid_ckv]

theorem out5_at (t : Fin cfg0.N) (s : Fin 512) (n : Fin 128) :
    out0_5 (F := Ideal) (iblk m c 0 t) (iblk m c 1 t) (iblk m c 2 t) (ix2 s n) = ropeA (rows m c) (gain m c) (weights m c) (row t s) n := by
  refine (out5_eq (iblk m c 0 t) (iblk m c 1 t) (iblk m c 2 t) (ix2 s n)).trans ?_
  refine (point_at m c t s (⟨1024 + n.val, by omega⟩ : Fin 2304) (Cert.InIdeal.Value.ix5_0 (ix2 s n)) rfl (by show n.val + 1024 = 1024 + n.val; omega)).trans ?_
  simp only [laid_A, padA_at]
  unfold ropeA proj
  by_cases h : n.val < 64
  · simp only [dif_pos h]
  · simp only [dif_neg h, mul_zero, Finset.sum_const_zero]

theorem out6_at (t : Fin cfg0.N) (s : Fin 512) (n : Fin 128) :
    out0_6 (F := Ideal) (iblk m c 0 t) (iblk m c 1 t) (iblk m c 2 t) (ix2 s n) = ropeB (rows m c) (gain m c) (weights m c) (row t s) n := by
  refine (out6_eq (iblk m c 0 t) (iblk m c 1 t) (iblk m c 2 t) (ix2 s n)).trans ?_
  refine (point_at m c t s (⟨1152 + n.val, by omega⟩ : Fin 2304) (Cert.InIdeal.Value.ix6_0 (ix2 s n)) rfl (by show n.val + 1152 = 1152 + n.val; omega)).trans ?_
  simp only [laid_B, padB_at]
  unfold ropeB proj
  by_cases h : n.val < 32
  · simp only [dif_pos h]
  · by_cases h' : n.val < 64
    · simp only [dif_neg h, dif_pos h']
    · simp only [dif_neg h, dif_neg h', mul_zero, Finset.sum_const_zero]

theorem out7_at (t : Fin cfg0.N) (s : Fin 512) (n : Fin 1024) :
    out0_7 (F := Ideal) (iblk m c 0 t) (iblk m c 1 t) (iblk m c 2 t) (ix2 s n) = proj (rows m c) (gain m c) (weights m c) (row t s) (⟨1088 + n.val, by omega⟩ : Fin 2112) := by
  refine (out7_eq (iblk m c 0 t) (iblk m c 1 t) (iblk m c 2 t) (ix2 s n)).trans ?_
  refine (point_at m c t s (⟨1280 + n.val, by omega⟩ : Fin 2304) (Cert.InIdeal.Value.ix7_0 (ix2 s n)) rfl (by show n.val + 1280 = 1280 + n.val; omega)).trans ?_
  unfold proj
  simp only [laid_u]

/-! ## The results -/

theorem flush3 : ∀ t : Fin cfg0.N, (cfg0.win 3).flush t = true := by decide

theorem kernel3 (p : Fin 16384) (n : Fin 512) : (dats m 0 c).arrAt 3 cfg0.N (ix2 p n) = proj (rows m c) (gain m c) (weights m c) p (⟨n.val, by omega⟩ : Fin 2112) := by
  have ht : p.val / 512 < cfg0.N := lt_of_lt_of_eq (by omega : _ < 32) N_0.symm
  have e := congrFun (Cert.InIdeal.Value.blocks3 m c ⟨p.val / 512, ht⟩ (flush3 _)) (ix2 (⟨p.val % 512, by omega⟩ : Fin 512) n)
  rw [Cert.InIdeal.Value.flushed3] at e
  have hr : row ⟨p.val / 512, ht⟩ ⟨p.val % 512, by omega⟩ = p := Fin.ext (by show 512 * (p.val / 512) + p.val % 512 = p.val; omega)
  have ew := read3 ((dats m 0 c).arrAt 3 cfg0.N) ⟨p.val / 512, ht⟩ ⟨p.val % 512, by omega⟩ n
  have eo := out3_at m c ⟨p.val / 512, ht⟩ ⟨p.val % 512, by omega⟩ n
  have e' := ew.symm.trans (e.trans eo)
  rw [hr] at e'
  exact e'

theorem flush4 : ∀ t : Fin cfg0.N, (cfg0.win 4).flush t = true := by decide

theorem kernel4 (p : Fin 16384) (n : Fin 512) : (dats m 0 c).arrAt 4 cfg0.N (ix2 p n) = proj (rows m c) (gain m c) (weights m c) p (⟨512 + n.val, by omega⟩ : Fin 2112) := by
  have ht : p.val / 512 < cfg0.N := lt_of_lt_of_eq (by omega : _ < 32) N_0.symm
  have e := congrFun (Cert.InIdeal.Value.blocks4 m c ⟨p.val / 512, ht⟩ (flush4 _)) (ix2 (⟨p.val % 512, by omega⟩ : Fin 512) n)
  rw [Cert.InIdeal.Value.flushed4] at e
  have hr : row ⟨p.val / 512, ht⟩ ⟨p.val % 512, by omega⟩ = p := Fin.ext (by show 512 * (p.val / 512) + p.val % 512 = p.val; omega)
  have ew := read4 ((dats m 0 c).arrAt 4 cfg0.N) ⟨p.val / 512, ht⟩ ⟨p.val % 512, by omega⟩ n
  have eo := out4_at m c ⟨p.val / 512, ht⟩ ⟨p.val % 512, by omega⟩ n
  have e' := ew.symm.trans (e.trans eo)
  rw [hr] at e'
  exact e'

theorem flush5 : ∀ t : Fin cfg0.N, (cfg0.win 5).flush t = true := by decide

theorem kernel5 (p : Fin 16384) (n : Fin 128) : (dats m 0 c).arrAt 5 cfg0.N (ix2 p n) = ropeA (rows m c) (gain m c) (weights m c) p n := by
  have ht : p.val / 512 < cfg0.N := lt_of_lt_of_eq (by omega : _ < 32) N_0.symm
  have e := congrFun (Cert.InIdeal.Value.blocks5 m c ⟨p.val / 512, ht⟩ (flush5 _)) (ix2 (⟨p.val % 512, by omega⟩ : Fin 512) n)
  rw [Cert.InIdeal.Value.flushed5] at e
  have hr : row ⟨p.val / 512, ht⟩ ⟨p.val % 512, by omega⟩ = p := Fin.ext (by show 512 * (p.val / 512) + p.val % 512 = p.val; omega)
  have ew := read5 ((dats m 0 c).arrAt 5 cfg0.N) ⟨p.val / 512, ht⟩ ⟨p.val % 512, by omega⟩ n
  have eo := out5_at m c ⟨p.val / 512, ht⟩ ⟨p.val % 512, by omega⟩ n
  have e' := ew.symm.trans (e.trans eo)
  rw [hr] at e'
  exact e'

theorem flush6 : ∀ t : Fin cfg0.N, (cfg0.win 6).flush t = true := by decide

theorem kernel6 (p : Fin 16384) (n : Fin 128) : (dats m 0 c).arrAt 6 cfg0.N (ix2 p n) = ropeB (rows m c) (gain m c) (weights m c) p n := by
  have ht : p.val / 512 < cfg0.N := lt_of_lt_of_eq (by omega : _ < 32) N_0.symm
  have e := congrFun (Cert.InIdeal.Value.blocks6 m c ⟨p.val / 512, ht⟩ (flush6 _)) (ix2 (⟨p.val % 512, by omega⟩ : Fin 512) n)
  rw [Cert.InIdeal.Value.flushed6] at e
  have hr : row ⟨p.val / 512, ht⟩ ⟨p.val % 512, by omega⟩ = p := Fin.ext (by show 512 * (p.val / 512) + p.val % 512 = p.val; omega)
  have ew := read6 ((dats m 0 c).arrAt 6 cfg0.N) ⟨p.val / 512, ht⟩ ⟨p.val % 512, by omega⟩ n
  have eo := out6_at m c ⟨p.val / 512, ht⟩ ⟨p.val % 512, by omega⟩ n
  have e' := ew.symm.trans (e.trans eo)
  rw [hr] at e'
  exact e'

theorem flush7 : ∀ t : Fin cfg0.N, (cfg0.win 7).flush t = true := by decide

theorem kernel7 (p : Fin 16384) (n : Fin 1024) : (dats m 0 c).arrAt 7 cfg0.N (ix2 p n) = proj (rows m c) (gain m c) (weights m c) p (⟨1088 + n.val, by omega⟩ : Fin 2112) := by
  have ht : p.val / 512 < cfg0.N := lt_of_lt_of_eq (by omega : _ < 32) N_0.symm
  have e := congrFun (Cert.InIdeal.Value.blocks7 m c ⟨p.val / 512, ht⟩ (flush7 _)) (ix2 (⟨p.val % 512, by omega⟩ : Fin 512) n)
  rw [Cert.InIdeal.Value.flushed7] at e
  have hr : row ⟨p.val / 512, ht⟩ ⟨p.val % 512, by omega⟩ = p := Fin.ext (by show 512 * (p.val / 512) + p.val % 512 = p.val; omega)
  have ew := read7 ((dats m 0 c).arrAt 7 cfg0.N) ⟨p.val / 512, ht⟩ ⟨p.val % 512, by omega⟩ n
  have eo := out7_at m c ⟨p.val / 512, ht⟩ ⟨p.val % 512, by omega⟩ n
  have e' := ew.symm.trans (e.trans eo)
  rw [hr] at e'
  exact e'

end Cert.InIdeal.Entry

end
-- ==== Proof.InReference.lean ====
/- THE FIRST PROJECTION'S REFERENCE, ENTRY BY ENTRY: the same columns, the rotary ones padded and exchanged. -/
module

public import proofs.«01_k».proof.Proof.InResult
public import proofs.«01_k».proof.Proof.Gen.InReferenceIdeal.Read

@[expose] public section

noncomputable section

namespace Cert.InIdeal.Entry

open Cert.InReferenceIdeal Cert.InReferenceIdeal.Gen Cert.InReferenceIdeal.Read Idealize.ShloMosaic.TcCoe Idealize.SL.Sem
open Idealize.ShloMosaic hiding ix1 ix2 ix3
open Idealize.ShloMosaic.ValueIdx
open scoped BigOperators

variable (x : FVec Ideal S16384x2048 .f32) (g : FVec Ideal S2048 .f32) (w : FVec Ideal S2048x2112 .f32)

theorem ref_sum (p : Fin 16384) (j : S16384.Idx) (hj : (j 0).val = p.val) : val_main_v1 (F := Ideal) x j = ∑ e : Fin 2048, x (ix2 p e) * x (ix2 p e) := by
  refine (val_main_v1_apply x j).trans ?_
  rw [val_main_cst_apply]
  refine (congrArg (· + _) Ideal.ofBits_zero_f32).trans ((zero_add _).trans (Finset.sum_congr rfl fun e _ => ?_))
  refine congrArg (fun i => x i * x i) (funext fun a => Fin.ext ?_)
  match a with
  | ⟨0, _⟩ => exact hj
  | ⟨1, _⟩ => rfl

theorem ref_scale (p : Fin 16384) (j : S16384x1.Idx) (hj : (j 0).val = p.val) :
    val_main_v7 (F := Ideal) x j = Ideal.rsqrt (Ideal.div (∑ e : Fin 2048, x (ix2 p e) * x (ix2 p e)) (Ideal.ofBits .f32 0x45000000#32) + Ideal.ofBits .f32 0x358637BD#32) := by
  rw [val_main_v7_apply, val_main_v6_apply, val_main_v5_apply, val_main_cst_1_apply, val_main_v4_apply, val_main_v3_apply, val_main_cst_0_apply, val_main_v2_apply,
    ref_sum x p _ hj]
  rfl

theorem ref_norm (p : Fin 16384) (d : Fin 2048) (i : S16384x2048.Idx) (h0 : (i 0).val = p.val) (h1 : (i 1).val = d.val) :
    val_main_v12 (F := Ideal) x g i = normRow x g p d := by
  have hi : i = ix2 p d := funext fun a => Fin.ext (match a with | ⟨0, _⟩ => h0 | ⟨1, _⟩ => h1)
  rw [val_main_v12_apply, val_main_v9_apply, val_main_v8_apply, val_main_v11_apply, val_main_v10_apply, ref_scale x p _ h0]
  unfold normRow
  refine congrArg₂ (fun a b : EReal => a * _ * b) (congrArg x hi) (congrArg g (funext fun a => Fin.ext ?_))
  match a with
  | ⟨0, _⟩ => exact h1

/-- A column of the projection, … -/
theorem ref_proj (p : Fin 16384) (k : Fin 2112) (i : S16384x2112.Idx) (h0 : (i 0).val = p.val) (h1 : (i 1).val = k.val) :
    val_main_v13 (F := Ideal) x g w i = proj x g w p k := by
  rw [val_main_v13_apply]
  unfold proj
  refine Finset.sum_congr rfl fun d _ => ?_
  refine congrArg₂ (fun a b : EReal => a * b) (ref_norm x g p d _ h0 rfl) (congrArg w (funext fun a => Fin.ext ?_))
  match a with
  | ⟨0, _⟩ => rfl
  | ⟨1, _⟩ => exact h1

theorem ref3 (p : Fin 16384) (n : Fin 512) : val_main_v14 (F := Ideal) x g w (ix2 p n) = proj x g w p (⟨n.val, by omega⟩ : Fin 2112) := by
  rw [val_main_v14_apply]
  exact ref_proj x g w p _ _ rfl rfl

theorem ref4 (p : Fin 16384) (n : Fin 512) : val_main_v15 (F := Ideal) x g w (ix2 p n) = proj x g w p (⟨512 + n.val, by omega⟩ : Fin 2112) := by
  rw [val_main_v15_apply]
  exact ref_proj x g w p _ _ rfl rfl

theorem ref7 (p : Fin 16384) (n : Fin 1024) : val_main_v17 (F := Ideal) x g w (ix2 p n) = proj x g w p (⟨1088 + n.val, by omega⟩ : Fin 2112) := by
  rw [val_main_v17_apply]
  exact ref_proj x g w p _ _ rfl rfl

/-- … the rotary ones, … -/
theorem ref_rot (p : Fin 16384) (k : Fin 64) (i : S16384x64.Idx) (h0 : (i 0).val = p.val) (h1 : (i 1).val = k.val) :
    val_main_v16 (F := Ideal) x g w i = proj x g w p (⟨1024 + k.val, by omega⟩ : Fin 2112) := by
  rw [val_main_v16_apply]
  exact ref_proj x g w p _ _ h0 (congrArg (1024 + ·) h1)

/-- … with their halves exchanged, … -/
theorem ref_swap (p : Fin 16384) (k : Fin 64) :
    val_main_v20 (F := Ideal) x g w (ix2 p k)
      = if h : k.val < 32 then proj x g w p (⟨1056 + k.val, by omega⟩ : Fin 2112) else proj x g w p (⟨992 + k.val, by omega⟩ : Fin 2112) := by
  unfold val_main_v20
  by_cases h : k.val < 32
  · rw [dif_pos h]
    refine (concatenate_apply_piece 1 [⟨S16384x32, val_main_v18 (F := Ideal) x g w⟩, ⟨S16384x32, val_main_v19 (F := Ideal) x g w⟩] concatenates_S16384x32_S16384x32_S16384x64_d1 _ 0 (by simp) S16384x32 _ rfl rfl 0 rfl (ix2 p (⟨k.val, h⟩ : Fin 32))
      (fun b => match b with | ⟨0, _⟩ => fun _ => rfl | ⟨1, _⟩ => fun hn => absurd rfl hn) (by show 0 + k.val = k.val; omega)).trans ?_
    rw [val_main_v18_apply]
    refine (ref_rot x g w p (⟨32 + k.val, by omega⟩ : Fin 64) _ rfl rfl).trans ?_
    exact congrArg (proj x g w p) (Fin.ext (by show 1024 + (32 + k.val) = 1056 + k.val; omega))
  · rw [dif_neg h]
    refine (concatenate_apply_piece 1 [⟨S16384x32, val_main_v18 (F := Ideal) x g w⟩, ⟨S16384x32, val_main_v19 (F := Ideal) x g w⟩] concatenates_S16384x32_S16384x32_S16384x64_d1 _ 1 (by simp) S16384x32 _ rfl rfl 32 rfl (ix2 p (⟨k.val - 32, by omega⟩ : Fin 32))
      (fun b => match b with | ⟨0, _⟩ => fun _ => rfl | ⟨1, _⟩ => fun hn => absurd rfl hn) (by show 32 + (k.val - 32) = k.val; omega)).trans ?_
    rw [val_main_v19_apply]
    refine (ref_rot x g w p (⟨k.val - 32, by omega⟩ : Fin 64) _ rfl rfl).trans ?_
    exact congrArg (proj x g w p) (Fin.ext (by show 1024 + (k.val - 32) = 992 + k.val; omega))

/-- … and padded with zeros. -/
theorem padded_at (y : S16384x64.Idx → EReal) (v : S_.Idx → EReal) (hv : v (Shape.Idx.first h_S_) = 0) (p : Fin 16384) (n : Fin 128) :
    pad S16384x128 ![0, 0] ![0, 64] ![0, 0] y v pads_S16384x64_S16384x128_000_0640 h_S_ (ix2 p n) = if h : n.val < 64 then y (ix2 p ⟨n.val, h⟩) else 0 := by
  by_cases h : n.val < 64
  · rw [dif_pos h]
    exact pad_apply_of_inside _ _ _ y _ _ _ (ix2 p n) (ix2 p ⟨n.val, h⟩) (fun a => match a with
      | ⟨0, _⟩ => by show p.val = 0 + p.val * (0 + 1); omega
      | ⟨1, _⟩ => by show n.val = 0 + n.val * (0 + 1); omega)
  · rw [dif_neg h]
    exact (pad_apply_of_not_inside _ _ _ y _ _ _ (ix2 p n) 1 (fun hh => h (by
      have h3 : (n.val - 0) / (0 + 1) < 64 := hh.2.2
      rwa [Nat.sub_zero, Nat.zero_add, Nat.div_one] at h3))).trans hv

theorem zero_int : ∀ i : S_.Idx, sitofp (F := Ideal) .f32 (constantI S_ 32 0#32) i = (0 : EReal) := fun i => by
  show (((0#32 : BitVec 32).toInt : ℝ) : EReal) = 0
  simp

theorem ref5 (p : Fin 16384) (n : Fin 128) : val_main_v21 (F := Ideal) x g w (ix2 p n) = ropeA x g w p n := by
  unfold val_main_v21
  refine (padded_at _ _ (zero_int _) p n).trans ?_
  unfold ropeA
  refine dite_congr rfl (fun h => ?_) fun _ => rfl
  exact ref_rot x g w p ⟨n.val, h⟩ _ rfl rfl

theorem ref6 (p : Fin 16384) (n : Fin 128) : val_main_v22 (F := Ideal) x g w (ix2 p n) = ropeB x g w p n := by
  unfold val_main_v22
  refine (padded_at _ _ (zero_int _) p n).trans ?_
  unfold ropeB
  by_cases h : n.val < 32
  · rw [dif_pos h, dif_pos (by omega : n.val < 64)]
    exact (ref_swap x g w p ⟨n.val, _⟩).trans (dif_pos h)
  · rw [dif_neg h]
    refine dite_congr rfl (fun h' => ?_) fun _ => rfl
    exact (ref_swap x g w p ⟨n.val, h'⟩).trans (dif_neg h)

end Cert.InIdeal.Entry

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Pre_finite_qk
public import proofs.«01_k».proof.Proof.Gen.Mlp
public import proofs.«01_k».proof.Proof.Gen.Mlp.Skeleton
public import proofs.«01_k».proof.Proof.Gen.Mlp.Launch
public import proofs.«01_k».proof.Proof.Gen.Mlp.Points
public import proofs.«01_k».proof.Proof.Gen.Mlp.Frame
public import proofs.«01_k».proof.Proof.Gen.MlpIdeal
public import proofs.«01_k».proof.Proof.Gen.MlpIdeal.Skeleton
public import proofs.«01_k».proof.Proof.Gen.MlpIdeal.Launch
public import proofs.«01_k».proof.Proof.Gen.MlpIdeal.Points
public import proofs.«01_k».proof.Proof.Gen.MlpIdeal.Frame
public import proofs.«01_k».proof.Proof.Gen.MlpIdeal.Value
public import proofs.«01_k».proof.Proof.Gen.MlpReferenceIdeal.Run
public import proofs.«01_k».proof.Proof.Gen.MlpReferenceIdeal.Read
public import proofs.«01_k».proof.Proof.Gen.MlpReferenceIdeal
public import proofs.«01_k».proof.Proof.Gen.Xa
public import proofs.«01_k».proof.Proof.Gen.Xa.Skeleton
public import proofs.«01_k».proof.Proof.Gen.Xa.Launch
public import proofs.«01_k».proof.Proof.Gen.Xa.Points
public import proofs.«01_k».proof.Proof.Gen.Xa.Frame
public import proofs.«01_k».proof.Proof.Gen.XaIdeal
public import proofs.«01_k».proof.Proof.Gen.XaIdeal.Skeleton
public import proofs.«01_k».proof.Proof.Gen.XaIdeal.Launch
public import proofs.«01_k».proof.Proof.Gen.XaIdeal.Points
public import proofs.«01_k».proof.Proof.Gen.XaIdeal.Frame
public import proofs.«01_k».proof.Proof.Gen.XaIdeal.Value
public import proofs.«01_k».proof.Proof.Gen.XaReferenceIdeal.Run
public import proofs.«01_k».proof.Proof.Gen.XaReferenceIdeal.Read
public import proofs.«01_k».proof.Proof.Gen.XaReferenceIdeal
public import proofs.«01_k».proof.Proof.Gen.Mem
public import proofs.«01_k».proof.Proof.Gen.Mem.Skeleton
public import proofs.«01_k».proof.Proof.Gen.Mem.Launch
public import proofs.«01_k».proof.Proof.Gen.Mem.Points
public import proofs.«01_k».proof.Proof.Gen.Mem.Frame
public import proofs.«01_k».proof.Proof.Gen.MemIdeal
public import proofs.«01_k».proof.Proof.Gen.MemIdeal.Skeleton
public import proofs.«01_k».proof.Proof.Gen.MemIdeal.Launch
public import proofs.«01_k».proof.Proof.Gen.MemIdeal.Points
public import proofs.«01_k».proof.Proof.Gen.MemIdeal.Frame
public import proofs.«01_k».proof.Proof.Gen.MemIdeal.Value
public import proofs.«01_k».proof.Proof.Gen.MemReferenceIdeal.Run
public import proofs.«01_k».proof.Proof.Gen.MemReferenceIdeal.Read
public import proofs.«01_k».proof.Proof.Gen.MemReferenceIdeal
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutIdeal.Value
public import proofs.«01_k».proof.Proof.Gen.OutReferenceIdeal.Run
public import proofs.«01_k».proof.Proof.Gen.OutReferenceIdeal.Read
public import proofs.«01_k».proof.Proof.Gen.OutReferenceIdeal
public import proofs.«01_k».proof.Proof.Gen.MobaOut
public import proofs.«01_k».proof.Proof.Gen.MobaOut.Skeleton
public import proofs.«01_k».proof.Proof.Gen.MobaOut.Launch
public import proofs.«01_k».proof.Proof.Gen.MobaOut.Points
public import proofs.«01_k».proof.Proof.Gen.MobaOut.Frame
public import proofs.«01_k».proof.Proof.Gen.MobaOutIdeal
public import proofs.«01_k».proof.Proof.Gen.MobaOutIdeal.Skeleton
public import proofs.«01_k».proof.Proof.Gen.MobaOutIdeal.Launch
public import proofs.«01_k».proof.Proof.Gen.MobaOutIdeal.Points
public import proofs.«01_k».proof.Proof.Gen.MobaOutIdeal.Frame
public import proofs.«01_k».proof.Proof.Gen.MobaOutIdeal.Value
public import proofs.«01_k».proof.Proof.Gen.MobaOutReferenceIdeal.Run
public import proofs.«01_k».proof.Proof.Gen.MobaOutReferenceIdeal.Read
public import proofs.«01_k».proof.Proof.Gen.MobaOutReferenceIdeal
public import proofs.«01_k».proof.Proof.Gen.In
public import proofs.«01_k».proof.Proof.Gen.In.Skeleton
public import proofs.«01_k».proof.Proof.Gen.In.Launch
public import proofs.«01_k».proof.Proof.Gen.In.Points
public import proofs.«01_k».proof.Proof.Gen.In.Frame
public import proofs.«01_k».proof.Proof.Gen.InIdeal
public import proofs.«01_k».proof.Proof.Gen.InIdeal.Skeleton
public import proofs.«01_k».proof.Proof.Gen.InIdeal.Launch
public import proofs.«01_k».proof.Proof.Gen.InIdeal.Points
public import proofs.«01_k».proof.Proof.Gen.InIdeal.Frame
public import proofs.«01_k».proof.Proof.Gen.InIdeal.Value
public import proofs.«01_k».proof.Proof.Gen.InReferenceIdeal.Run
public import proofs.«01_k».proof.Proof.Gen.InReferenceIdeal.Read
public import proofs.«01_k».proof.Proof.Gen.InReferenceIdeal
public import proofs.«01_k».proof.Proof.Result
public import proofs.«01_k».proof.Proof.MlpReference
public import proofs.«01_k».proof.Proof.XaReference
public import proofs.«01_k».proof.Proof.MemReference
public import proofs.«01_k».proof.Proof.OutResult
public import proofs.«01_k».proof.Proof.MobaOutResult
public import proofs.«01_k».proof.Proof.InReference
public import Idealize.ShloMosaic.Adequacy
public import Idealize.ShloMosaic.Init

@[expose] public section

noncomputable section

namespace Cert.Proof

open Idealize.ShloMosaic Idealize.SL.Sem Cert.KernelIdeal.Attn

/-- The reference's frame: its run keeps its arguments, and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On real queries and keys the kernel's result is the reference's. -/
theorem attention_eq : Cert.algebraic_KernelIdeal_ReferenceIdeal_pre_finite_qk := by
  intro m g m' g' hpre hargs
  refine ⟨fun c => (Cert.KernelIdeal.Gen.dats m 0 c).arrAt 4 Cert.KernelIdeal.cfg0.N, ?_, ?_⟩
  · exact Cert.KernelIdeal.Value.run_blocks (F := Ideal) m g
  · refine (θ_run Cert.ReferenceIdeal.defs _ _).mono (fun r h c => ⟨(h c).1.trans ?_, (h c).2⟩) (Cert.ReferenceIdeal.Value.run (F := Ideal) m' g')
    rw [Cert.ReferenceIdeal.Read.val_main_v25_eq, (hargs c).1, (hargs c).2.1, (hargs c).2.2]
    have hreal := pre_real _ _ _ (hpre c)
    choose rq hq using fun (h : Fin 8) (s : Fin 16384) (d : Fin 192) => (hreal (ValueIdx.ix3 h s d)).1
    choose rk hk using fun (h : Fin 8) (s : Fin 16384) (d : Fin 192) => (hreal (ValueIdx.ix3 h s d)).2
    refine funext fun i => ?_
    have h0 : (i 0).val < 16384 := (i 0).isLt
    have h1 : (i 1).val < 1024 := (i 1).isLt
    obtain ⟨h, n, r, hi⟩ : ∃ (h : Fin 8) (n : Fin 16384) (r : Fin 128), i = ValueIdx.ix2 n (⟨128 * h.val + r.val, by omega⟩ : Fin 1024) :=
      ⟨⟨(i 1).val / 128, by omega⟩, ⟨(i 0).val, h0⟩, ⟨(i 1).val % 128, by omega⟩, funext fun a => Fin.ext (by
        match a with
        | ⟨0, _⟩ => rfl
        | ⟨1, _⟩ => show (i 1).val = 128 * ((i 1).val / 128) + (i 1).val % 128; omega)⟩
    rw [hi]
    exact (ref_at _ _ _ rq rk hq hk h n r).trans (kernel_at m c rq rk hq hk h n r).symm

/-- The feed-forward reference's frame. -/
theorem frame_mlp_reference : Cert.quiescent_MlpReferenceIdeal := fun m ρ _ =>
  (θ_run Cert.MlpReferenceIdeal.defs _ _).mono (fun r h => ⟨fun c => (h c).2, sem_eq_zero_of_no_sems (by decide) r.2⟩)
    (Cert.MlpReferenceIdeal.Value.run (F := Ideal) m ρ)

/-- The feed-forward kernel's result is the reference's. -/
theorem mlp_eq : Cert.algebraic_MlpIdeal_MlpReferenceIdeal := by
  intro m g m' g' _ hargs
  refine ⟨fun c => Cert.MlpIdeal.Value.G4 m c, Cert.MlpIdeal.Value.run (F := Ideal) m g, ?_⟩
  refine (θ_run Cert.MlpReferenceIdeal.defs _ _).mono (fun r h c => ⟨(h c).1.trans ?_, (h c).2⟩) (Cert.MlpReferenceIdeal.Value.run (F := Ideal) m' g')
  rw [Cert.MlpReferenceIdeal.Read.val_main_v17_eq, (hargs c).1, (hargs c).2.1, (hargs c).2.2.1, (hargs c).2.2.2]
  refine funext fun i => ?_
  obtain ⟨p, n, hi⟩ : ∃ (p : Fin 16384) (n : Fin 2048), i = ValueIdx.ix2 p n :=
    ⟨⟨(i 0).val, (i 0).isLt⟩, ⟨(i 1).val, (i 1).isLt⟩, funext fun a => Fin.ext (by
      match a with
      | ⟨0, _⟩ => rfl
      | ⟨1, _⟩ => rfl)⟩
  rw [hi]
  exact (Cert.MlpIdeal.Layer.ref_at _ _ _ _ p n).trans (Cert.MlpIdeal.Layer.kernel_at m c p n).symm

/-- The cross-attention reference's frame. -/
theorem frame_xa_reference : Cert.quiescent_XaReferenceIdeal := fun m ρ _ =>
  (θ_run Cert.XaReferenceIdeal.defs _ _).mono (fun r h => ⟨fun c => (h c).2, sem_eq_zero_of_no_sems (by decide) r.2⟩)
    (Cert.XaReferenceIdeal.Value.run (F := Ideal) m ρ)

/-- The cross-attention kernel's result is the reference's. -/
theorem xa_eq : Cert.algebraic_XaIdeal_XaReferenceIdeal := by
  intro m g m' g' _ hargs
  refine ⟨fun c => (Cert.XaIdeal.Gen.dats m 0 c).arrAt 7 Cert.XaIdeal.cfg0.N, Cert.XaIdeal.Value.run_blocks (F := Ideal) m g, ?_⟩
  refine (θ_run Cert.XaReferenceIdeal.defs _ _).mono (fun r h c => ⟨(h c).1.trans ?_, (h c).2⟩) (Cert.XaReferenceIdeal.Value.run (F := Ideal) m' g')
  obtain ⟨e0, e1, e2, e3, e4, e5, e6⟩ := hargs c
  rw [Cert.XaReferenceIdeal.Read.val_main_v46_eq, e0, e1, e2, e3, e4, e5, e6]
  refine funext fun i => ?_
  obtain ⟨p, n, hi⟩ : ∃ (p : Fin 16384) (n : Fin 2048), i = ValueIdx.ix2 p n :=
    ⟨⟨(i 0).val, (i 0).isLt⟩, ⟨(i 1).val, (i 1).isLt⟩, funext fun a => Fin.ext (by
      match a with
      | ⟨0, _⟩ => rfl
      | ⟨1, _⟩ => rfl)⟩
  rw [hi]
  exact (Cert.XaIdeal.Cross.ref_at _ _ _ _ _ _ _ p n).trans (Cert.XaIdeal.Cross.kernel_at m c p n).symm

/-- The memory's reference's frame. -/
theorem frame_mem_reference : Cert.quiescent_MemReferenceIdeal := fun m ρ _ =>
  (θ_run Cert.MemReferenceIdeal.defs _ _).mono (fun r h => ⟨fun c => (h c).2.2, sem_eq_zero_of_no_sems (by decide) r.2⟩)
    (Cert.MemReferenceIdeal.Value.run (F := Ideal) m ρ)

/-- The memory's keys and values are the reference's. -/
theorem mem_eq : Cert.algebraic_MemIdeal_MemReferenceIdeal := by
  intro m g m' g' _ hargs
  refine ⟨fun c => (Cert.MemIdeal.Gen.dats m 0 c).arrAt 4 Cert.MemIdeal.cfg0.N, fun c => (Cert.MemIdeal.Gen.dats m 0 c).arrAt 5 Cert.MemIdeal.cfg0.N,
    Cert.MemIdeal.Value.run_blocks (F := Ideal) m g, ?_⟩
  have hi : ∀ i : Cert.MemIdeal.S4x256x128.Idx, ∃ (h : Fin 4) (p : Fin 256) (e : Fin 128), i = ValueIdx.ix3 h p e := fun i =>
    ⟨⟨(i 0).val, (i 0).isLt⟩, ⟨(i 1).val, (i 1).isLt⟩, ⟨(i 2).val, (i 2).isLt⟩, funext fun a => Fin.ext (by
      match a with
      | ⟨0, _⟩ => rfl
      | ⟨1, _⟩ => rfl
      | ⟨2, _⟩ => rfl)⟩
  refine (θ_run Cert.MemReferenceIdeal.defs _ _).mono (fun r h c => ⟨(h c).1.trans ?_, (h c).2.1.trans ?_, (h c).2.2⟩) (Cert.MemReferenceIdeal.Value.run (F := Ideal) m' g')
  · obtain ⟨e0, e1, e2, e3⟩ := hargs c
    rw [Cert.MemReferenceIdeal.Read.val_main_v31_eq, e0, e1, e2, e3]
    refine funext fun i => ?_
    obtain ⟨h, p, e, rfl⟩ := hi i
    exact (Cert.MemIdeal.Memory.ref_key _ _ _ _ h p e).trans (Cert.MemIdeal.Memory.kernel_key m c h p e).symm
  · obtain ⟨e0, e1, e2, _⟩ := hargs c
    rw [Cert.MemReferenceIdeal.Read.val_main_v35_eq, e0, e1, e2]
    refine funext fun i => ?_
    obtain ⟨h, p, e, rfl⟩ := hi i
    exact (Cert.MemIdeal.Memory.ref_val _ _ _ h p e).trans (Cert.MemIdeal.Memory.kernel_val m c h p e).symm

/-- The output projection's reference's frame. -/
theorem frame_out_reference : Cert.quiescent_OutReferenceIdeal := fun m ρ _ =>
  (θ_run Cert.OutReferenceIdeal.defs _ _).mono (fun r h => ⟨fun c => (h c).2, sem_eq_zero_of_no_sems (by decide) r.2⟩)
    (Cert.OutReferenceIdeal.Value.run (F := Ideal) m ρ)

/-- The output projection's result is the reference's. -/
theorem out_eq : Cert.algebraic_OutIdeal_OutReferenceIdeal := by
  intro m g m' g' _ hargs
  refine ⟨fun c => (Cert.OutIdeal.Gen.dats m 0 c).arrAt 5 Cert.OutIdeal.cfg0.N, Cert.OutIdeal.Value.run_blocks (F := Ideal) m g, ?_⟩
  refine (θ_run Cert.OutReferenceIdeal.defs _ _).mono (fun r h c => ⟨(h c).1.trans ?_, (h c).2⟩) (Cert.OutReferenceIdeal.Value.run (F := Ideal) m' g')
  obtain ⟨e0, e1, e2, e3⟩ := hargs c
  rw [Cert.OutReferenceIdeal.Read.val_main_v3_eq, e0, e1, e2, e3]
  refine funext fun i => ?_
  obtain ⟨p, n, hi⟩ : ∃ (p : Fin 16384) (n : Fin 2048), i = ValueIdx.ix2 p n :=
    ⟨⟨(i 0).val, (i 0).isLt⟩, ⟨(i 1).val, (i 1).isLt⟩, funext fun a => Fin.ext (by
      match a with
      | ⟨0, _⟩ => rfl
      | ⟨1, _⟩ => rfl)⟩
  rw [hi]
  exact (Cert.OutIdeal.Projection.ref_at _ _ _ _ p n).trans (Cert.OutIdeal.Projection.kernel_at m c p n).symm

/-- The second layer's output projection's reference's frame. -/
theorem frame_moba_out_reference : Cert.quiescent_MobaOutReferenceIdeal := fun m ρ _ =>
  (θ_run Cert.MobaOutReferenceIdeal.defs _ _).mono (fun r h => ⟨fun c => (h c).2, sem_eq_zero_of_no_sems (by decide) r.2⟩)
    (Cert.MobaOutReferenceIdeal.Value.run (F := Ideal) m ρ)

/-- The second layer's output projection's result is the reference's. -/
theorem moba_out_eq : Cert.algebraic_MobaOutIdeal_MobaOutReferenceIdeal := by
  intro m g m' g' _ hargs
  refine ⟨fun c => (Cert.MobaOutIdeal.Gen.dats m 0 c).arrAt 3 Cert.MobaOutIdeal.cfg0.N, Cert.MobaOutIdeal.Value.run_blocks (F := Ideal) m g, ?_⟩
  refine (θ_run Cert.MobaOutReferenceIdeal.defs _ _).mono (fun r h c => ⟨(h c).1.trans ?_, (h c).2⟩) (Cert.MobaOutReferenceIdeal.Value.run (F := Ideal) m' g')
  obtain ⟨e0, e1, e2⟩ := hargs c
  rw [Cert.MobaOutReferenceIdeal.Read.val_main_v2_eq, e0, e1, e2]
  refine funext fun i => ?_
  obtain ⟨p, n, hi⟩ : ∃ (p : Fin 16384) (n : Fin 2048), i = ValueIdx.ix2 p n :=
    ⟨⟨(i 0).val, (i 0).isLt⟩, ⟨(i 1).val, (i 1).isLt⟩, funext fun a => Fin.ext (by
      match a with
      | ⟨0, _⟩ => rfl
      | ⟨1, _⟩ => rfl)⟩
  rw [hi]
  exact (Cert.MobaOutIdeal.Projection.ref_at _ _ _ p n).trans (Cert.MobaOutIdeal.Projection.kernel_at m c p n).symm

/-- The input projection's reference's frame. -/
theorem frame_in_reference : Cert.quiescent_InReferenceIdeal := fun m ρ _ =>
  (θ_run Cert.InReferenceIdeal.defs _ _).mono (fun r h => ⟨fun c => (h c).2.2.2.2.2, sem_eq_zero_of_no_sems (by decide) r.2⟩)
    (Cert.InReferenceIdeal.Value.run (F := Ideal) m ρ)

/-- The input projection's five results are the reference's. -/
theorem in_eq : Cert.algebraic_InIdeal_InReferenceIdeal := by
  intro m g m' g' _ hargs
  refine ⟨fun c => (Cert.InIdeal.Gen.dats m 0 c).arrAt 3 Cert.InIdeal.cfg0.N, fun c => (Cert.InIdeal.Gen.dats m 0 c).arrAt 4 Cert.InIdeal.cfg0.N,
    fun c => (Cert.InIdeal.Gen.dats m 0 c).arrAt 5 Cert.InIdeal.cfg0.N, fun c => (Cert.InIdeal.Gen.dats m 0 c).arrAt 6 Cert.InIdeal.cfg0.N,
    fun c => (Cert.InIdeal.Gen.dats m 0 c).arrAt 7 Cert.InIdeal.cfg0.N, Cert.InIdeal.Value.run_blocks (F := Ideal) m g, ?_⟩
  have hi : ∀ (b : ℕ) (i : (⟨2, ![16384, b]⟩ : Shape).Idx), ∃ (p : Fin 16384) (n : Fin b), i = ValueIdx.ix2 p n := fun b i =>
    ⟨⟨(i 0).val, (i 0).isLt⟩, ⟨(i 1).val, (i 1).isLt⟩, funext fun a => Fin.ext (by
      match a with
      | ⟨0, _⟩ => rfl
      | ⟨1, _⟩ => rfl)⟩
  refine (θ_run Cert.InReferenceIdeal.defs _ _).mono (fun r h c => ⟨(h c).1.trans ?_, (h c).2.1.trans ?_, (h c).2.2.1.trans ?_, (h c).2.2.2.1.trans ?_,
    (h c).2.2.2.2.1.trans ?_, (h c).2.2.2.2.2⟩) (Cert.InReferenceIdeal.Value.run (F := Ideal) m' g')
  · obtain ⟨e0, e1, e2⟩ := hargs c
    rw [Cert.InReferenceIdeal.Read.val_main_v14_eq, e0, e1, e2]
    refine funext fun i => ?_
    obtain ⟨p, n, rfl⟩ := hi 512 i
    exact (Cert.InIdeal.Entry.ref3 _ _ _ p n).trans (Cert.InIdeal.Entry.kernel3 m c p n).symm
  · obtain ⟨e0, e1, e2⟩ := hargs c
    rw [Cert.InReferenceIdeal.Read.val_main_v15_eq, e0, e1, e2]
    refine funext fun i => ?_
    obtain ⟨p, n, rfl⟩ := hi 512 i
    exact (Cert.InIdeal.Entry.ref4 _ _ _ p n).trans (Cert.InIdeal.Entry.kernel4 m c p n).symm
  · obtain ⟨e0, e1, e2⟩ := hargs c
    rw [Cert.InReferenceIdeal.Read.val_main_v21_eq, e0, e1, e2]
    refine funext fun i => ?_
    obtain ⟨p, n, rfl⟩ := hi 128 i
    exact (Cert.InIdeal.Entry.ref5 _ _ _ p n).trans (Cert.InIdeal.Entry.kernel5 m c p n).symm
  · obtain ⟨e0, e1, e2⟩ := hargs c
    rw [Cert.InReferenceIdeal.Read.val_main_v22_eq, e0, e1, e2]
    refine funext fun i => ?_
    obtain ⟨p, n, rfl⟩ := hi 128 i
    exact (Cert.InIdeal.Entry.ref6 _ _ _ p n).trans (Cert.InIdeal.Entry.kernel6 m c p n).symm
  · obtain ⟨e0, e1, e2⟩ := hargs c
    rw [Cert.InReferenceIdeal.Read.val_main_v17_eq, e0, e1, e2]
    refine funext fun i => ?_
    obtain ⟨p, n, rfl⟩ := hi 1024 i
    exact (Cert.InIdeal.Entry.ref7 _ _ _ p n).trans (Cert.InIdeal.Entry.kernel7 m c p n).symm

theorem claim : Cert.Claim := ⟨Cert.Kernel.Gen.facts, Cert.KernelIdeal.Gen.facts, Cert.ReferenceIdeal.Gen.facts,
  Cert.Mlp.Gen.facts, Cert.MlpIdeal.Gen.facts, Cert.MlpReferenceIdeal.Gen.facts,
  Cert.Xa.Gen.facts, Cert.XaIdeal.Gen.facts, Cert.XaReferenceIdeal.Gen.facts,
  Cert.Mem.Gen.facts, Cert.MemIdeal.Gen.facts, Cert.MemReferenceIdeal.Gen.facts,
  Cert.Out.Gen.facts, Cert.OutIdeal.Gen.facts, Cert.OutReferenceIdeal.Gen.facts,
  Cert.MobaOut.Gen.facts, Cert.MobaOutIdeal.Gen.facts, Cert.MobaOutReferenceIdeal.Gen.facts,
  Cert.In.Gen.facts, Cert.InIdeal.Gen.facts, Cert.InReferenceIdeal.Gen.facts, Cert.Pre_finite_qk.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Mlp.Gen.frame m ρ, fun m ρ _ => Cert.MlpIdeal.Gen.frame m ρ, frame_mlp_reference,
  fun m ρ _ => Cert.Xa.Gen.frame m ρ, fun m ρ _ => Cert.XaIdeal.Gen.frame m ρ, frame_xa_reference,
  fun m ρ _ => Cert.Mem.Gen.frame m ρ, fun m ρ _ => Cert.MemIdeal.Gen.frame m ρ, frame_mem_reference,
  fun m ρ _ => Cert.Out.Gen.frame m ρ, fun m ρ _ => Cert.OutIdeal.Gen.frame m ρ, frame_out_reference,
  fun m ρ _ => Cert.MobaOut.Gen.frame m ρ, fun m ρ _ => Cert.MobaOutIdeal.Gen.frame m ρ, frame_moba_out_reference,
  fun m ρ _ => Cert.In.Gen.frame m ρ, fun m ρ _ => Cert.InIdeal.Gen.frame m ρ, frame_in_reference,
  IdealRules.named_const.statement _ _ _ _ _ rfl, attention_eq, trivial, mlp_eq, trivial, xa_eq, trivial, mem_eq, trivial, out_eq,
  trivial, moba_out_eq, trivial, in_eq⟩

end Cert.Proof

end
